-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)) (v1 : (c : Dev Cert.Kernel2Ideal.nD) → Buf (Elt Ideal) ((c.tc : Thread Cert.Kernel2Ideal.nD Cert.Kernel2Ideal.τ).loc Cert.Kernel2Ideal.main_v6)) (v2 : (c : Dev Cert.Kernel2Ideal.nD) → Buf (Elt Ideal) ((c.tc : Thread Cert.Kernel2Ideal.nD Cert.Kernel2Ideal.τ).loc Cert.Kernel2Ideal.main_v7)) (v3 : (c : Dev Cert.Kernel2Ideal.nD) → Buf (Elt Ideal) ((c.tc : Thread Cert.Kernel2Ideal.nD Cert.Kernel2Ideal.τ).loc Cert.Kernel2Ideal.main_v5_1)) (v4 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_v7) = v2 c
          ∧ r.2.mem ((c.tc : Thread Cert.Kernel2Ideal.nD Cert.Kernel2Ideal.τ).loc Cert.Kernel2Ideal.main_v5_1) = v3 c
          ∧ r.2.mem ((c.tc : Thread Cert.Kernel2Ideal.nD Cert.Kernel2Ideal.τ).loc Cert.Kernel2Ideal.main_v4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_v29) = v3 c
          ∧ r.2.mem ((c.tc : Thread Cert.Reference2Ideal.nD Cert.Reference2Ideal.τ).loc Cert.Reference2Ideal.main_v33) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v25)) (v1 : (c : Dev Cert.Kernel3Ideal.nD) → Buf (Elt Ideal) ((c.tc : Thread Cert.Kernel3Ideal.nD Cert.Kernel3Ideal.τ).loc Cert.Kernel3Ideal.main_v19_0)) (v2 : (c : Dev Cert.Kernel3Ideal.nD) → Buf (Elt Ideal) ((c.tc : Thread Cert.Kernel3Ideal.nD Cert.Kernel3Ideal.τ).loc Cert.Kernel3Ideal.main_v19_1)) (v3 : (c : Dev Cert.Kernel3Ideal.nD) → Buf (Elt Ideal) ((c.tc : Thread Cert.Kernel3Ideal.nD Cert.Kernel3Ideal.τ).loc Cert.Kernel3Ideal.main_v19_2)) (v4 : (c : Dev Cert.Kernel3Ideal.nD) → Buf (Elt Ideal) ((c.tc : Thread Cert.Kernel3Ideal.nD Cert.Kernel3Ideal.τ).loc Cert.Kernel3Ideal.main_v31)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25) = v0 c
          ∧ r.2.mem ((c.tc : Thread Cert.Kernel3Ideal.nD Cert.Kernel3Ideal.τ).loc Cert.Kernel3Ideal.main_v19_0) = v1 c
          ∧ r.2.mem ((c.tc : Thread Cert.Kernel3Ideal.nD Cert.Kernel3Ideal.τ).loc Cert.Kernel3Ideal.main_v19_1) = v2 c
          ∧ r.2.mem ((c.tc : Thread Cert.Kernel3Ideal.nD Cert.Kernel3Ideal.τ).loc Cert.Kernel3Ideal.main_v19_2) = v3 c
          ∧ r.2.mem ((c.tc : Thread Cert.Kernel3Ideal.nD Cert.Kernel3Ideal.τ).loc Cert.Kernel3Ideal.main_v31) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v54) = v2 c
          ∧ r.2.mem ((c.tc : Thread Cert.Reference3Ideal.nD Cert.Reference3Ideal.τ).loc Cert.Reference3Ideal.main_v51) = v3 c
          ∧ r.2.mem ((c.tc : Thread Cert.Reference3Ideal.nD Cert.Reference3Ideal.τ).loc Cert.Reference3Ideal.main_v49) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v10)) (v1 : (c : Dev Cert.Kernel4Ideal.nD) → Buf (Elt Ideal) ((c.tc : Thread Cert.Kernel4Ideal.nD Cert.Kernel4Ideal.τ).loc Cert.Kernel4Ideal.main_v14)) (v2 : (c : Dev Cert.Kernel4Ideal.nD) → Buf (Elt Ideal) ((c.tc : Thread Cert.Kernel4Ideal.nD Cert.Kernel4Ideal.τ).loc Cert.Kernel4Ideal.main_v16)) (v3 : (c : Dev Cert.Kernel4Ideal.nD) → Buf (Elt Ideal) ((c.tc : Thread Cert.Kernel4Ideal.nD Cert.Kernel4Ideal.τ).loc Cert.Kernel4Ideal.main_v13_0)) (v4 : (c : Dev Cert.Kernel4Ideal.nD) → Buf (Elt Ideal) ((c.tc : Thread Cert.Kernel4Ideal.nD Cert.Kernel4Ideal.τ).loc Cert.Kernel4Ideal.main_v13_1)) (v5 : (c : Dev Cert.Kernel4Ideal.nD) → Buf (Elt Ideal) ((c.tc : Thread Cert.Kernel4Ideal.nD Cert.Kernel4Ideal.τ).loc Cert.Kernel4Ideal.main_v15)) (v6 : (c : Dev Cert.Kernel4Ideal.nD) → Buf (Elt Ideal) ((c.tc : Thread Cert.Kernel4Ideal.nD Cert.Kernel4Ideal.τ).loc Cert.Kernel4Ideal.main_v17)) (v7 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_v14) = v1 c
          ∧ r.2.mem ((c.tc : Thread Cert.Kernel4Ideal.nD Cert.Kernel4Ideal.τ).loc Cert.Kernel4Ideal.main_v16) = v2 c
          ∧ r.2.mem ((c.tc : Thread Cert.Kernel4Ideal.nD Cert.Kernel4Ideal.τ).loc Cert.Kernel4Ideal.main_v13_0) = v3 c
          ∧ r.2.mem ((c.tc : Thread Cert.Kernel4Ideal.nD Cert.Kernel4Ideal.τ).loc Cert.Kernel4Ideal.main_v13_1) = v4 c
          ∧ r.2.mem ((c.tc : Thread Cert.Kernel4Ideal.nD Cert.Kernel4Ideal.τ).loc Cert.Kernel4Ideal.main_v15) = v5 c
          ∧ r.2.mem ((c.tc : Thread Cert.Kernel4Ideal.nD Cert.Kernel4Ideal.τ).loc Cert.Kernel4Ideal.main_v17) = v6 c
          ∧ r.2.mem ((c.tc : Thread Cert.Kernel4Ideal.nD Cert.Kernel4Ideal.τ).loc Cert.Kernel4Ideal.main_v12) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_v55) = v2 c
          ∧ r.2.mem ((c.tc : Thread Cert.Reference4Ideal.nD Cert.Reference4Ideal.τ).loc Cert.Reference4Ideal.main_v62) = v3 c
          ∧ r.2.mem ((c.tc : Thread Cert.Reference4Ideal.nD Cert.Reference4Ideal.τ).loc Cert.Reference4Ideal.main_v63) = v4 c
          ∧ r.2.mem ((c.tc : Thread Cert.Reference4Ideal.nD Cert.Reference4Ideal.τ).loc Cert.Reference4Ideal.main_v59) = v5 c
          ∧ r.2.mem ((c.tc : Thread Cert.Reference4Ideal.nD Cert.Reference4Ideal.τ).loc Cert.Reference4Ideal.main_v54) = v6 c
          ∧ r.2.mem ((c.tc : Thread Cert.Reference4Ideal.nD Cert.Reference4Ideal.τ).loc Cert.Reference4Ideal.main_v44) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1_0)) (v2 : (c : Dev Cert.Kernel5Ideal.nD) → Buf (Elt Ideal) ((c.tc : Thread Cert.Kernel5Ideal.nD Cert.Kernel5Ideal.τ).loc Cert.Kernel5Ideal.main_v1_1)) (v3 : (c : Dev Cert.Kernel5Ideal.nD) → Buf (Elt Ideal) ((c.tc : Thread Cert.Kernel5Ideal.nD Cert.Kernel5Ideal.τ).loc Cert.Kernel5Ideal.main_v1_2)) (v4 : (c : Dev Cert.Kernel5Ideal.nD) → Buf (Elt Ideal) ((c.tc : Thread Cert.Kernel5Ideal.nD Cert.Kernel5Ideal.τ).loc Cert.Kernel5Ideal.main_v1_3)) (v5 : (c : Dev Cert.Kernel5Ideal.nD) → Buf (Elt Ideal) ((c.tc : Thread Cert.Kernel5Ideal.nD Cert.Kernel5Ideal.τ).loc Cert.Kernel5Ideal.main_v1_4)) (v6 : (c : Dev Cert.Kernel5Ideal.nD) → Buf (Elt Ideal) ((c.tc : Thread Cert.Kernel5Ideal.nD Cert.Kernel5Ideal.τ).loc Cert.Kernel5Ideal.main_v1_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1_0) = v1 c
          ∧ r.2.mem ((c.tc : Thread Cert.Kernel5Ideal.nD Cert.Kernel5Ideal.τ).loc Cert.Kernel5Ideal.main_v1_1) = v2 c
          ∧ r.2.mem ((c.tc : Thread Cert.Kernel5Ideal.nD Cert.Kernel5Ideal.τ).loc Cert.Kernel5Ideal.main_v1_2) = v3 c
          ∧ r.2.mem ((c.tc : Thread Cert.Kernel5Ideal.nD Cert.Kernel5Ideal.τ).loc Cert.Kernel5Ideal.main_v1_3) = v4 c
          ∧ r.2.mem ((c.tc : Thread Cert.Kernel5Ideal.nD Cert.Kernel5Ideal.τ).loc Cert.Kernel5Ideal.main_v1_4) = v5 c
          ∧ r.2.mem ((c.tc : Thread Cert.Kernel5Ideal.nD Cert.Kernel5Ideal.τ).loc Cert.Kernel5Ideal.main_v1_5) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v78) = v1 c
          ∧ r.2.mem ((c.tc : Thread Cert.Reference5Ideal.nD Cert.Reference5Ideal.τ).loc Cert.Reference5Ideal.main_v76) = v2 c
          ∧ r.2.mem ((c.tc : Thread Cert.Reference5Ideal.nD Cert.Reference5Ideal.τ).loc Cert.Reference5Ideal.main_v73) = v3 c
          ∧ r.2.mem ((c.tc : Thread Cert.Reference5Ideal.nD Cert.Reference5Ideal.τ).loc Cert.Reference5Ideal.main_v75) = v4 c
          ∧ r.2.mem ((c.tc : Thread Cert.Reference5Ideal.nD Cert.Reference5Ideal.τ).loc Cert.Reference5Ideal.main_v42) = v5 c
          ∧ r.2.mem ((c.tc : Thread Cert.Reference5Ideal.nD Cert.Reference5Ideal.τ).loc Cert.Reference5Ideal.main_v39) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v1_0)) (v3 : (c : Dev Cert.Kernel6Ideal.nD) → Buf (Elt Ideal) ((c.tc : Thread Cert.Kernel6Ideal.nD Cert.Kernel6Ideal.τ).loc Cert.Kernel6Ideal.main_v1_1)) (v4 : (c : Dev Cert.Kernel6Ideal.nD) → Buf (Elt Ideal) ((c.tc : Thread Cert.Kernel6Ideal.nD Cert.Kernel6Ideal.τ).loc Cert.Kernel6Ideal.main_v1_2)) (v5 : (c : Dev Cert.Kernel6Ideal.nD) → Buf (Elt Ideal) ((c.tc : Thread Cert.Kernel6Ideal.nD Cert.Kernel6Ideal.τ).loc Cert.Kernel6Ideal.main_v1_3)) (v6 : (c : Dev Cert.Kernel6Ideal.nD) → Buf (Elt Ideal) ((c.tc : Thread Cert.Kernel6Ideal.nD Cert.Kernel6Ideal.τ).loc Cert.Kernel6Ideal.main_v1_4)) (v7 : (c : Dev Cert.Kernel6Ideal.nD) → Buf (Elt Ideal) ((c.tc : Thread Cert.Kernel6Ideal.nD Cert.Kernel6Ideal.τ).loc Cert.Kernel6Ideal.main_v1_5)) (v8 : (c : Dev Cert.Kernel6Ideal.nD) → Buf (Elt Ideal) ((c.tc : Thread Cert.Kernel6Ideal.nD Cert.Kernel6Ideal.τ).loc Cert.Kernel6Ideal.main_v1_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v1_0) = v2 c
          ∧ r.2.mem ((c.tc : Thread Cert.Kernel6Ideal.nD Cert.Kernel6Ideal.τ).loc Cert.Kernel6Ideal.main_v1_1) = v3 c
          ∧ r.2.mem ((c.tc : Thread Cert.Kernel6Ideal.nD Cert.Kernel6Ideal.τ).loc Cert.Kernel6Ideal.main_v1_2) = v4 c
          ∧ r.2.mem ((c.tc : Thread Cert.Kernel6Ideal.nD Cert.Kernel6Ideal.τ).loc Cert.Kernel6Ideal.main_v1_3) = v5 c
          ∧ r.2.mem ((c.tc : Thread Cert.Kernel6Ideal.nD Cert.Kernel6Ideal.τ).loc Cert.Kernel6Ideal.main_v1_4) = v6 c
          ∧ r.2.mem ((c.tc : Thread Cert.Kernel6Ideal.nD Cert.Kernel6Ideal.τ).loc Cert.Kernel6Ideal.main_v1_5) = v7 c
          ∧ r.2.mem ((c.tc : Thread Cert.Kernel6Ideal.nD Cert.Kernel6Ideal.τ).loc Cert.Kernel6Ideal.main_v1_6) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_v90) = v2 c
          ∧ r.2.mem ((c.tc : Thread Cert.Reference6Ideal.nD Cert.Reference6Ideal.τ).loc Cert.Reference6Ideal.main_v88) = v3 c
          ∧ r.2.mem ((c.tc : Thread Cert.Reference6Ideal.nD Cert.Reference6Ideal.τ).loc Cert.Reference6Ideal.main_v87) = v4 c
          ∧ r.2.mem ((c.tc : Thread Cert.Reference6Ideal.nD Cert.Reference6Ideal.τ).loc Cert.Reference6Ideal.main_v56) = v5 c
          ∧ r.2.mem ((c.tc : Thread Cert.Reference6Ideal.nD Cert.Reference6Ideal.τ).loc Cert.Reference6Ideal.main_v53) = v6 c
          ∧ r.2.mem ((c.tc : Thread Cert.Reference6Ideal.nD Cert.Reference6Ideal.τ).loc Cert.Reference6Ideal.main_v47) = v7 c
          ∧ r.2.mem ((c.tc : Thread Cert.Reference6Ideal.nD Cert.Reference6Ideal.τ).loc Cert.Reference6Ideal.main_v44) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  IdealRules.named_const.Statement Cert.Kernel7Ideal.κ "mask" .f32 0xF149F2CA#32 ⊥

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v68) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2048x1024 : Shape := ⟨2, ![2048, 1024]⟩
abbrev S2048x256 : Shape := ⟨2, ![2048, 256]⟩
abbrev S16 : Shape := ⟨1, ![16]⟩
abbrev S_ : Shape := ⟨0, ![]⟩

class Facts : Prop where
  bcast_S_S2048x1024 : S_.BroadcastsInDim S2048x1024 (![] : Fin 0 → Fin S2048x1024.rank)
  bcast_S_S2048x256 : S_.BroadcastsInDim S2048x256 (![] : Fin 0 → Fin S2048x256.rank)
  bcast_S_S16 : S_.BroadcastsInDim S16 (![] : Fin 0 → Fin S16.rank)
  bitsLt_bf16_f32 : FTy.bits .bf16 < FTy.bits .f32

variable [Facts]

def fn_part1 {F : FTy → Type} [FloatOps F] (main_arg3 : FVec F S16 .f32) (main_arg4 : FVec F S2048x1024 .bf16) (main_v4 : IVec S2048x1024 1) (main_v9 : IVec S2048x256 1) (main_v14 : IVec S2048x256 1) (main_v16 : IVec S16 1) : IVec S2048x1024 1 × IVec S2048x256 1 × IVec S2048x256 1 × IVec S16 1 × IVec S2048x1024 1 :=
  let main_cst_6 : FVec F S_ .f32 := constant S_ .f32 0x7F800000#32
  let main_v17 : FVec F S16 .f32 := broadcastInDim S16 ![] bcast_S_S16 main_cst_6
  let main_v18 : IVec S16 1 := cmpf .olt main_arg3 main_v17
  let main_v19 : IVec S16 1 := andi main_v16 main_v18
  let main_v20 : FVec F S2048x1024 .f32 := (extf .f32 · bitsLt_bf16_f32) main_arg4
  let main_cst_7 : FVec F S_ .f32 := constant S_ .f32 0xFF800000#32
  let main_v21 : FVec F S2048x1024 .f32 := broadcastInDim S2048x1024 ![] bcast_S_S2048x1024 main_cst_7
  let main_v22 : IVec S2048x1024 1 := cmpf .ogt main_v20 main_v21
  let main_cst_8 : FVec F S_ .f32 := constant S_ .f32 0x7F800000#32
  let main_v23 : FVec F S2048x1024 .f32 := broadcastInDim S2048x1024 ![] bcast_S_S2048x1024 main_cst_8
  let main_v24 : IVec S2048x1024 1 := cmpf .olt main_v20 main_v23
  let main_v25 : IVec S2048x1024 1 := andi main_v22 main_v24
  (main_v4, main_v9, main_v14, main_v19, main_v25)

def fn {F : FTy → Type} [FloatOps F] (main_arg0 : FVec F S2048x1024 .f32) (main_arg1 : FVec F S2048x256 .f32) (main_arg2 : FVec F S2048x256 .f32) (main_arg3 : FVec F S16 .f32) (main_arg4 : FVec F S2048x1024 .bf16) : IVec S2048x1024 1 × IVec S2048x256 1 × IVec S2048x256 1 × IVec S16 1 × IVec S2048x1024 1 :=
  let main_cst : FVec F S_ .f32 := constant S_ .f32 0xFF800000#32
  let main_v0 : FVec F S2048x1024 .f32 := broadcastInDim S2048x1024 ![] bcast_S_S2048x1024 main_cst
  let main_v1 : IVec S2048x1024 1 := cmpf .ogt main_arg0 main_v0
  let main_cst_0 : FVec F S_ .f32 := constant S_ .f32 0x7F800000#32
  let main_v2 : FVec F S2048x1024 .f32 := broadcastInDim S2048x1024 ![] bcast_S_S2048x1024 main_cst_0
  let main_v3 : IVec S2048x1024 1 := cmpf .olt main_arg0 main_v2
  let main_v4 : IVec S2048x1024 1 := andi main_v1 main_v3
  let main_cst_1 : FVec F S_ .f32 := constant S_ .f32 0xFF800000#32
  let main_v5 : FVec F S2048x256 .f32 := broadcastInDim S2048x256 ![] bcast_S_S2048x256 main_cst_1
  let main_v6 : IVec S2048x256 1 := cmpf .ogt main_arg1 main_v5
  let main_cst_2 : FVec F S_ .f32 := constant S_ .f32 0x7F800000#32
  let main_v7 : FVec F S2048x256 .f32 := broadcastInDim S2048x256 ![] bcast_S_S2048x256 main_cst_2
  let main_v8 : IVec S2048x256 1 := cmpf .olt main_arg1 main_v7
  let main_v9 : IVec S2048x256 1 := andi main_v6 main_v8
  let main_cst_3 : FVec F S_ .f32 := constant S_ .f32 0xFF800000#32
  let main_v10 : FVec F S2048x256 .f32 := broadcastInDim S2048x256 ![] bcast_S_S2048x256 main_cst_3
  let main_v11 : IVec S2048x256 1 := cmpf .ogt main_arg2 main_v10
  let main_cst_4 : FVec F S_ .f32 := constant S_ .f32 0x7F800000#32
  let main_v12 : FVec F S2048x256 .f32 := broadcastInDim S2048x256 ![] bcast_S_S2048x256 main_cst_4
  let main_v13 : IVec S2048x256 1 := cmpf .olt main_arg2 main_v12
  let main_v14 : IVec S2048x256 1 := andi main_v11 main_v13
  let main_cst_5 : FVec F S_ .f32 := constant S_ .f32 0xFF800000#32
  let main_v15 : FVec F S16 .f32 := broadcastInDim S16 ![] bcast_S_S16 main_cst_5
  let main_v16 : IVec S16 1 := cmpf .ogt main_arg3 main_v15
  fn_part1 (F := F) main_arg3 main_arg4 main_v4 main_v9 main_v14 main_v16
-- ==== Kernel.lean ====
abbrev S2048x1024 : Shape := ⟨2, ![2048, 1024]⟩
abbrev S2048x256 : Shape := ⟨2, ![2048, 256]⟩
abbrev S16 : Shape := ⟨1, ![16]⟩
abbrev S2048x4x4x64 : Shape := ⟨4, ![2048, 4, 4, 64]⟩
abbrev S4x4x2048x64 : Shape := ⟨4, ![4, 4, 2048, 64]⟩
abbrev S2048x4x64 : Shape := ⟨3, ![2048, 4, 64]⟩
abbrev S4x2048x64 : Shape := ⟨3, ![4, 2048, 64]⟩
abbrev S4x4x1x1 : Shape := ⟨4, ![4, 4, 1, 1]⟩
abbrev S4x2176x64 : Shape := ⟨3, ![4, 2176, 64]⟩
abbrev S1x4x128x64 : Shape := ⟨4, ![1, 4, 128, 64]⟩
abbrev S1x128x64 : Shape := ⟨3, ![1, 128, 64]⟩
abbrev S1x4x1x1 : Shape := ⟨4, ![1, 4, 1, 1]⟩
abbrev S1x2176x64 : Shape := ⟨3, ![1, 2176, 64]⟩
abbrev S128x256 : Shape := ⟨2, ![128, 256]⟩
abbrev S1x1x128x64 : Shape := ⟨4, ![1, 1, 128, 64]⟩
abbrev S128x64 : Shape := ⟨2, ![128, 64]⟩
abbrev S1x1x1x1 : Shape := ⟨4, ![1, 1, 1, 1]⟩
abbrev S1x1 : Shape := ⟨2, ![1, 1]⟩
abbrev S256x64 : Shape := ⟨2, ![256, 64]⟩
abbrev S128 : Shape := ⟨1, ![128]⟩
abbrev S128x1 : Shape := ⟨2, ![128, 1]⟩
abbrev S64x256 : Shape := ⟨2, ![64, 256]⟩
abbrev S1x128x1 : Shape := ⟨3, ![1, 128, 1]⟩
abbrev S1 : Shape := ⟨1, ![1]⟩
abbrev S1x1x1 : Shape := ⟨3, ![1, 1, 1]⟩
abbrev S1x256x64 : Shape := ⟨3, ![1, 256, 64]⟩

abbrev nBuf : Space → Nat
  | .hbm => 27
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S16, .f32⟩
  | .hbm, ⟨4, _⟩ => ⟨S2048x1024, .bf16⟩
  | .hbm, ⟨5, _⟩ => ⟨S2048x4x4x64, .f32⟩
  | .hbm, ⟨6, _⟩ => ⟨S4x4x2048x64, .f32⟩
  | .hbm, ⟨7, _⟩ => ⟨S2048x4x64, .f32⟩
  | .hbm, ⟨8, _⟩ => ⟨S4x2048x64, .f32⟩
  | .hbm, ⟨9, _⟩ => ⟨S2048x4x64, .f32⟩
  | .hbm, ⟨10, _⟩ => ⟨S4x2048x64, .f32⟩
  | .hbm, ⟨11, _⟩ => ⟨S4x4x1x1, .f32⟩
  | .hbm, ⟨12, _⟩ => ⟨S2048x4x4x64, .bf16⟩
  | .hbm, ⟨13, _⟩ => ⟨S4x4x2048x64, .bf16⟩
  | .hbm, ⟨14, _⟩ => ⟨S4x4x2048x64, .f32⟩
  | .hbm, ⟨15, _⟩ => ⟨S4x2176x64, .f32⟩
  | .hbm, ⟨16, _⟩ => ⟨S4x2176x64, .f32⟩
  | .hbm, ⟨17, _⟩ => ⟨S4x4x1x1, .f32⟩
  | .hbm, ⟨18, _⟩ => ⟨S2048x4x4x64, .f32⟩
  | .hbm, ⟨19, _⟩ => ⟨S2048x1024, .f32⟩
  | .hbm, ⟨20, _⟩ => ⟨S4x2048x64, .f32⟩
  | .hbm, ⟨21, _⟩ => ⟨S2048x4x64, .f32⟩
  | .hbm, ⟨22, _⟩ => ⟨S2048x256, .f32⟩
  | .hbm, ⟨23, _⟩ => ⟨S4x2048x64, .f32⟩
  | .hbm, ⟨24, _⟩ => ⟨S2048x4x64, .f32⟩
  | .hbm, ⟨25, _⟩ => ⟨S2048x256, .f32⟩
  | .hbm, ⟨26, _⟩ => ⟨S16, .f32⟩
  | .local _ .vmem, ⟨0, _⟩ => ⟨S1x4x128x64, .f32⟩
  | .local _ .vmem, ⟨1, _⟩ => ⟨S1x4x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S1x4x1x1, .f32⟩
  | .local _ .vmem, ⟨11, _⟩ => ⟨S1x4x1x1, .f32⟩
  | .local _ .vmem, ⟨12, _⟩ => ⟨S1x4x128x64, .bf16⟩
  | .local _ .vmem, ⟨13, _⟩ => ⟨S1x4x128x64, .bf16⟩
  | .local _ .vmem, ⟨14, _⟩ => ⟨S1x4x128x64, .f32⟩
  | .local _ .vmem, ⟨15, _⟩ => ⟨S1x4x128x64, .f32⟩
  | .local _ .vmem, ⟨16, _⟩ => ⟨S1x2176x64, .f32⟩
  | .local _ .vmem, ⟨17, _⟩ => ⟨S1x2176x64, .f32⟩
  | .local _ .vmem, ⟨18, _⟩ => ⟨S1x2176x64, .f32⟩
  | .local _ .vmem, ⟨19, _⟩ => ⟨S1x2176x64, .f32⟩
  | .local _ .vmem, ⟨20, _⟩ => ⟨S1x4x1x1, .f32⟩
  | .local _ .vmem, ⟨21, _⟩ => ⟨S1x4x1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c128_i32_141 : BitVec 32 := 128#32
  let v329 : BitVec 32 := Scalar.muli arg1 c128_i32_141
  v329
def k0_off1 (i : grid0.Coords) : Fin 3 → Nat :=
  let c0_142 : Index := 0#32
  let arg1 : BitVec 32 := BitVec.ofNat 32 (i 1).val
  let c128_i32_141 : BitVec 32 := 128#32
  let v329 : BitVec 32 := Scalar.muli arg1 c128_i32_141
  let v330 : BitVec 32 := v329
  let v331 : Index := Scalar.indexCast v330
  let c0_143 : Index := 0#32
  ![0, v331.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2176x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2176x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S2048x256 : Shape := ⟨2, ![2048, 256]⟩
abbrev S16 : Shape := ⟨1, ![16]⟩
abbrev S16x128x4x4x64 : Shape := ⟨5, ![16, 128, 4, 4, 64]⟩
abbrev S_ : Shape := ⟨0, ![]⟩
abbrev S128x256 : Shape := ⟨2, ![128, 256]⟩
abbrev S2176x256 : Shape := ⟨2, ![2176, 256]⟩
abbrev S17x128x4x64 : Shape := ⟨4, ![17, 128, 4, 64]⟩
abbrev S16x128x4x64 : Shape := ⟨4, ![16, 128, 4, 64]⟩
abbrev S16x256x4x64 : Shape := ⟨4, ![16, 256, 4, 64]⟩
abbrev S16x4x256x128x4 : Shape := ⟨5, ![16, 4, 256, 128, 4]⟩
abbrev S16x4x4x128x256 : Shape := ⟨5, ![16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S1x4x4x1x1 : Shape := ⟨5, ![1, 4, 4, 1, 1]⟩
abbrev S16x4x4x128 : Shape := ⟨4, ![16, 4, 4, 128]⟩
abbrev S16x4x4x128x1 : Shape := ⟨5, ![16, 4, 4, 128, 1]⟩
abbrev S16x4x64x4x128 : Shape := ⟨5, ![16, 4, 64, 4, 128]⟩
abbrev S16x4x64x256 : Shape := ⟨4, ![16, 4, 64, 256]⟩
abbrev S4x4x1 : Shape := ⟨3, ![4, 4, 1]⟩
abbrev S16x4x128x4x64 : Shape := ⟨5, ![16, 4, 128, 4, 64]⟩
abbrev S16x4x256x64 : Shape := ⟨4, ![16, 4, 256, 64]⟩

abbrev nBuf : Space → Nat
  | .hbm => 203
  | .vmem => 0
  | .smem => 0
  | _ => 0

abbrev hbmTy0_0 (i : Nat) : BufTy := match i % 128 with
  | 0 => ⟨S2048x1024, .f32⟩
  | 1 => ⟨S2048x256, .f32⟩
  | 2 => ⟨S2048x256, .f32⟩
  | 3 => ⟨S16, .f32⟩
  | 4 => ⟨S2048x1024, .bf16⟩
  | 5 => ⟨S16x128x4x4x64, .f32⟩
  | 6 => ⟨S_, .f32⟩
  | 7 => ⟨S128x256, .f32⟩
  | 8 => ⟨S2176x256, .f32⟩
  | 9 => ⟨S_, .f32⟩
  | 10 => ⟨S128x256, .f32⟩
  | 11 => ⟨S17x128x4x64, .f32⟩
  | 12 => ⟨S16x128x4x64, .f32⟩
  | 13 => ⟨S16x128x4x64, .f32⟩
  | 14 => ⟨S16x256x4x64, .f32⟩
  | 15 => ⟨S_, .f32⟩
  | 16 => ⟨S128x256, .f32⟩
  | 17 => ⟨S2176x256, .f32⟩
  | 18 => ⟨S_, .f32⟩
  | 19 => ⟨S128x256, .f32⟩
  | 20 => ⟨S17x128x4x64, .f32⟩
  | 21 => ⟨S16x128x4x64, .f32⟩
  | 22 => ⟨S16x128x4x64, .f32⟩
  | 23 => ⟨S16x256x4x64, .f32⟩
  | 24 => ⟨S16x4x256x128x4, .f32⟩
  | 25 => ⟨S16x4x4x128x256, .f32⟩
  | 26 => ⟨S_, .f32⟩
  | 27 => ⟨S16x4x4x128x256, .f32⟩
  | 28 => ⟨S16x4x4x128x256, .f32⟩
  | 29 => ⟨S128, .i32⟩
  | 30 => ⟨S128x1, .i32⟩
  | 31 => ⟨S256, .i32⟩
  | 32 => ⟨S1x256, .i32⟩
  | 33 => ⟨S_, .i32⟩
  | 34 => ⟨S128x1, .i32⟩
  | 35 => ⟨S128x1, .i32⟩
  | 36 => ⟨S128x256, .i32⟩
  | 37 => ⟨S128x256, .i32⟩
  | 38 => ⟨S128x256, .i32⟩
  | 39 => ⟨S16, .i32⟩
  | 40 => ⟨S16x1x1, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S_, .i32⟩
  | 49 => ⟨S16x1x1, .i32⟩
  | 50 => ⟨S16x1x1, .i32⟩
  | 51 => ⟨S1x1x256, .i32⟩
  | 52 => ⟨S16x1x256, .i32⟩
  | 53 => ⟨S16x1x256, .i32⟩
  | 54 => ⟨S16x1x256, .i32⟩
  | 55 => ⟨S_, .i32⟩
  | 56 => ⟨S16x1x256, .i32⟩
  | 57 => ⟨S16x1x256, .i32⟩
  | 58 => ⟨S_, .i32⟩
  | 59 => ⟨S16x1x256, .i32⟩
  | 60 => ⟨S16x1x256, .i1⟩
  | 61 => ⟨S1x128x256, .i1⟩
  | 62 => ⟨S16x128x256, .i1⟩
  | 63 => ⟨S16x128x256, .i1⟩
  | 64 => ⟨S16x128x256, .i1⟩
  | 65 => ⟨S16x1x1x128x256, .i1⟩
  | 66 => ⟨S_, .f32⟩
  | 67 => ⟨S_, .f32⟩
  | 68 => ⟨S16x4x4x128x256, .i1⟩
  | 69 => ⟨S16x4x4x128x256, .f32⟩
  | 70 => ⟨S16x4x4x128x256, .f32⟩
  | 71 => ⟨S_, .f32⟩
  | 72 => ⟨S16x4x4x128x256, .f32⟩
  | 73 => ⟨S1x4x4x1x1, .f32⟩
  | 74 => ⟨S_, .f32⟩
  | 75 => ⟨S16x4x4x128, .f32⟩
  | 76 => ⟨S16x4x4x128x1, .f32⟩
  | 77 => ⟨S16x4x4x128x256, .f32⟩
  | 78 => ⟨S16x4x4x128x256, .i1⟩
  | 79 => ⟨S16x4x4x128x256, .f32⟩
  | 80 => ⟨S_, .f32⟩
  | 81 => ⟨S16x4x4x128, .f32⟩
  | 82 => ⟨S16x4x4x128x1, .f32⟩
  | 83 => ⟨S16x4x4x128x1, .f32⟩
  | 84 => ⟨S16x4x4x128x1, .f32⟩
  | 85 => ⟨S16x4x4x128x1, .f32⟩
  | 86 => ⟨S16x4x4x128x1, .i1⟩
  | 87 => ⟨S16x4x4x128x1, .f32⟩
  | 88 => ⟨S16x4x4x128x1, .i1⟩
  | 89 => ⟨S_, .f32⟩
  | 90 => ⟨S16x4x4x128x1, .f32⟩
  | 91 => ⟨S_, .f32⟩
  | 92 => ⟨S16x4x4x128x1, .f32⟩
  | 93 => ⟨S_, .f32⟩
  | 94 => ⟨S16x4x4x128x1, .f32⟩
  | 95 => ⟨S16x4x4x128x1, .f32⟩
  | 96 => ⟨S16x4x4x128x1, .f32⟩
  | 97 => ⟨S16x4x4x128x1, .f32⟩
  | 98 => ⟨S16x4x4x128x1, .i1⟩
  | 99 => ⟨S16x4x4x128x1, .f32⟩
  | 100 => ⟨S16x4x4x128x1, .i1⟩
  | 101 => ⟨S_, .f32⟩
  | 102 => ⟨S16x4x4x128x1, .f32⟩
  | 103 => ⟨S_, .f32⟩
  | 104 => ⟨S16x4x4x128x1, .f32⟩
  | 105 => ⟨S_, .f32⟩
  | 106 => ⟨S16x4x4x128x1, .f32⟩
  | 107 => ⟨S16x4x4x128x1, .f32⟩
  | 108 => ⟨S16x4x4x128x1, .f32⟩
  | 109 => ⟨S16x4x4x128x256, .f32⟩
  | 110 => ⟨S16x4x4x128x256, .f32⟩
  | 111 => ⟨S16x4x4x128x256, .f32⟩
  | 112 => ⟨S_, .f32⟩
  | 113 => ⟨S16x4x4x128, .f32⟩
  | 114 => ⟨S16x4x4x128x1, .f32⟩
  | 115 => ⟨S16x4x4x128x1, .f32⟩
  | 116 => ⟨S16x4x4x128x1, .f32⟩
  | 117 => ⟨S16x4x4x128x1, .f32⟩
  | 118 => ⟨S16x4x4x128x1, .f32⟩
  | 119 => ⟨S16x4x4x128x256, .f32⟩
  | 120 => ⟨S16x4x4x128x256, .f32⟩
  | 121 => ⟨S16x4x4x128x1, .f32⟩
  | 122 => ⟨S_, .f32⟩
  | 123 => ⟨S16x4x4x128x1, .f32⟩
  | 124 => ⟨S16x4x4x128x1, .f32⟩
  | 125 => ⟨S16x4x64x4x128, .f32⟩
  | 126 => ⟨S16x128x4x4x64, .f32⟩
  | 127 => ⟨S2048x1024, .f32⟩
  | _ => ⟨S2048x1024, .f32⟩

abbrev hbmTy0_1 (i : Nat) : BufTy := match i % 128 with
  | 0 => ⟨S2048x1024, .f32⟩
  | 1 => ⟨S16x128x4x4x64, .f32⟩
  | 2 => ⟨S16x4x64x4x128, .f32⟩
  | 3 => ⟨S16x4x4x128x256, .f32⟩
  | 4 => ⟨S16x4x64x256, .f32⟩
  | 5 => ⟨S16x256x4x64, .f32⟩
  | 6 => ⟨S16x4x4x128x256, .f32⟩
  | 7 => ⟨S16x4x4x128x256, .f32⟩
  | 8 => ⟨S16x4x4x128x256, .f32⟩
  | 9 => ⟨S_, .f32⟩
  | 10 => ⟨S16x4x4x128, .f32⟩
  | 11 => ⟨S16x4x4x128x1, .f32⟩
  | 12 => ⟨S16x4x4x128x1, .f32⟩
  | 13 => ⟨S16x4x4x128x256, .f32⟩
  | 14 => ⟨S16x4x4x128x256, .f32⟩
  | 15 => ⟨S16x4x4x128x1, .f32⟩
  | 16 => ⟨S_, .f32⟩
  | 17 => ⟨S4x4x1, .f32⟩
  | 18 => ⟨S1x4x4x1x1, .f32⟩
  | 19 => ⟨S16x4x4x128x1, .f32⟩
  | 20 => ⟨S_, .f32⟩
  | 21 => ⟨S16x4x4x128, .f32⟩
  | 22 => ⟨S16x4x4x128x256, .f32⟩
  | 23 => ⟨S16x4x4x128x256, .f32⟩
  | 24 => ⟨S16x4x4x128x256, .f32⟩
  | 25 => ⟨S16x4x4x128x256, .f32⟩
  | 26 => ⟨S_, .f32⟩
  | 27 => ⟨S16x4x4x128, .f32⟩
  | 28 => ⟨S16x4x4x128x1, .f32⟩
  | 29 => ⟨S16x4x4x128x1, .f32⟩
  | 30 => ⟨S16x4x4x128x1, .f32⟩
  | 31 => ⟨S_, .f32⟩
  | 32 => ⟨S4x4x1, .f32⟩
  | 33 => ⟨S1x4x4x1x1, .f32⟩
  | 34 => ⟨S1x4x4x1x1, .f32⟩
  | 35 => ⟨S16x4x4x128x1, .f32⟩
  | 36 => ⟨S_, .f32⟩
  | 37 => ⟨S16x4x4x128, .f32⟩
  | 38 => ⟨S16x4x4x128, .f32⟩
  | 39 => ⟨S16x4x4x128x256, .f32⟩
  | 40 => ⟨S16x4x4x128x256, .f32⟩
  | 41 => ⟨S16x4x4x128x256, .f32⟩
  | 42 => ⟨S16, .f32⟩
  | 43 => ⟨S_, .f32⟩
  | 44 => ⟨S16x4x4x128x256, .f32⟩
  | 45 => ⟨S16x4x4x128x256, .f32⟩
  | 46 => ⟨S_, .f32⟩
  | 47 => ⟨S16x4x4x128x256, .f32⟩
  | 48 => ⟨S16x4x4x128x256, .f32⟩
  | 49 => ⟨S16x4x256x128x4, .f32⟩
  | 50 => ⟨S16x4x128x4x64, .f32⟩
  | 51 => ⟨S16x128x4x4x64, .f32⟩
  | 52 => ⟨S16x4x256x64, .f32⟩
  | 53 => ⟨S16x256x4x64, .f32⟩
  | 54 => ⟨S16x128x4x64, .f32⟩
  | 55 => ⟨S16x128x4x64, .f32⟩
  | 56 => ⟨S_, .f32⟩
  | 57 => ⟨S17x128x4x64, .f32⟩
  | 58 => ⟨S_, .f32⟩
  | 59 => ⟨S17x128x4x64, .f32⟩
  | 60 => ⟨S17x128x4x64, .f32⟩
  | 61 => ⟨S2176x256, .f32⟩
  | 62 => ⟨S128x256, .f32⟩
  | 63 => ⟨S2048x256, .f32⟩
  | 64 => ⟨S16x128x4x64, .f32⟩
  | 65 => ⟨S16x128x4x64, .f32⟩
  | 66 => ⟨S_, .f32⟩
  | 67 => ⟨S17x128x4x64, .f32⟩
  | 68 => ⟨S_, .f32⟩
  | 69 => ⟨S17x128x4x64, .f32⟩
  | 70 => ⟨S17x128x4x64, .f32⟩
  | 71 => ⟨S2176x256, .f32⟩
  | 72 => ⟨S128x256, .f32⟩
  | 73 => ⟨S2048x256, .f32⟩
  | 74 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_c_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_call0_v0 : Ref sig .tc := ⟨.hbm, 67, rfl⟩
abbrev main_v50_1 : Ref sig .tc := ⟨.hbm, 68, rfl⟩
abbrev main_call0_v2 : Ref sig .tc := ⟨.hbm, 69, rfl⟩
abbrev main_v50_0 : Ref sig .tc := ⟨.hbm, 70, rfl⟩
abbrev main_call0_cst : Ref sig .tc := ⟨.hbm, 71, rfl⟩
abbrev main_v50_2 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_cst_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_19 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_20 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_21 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_22 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_23 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_24 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_25 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_call1_cst : Ref sig .tc := ⟨.hbm, 171, rfl⟩
abbrev main_call1_v0 : Ref sig .tc := ⟨.hbm, 172, rfl⟩
abbrev main_v133 : Ref sig .tc := ⟨.hbm, 173, rfl⟩
abbrev main_cst_26 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_27 : Ref sig .tc := ⟨.hbm, 184, rfl⟩
abbrev main_v143 : Ref sig .tc := ⟨.hbm, 185, rfl⟩
abbrev main_cst_28 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_29 : Ref sig .tc := ⟨.hbm, 194, rfl⟩
abbrev main_v151 : Ref sig .tc := ⟨.hbm, 195, rfl⟩
abbrev main_cst_30 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩

abbrev nD : Nat := 1
abbrev τ : Topo := Topo.v7x

variable {F : FTy → Type} [FloatOps F]
-- ==== Kernel2.lean ====
abbrev S2048x1024 : Shape := ⟨2, ![2048, 1024]⟩
abbrev S1024x4096 : Shape := ⟨2, ![1024, 4096]⟩
abbrev S1x4096 : Shape := ⟨2, ![1, 4096]⟩
abbrev S4096x1024 : Shape := ⟨2, ![4096, 1024]⟩
abbrev S2048x4096 : Shape := ⟨2, ![2048, 4096]⟩
abbrev S1024x2048 : Shape := ⟨2, ![1024, 2048]⟩
abbrev S2048x2048 : Shape := ⟨2, ![2048, 2048]⟩
abbrev S512x4096 : Shape := ⟨2, ![512, 4096]⟩
abbrev S4096x512 : Shape := ⟨2, ![4096, 512]⟩
abbrev S2048x512 : Shape := ⟨2, ![2048, 512]⟩
abbrev S4096 : Shape := ⟨1, ![4096]⟩

abbrev nBuf : Space → Nat
  | .hbm => 14
  | .vmem => 43
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S1x4096, .f32⟩
  | .hbm, ⟨3, _⟩ => ⟨S4096x1024, .bf16⟩
  | .hbm, ⟨4, _⟩ => ⟨S2048x1024, .bf16⟩
  | .hbm, ⟨5, _⟩ => ⟨S2048x4096, .bf16⟩
  | .hbm, ⟨6, _⟩ => ⟨S2048x4096, .bf16⟩
  | .hbm, ⟨7, _⟩ => ⟨S2048x1024, .bf16⟩
  | .hbm, ⟨8, _⟩ => ⟨S2048x4096, .bf16⟩
  | .hbm, ⟨9, _⟩ => ⟨S4096x1024, .bf16⟩
  | .hbm, ⟨10, _⟩ => ⟨S2048x4096, .bf16⟩
  | .hbm, ⟨11, _⟩ => ⟨S1x4096, .f32⟩
  | .hbm, ⟨12, _⟩ => ⟨S2048x1024, .bf16⟩
  | .hbm, ⟨13, _⟩ => ⟨S1024x4096, .bf16⟩
  | .local _ .vmem, ⟨0, _⟩ => ⟨S2048x1024, .bf16⟩
  | .local _ .vmem, ⟨1, _⟩ => ⟨S1024x2048, .bf16⟩
  | .local _ .vmem, ⟨2, _⟩ => ⟨S1024x2048, .bf16⟩
  | .local _ .vmem, ⟨3, _⟩ => ⟨S2048x2048, .bf16⟩
  | .local _ .vmem, ⟨4, _⟩ => ⟨S2048x2048, .bf16⟩
  | .local _ .vmem, ⟨5, _⟩ => ⟨S512x4096, .bf16⟩
  | .local _ .vmem, ⟨6, _⟩ => ⟨S512x4096, .bf16⟩
  | .local _ .vmem, ⟨7, _⟩ => ⟨S1x4096, .f32⟩
  | .local _ .vmem, ⟨8, _⟩ => ⟨S512x4096, .bf16⟩
  | .local _ .vmem, ⟨9, _⟩ => ⟨S512x4096, .bf16⟩
  | .local _ .vmem, ⟨10, _⟩ => ⟨S2048x4096, .bf16⟩
  | .local _ .vmem, ⟨11, _⟩ => ⟨S4096x512, .bf16⟩
  | .local _ .vmem, ⟨12, _⟩ => ⟨S4096x512, .bf16⟩
  | .local _ .vmem, ⟨13, _⟩ => ⟨S2048x512, .bf16⟩
  | .local _ .vmem, ⟨14, _⟩ => ⟨S2048x512, .bf16⟩
  | .local _ .vmem, ⟨15, _⟩ => ⟨S2048x1024, .bf16⟩
  | .local _ .vmem, ⟨16, _⟩ => ⟨S2048x1024, .bf16⟩
  | .local _ .vmem, ⟨17, _⟩ => ⟨S2048x1024, .bf16⟩
  | .local _ .vmem, ⟨18, _⟩ => ⟨S2048x2048, .bf16⟩
  | .local _ .vmem, ⟨19, _⟩ => ⟨S2048x2048, .bf16⟩
  | .local _ .vmem, ⟨20, _⟩ => ⟨S2048x4096, .bf16⟩
  | .local _ .vmem, ⟨21, _⟩ => ⟨S2048x512, .bf16⟩
  | .local _ .vmem, ⟨22, _⟩ => ⟨S2048x512, .bf16⟩
  | .local _ .vmem, ⟨23, _⟩ => ⟨S4096x512, .bf16⟩
  | .local _ .vmem, ⟨24, _⟩ => ⟨S4096x512, .bf16⟩
  | .local _ .vmem, ⟨25, _⟩ => ⟨S512x4096, .bf16⟩
  | .local _ .vmem, ⟨26, _⟩ => ⟨S512x4096, .bf16⟩
  | .local _ .vmem, ⟨27, _⟩ => ⟨S1x4096, .f32⟩
  | .local _ .vmem, ⟨28, _⟩ => ⟨S512x4096, .bf16⟩
  | .local _ .vmem, ⟨29, _⟩ => ⟨S512x4096, .bf16⟩
  | .local _ .vmem, ⟨30, _⟩ => ⟨S512x4096, .bf16⟩
  | .local _ .vmem, ⟨31, _⟩ => ⟨S512x4096, .bf16⟩
  | .local _ .vmem, ⟨32, _⟩ => ⟨S1x4096, .f32⟩
  | .local _ .vmem, ⟨33, _⟩ => ⟨S2048x4096, .bf16⟩
  | .local _ .vmem, ⟨34, _⟩ => ⟨S512x4096, .bf16⟩
  | .local _ .vmem, ⟨35, _⟩ => ⟨S512x4096, .bf16⟩
  | .local _ .vmem, ⟨36, _⟩ => ⟨S2048x512, .bf16⟩
  | .local _ .vmem, ⟨37, _⟩ => ⟨S2048x512, .bf16⟩
  | .local _ .vmem, ⟨38, _⟩ => ⟨S2048x1024, .bf16⟩
  | .local _ .vmem, ⟨39, _⟩ => ⟨S2048x2048, .bf16⟩
  | .local _ .vmem, ⟨40, _⟩ => ⟨S2048x2048, .bf16⟩
  | .local _ .vmem, ⟨41, _⟩ => ⟨S1024x2048, .bf16⟩
  | .local _ .vmem, ⟨42, _⟩ => ⟨S1024x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc5_stg3_0 : Ref sig .tc := ⟨.vmem, 30, rfl⟩
abbrev cc5_stg3_1 : Ref sig .tc := ⟨.vmem, 31, rfl⟩
abbrev cc5_stg4_0 : Ref sig .tc := ⟨.vmem, 32, rfl⟩
abbrev cc6_stg0_0 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc5_sem3_0 : DmaSem sig := 30
abbrev cc5_sem3_1 : DmaSem sig := 31
abbrev cc5_sem4_0 : DmaSem sig := 32
abbrev cc6_sem0_0 : DmaSem sig := 33
abbrev cc6_sem1_0 : DmaSem sig := 34
abbrev cc6_sem1_1 : DmaSem sig := 35
abbrev cc6_sem2_0 : DmaSem sig := 36
abbrev cc6_sem2_1 : DmaSem sig := 37
abbrev cc7_sem0_0 : DmaSem sig := 38
abbrev cc7_sem1_0 : DmaSem sig := 39
abbrev cc7_sem1_1 : DmaSem sig := 40
abbrev cc7_sem2_0 : DmaSem sig := 41
abbrev cc7_sem2_1 : DmaSem sig := 42

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S2048x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S2048x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S4096x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x4096 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x4096 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x4096 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨2, ![1, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S2048x4096 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S512x4096 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2048x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![1, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S2048x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S2048x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x2048 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]
-- ==== Reference2Ideal.lean ====
abbrev S2048x1024 : Shape := ⟨2, ![2048, 1024]⟩
abbrev S1024x4096 : Shape := ⟨2, ![1024, 4096]⟩
abbrev S1x4096 : Shape := ⟨2, ![1, 4096]⟩
abbrev S4096x1024 : Shape := ⟨2, ![4096, 1024]⟩
abbrev S2048x4096 : Shape := ⟨2, ![2048, 4096]⟩
abbrev S_ : Shape := ⟨0, ![]⟩
abbrev S4096 : Shape := ⟨1, ![4096]⟩

abbrev nBuf : Space → Nat
  | .hbm => 49
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S1x4096, .f32⟩
  | .hbm, ⟨3, _⟩ => ⟨S4096x1024, .bf16⟩
  | .hbm, ⟨4, _⟩ => ⟨S2048x1024, .bf16⟩
  | .hbm, ⟨5, _⟩ => ⟨S2048x1024, .f32⟩
  | .hbm, ⟨6, _⟩ => ⟨S1024x4096, .f32⟩
  | .hbm, ⟨7, _⟩ => ⟨S4096x1024, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .i1⟩
  | .hbm, ⟨17, _⟩ => ⟨S_, .f32⟩
  | .hbm, ⟨18, _⟩ => ⟨S2048x4096, .f32⟩
  | .hbm, ⟨19, _⟩ => ⟨S2048x4096, .i1⟩
  | .hbm, ⟨20, _⟩ => ⟨S_, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S_, .f32⟩
  | .hbm, ⟨25, _⟩ => ⟨S2048x4096, .f32⟩
  | .hbm, ⟨26, _⟩ => ⟨S2048x4096, .f32⟩
  | .hbm, ⟨27, _⟩ => ⟨S2048x4096, .f32⟩
  | .hbm, ⟨28, _⟩ => ⟨S2048x4096, .f32⟩
  | .hbm, ⟨29, _⟩ => ⟨S_, .f32⟩
  | .hbm, ⟨30, _⟩ => ⟨S2048x4096, .f32⟩
  | .hbm, ⟨31, _⟩ => ⟨S2048x4096, .f32⟩
  | .hbm, ⟨32, _⟩ => ⟨S2048x1024, .f32⟩
  | .hbm, ⟨33, _⟩ => ⟨S2048x1024, .bf16⟩
  | .hbm, ⟨34, _⟩ => ⟨S2048x1024, .f32⟩
  | .hbm, ⟨35, _⟩ => ⟨S1024x4096, .f32⟩
  | .hbm, ⟨36, _⟩ => ⟨S4096x1024, .f32⟩
  | .hbm, ⟨37, _⟩ => ⟨S2048x4096, .f32⟩
  | .hbm, ⟨38, _⟩ => ⟨S2048x4096, .f32⟩
  | .hbm, ⟨39, _⟩ => ⟨S2048x4096, .f32⟩
  | .hbm, ⟨40, _⟩ => ⟨S_, .f32⟩
  | .hbm, ⟨41, _⟩ => ⟨S4096, .f32⟩
  | .hbm, ⟨42, _⟩ => ⟨S1x4096, .f32⟩
  | .hbm, ⟨43, _⟩ => ⟨S4096x1024, .f32⟩
  | .hbm, ⟨44, _⟩ => ⟨S1024x4096, .f32⟩
  | .hbm, ⟨45, _⟩ => ⟨S2048x1024, .f32⟩
  | .hbm, ⟨46, _⟩ => ⟨S4096x1024, .bf16⟩
  | .hbm, ⟨47, _⟩ => ⟨S1024x4096, .bf16⟩
  | .hbm, ⟨48, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S1024x7696 : Shape := ⟨2, ![1024, 7696]⟩
abbrev S2048x256 : Shape := ⟨2, ![2048, 256]⟩
abbrev S2048x8 : Shape := ⟨2, ![2048, 8]⟩
abbrev S_ : Shape := ⟨0, ![]⟩
abbrev S1024x496 : Shape := ⟨2, ![1024, 496]⟩
abbrev S1024x1024 : Shape := ⟨2, ![1024, 1024]⟩
abbrev S1024x4096 : Shape := ⟨2, ![1024, 4096]⟩
abbrev S1024x2048 : Shape := ⟨2, ![1024, 2048]⟩
abbrev S1024x512 : Shape := ⟨2, ![1024, 512]⟩
abbrev S1024x16 : Shape := ⟨2, ![1024, 16]⟩
abbrev S1024x8192 : Shape := ⟨2, ![1024, 8192]⟩
abbrev S512x1024 : Shape := ⟨2, ![512, 1024]⟩
abbrev S2048x8192 : Shape := ⟨2, ![2048, 8192]⟩
abbrev S2048x112 : Shape := ⟨2, ![2048, 112]⟩
abbrev S2048x128 : Shape := ⟨2, ![2048, 128]⟩
abbrev S2048x384 : Shape := ⟨2, ![2048, 384]⟩
abbrev S256x8192 : Shape := ⟨2, ![256, 8192]⟩
abbrev S1024x256 : Shape := ⟨2, ![1024, 256]⟩
abbrev S2048x2048 : Shape := ⟨2, ![2048, 2048]⟩
abbrev S1024 : Shape := ⟨1, ![1024]⟩
abbrev S2048x512 : Shape := ⟨2, ![2048, 512]⟩
abbrev S2048x4096 : Shape := ⟨2, ![2048, 4096]⟩
abbrev S2048x16 : Shape := ⟨2, ![2048, 16]⟩
abbrev S2048x7696 : Shape := ⟨2, ![2048, 7696]⟩

abbrev nBuf : Space → Nat
  | .hbm => 53
  | .vmem => 34
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x7696, .bf16⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x8, .f32⟩
  | .hbm, ⟨12, _⟩ => ⟨S2048x8, .f32⟩
  | .hbm, ⟨13, _⟩ => ⟨S2048x1024, .bf16⟩
  | .hbm, ⟨14, _⟩ => ⟨S2048x1024, .bf16⟩
  | .hbm, ⟨15, _⟩ => ⟨S2048x1024, .f32⟩
  | .hbm, ⟨16, _⟩ => ⟨S_, .bf16⟩
  | .hbm, ⟨17, _⟩ => ⟨S1024x496, .bf16⟩
  | .hbm, ⟨18, _⟩ => ⟨S1024x1024, .bf16⟩
  | .hbm, ⟨19, _⟩ => ⟨S1024x4096, .bf16⟩
  | .hbm, ⟨20, _⟩ => ⟨S1024x2048, .bf16⟩
  | .hbm, ⟨21, _⟩ => ⟨S1024x512, .bf16⟩
  | .hbm, ⟨22, _⟩ => ⟨S1024x16, .bf16⟩
  | .hbm, ⟨23, _⟩ => ⟨S1024x8192, .bf16⟩
  | .hbm, ⟨24, _⟩ => ⟨S2048x1024, .bf16⟩
  | .hbm, ⟨25, _⟩ => ⟨S2048x8192, .f32⟩
  | .hbm, ⟨26, _⟩ => ⟨S_, .f32⟩
  | .hbm, ⟨27, _⟩ => ⟨S2048x112, .f32⟩
  | .hbm, ⟨28, _⟩ => ⟨S2048x128, .f32⟩
  | .hbm, ⟨29, _⟩ => ⟨S2048x1024, .bf16⟩
  | .hbm, ⟨30, _⟩ => ⟨S2048x256, .bf16⟩
  | .hbm, ⟨31, _⟩ => ⟨S2048x256, .bf16⟩
  | .hbm, ⟨32, _⟩ => ⟨S2048x128, .bf16⟩
  | .hbm, ⟨33, _⟩ => ⟨S_, .bf16⟩
  | .hbm, ⟨34, _⟩ => ⟨S2048x384, .bf16⟩
  | .hbm, ⟨35, _⟩ => ⟨S2048x8192, .bf16⟩
  | .hbm, ⟨36, _⟩ => ⟨S2048x1024, .bf16⟩
  | .hbm, ⟨37, _⟩ => ⟨S1024x8192, .bf16⟩
  | .hbm, ⟨38, _⟩ => ⟨S2048x1024, .f32⟩
  | .hbm, ⟨39, _⟩ => ⟨S1x1024, .f32⟩
  | .hbm, ⟨40, _⟩ => ⟨S1x1024, .f32⟩
  | .hbm, ⟨41, _⟩ => ⟨S2048x1024, .f32⟩
  | .hbm, ⟨42, _⟩ => ⟨S2048x512, .f32⟩
  | .hbm, ⟨43, _⟩ => ⟨S2048x4096, .f32⟩
  | .hbm, ⟨44, _⟩ => ⟨S2048x16, .f32⟩
  | .hbm, ⟨45, _⟩ => ⟨S2048x2048, .f32⟩
  | .hbm, ⟨46, _⟩ => ⟨S2048x7696, .f32⟩
  | .hbm, ⟨47, _⟩ => ⟨S1024x1024, .bf16⟩
  | .hbm, ⟨48, _⟩ => ⟨S1024x512, .bf16⟩
  | .hbm, ⟨49, _⟩ => ⟨S1024x4096, .bf16⟩
  | .hbm, ⟨50, _⟩ => ⟨S1024x16, .bf16⟩
  | .hbm, ⟨51, _⟩ => ⟨S1024x2048, .bf16⟩
  | .hbm, ⟨52, _⟩ => ⟨S1024x7696, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S2048x1024, .f32⟩
  | .local _ .vmem, ⟨10, _⟩ => ⟨S2048x1024, .f32⟩
  | .local _ .vmem, ⟨11, _⟩ => ⟨S1024x8192, .bf16⟩
  | .local _ .vmem, ⟨12, _⟩ => ⟨S1024x8192, .bf16⟩
  | .local _ .vmem, ⟨13, _⟩ => ⟨S256x8192, .bf16⟩
  | .local _ .vmem, ⟨14, _⟩ => ⟨S256x8192, .bf16⟩
  | .local _ .vmem, ⟨15, _⟩ => ⟨S1024x256, .bf16⟩
  | .local _ .vmem, ⟨16, _⟩ => ⟨S1024x256, .bf16⟩
  | .local _ .vmem, ⟨17, _⟩ => ⟨S2048x1024, .bf16⟩
  | .local _ .vmem, ⟨18, _⟩ => ⟨S2048x2048, .bf16⟩
  | .local _ .vmem, ⟨19, _⟩ => ⟨S2048x2048, .bf16⟩
  | .local _ .vmem, ⟨20, _⟩ => ⟨S1024x2048, .bf16⟩
  | .local _ .vmem, ⟨21, _⟩ => ⟨S1024x2048, .bf16⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1x1024, .f32⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S1x1024, .f32⟩
  | .local _ .vmem, ⟨33, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev main_v19_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc4_stg4_0 : Ref sig .tc := ⟨.vmem, 28, rfl⟩
abbrev cc4_stg4_1 : Ref sig .tc := ⟨.vmem, 29, rfl⟩
abbrev cc4_stg5_0 : Ref sig .tc := ⟨.vmem, 30, rfl⟩
abbrev cc4_stg5_1 : Ref sig .tc := ⟨.vmem, 31, rfl⟩
abbrev cc4_stg6_0 : Ref sig .tc := ⟨.vmem, 32, rfl⟩
abbrev cc4_stg7_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc4_sem4_0 : DmaSem sig := 28
abbrev cc4_sem4_1 : DmaSem sig := 29
abbrev cc4_sem5_0 : DmaSem sig := 30
abbrev cc4_sem5_1 : DmaSem sig := 31
abbrev cc4_sem6_0 : DmaSem sig := 32
abbrev cc4_sem7_0 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x8192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]
-- ==== Reference3Ideal.lean ====
abbrev S2048x1024 : Shape := ⟨2, ![2048, 1024]⟩
abbrev S1x1024 : Shape := ⟨2, ![1, 1024]⟩
abbrev S1024x7696 : Shape := ⟨2, ![1024, 7696]⟩
abbrev S2048x256 : Shape := ⟨2, ![2048, 256]⟩
abbrev S2048x8 : Shape := ⟨2, ![2048, 8]⟩
abbrev S_ : Shape := ⟨0, ![]⟩
abbrev S2048x7696 : Shape := ⟨2, ![2048, 7696]⟩
abbrev S7696x1024 : Shape := ⟨2, ![7696, 1024]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x7696, .bf16⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x8, .f32⟩
  | .hbm, ⟨12, _⟩ => ⟨S2048x8, .f32⟩
  | .hbm, ⟨13, _⟩ => ⟨S2048x1024, .bf16⟩
  | .hbm, ⟨14, _⟩ => ⟨S2048x1024, .bf16⟩
  | .hbm, ⟨15, _⟩ => ⟨S2048x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1024x7696, .f32⟩
  | .hbm, ⟨24, _⟩ => ⟨S2048x7696, .f32⟩
  | .hbm, ⟨25, _⟩ => ⟨S2048x1024, .f32⟩
  | .hbm, ⟨26, _⟩ => ⟨S2048x256, .f32⟩
  | .hbm, ⟨27, _⟩ => ⟨S2048x256, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x8, .f32⟩
  | .hbm, ⟨33, _⟩ => ⟨S2048x8, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x7696, .f32⟩
  | .hbm, ⟨44, _⟩ => ⟨S_, .f32⟩
  | .hbm, ⟨45, _⟩ => ⟨S2048x7696, .f32⟩
  | .hbm, ⟨46, _⟩ => ⟨S2048x7696, .f32⟩
  | .hbm, ⟨47, _⟩ => ⟨S_, .f32⟩
  | .hbm, ⟨48, _⟩ => ⟨S2048x7696, .f32⟩
  | .hbm, ⟨49, _⟩ => ⟨S2048x7696, .f32⟩
  | .hbm, ⟨50, _⟩ => ⟨S_, .f32⟩
  | .hbm, ⟨51, _⟩ => ⟨S2048x7696, .f32⟩
  | .hbm, ⟨52, _⟩ => ⟨S2048x7696, .f32⟩
  | .hbm, ⟨53, _⟩ => ⟨S_, .f32⟩
  | .hbm, ⟨54, _⟩ => ⟨S2048x7696, .f32⟩
  | .hbm, ⟨55, _⟩ => ⟨S2048x7696, .f32⟩
  | .hbm, ⟨56, _⟩ => ⟨S_, .f32⟩
  | .hbm, ⟨57, _⟩ => ⟨S2048x7696, .f32⟩
  | .hbm, ⟨58, _⟩ => ⟨S2048x7696, .f32⟩
  | .hbm, ⟨59, _⟩ => ⟨S_, .f32⟩
  | .hbm, ⟨60, _⟩ => ⟨S2048x7696, .f32⟩
  | .hbm, ⟨61, _⟩ => ⟨S2048x7696, .f32⟩
  | .hbm, ⟨62, _⟩ => ⟨S_, .f32⟩
  | .hbm, ⟨63, _⟩ => ⟨S2048x7696, .f32⟩
  | .hbm, ⟨64, _⟩ => ⟨S2048x7696, .f32⟩
  | .hbm, ⟨65, _⟩ => ⟨S_, .f32⟩
  | .hbm, ⟨66, _⟩ => ⟨S2048x7696, .f32⟩
  | .hbm, ⟨67, _⟩ => ⟨S2048x7696, .f32⟩
  | .hbm, ⟨68, _⟩ => ⟨S_, .f32⟩
  | .hbm, ⟨69, _⟩ => ⟨S2048x7696, .f32⟩
  | .hbm, ⟨70, _⟩ => ⟨S2048x7696, .f32⟩
  | .hbm, ⟨71, _⟩ => ⟨S_, .f32⟩
  | .hbm, ⟨72, _⟩ => ⟨S2048x7696, .f32⟩
  | .hbm, ⟨73, _⟩ => ⟨S2048x7696, .f32⟩
  | .hbm, ⟨74, _⟩ => ⟨S7696x1024, .f32⟩
  | .hbm, ⟨75, _⟩ => ⟨S1024x7696, .f32⟩
  | .hbm, ⟨76, _⟩ => ⟨S2048x1024, .f32⟩
  | .hbm, ⟨77, _⟩ => ⟨S1024x7696, .bf16⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S2048x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S2048x1024, .f32⟩
  | .hbm, ⟨86, _⟩ => ⟨S2048x1024, .f32⟩
  | .hbm, ⟨87, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_0 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Kernel4.lean ====
abbrev S2048x1024 : Shape := ⟨2, ![2048, 1024]⟩
abbrev S2048x7696 : Shape := ⟨2, ![2048, 7696]⟩
abbrev S1024x1024 : Shape := ⟨2, ![1024, 1024]⟩
abbrev S_ : Shape := ⟨0, ![]⟩
abbrev S2048x496 : Shape := ⟨2, ![2048, 496]⟩
abbrev S2048x4096 : Shape := ⟨2, ![2048, 4096]⟩
abbrev S2048x2048 : Shape := ⟨2, ![2048, 2048]⟩
abbrev S2048x512 : Shape := ⟨2, ![2048, 512]⟩
abbrev S2048x16 : Shape := ⟨2, ![2048, 16]⟩
abbrev S2048x8192 : Shape := ⟨2, ![2048, 8192]⟩
abbrev S512x1024 : Shape := ⟨2, ![512, 1024]⟩

abbrev nBuf : Space → Nat
  | .hbm => 29
  | .vmem => 55
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x7696, .f32⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S2048x1024, .bf16⟩
  | .hbm, ⟨7, _⟩ => ⟨S_, .f32⟩
  | .hbm, ⟨8, _⟩ => ⟨S2048x496, .f32⟩
  | .hbm, ⟨9, _⟩ => ⟨S2048x1024, .f32⟩
  | .hbm, ⟨10, _⟩ => ⟨S2048x4096, .f32⟩
  | .hbm, ⟨11, _⟩ => ⟨S2048x2048, .f32⟩
  | .hbm, ⟨12, _⟩ => ⟨S2048x512, .f32⟩
  | .hbm, ⟨13, _⟩ => ⟨S2048x16, .f32⟩
  | .hbm, ⟨14, _⟩ => ⟨S2048x8192, .f32⟩
  | .hbm, ⟨15, _⟩ => ⟨S2048x1024, .bf16⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S2048x1024, .bf16⟩
  | .hbm, ⟨20, _⟩ => ⟨S1024x1024, .bf16⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .bf16⟩
  | .hbm, ⟨25, _⟩ => ⟨S2048x1024, .bf16⟩
  | .hbm, ⟨26, _⟩ => ⟨S1024x1024, .bf16⟩
  | .hbm, ⟨27, _⟩ => ⟨S2048x1024, .bf16⟩
  | .hbm, ⟨28, _⟩ => ⟨S1024x1024, .bf16⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S2048x1024, .bf16⟩
  | .local _ .vmem, ⟨17, _⟩ => ⟨S1024x1024, .bf16⟩
  | .local _ .vmem, ⟨18, _⟩ => ⟨S2048x1024, .bf16⟩
  | .local _ .vmem, ⟨19, _⟩ => ⟨S2048x1024, .bf16⟩
  | .local _ .vmem, ⟨20, _⟩ => ⟨S1024x1024, .bf16⟩
  | .local _ .vmem, ⟨21, _⟩ => ⟨S2048x1024, .bf16⟩
  | .local _ .vmem, ⟨22, _⟩ => ⟨S2048x1024, .bf16⟩
  | .local _ .vmem, ⟨23, _⟩ => ⟨S2048x1024, .bf16⟩
  | .local _ .vmem, ⟨24, _⟩ => ⟨S1024x1024, .bf16⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S2048x1024, .bf16⟩
  | .local _ .vmem, ⟨44, _⟩ => ⟨S1024x1024, .bf16⟩
  | .local _ .vmem, ⟨45, _⟩ => ⟨S2048x1024, .bf16⟩
  | .local _ .vmem, ⟨46, _⟩ => ⟨S2048x1024, .bf16⟩
  | .local _ .vmem, ⟨47, _⟩ => ⟨S2048x1024, .bf16⟩
  | .local _ .vmem, ⟨48, _⟩ => ⟨S1024x1024, .bf16⟩
  | .local _ .vmem, ⟨49, _⟩ => ⟨S2048x1024, .bf16⟩
  | .local _ .vmem, ⟨50, _⟩ => ⟨S1024x1024, .bf16⟩
  | .local _ .vmem, ⟨51, _⟩ => ⟨S2048x1024, .bf16⟩
  | .local _ .vmem, ⟨52, _⟩ => ⟨S2048x1024, .bf16⟩
  | .local _ .vmem, ⟨53, _⟩ => ⟨S2048x1024, .bf16⟩
  | .local _ .vmem, ⟨54, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg3_1 : Ref sig .tc := ⟨.vmem, 13, rfl⟩
abbrev cc2_stg4_0 : Ref sig .tc := ⟨.vmem, 14, rfl⟩
abbrev cc2_stg4_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc4_stg0_0 : Ref sig .tc := ⟨.vmem, 19, rfl⟩
abbrev cc4_stg1_0 : Ref sig .tc := ⟨.vmem, 20, rfl⟩
abbrev cc4_stg2_0 : Ref sig .tc := ⟨.vmem, 21, rfl⟩
abbrev cc5_stg0_0 : Ref sig .tc := ⟨.vmem, 22, rfl⟩
abbrev cc5_stg1_0 : Ref sig .tc := ⟨.vmem, 23, rfl⟩
abbrev cc5_stg2_0 : Ref sig .tc := ⟨.vmem, 24, rfl⟩
abbrev cc6_stg0_0 : Ref sig .tc := ⟨.vmem, 25, rfl⟩
abbrev cc6_stg0_1 : Ref sig .tc := ⟨.vmem, 26, rfl⟩
abbrev cc6_stg1_0 : Ref sig .tc := ⟨.vmem, 27, rfl⟩
abbrev cc6_stg1_1 : Ref sig .tc := ⟨.vmem, 28, rfl⟩
abbrev cc6_stg2_0 : Ref sig .tc := ⟨.vmem, 29, rfl⟩
abbrev cc6_stg2_1 : Ref sig .tc := ⟨.vmem, 30, rfl⟩
abbrev cc6_stg3_0 : Ref sig .tc := ⟨.vmem, 31, rfl⟩
abbrev cc6_stg3_1 : Ref sig .tc := ⟨.vmem, 32, rfl⟩
abbrev cc6_stg4_0 : Ref sig .tc := ⟨.vmem, 33, rfl⟩
abbrev cc6_stg4_1 : Ref sig .tc := ⟨.vmem, 34, rfl⟩
abbrev cc6_stg5_0 : Ref sig .tc := ⟨.vmem, 35, rfl⟩
abbrev cc6_stg5_1 : Ref sig .tc := ⟨.vmem, 36, rfl⟩
abbrev cc6_stg6_0 : Ref sig .tc := ⟨.vmem, 37, rfl⟩
abbrev cc6_stg6_1 : Ref sig .tc := ⟨.vmem, 38, rfl⟩
abbrev cc6_stg7_0 : Ref sig .tc := ⟨.vmem, 39, rfl⟩
abbrev cc6_stg7_1 : Ref sig .tc := ⟨.vmem, 40, rfl⟩
abbrev cc6_stg8_0 : Ref sig .tc := ⟨.vmem, 41, rfl⟩
abbrev cc6_stg8_1 : Ref sig .tc := ⟨.vmem, 42, rfl⟩
abbrev cc7_stg0_0 : Ref sig .tc := ⟨.vmem, 43, rfl⟩
abbrev cc7_stg1_0 : Ref sig .tc := ⟨.vmem, 44, rfl⟩
abbrev cc7_stg2_0 : Ref sig .tc := ⟨.vmem, 45, rfl⟩
abbrev cc8_stg0_0 : Ref sig .tc := ⟨.vmem, 46, rfl⟩
abbrev cc8_stg1_0 : Ref sig .tc := ⟨.vmem, 47, rfl⟩
abbrev cc8_stg2_0 : Ref sig .tc := ⟨.vmem, 48, rfl⟩
abbrev cc9_stg0_0 : Ref sig .tc := ⟨.vmem, 49, rfl⟩
abbrev cc9_stg1_0 : Ref sig .tc := ⟨.vmem, 50, rfl⟩
abbrev cc9_stg2_0 : Ref sig .tc := ⟨.vmem, 51, rfl⟩
abbrev cc10_stg0_0 : Ref sig .tc := ⟨.vmem, 52, rfl⟩
abbrev cc10_stg1_0 : Ref sig .tc := ⟨.vmem, 53, rfl⟩
abbrev cc10_stg2_0 : Ref sig .tc := ⟨.vmem, 54, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem2_1 : DmaSem sig := 11
abbrev cc2_sem3_0 : DmaSem sig := 12
abbrev cc2_sem3_1 : DmaSem sig := 13
abbrev cc2_sem4_0 : DmaSem sig := 14
abbrev cc2_sem4_1 : DmaSem sig := 15
abbrev cc3_sem0_0 : DmaSem sig := 16
abbrev cc3_sem1_0 : DmaSem sig := 17
abbrev cc3_sem2_0 : DmaSem sig := 18
abbrev cc4_sem0_0 : DmaSem sig := 19
abbrev cc4_sem1_0 : DmaSem sig := 20
abbrev cc4_sem2_0 : DmaSem sig := 21
abbrev cc5_sem0_0 : DmaSem sig := 22
abbrev cc5_sem1_0 : DmaSem sig := 23
abbrev cc5_sem2_0 : DmaSem sig := 24
abbrev cc6_sem0_0 : DmaSem sig := 25
abbrev cc6_sem0_1 : DmaSem sig := 26
abbrev cc6_sem1_0 : DmaSem sig := 27
abbrev cc6_sem1_1 : DmaSem sig := 28
abbrev cc6_sem2_0 : DmaSem sig := 29
abbrev cc6_sem2_1 : DmaSem sig := 30
abbrev cc6_sem3_0 : DmaSem sig := 31
abbrev cc6_sem3_1 : DmaSem sig := 32
abbrev cc6_sem4_0 : DmaSem sig := 33
abbrev cc6_sem4_1 : DmaSem sig := 34
abbrev cc6_sem5_0 : DmaSem sig := 35
abbrev cc6_sem5_1 : DmaSem sig := 36
abbrev cc6_sem6_0 : DmaSem sig := 37
abbrev cc6_sem6_1 : DmaSem sig := 38
abbrev cc6_sem7_0 : DmaSem sig := 39
abbrev cc6_sem7_1 : DmaSem sig := 40
abbrev cc6_sem8_0 : DmaSem sig := 41
abbrev cc6_sem8_1 : DmaSem sig := 42
abbrev cc7_sem0_0 : DmaSem sig := 43
abbrev cc7_sem1_0 : DmaSem sig := 44
abbrev cc7_sem2_0 : DmaSem sig := 45
abbrev cc8_sem0_0 : DmaSem sig := 46
abbrev cc8_sem1_0 : DmaSem sig := 47
abbrev cc8_sem2_0 : DmaSem sig := 48
abbrev cc9_sem0_0 : DmaSem sig := 49
abbrev cc9_sem1_0 : DmaSem sig := 50
abbrev cc9_sem2_0 : DmaSem sig := 51
abbrev cc10_sem0_0 : DmaSem sig := 52
abbrev cc10_sem1_0 : DmaSem sig := 53
abbrev cc10_sem2_0 : DmaSem sig := 54

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c5_i32 : BitVec 32 := 5#32
  let c0_i32 : BitVec 32 := 0#32
  ![arg0.toNat, c5_i32.toNat]

def cc2_transform_1 (i : grid2.Coords) : Fin 2 → Nat :=
  let arg0 : BitVec 32 := BitVec.ofNat 32 (i 0).val
  let c6_i32 : BitVec 32 := 6#32
  let c0_i32 : BitVec 32 := 0#32
  ![arg0.toNat, c6_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S2048x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S2048x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1024x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true]

abbrev grid6 : Pipeline.Grid := ⟨1, ![4], ![false]⟩

def cc6_transform_0 (i : grid6.Coords) : Fin 2 → Nat :=
  let arg0 : BitVec 32 := BitVec.ofNat 32 (i 0).val
  let c5_i32 : BitVec 32 := 5#32
  let c0_i32 : BitVec 32 := 0#32
  ![arg0.toNat, c5_i32.toNat]

def cc6_transform_1 (i : grid6.Coords) : Fin 2 → Nat :=
  let arg0 : BitVec 32 := BitVec.ofNat 32 (i 0).val
  let c6_i32 : BitVec 32 := 6#32
  let c0_i32 : BitVec 32 := 0#32
  ![arg0.toNat, c6_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S512x1024 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S512x1024 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S512x1024 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S512x1024 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S512x1024 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨2, ![1, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S2048x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 1 → Memref sig .tc .vmem S1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 1 → Memref sig .tc .vmem S2048x1024 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, true]

abbrev grid8 : Pipeline.Grid := ⟨2, ![1, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S2048x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 1 → Memref sig .tc .vmem S2048x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 1 → Memref sig .tc .vmem S1024x1024 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true]

abbrev grid9 : Pipeline.Grid := ⟨2, ![1, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 1 → Memref sig .tc .vmem S2048x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false]

abbrev stage9_1 : Fin 1 → Memref sig .tc .vmem S1024x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 1 → Memref sig .tc .vmem S2048x1024 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true]

abbrev grid10 : Pipeline.Grid := ⟨2, ![1, 1], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 1 → Memref sig .tc .vmem S2048x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false]

abbrev stage10_1 : Fin 1 → Memref sig .tc .vmem S2048x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 1 → Memref sig .tc .vmem S1024x1024 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true, true]
-- ==== Reference4Ideal.lean ====
abbrev S2048x1024 : Shape := ⟨2, ![2048, 1024]⟩
abbrev S2048x7696 : Shape := ⟨2, ![2048, 7696]⟩
abbrev S1024x1024 : Shape := ⟨2, ![1024, 1024]⟩
abbrev S2048x256 : Shape := ⟨2, ![2048, 256]⟩
abbrev S2048x8 : Shape := ⟨2, ![2048, 8]⟩
abbrev S_ : Shape := ⟨0, ![]⟩

abbrev nBuf : Space → Nat
  | .hbm => 77
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x7696, .f32⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S2048x1024, .bf16⟩
  | .hbm, ⟨7, _⟩ => ⟨S2048x1024, .f32⟩
  | .hbm, ⟨8, _⟩ => ⟨S2048x256, .f32⟩
  | .hbm, ⟨9, _⟩ => ⟨S2048x256, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x8, .f32⟩
  | .hbm, ⟨15, _⟩ => ⟨S2048x8, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S1024x1024, .f32⟩
  | .hbm, ⟨20, _⟩ => ⟨S2048x1024, .f32⟩
  | .hbm, ⟨21, _⟩ => ⟨S2048x1024, .f32⟩
  | .hbm, ⟨22, _⟩ => ⟨S1024x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1024x1024, .f32⟩
  | .hbm, ⟨52, _⟩ => ⟨S2048x1024, .f32⟩
  | .hbm, ⟨53, _⟩ => ⟨S2048x1024, .f32⟩
  | .hbm, ⟨54, _⟩ => ⟨S1024x1024, .f32⟩
  | .hbm, ⟨55, _⟩ => ⟨S1024x1024, .f32⟩
  | .hbm, ⟨56, _⟩ => ⟨S2048x1024, .f32⟩
  | .hbm, ⟨57, _⟩ => ⟨S1024x1024, .bf16⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S1024x1024, .f32⟩
  | .hbm, ⟨65, _⟩ => ⟨S1024x1024, .f32⟩
  | .hbm, ⟨66, _⟩ => ⟨S2048x1024, .f32⟩
  | .hbm, ⟨67, _⟩ => ⟨S1024x1024, .bf16⟩
  | .hbm, ⟨68, _⟩ => ⟨S2048x1024, .bf16⟩
  | .hbm, ⟨69, _⟩ => ⟨S1024x1024, .f32⟩
  | .hbm, ⟨70, _⟩ => ⟨S1024x1024, .f32⟩
  | .hbm, ⟨71, _⟩ => ⟨S2048x1024, .f32⟩
  | .hbm, ⟨72, _⟩ => ⟨S1024x1024, .bf16⟩
  | .hbm, ⟨73, _⟩ => ⟨S2048x1024, .bf16⟩
  | .hbm, ⟨74, _⟩ => ⟨S2048x1024, .bf16⟩
  | .hbm, ⟨75, _⟩ => ⟨S2048x1024, .bf16⟩
  | .hbm, ⟨76, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩

abbrev nD : Nat := 1
abbrev τ : Topo := Topo.v7x

variable {F : FTy → Type} [FloatOps F]
-- ==== Kernel5.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem10_0 : DmaSem sig := 25
abbrev cc1_sem11_0 : DmaSem sig := 26
abbrev cc1_sem12_0 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== Reference5Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 107
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S2048x1024, .f32⟩
  | .hbm, ⟨68, _⟩ => ⟨S2048x1024, .f32⟩
  | .hbm, ⟨69, _⟩ => ⟨S2048x1, .f32⟩
  | .hbm, ⟨70, _⟩ => ⟨S2048x1024, .f32⟩
  | .hbm, ⟨71, _⟩ => ⟨S_, .f32⟩
  | .hbm, ⟨72, _⟩ => ⟨S2048, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048, .f32⟩
  | .hbm, ⟨84, _⟩ => ⟨S2048x1, .f32⟩
  | .hbm, ⟨85, _⟩ => ⟨S2048x1024, .f32⟩
  | .hbm, ⟨86, _⟩ => ⟨S2048x1, .f32⟩
  | .hbm, ⟨87, _⟩ => ⟨S_, .f32⟩
  | .hbm, ⟨88, _⟩ => ⟨S2048x1, .f32⟩
  | .hbm, ⟨89, _⟩ => ⟨S2048x1, .f32⟩
  | .hbm, ⟨90, _⟩ => ⟨S_, .f32⟩
  | .hbm, ⟨91, _⟩ => ⟨S2048, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S2048x1024, .bf16⟩
  | .hbm, ⟨104, _⟩ => ⟨S_, .f32⟩
  | .hbm, ⟨105, _⟩ => ⟨S2048x1024, .f32⟩
  | .hbm, ⟨106, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_cst_18 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_19 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 35
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg15_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem12_0 : DmaSem sig := 31
abbrev cc1_sem13_0 : DmaSem sig := 32
abbrev cc1_sem14_0 : DmaSem sig := 33
abbrev cc1_sem15_0 : DmaSem sig := 34

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== Reference6Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 123
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .bf16⟩
  | .hbm, ⟨61, _⟩ => ⟨S2048x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S2048x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x1024, .f32⟩
  | .hbm, ⟨87, _⟩ => ⟨S2048x1024, .f32⟩
  | .hbm, ⟨88, _⟩ => ⟨S2048x1, .f32⟩
  | .hbm, ⟨89, _⟩ => ⟨S2048x1024, .f32⟩
  | .hbm, ⟨90, _⟩ => ⟨S_, .f32⟩
  | .hbm, ⟨91, _⟩ => ⟨S2048, .f32⟩
  | .hbm, ⟨92, _⟩ => ⟨S2048x1, .f32⟩
  | .hbm, ⟨93, _⟩ => ⟨S_, .f32⟩
  | .hbm, ⟨94, _⟩ => ⟨S2048x1, .f32⟩
  | .hbm, ⟨95, _⟩ => ⟨S2048x1, .f32⟩
  | .hbm, ⟨96, _⟩ => ⟨S_, .f32⟩
  | .hbm, ⟨97, _⟩ => ⟨S2048, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S_, .f32⟩
  | .hbm, ⟨102, _⟩ => ⟨S2048, .f32⟩
  | .hbm, ⟨103, _⟩ => ⟨S2048x1, .f32⟩
  | .hbm, ⟨104, _⟩ => ⟨S2048x1024, .f32⟩
  | .hbm, ⟨105, _⟩ => ⟨S2048x1, .f32⟩
  | .hbm, ⟨106, _⟩ => ⟨S_, .f32⟩
  | .hbm, ⟨107, _⟩ => ⟨S2048x1, .f32⟩
  | .hbm, ⟨108, _⟩ => ⟨S2048x1, .f32⟩
  | .hbm, ⟨109, _⟩ => ⟨S_, .f32⟩
  | .hbm, ⟨110, _⟩ => ⟨S2048, .f32⟩
  | .hbm, ⟨111, _⟩ => ⟨S2048x1024, .f32⟩
  | .hbm, ⟨112, _⟩ => ⟨S2048x1024, .f32⟩
  | .hbm, ⟨113, _⟩ => ⟨S2048x1024, .f32⟩
  | .hbm, ⟨114, _⟩ => ⟨S2048x1024, .f32⟩
  | .hbm, ⟨115, _⟩ => ⟨S2048x1024, .f32⟩
  | .hbm, ⟨116, _⟩ => ⟨S_, .f32⟩
  | .hbm, ⟨117, _⟩ => ⟨S1024, .f32⟩
  | .hbm, ⟨118, _⟩ => ⟨S1x1024, .f32⟩
  | .hbm, ⟨119, _⟩ => ⟨S2048x1024, .bf16⟩
  | .hbm, ⟨120, _⟩ => ⟨S_, .f32⟩
  | .hbm, ⟨121, _⟩ => ⟨S2048x1024, .f32⟩
  | .hbm, ⟨122, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_18 : Ref sig .tc := ⟨.hbm, 106, rfl⟩
abbrev main_v78 : Ref sig .tc := ⟨.hbm, 107, rfl⟩
abbrev main_v79 : Ref sig .tc := ⟨.hbm, 108, rfl⟩
abbrev main_cst_19 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_20 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_21 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]
-- ==== Kernel7.lean ====
abbrev S2048x1024 : Shape := ⟨2, ![2048, 1024]⟩
abbrev S2048x256 : Shape := ⟨2, ![2048, 256]⟩
abbrev S16 : Shape := ⟨1, ![16]⟩
abbrev S2048x4x4x64 : Shape := ⟨4, ![2048, 4, 4, 64]⟩
abbrev S4x4x2048x64 : Shape := ⟨4, ![4, 4, 2048, 64]⟩
abbrev S2048x4x64 : Shape := ⟨3, ![2048, 4, 64]⟩
abbrev S4x2048x64 : Shape := ⟨3, ![4, 2048, 64]⟩
abbrev S4x4x1x1 : Shape := ⟨4, ![4, 4, 1, 1]⟩
abbrev S1x4x128x64 : Shape := ⟨4, ![1, 4, 128, 64]⟩
abbrev S1x128x64 : Shape := ⟨3, ![1, 128, 64]⟩
abbrev S1x4x1x1 : Shape := ⟨4, ![1, 4, 1, 1]⟩
abbrev S128x256 : Shape := ⟨2, ![128, 256]⟩
abbrev S1x1x128x64 : Shape := ⟨4, ![1, 1, 128, 64]⟩
abbrev S128x64 : Shape := ⟨2, ![128, 64]⟩
abbrev S1x1x1x1 : Shape := ⟨4, ![1, 1, 1, 1]⟩
abbrev S1x1 : Shape := ⟨2, ![1, 1]⟩
abbrev S256x64 : Shape := ⟨2, ![256, 64]⟩
abbrev S128 : Shape := ⟨1, ![128]⟩
abbrev S128x1 : Shape := ⟨2, ![128, 1]⟩

abbrev nBuf : Space → Nat
  | .hbm => 14
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S16, .f32⟩
  | .hbm, ⟨4, _⟩ => ⟨S2048x4x4x64, .f32⟩
  | .hbm, ⟨5, _⟩ => ⟨S4x4x2048x64, .f32⟩
  | .hbm, ⟨6, _⟩ => ⟨S2048x4x64, .f32⟩
  | .hbm, ⟨7, _⟩ => ⟨S4x2048x64, .f32⟩
  | .hbm, ⟨8, _⟩ => ⟨S2048x4x64, .f32⟩
  | .hbm, ⟨9, _⟩ => ⟨S4x2048x64, .f32⟩
  | .hbm, ⟨10, _⟩ => ⟨S4x4x1x1, .f32⟩
  | .hbm, ⟨11, _⟩ => ⟨S4x4x2048x64, .bf16⟩
  | .hbm, ⟨12, _⟩ => ⟨S2048x4x4x64, .bf16⟩
  | .hbm, ⟨13, _⟩ => ⟨S2048x1024, .bf16⟩
  | .local _ .vmem, ⟨0, _⟩ => ⟨S1x4x128x64, .f32⟩
  | .local _ .vmem, ⟨1, _⟩ => ⟨S1x4x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S1x4x1x1, .f32⟩
  | .local _ .vmem, ⟨11, _⟩ => ⟨S1x4x1x1, .f32⟩
  | .local _ .vmem, ⟨12, _⟩ => ⟨S1x4x128x64, .bf16⟩
  | .local _ .vmem, ⟨13, _⟩ => ⟨S1x4x128x64, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel7Ideal.lean ====
variable {F : FTy → Type} [FloatOps F] [Named F]
def κ : String → Option EReal := fun
  | "mask" => some ⊥
  | _ => none
-- ==== Reference7Ideal.lean ====
abbrev S2048x1024 : Shape := ⟨2, ![2048, 1024]⟩
abbrev S2048x256 : Shape := ⟨2, ![2048, 256]⟩
abbrev S16 : Shape := ⟨1, ![16]⟩
abbrev S16x128x4x4x64 : Shape := ⟨5, ![16, 128, 4, 4, 64]⟩
abbrev S_ : Shape := ⟨0, ![]⟩
abbrev S128x256 : Shape := ⟨2, ![128, 256]⟩
abbrev S2176x256 : Shape := ⟨2, ![2176, 256]⟩
abbrev S17x128x4x64 : Shape := ⟨4, ![17, 128, 4, 64]⟩
abbrev S16x128x4x64 : Shape := ⟨4, ![16, 128, 4, 64]⟩
abbrev S16x256x4x64 : Shape := ⟨4, ![16, 256, 4, 64]⟩
abbrev S16x4x256x128x4 : Shape := ⟨5, ![16, 4, 256, 128, 4]⟩
abbrev S16x4x4x128x256 : Shape := ⟨5, ![16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S1x4x4x1x1 : Shape := ⟨5, ![1, 4, 4, 1, 1]⟩
abbrev S16x4x4x128 : Shape := ⟨4, ![16, 4, 4, 128]⟩
abbrev S16x4x4x128x1 : Shape := ⟨5, ![16, 4, 4, 128, 1]⟩
abbrev S16x4x64x4x128 : Shape := ⟨5, ![16, 4, 64, 4, 128]⟩

abbrev nBuf : Space → Nat
  | .hbm => 88
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S16, .f32⟩
  | .hbm, ⟨4, _⟩ => ⟨S16x128x4x4x64, .f32⟩
  | .hbm, ⟨5, _⟩ => ⟨S_, .f32⟩
  | .hbm, ⟨6, _⟩ => ⟨S128x256, .f32⟩
  | .hbm, ⟨7, _⟩ => ⟨S2176x256, .f32⟩
  | .hbm, ⟨8, _⟩ => ⟨S17x128x4x64, .f32⟩
  | .hbm, ⟨9, _⟩ => ⟨S16x128x4x64, .f32⟩
  | .hbm, ⟨10, _⟩ => ⟨S16x128x4x64, .f32⟩
  | .hbm, ⟨11, _⟩ => ⟨S16x256x4x64, .f32⟩
  | .hbm, ⟨12, _⟩ => ⟨S_, .f32⟩
  | .hbm, ⟨13, _⟩ => ⟨S128x256, .f32⟩
  | .hbm, ⟨14, _⟩ => ⟨S2176x256, .f32⟩
  | .hbm, ⟨15, _⟩ => ⟨S17x128x4x64, .f32⟩
  | .hbm, ⟨16, _⟩ => ⟨S16x128x4x64, .f32⟩
  | .hbm, ⟨17, _⟩ => ⟨S16x128x4x64, .f32⟩
  | .hbm, ⟨18, _⟩ => ⟨S16x256x4x64, .f32⟩
  | .hbm, ⟨19, _⟩ => ⟨S16x4x256x128x4, .f32⟩
  | .hbm, ⟨20, _⟩ => ⟨S16x4x4x128x256, .f32⟩
  | .hbm, ⟨21, _⟩ => ⟨S_, .f32⟩
  | .hbm, ⟨22, _⟩ => ⟨S16x4x4x128x256, .f32⟩
  | .hbm, ⟨23, _⟩ => ⟨S16x4x4x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S16, .i32⟩
  | .hbm, ⟨35, _⟩ => ⟨S16x1x1, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S_, .i32⟩
  | .hbm, ⟨44, _⟩ => ⟨S16x1x1, .i32⟩
  | .hbm, ⟨45, _⟩ => ⟨S16x1x1, .i32⟩
  | .hbm, ⟨46, _⟩ => ⟨S1x1x256, .i32⟩
  | .hbm, ⟨47, _⟩ => ⟨S16x1x256, .i32⟩
  | .hbm, ⟨48, _⟩ => ⟨S16x1x256, .i32⟩
  | .hbm, ⟨49, _⟩ => ⟨S16x1x256, .i32⟩
  | .hbm, ⟨50, _⟩ => ⟨S_, .i32⟩
  | .hbm, ⟨51, _⟩ => ⟨S16x1x256, .i32⟩
  | .hbm, ⟨52, _⟩ => ⟨S16x1x256, .i32⟩
  | .hbm, ⟨53, _⟩ => ⟨S_, .i32⟩
  | .hbm, ⟨54, _⟩ => ⟨S16x1x256, .i32⟩
  | .hbm, ⟨55, _⟩ => ⟨S16x1x256, .i1⟩
  | .hbm, ⟨56, _⟩ => ⟨S1x128x256, .i1⟩
  | .hbm, ⟨57, _⟩ => ⟨S16x128x256, .i1⟩
  | .hbm, ⟨58, _⟩ => ⟨S16x128x256, .i1⟩
  | .hbm, ⟨59, _⟩ => ⟨S16x128x256, .i1⟩
  | .hbm, ⟨60, _⟩ => ⟨S16x1x1x128x256, .i1⟩
  | .hbm, ⟨61, _⟩ => ⟨S_, .f32⟩
  | .hbm, ⟨62, _⟩ => ⟨S_, .f32⟩
  | .hbm, ⟨63, _⟩ => ⟨S16x4x4x128x256, .i1⟩
  | .hbm, ⟨64, _⟩ => ⟨S16x4x4x128x256, .f32⟩
  | .hbm, ⟨65, _⟩ => ⟨S16x4x4x128x256, .f32⟩
  | .hbm, ⟨66, _⟩ => ⟨S1x4x4x1x1, .f32⟩
  | .hbm, ⟨67, _⟩ => ⟨S_, .f32⟩
  | .hbm, ⟨68, _⟩ => ⟨S16x4x4x128, .f32⟩
  | .hbm, ⟨69, _⟩ => ⟨S16x4x4x128x1, .f32⟩
  | .hbm, ⟨70, _⟩ => ⟨S16x4x4x128x1, .f32⟩
  | .hbm, ⟨71, _⟩ => ⟨S16x4x4x128x1, .f32⟩
  | .hbm, ⟨72, _⟩ => ⟨S16x4x4x128x256, .f32⟩
  | .hbm, ⟨73, _⟩ => ⟨S16x4x4x128x256, .f32⟩
  | .hbm, ⟨74, _⟩ => ⟨S16x4x4x128x256, .f32⟩
  | .hbm, ⟨75, _⟩ => ⟨S_, .f32⟩
  | .hbm, ⟨76, _⟩ => ⟨S16x4x4x128, .f32⟩
  | .hbm, ⟨77, _⟩ => ⟨S16x4x4x128x1, .f32⟩
  | .hbm, ⟨78, _⟩ => ⟨S16x4x4x128x1, .f32⟩
  | .hbm, ⟨79, _⟩ => ⟨S16x4x4x128x1, .f32⟩
  | .hbm, ⟨80, _⟩ => ⟨S16x4x4x128x1, .f32⟩
  | .hbm, ⟨81, _⟩ => ⟨S16x4x4x128x1, .f32⟩
  | .hbm, ⟨82, _⟩ => ⟨S16x4x4x128x256, .f32⟩
  | .hbm, ⟨83, _⟩ => ⟨S16x4x4x128x256, .f32⟩
  | .hbm, ⟨84, _⟩ => ⟨S16x4x64x4x128, .f32⟩
  | .hbm, ⟨85, _⟩ => ⟨S16x128x4x4x64, .f32⟩
  | .hbm, ⟨86, _⟩ => ⟨S2048x1024, .f32⟩
  | .hbm, ⟨87, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_c_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Proof.Spec.lean ====
module

public import Idealize.ShloMosaic.Lib.IdealHost
public import Idealize.ShloMosaic.PureOps.Ideal.Laws
public import Idealize.ShloMosaic.Lib.ValueIdx

@[expose] public section

noncomputable section

namespace Cert.Band

open Idealize.ShloMosaic

/-- One head's view of one block of 128 queries: which of the 256 band keys each query sees, the queries, the band's keys
    and values, the head's sink logit and the cotangent of the block's output. -/
structure Head where
  ok : Fin 128 → Fin 256 → BitVec 1
  q : Fin 128 → Fin 64 → EReal
  k : Fin 256 → Fin 64 → EReal
  v : Fin 256 → Fin 64 → EReal
  sink : EReal
  ct : Fin 128 → Fin 64 → EReal

/-- The scale of the scores, 1/8. -/
def eighth : EReal := Ideal.ofBits .f32 0x3E000000#32

namespace Head

variable (B : Head)

/-- The masked scores. -/
def score (r : Fin 128) (s : Fin 256) : EReal :=
  Scalar.select (B.ok r s) ((∑ d, B.q r d * B.k s d) * eighth) ⊥

/-- The largest of a query's masked scores and its sink. -/
def top (r : Fin 128) : EReal := max (Finset.univ.fold max ⊥ (B.score r)) B.sink

/-- The unnormalised weights. -/
def p (r : Fin 128) (s : Fin 256) : EReal := Ideal.exp (B.score r s - B.top r)

/-- The sink's unnormalised weight. -/
def e (r : Fin 128) : EReal := Ideal.exp (B.sink - B.top r)

/-- The normaliser. -/
def den (r : Fin 128) : EReal := (∑ s, B.p r s) + B.e r

/-- The probabilities. -/
def pr (r : Fin 128) (s : Fin 256) : EReal := Ideal.div (B.p r s) (B.den r)

/-- The cotangent of the probabilities. -/
def dP (r : Fin 128) (s : Fin 256) : EReal := ∑ d, B.ct r d * B.v s d

/-- The cotangent of the normaliser. -/
def dd (r : Fin 128) : EReal := -∑ s, B.dP r s * Ideal.div 1 (B.den r * B.den r) * B.p r s

/-- The cotangent of the masked scores, before the mask is applied to it. -/
def dscore (r : Fin 128) (s : Fin 256) : EReal := (Ideal.div (B.dP r s) (B.den r) + B.dd r) * B.p r s

/-- The cotangent of the products of queries and keys. -/
def ds (r : Fin 128) (s : Fin 256) : EReal := Scalar.select (B.ok r s) (B.dscore r s * eighth) 0

/-- The gradient of the queries. -/
def dq (r : Fin 128) (d : Fin 64) : EReal := ∑ s, B.ds r s * B.k s d

/-- The block's share in the gradient of the band's keys. -/
def dk (s : Fin 256) (d : Fin 64) : EReal := ∑ r, B.ds r s * B.q r d

/-- The block's share in the gradient of the band's values. -/
def dv (s : Fin 256) (d : Fin 64) : EReal := ∑ r, B.ct r d * B.pr r s

/-- The block's share in the gradient of the sink. -/
def dsink : EReal := ∑ r, B.dd r * B.e r

/-- The cotangent that reaches the maximum: what differentiating through it adds. -/
def dtop (r : Fin 128) : EReal := -(B.dd r * B.e r) + ∑ s, -B.dscore r s

/-- Two blocks that differ only in keys and values which no query sees. -/
structure SameSeen (B C : Head) : Prop where
  ok : B.ok = C.ok
  q : B.q = C.q
  sink : B.sink = C.sink
  ct : B.ct = C.ct
  k : ∀ r s, B.ok r s = 1#1 → B.k s = C.k s
  v : ∀ r s, B.ok r s = 1#1 → B.v s = C.v s

/-- A bit is one or zero. -/
theorem bit_cases (b : BitVec 1) : b = 1#1 ∨ b = 0#1 := by
  revert b; decide

/-- A position out of sight has no weight. -/
theorem p_unseen {r : Fin 128} {s : Fin 256} (h : B.ok r s = 0#1) : B.p r s = 0 := by
  have : B.score r s = ⊥ := by simp [score, h, Scalar.select]
  rw [p, this, sub_eq_add_neg, EReal.bot_add, Ideal.exp_bot]

variable {B} {C : Head}

namespace SameSeen

variable (h : SameSeen B C)
include h

/-- Blocks that agree where it is seen have the same scores. -/
theorem score_eq : B.score = C.score := by
  funext r s
  rcases bit_cases (B.ok r s) with hs | hs
  · rw [score, score, ← h.ok, ← h.q, ← h.k r s hs]
  · rw [score, score, ← h.ok, hs]; simp [Scalar.select]

/-- They have the same maxima. -/
theorem top_eq : B.top = C.top := by funext r; rw [top, top, h.score_eq, h.sink]

/-- They have the same exponentials. -/
theorem p_eq : B.p = C.p := by funext r s; rw [p, p, h.score_eq, h.top_eq]

/-- They have the same exponential of the sink. -/
theorem e_eq : B.e = C.e := by funext r; rw [e, e, h.sink, h.top_eq]

/-- They have the same denominators. -/
theorem den_eq : B.den = C.den := by funext r; rw [den, den, h.p_eq, h.e_eq]

/-- They have the same probabilities. -/
theorem pr_eq : B.pr = C.pr := by funext r s; rw [pr, pr, h.p_eq, h.den_eq]

/-- They have the same cotangent of the probabilities where it is seen. -/
theorem dP_eq {r : Fin 128} {s : Fin 256} (hs : B.ok r s = 1#1) : B.dP r s = C.dP r s := by
  rw [dP, dP, h.ct, h.v r s hs]

/-- They have the same cotangent of the denominator. -/
theorem dd_eq : B.dd = C.dd := by
  funext r
  rw [dd, dd]
  congr 1
  refine Finset.sum_congr rfl fun s _ => ?_
  rcases bit_cases (B.ok r s) with hs | hs
  · rw [h.dP_eq hs, h.den_eq, h.p_eq]
  · rw [B.p_unseen hs, C.p_unseen (h.ok ▸ hs), mul_zero, mul_zero]

/-- They have the same cotangent of the scores. -/
theorem ds_eq : B.ds = C.ds := by
  funext r s
  rcases bit_cases (B.ok r s) with hs | hs
  · rw [ds, ds, dscore, dscore, h.dP_eq hs, h.den_eq, h.dd_eq, h.p_eq, h.ok]
  · rw [ds, ds, ← h.ok, hs]; simp [Scalar.select]

/-- They have the same gradient of the queries. -/
theorem dq_eq : B.dq = C.dq := by
  funext r d
  rw [dq, dq]
  refine Finset.sum_congr rfl fun s _ => ?_
  rcases bit_cases (B.ok r s) with hs | hs
  · rw [h.ds_eq, h.k r s hs]
  · have hz : C.ds r s = 0 := by rw [ds, ← h.ok, hs]; simp [Scalar.select]
    rw [h.ds_eq, hz, zero_mul, zero_mul]

/-- They have the same gradient of the keys. -/
theorem dk_eq : B.dk = C.dk := by funext s d; simp only [dk, h.ds_eq, h.q]

/-- They have the same gradient of the values. -/
theorem dv_eq : B.dv = C.dv := by funext s d; simp only [dv, h.pr_eq, h.ct]

/-- They have the same gradient of the sink. -/
theorem dsink_eq : B.dsink = C.dsink := by simp only [dsink, h.dd_eq, h.e_eq]

end SameSeen

/-- Every number of a block is real. -/
structure Finite (B : Head) : Prop where
  q : ∀ r d, ∃ x : ℝ, B.q r d = x
  k : ∀ s d, ∃ x : ℝ, B.k s d = x
  v : ∀ s d, ∃ x : ℝ, B.v s d = x
  sink : ∃ x : ℝ, B.sink = x
  ct : ∀ r d, ∃ x : ℝ, B.ct r d = x

/-- The scores' factor is a real. -/
theorem eighth_real : ∃ x : ℝ, eighth = x :=
  ⟨1 / 8, by rw [eighth]; simp [Ideal.ofBits, Ideal.ieee, -EReal.coe_mul]; norm_num⟩

/-- A sum of reals, read among the extended reals. -/
theorem coe_sum {n : Nat} (f : Fin n → ℝ) : ((∑ i, f i : ℝ) : EReal) = ∑ i, (f i : EReal) :=
  map_sum (⟨⟨Real.toEReal, EReal.coe_zero⟩, EReal.coe_add⟩ : ℝ →+ EReal) f Finset.univ

/-- A product of two rows of reals is real. -/
theorem sum_mul_real {n : Nat} {f g : Fin n → EReal} (hf : ∀ d, ∃ x : ℝ, f d = x) (hg : ∀ d, ∃ x : ℝ, g d = x) :
    ∃ x : ℝ, ∑ d, f d * g d = x := by
  choose a ha using hf
  choose b hb using hg
  refine ⟨∑ d, a d * b d, ?_⟩
  rw [coe_sum]
  exact Finset.sum_congr rfl fun d _ => by rw [ha, hb, EReal.coe_mul]

/-- A score of a finite block is minus infinity or a real. -/
theorem score_cases (h : Finite B) (r : Fin 128) (s : Fin 256) : B.score r s = ⊥ ∨ ∃ x : ℝ, B.score r s = x := by
  rcases bit_cases (B.ok r s) with hs | hs
  · obtain ⟨a, ha⟩ := sum_mul_real (h.q r) (h.k s)
    obtain ⟨c, hc⟩ := eighth_real
    right
    exact ⟨a * c, by rw [score, hs, ha, hc, ← EReal.coe_mul]; rfl⟩
  · left; rw [score, hs]; rfl

/-- The maximum of a finite block's row is a real. -/
theorem top_real (h : Finite B) (r : Fin 128) : ∃ x : ℝ, B.top r = x := by
  obtain ⟨c, hc⟩ := h.sink
  have hlt : Finset.univ.fold max ⊥ (B.score r) < ⊤ := by
    refine (Finset.sup_lt_iff (f := B.score r) (s := Finset.univ) (a := ⊤) bot_lt_top).2 fun s _ => ?_
    rcases score_cases h r s with hs | ⟨x, hs⟩
    · rw [hs]; exact bot_lt_top
    · rw [hs]; exact EReal.coe_lt_top x
  have h1 : B.top r ≠ ⊤ := by
    rw [top, hc]; exact (max_lt hlt (EReal.coe_lt_top c)).ne
  have h2 : B.top r ≠ ⊥ := by
    rw [top, hc]; exact (lt_of_lt_of_le (EReal.bot_lt_coe c) (le_max_right _ _)).ne'
  exact ⟨(B.top r).toReal, (EReal.coe_toReal h1 h2).symm⟩

/-- Its exponentials are reals, not negative. -/
theorem p_real (h : Finite B) (r : Fin 128) (s : Fin 256) : ∃ x : ℝ, 0 ≤ x ∧ B.p r s = x := by
  obtain ⟨t, ht⟩ := top_real h r
  rcases score_cases h r s with hs | ⟨x, hs⟩
  · exact ⟨0, le_rfl, by rw [p, hs, sub_eq_add_neg, EReal.bot_add, Ideal.exp_bot, EReal.coe_zero]⟩
  · exact ⟨Real.exp (x - t), (Real.exp_pos _).le, by rw [p, hs, ht, ← EReal.coe_sub, Ideal.exp_coe]⟩

/-- The sink's exponential is a positive real. -/
theorem e_real (h : Finite B) (r : Fin 128) : ∃ x : ℝ, 0 < x ∧ B.e r = x := by
  obtain ⟨t, ht⟩ := top_real h r
  obtain ⟨c, hc⟩ := h.sink
  exact ⟨Real.exp (c - t), Real.exp_pos _, by rw [e, hc, ht, ← EReal.coe_sub, Ideal.exp_coe]⟩

/-- Division of two reals, the second not zero. -/
theorem div_coe (a b : ℝ) (hb : b ≠ 0) : Ideal.div (a : EReal) (b : EReal) = ((a / b : ℝ) : EReal) := by
  rw [Ideal.div, if_neg (by exact_mod_cast hb), div_eq_mul_inv, EReal.coe_mul, EReal.coe_inv]

/-- Over the reals nothing reaches the maximum: the softmax does not depend on what is subtracted. -/
theorem dtop_zero (h : Finite B) (r : Fin 128) : B.dtop r = 0 := by
  choose a ha0 ha using p_real h r
  obtain ⟨e, he0, he⟩ := e_real h r
  choose x hx using fun s => sum_mul_real (h.ct r) (h.v s)
  have hden : B.den r = ((∑ s, a s + e : ℝ) : EReal) := by
    rw [den, he, EReal.coe_add, coe_sum]
    congr 1
    exact Finset.sum_congr rfl fun s _ => ha s
  set n : ℝ := ∑ s, a s + e with hn
  have hn0 : n ≠ 0 := (add_pos_of_nonneg_of_pos (Finset.sum_nonneg fun s _ => ha0 s) he0).ne'
  have hdd : B.dd r = ((-∑ s, x s * (1 / (n * n)) * a s : ℝ) : EReal) := by
    rw [dd, EReal.coe_neg, coe_sum]
    congr 1
    refine Finset.sum_congr rfl fun s _ => ?_
    rw [dP, hx, hden, ha, ← EReal.coe_mul, show (1 : EReal) = ((1 : ℝ) : EReal) from rfl, div_coe _ _ (mul_ne_zero hn0 hn0),
      ← EReal.coe_mul, ← EReal.coe_mul]
  set y : ℝ := -∑ s, x s * (1 / (n * n)) * a s with hy
  have hds : ∀ s, B.dscore r s = (((x s / n + y) * a s : ℝ) : EReal) := fun s => by
    rw [dscore, dP, hx, hden, hdd, ha, div_coe _ _ hn0, ← EReal.coe_add, ← EReal.coe_mul]
  have hsum : (∑ s, -B.dscore r s : EReal) = ((∑ s, -((x s / n + y) * a s) : ℝ) : EReal) := by
    rw [coe_sum]
    exact Finset.sum_congr rfl fun s _ => by rw [hds, EReal.coe_neg]
  rw [dtop, hdd, he, hsum, ← EReal.coe_mul, ← EReal.coe_neg, ← EReal.coe_add, ← EReal.coe_zero]
  congr 1
  have h1 : ∑ s, x s * (1 / (n * n)) * a s = (∑ s, x s * a s) * (1 / (n * n)) := by
    rw [Finset.sum_mul]; exact Finset.sum_congr rfl fun s _ => by ring
  have h2 : ∑ s, -((x s / n + y) * a s) = -((∑ s, x s * a s) / n) - y * ∑ s, a s := by
    rw [Finset.sum_div, Finset.mul_sum, ← Finset.sum_neg_distrib, ← Finset.sum_sub_distrib]
    exact Finset.sum_congr rfl fun s _ => by ring
  have h3 : ∑ s, a s = n - e := by rw [hn]; ring
  rw [h2, h3, hy, h1]
  field_simp
  ring

end Head

end Cert.Band

end
-- ==== Proof.Bands.lean ====
module

public import proofs.«01_k».proof.Proof.Spec

@[expose] public section

noncomputable section

namespace Cert.Band

open Idealize.ShloMosaic

/-- The attention's inputs and the cotangent of its result, read at their rows and columns. -/
structure Arrays where
  q : Fin 2048 → Fin 1024 → EReal
  k : Fin 2048 → Fin 256 → EReal
  v : Fin 2048 → Fin 256 → EReal
  sinks : Fin 16 → EReal
  ct : Fin 2048 → Fin 1024 → EReal

/-- Row `r` of block `n` sees row `s` of the band: it lies in the window and in the sequence. -/
def seen (n : Fin 16) (r : Fin 128) (s : Fin 256) : BitVec 1 :=
  if s.val ≤ r.val + 128 ∧ r.val < s.val ∧ 128 ≤ 128 * n.val + s.val then 1#1 else 0#1

/-- A column of the queries, the cotangent and the gradient of the queries. -/
def col (h g : Fin 4) (d : Fin 64) : Fin 1024 := ⟨256 * h.val + 64 * g.val + d.val, by omega⟩

/-- A column of the keys and values. -/
def kcol (h : Fin 4) (d : Fin 64) : Fin 256 := ⟨64 * h.val + d.val, by omega⟩

/-- A row of a block. -/
def row (n : Fin 16) (r : Fin 128) : Fin 2048 := ⟨128 * n.val + r.val, by omega⟩

/-- A sink. -/
def sinkAt (h g : Fin 4) : Fin 16 := ⟨4 * h.val + g.val, by omega⟩

/-- The band's rows with zeros before the sequence. -/
def padded (A : Fin 2048 → Fin 256 → EReal) (h : Fin 4) (n : Fin 16) (s : Fin 256) (d : Fin 64) : EReal :=
  if hs : 128 * n.val + s.val < 128 then 0 else A ⟨128 * n.val + s.val - 128, by omega⟩ (kcol h d)

/-- The band's rows with the first block in place of the one before it. -/
def clamped (A : Fin 2048 → Fin 256 → EReal) (h : Fin 4) (n : Fin 16) (s : Fin 256) (d : Fin 64) : EReal :=
  if hs : s.val < 128 then A ⟨128 * (n.val - 1) + s.val, by omega⟩ (kcol h d) else A ⟨128 * n.val + (s.val - 128), by omega⟩ (kcol h d)

namespace Arrays

variable (X : Arrays)

/-- Head `g` of group `h` at block `n`, over the padded sequence. -/
def head (h : Fin 4) (n : Fin 16) (g : Fin 4) : Head where
  ok := seen n
  q r d := X.q (row n r) (col h g d)
  k := padded X.k h n
  v := padded X.v h n
  sink := X.sinks (sinkAt h g)
  ct r d := X.ct (row n r) (col h g d)

/-- The same head over the first block repeated. -/
def headC (h : Fin 4) (n : Fin 16) (g : Fin 4) : Head where
  ok := seen n
  q r d := X.q (row n r) (col h g d)
  k := clamped X.k h n
  v := clamped X.v h n
  sink := X.sinks (sinkAt h g)
  ct r d := X.ct (row n r) (col h g d)

/-- Where a position is seen, the rows read with the first block in place of the padding are the padded ones. -/
theorem clamped_eq_padded (A : Fin 2048 → Fin 256 → EReal) (h : Fin 4) (n : Fin 16) (r : Fin 128) (s : Fin 256) (d : Fin 64)
    (hs : seen n r s = 1#1) : clamped A h n s d = padded A h n s d := by
  have hc : 128 ≤ 128 * n.val + s.val := by
    by_contra hc
    unfold seen at hs
    rw [if_neg (by omega)] at hs
    exact absurd hs (by decide)
  unfold clamped padded
  rw [dif_neg (by omega : ¬ 128 * n.val + s.val < 128)]
  split
  · exact congrArg (A · (kcol h d)) (Fin.ext (by simp only []; omega))
  · exact congrArg (A · (kcol h d)) (Fin.ext (by simp only []; omega))

/-- Where a row is seen, both bands hold the same row of the sequence. -/
theorem sameSeen (h : Fin 4) (n : Fin 16) (g : Fin 4) : Head.SameSeen (X.headC h n g) (X.head h n g) where
  ok := rfl
  q := rfl
  sink := rfl
  ct := rfl
  k r s hs := funext fun d => clamped_eq_padded X.k h n r s d hs
  v r s hs := funext fun d => clamped_eq_padded X.v h n r s d hs

/-- The gradient of the queries at row `r` of block `n`. -/
def dq (n : Fin 16) (r : Fin 128) (h g : Fin 4) (d : Fin 64) : EReal := (X.head h n g).dq r d

/-- The four heads' shares in the gradient of the keys at one row of a band. -/
def dkBand (h : Fin 4) (n : Fin 16) (s : Fin 256) (d : Fin 64) : EReal := ∑ g : Fin 4, (X.head h n g).dk s d

/-- The four heads' shares in the gradient of the values at one row of a band. -/
def dvBand (h : Fin 4) (n : Fin 16) (s : Fin 256) (d : Fin 64) : EReal := ∑ g : Fin 4, (X.head h n g).dv s d

/-- The gradient of a sink. -/
def dsink (h g : Fin 4) : EReal := ∑ n : Fin 16, (X.head h n g).dsink

end Arrays

/-- Row `r` of block `n` of the sequence gets what its two bands give it: its own, in whose second half it lies, and
    the next, in whose first half it lies. -/
def joined (D : Fin 16 → Fin 256 → EReal) (n : Fin 16) (r : Fin 128) : EReal :=
  D n ⟨128 + r.val, by omega⟩ + if hn : n.val + 1 < 16 then D ⟨n.val + 1, hn⟩ ⟨r.val, by omega⟩ else 0

/-- The bands added where they fall, read at a row of the sequence. -/
theorem sum_bands (D : Fin 16 → Fin 256 → EReal) (n : Fin 16) (r : Fin 128) :
    (∑ b : Fin 16, if hb : 128 * b.val ≤ 128 + (128 * n.val + r.val) ∧ 128 + (128 * n.val + r.val) < 128 * b.val + 256
      then D b ⟨128 + (128 * n.val + r.val) - 128 * b.val, by omega⟩ else 0) = joined D n r := by
  unfold joined
  have key : ∀ b : Fin 16, (if hb : 128 * b.val ≤ 128 + (128 * n.val + r.val) ∧ 128 + (128 * n.val + r.val) < 128 * b.val + 256
      then D b ⟨128 + (128 * n.val + r.val) - 128 * b.val, by omega⟩ else 0)
      = (if b = n then D n ⟨128 + r.val, by omega⟩ else 0)
        + (if b.val = n.val + 1 then D b ⟨r.val, by omega⟩ else 0) := by
    intro b
    by_cases h1 : b = n
    · subst h1
      rw [dif_pos (by omega), if_pos rfl, if_neg (by omega), add_zero]
      exact congrArg (D b) (Fin.ext (by simp only []; omega))
    · have h1' : b.val ≠ n.val := fun e => h1 (Fin.ext e)
      rw [if_neg h1, zero_add]
      by_cases h2 : b.val = n.val + 1
      · rw [dif_pos (by omega), if_pos h2]
        exact congrArg (D b) (Fin.ext (by simp only []; omega))
      · rw [dif_neg (by omega), if_neg h2]
  rw [Finset.sum_congr rfl fun b _ => key b, Finset.sum_add_distrib, Finset.sum_ite_eq' Finset.univ n]
  refine congrArg₂ (· + ·) (if_pos (Finset.mem_univ n)) ?_
  split
  · rename_i hn
    rw [Finset.sum_eq_single (⟨n.val + 1, hn⟩ : Fin 16)]
    · exact if_pos rfl
    · intro b _ hb
      exact if_neg fun e => hb (Fin.ext e)
    · exact fun h => absurd (Finset.mem_univ _) h
  · rename_i hn
    exact Finset.sum_eq_zero fun b _ => if_neg (by omega)

end Cert.Band

end
-- ==== Proof.Block.lean ====
module

public import proofs.«01_k».proof.Proof.Spec
public import proofs.«01_k».proof.Proof.Gen.KernelIdeal.Skeleton
public import Idealize.ShloMosaic.Lib.Pointwise

@[expose] public section

noncomputable section

namespace Cert.KernelIdeal.Blk

open Idealize.ShloMosaic Idealize.SL.Sem Cert.KernelIdeal.Gen

/-- The vectors one head's share of the body is computed from: the mask, the queries, the band's keys and values, the
    sink and the cotangent. -/
structure VHead where
  ok : IVec S128x256 1
  q : FVec Ideal S128x64 .f32
  kb : FVec Ideal S256x64 .bf16
  vb : FVec Ideal S256x64 .bf16
  sk : FVec Ideal S1x1 .f32
  ct : FVec Ideal S128x64 .f32

namespace VHead

variable (X : VHead)

/-- The masked scores. -/
def score : FVec Ideal S128x256 .f32 :=
  select X.ok (mulf (matmul dot_S128x64_S256x64_S128x256_1_1_0_0_n_n none (truncf .bf16 X.q bitsLt_bf16_f32) X.kb
    (constant S128x256 .f32 0x00000000#32)) (broadcast S128x256 (Scalar.ofBits .f32 0x3E000000#32)))
    (broadcast S128x256 (Named.named κ "mask" 0xF149F2CA#32))

/-- The largest of each row and the sink. -/
def top : FVec Ideal S128x1 .f32 :=
  maximumf (shapeCast S128x1 (multiReduction .maximumf [1] S128 X.score 0xFF800000#32 reduces_S128x256_S128 (.inl rfl) rfl)
    shapeCasts_S128_S128x1) (broadcastTo S128x1 X.sk broadcasts_S1x1_S128x1)

/-- The unnormalised weights. -/
def p : FVec Ideal S128x256 .f32 := exp (subf X.score (broadcastTo S128x256 X.top broadcasts_S128x1_S128x256))

/-- The sink's unnormalised weight. -/
def e : FVec Ideal S128x1 .f32 := exp (subf (broadcastTo S128x1 X.sk broadcasts_S1x1_S128x1) X.top)

/-- The sum along each row, as a column. -/
def rowSum (x : FVec Ideal S128x256 .f32) : FVec Ideal S128x1 .f32 :=
  shapeCast S128x1 (multiReduction .add [1] S128 x 0x00000000#32 reduces_S128x256_S128 (.inl rfl) rfl) shapeCasts_S128_S128x1

/-- The normaliser. -/
def den : FVec Ideal S128x1 .f32 := addf (rowSum X.p) X.e

/-- The probabilities. -/
def pr : FVec Ideal S128x256 .bf16 :=
  truncf .bf16 (divf X.p (broadcastTo S128x256 X.den broadcasts_S128x1_S128x256)) bitsLt_bf16_f32

/-- The cotangent of the probabilities. -/
def dP : FVec Ideal S128x256 .f32 :=
  extf .f32 (truncf .bf16 (matmul dot_S128x64_S256x64_S128x256_1_1_0_0_n_n none X.ct X.vb (constant S128x256 .f32 0x00000000#32))
    bitsLt_bf16_f32) bitsLt_bf16_f32

/-- The cotangent of the normaliser. -/
def dd : FVec Ideal S128x1 .f32 :=
  subf (broadcast S128x1 (Scalar.ofBits .f32 0x00000000#32)) (rowSum (mulf (mulf X.dP (broadcastTo S128x256
    (divf (broadcast S128x1 (Scalar.ofBits .f32 0x3F800000#32)) (mulf X.den X.den)) broadcasts_S128x1_S128x256)) X.p))

/-- The cotangent of the products of queries and keys. -/
def ds : FVec Ideal S128x256 .f32 :=
  mulf (select X.ok (mulf (addf (divf X.dP (broadcastTo S128x256 X.den broadcasts_S128x1_S128x256))
    (broadcastTo S128x256 (shapeCast S128x1 (multiReduction .add [1] S128 X.dd 0x00000000#32 reduces_S128x1_S128 (.inl rfl) rfl)
      shapeCasts_S128_S128x1) broadcasts_S128x1_S128x256)) X.p) (broadcast S128x256 (Scalar.ofBits .f32 0x00000000#32)))
    (broadcast S128x256 (Scalar.ofBits .f32 0x3E000000#32))

/-- The gradient of the queries, with the axes of the array it is stored to. -/
def dq : FVec Ideal S1x1x128x64 .f32 :=
  shapeCast S1x1x128x64 (extf .f32 (truncf .bf16 (matmul dot_S128x256_S256x64_S128x64_1_0_0_1_n_n none X.ds X.kb
    (constant S128x64 .f32 0x00000000#32)) bitsLt_bf16_f32) bitsLt_bf16_f32) shapeCasts_S128x64_S1x1x128x64

/-- The head's share in the gradient of the keys. -/
def dk : FVec Ideal S256x64 .bf16 :=
  truncf .bf16 (matmul dot_S128x256_S128x64_S256x64_0_0_1_1_n_n none X.ds (truncf .bf16 X.q bitsLt_bf16_f32)
    (constant S256x64 .f32 0x00000000#32)) bitsLt_bf16_f32

/-- The head's share in the gradient of the values. -/
def dv : FVec Ideal S256x64 .bf16 :=
  truncf .bf16 (transpose S256x64 [1, 0] (matmul dot_S128x64_S128x256_S64x256_0_0_1_1_n_n none X.ct X.pr
    (constant S64x256 .f32 0x00000000#32)) transposes_S64x256_p1_0_S256x64) bitsLt_bf16_f32

/-- The head's share in the gradient of its sink. -/
def dsink : FVec Ideal S1x1 .f32 :=
  shapeCast S1x1 (broadcast S1 (extractAt ![0, 0, 0] (shapeCast S1x1x1 (multiReduction .add [1, 2] S1
    (shapeCast S1x128x1 (mulf X.dd X.e) shapeCasts_S128x1_S1x128x1) 0x00000000#32 reduces_S1x128x1_S1 (.inl rfl) rfl)
    shapeCasts_S1_S1x1x1) inpos_S1x1x1_p0_0_0)) shapeCasts_S1_S1x1

/-- The vectors read at their indices. -/
def read : Band.Head where
  ok r s := X.ok (ix2 r s)
  q r d := X.q (ix2 r d)
  k s d := X.kb (ix2 s d)
  v s d := X.vb (ix2 s d)
  sink := X.sk (ix2 0 0)
  ct r d := X.ct (ix2 r d)

/-- The scores of a block. -/
theorem score_apply (r : Fin 128) (s : Fin 256) : X.score (ix2 r s) = X.read.score r s := by
  unfold score
  pointwise
  rfl

/-- The maximum of a row's scores. -/
theorem top_apply (r : Fin 128) : X.top (ix2 r 0) = X.read.top r := by
  unfold top
  pointwise
  simp only [score_apply]
  rfl

/-- The exponentials of a block. -/
theorem p_apply (r : Fin 128) (s : Fin 256) : X.p (ix2 r s) = X.read.p r s := by
  unfold p
  pointwise
  rw [score_apply, top_apply]
  rfl

/-- The sink's exponential. -/
theorem e_apply (r : Fin 128) : X.e (ix2 r 0) = X.read.e r := by
  unfold e
  pointwise
  rw [top_apply]
  rfl

/-- A row sum, entry by entry. -/
theorem rowSum_apply (x : FVec Ideal S128x256 .f32) (r : Fin 128) : rowSum x (ix2 r 0) = ∑ s : Fin 256, x (ix2 r s) := by
  unfold rowSum
  pointwise

/-- A row's denominator. -/
theorem den_apply (r : Fin 128) : X.den (ix2 r 0) = X.read.den r := by
  unfold den
  pointwise
  rw [rowSum_apply, e_apply]
  simp only [p_apply]
  rfl

/-- The probabilities of a block. -/
theorem pr_apply (r : Fin 128) (s : Fin 256) : X.pr (ix2 r s) = X.read.pr r s := by
  unfold pr
  pointwise
  rw [p_apply, den_apply]
  rfl

/-- The probabilities' cotangent. -/
theorem dP_apply (r : Fin 128) (s : Fin 256) : X.dP (ix2 r s) = X.read.dP r s := by
  unfold dP
  pointwise
  rfl

/-- The denominator's cotangent. -/
theorem dd_apply (r : Fin 128) : X.dd (ix2 r 0) = X.read.dd r := by
  unfold dd
  pointwise
  rw [rowSum_apply, zero_sub]
  pointwise
  simp only [dP_apply, den_apply, p_apply]
  rfl

/-- The scores' cotangent. -/
theorem ds_apply (r : Fin 128) (s : Fin 256) : X.ds (ix2 r s) = X.read.ds r s := by
  unfold ds
  pointwise
  simp only [Fin.sum_univ_one, dP_apply, den_apply, p_apply, Fin.isValue, dd_apply]
  rfl

/-- A block's gradient of the queries. -/
theorem dq_apply (r : Fin 128) (d : Fin 64) : X.dq (ix4 0 0 r d) = X.read.dq r d := by
  unfold dq
  pointwise
  simp only [ds_apply]
  rfl

/-- A block's gradient of the keys of its band. -/
theorem dk_apply (s : Fin 256) (d : Fin 64) : X.dk (ix2 s d) = X.read.dk s d := by
  unfold dk
  pointwise
  simp only [ds_apply]
  rfl

/-- A block's gradient of the values of its band. -/
theorem dv_apply (s : Fin 256) (d : Fin 64) : X.dv (ix2 s d) = X.read.dv s d := by
  unfold dv
  pointwise
  simp only [pr_apply]
  rfl

/-- A block's gradient of the sink. -/
theorem dsink_apply : X.dsink (ix2 0 0) = X.read.dsink := by
  unfold dsink
  pointwise
  simp only [Fin.sum_univ_one, dd_apply, e_apply]
  rfl

end VHead

end Cert.KernelIdeal.Blk

end
-- ==== Proof.Point.lean ====
module

public import proofs.«01_k».proof.Proof.Block
public import proofs.«01_k».proof.Proof.Gen.KernelIdeal.Frame
public import Idealize.ShloMosaic.Lib.Pipeline.ValueKit
public import Idealize.ShloMosaic.Lib.WritesUnit

@[expose] public section

noncomputable section

namespace Cert.KernelIdeal.Blk

open Idealize.ShloMosaic Idealize.SL.Sem Cert.KernelIdeal.Gen

variable (m : (ℓ : Loc nD τ sig) → Buf (Elt Ideal) ℓ)

/-- A head's rows of the queries' block lie in it. -/
theorem inb_head (g : Fin 4) : ∀ a, (![0, g.val, 0, 0] : Fin 4 → ℕ) a + S1x1x128x64.size a ≤ S1x4x128x64.size a := by
  revert g; decide

/-- A head's sink lies in the sinks' block. -/
theorem inb_sink (g : Fin 4) : ∀ a, (![0, g.val, 0, 0] : Fin 4 → ℕ) a + S1x1x1x1.size a ≤ S1x4x1x1.size a := by
  revert g; decide

/-- The vectors head `g` is computed from at a grid point. -/
def hd (c : Dev nD) (t : Fin cfg0.N) (g : Fin 4) : VHead where
  ok := k0_pay4 (grid0.coords t)
  q := k0_pay5 (View.ld (iblk m c 0 t) (Rect.unit (s := S1x4x128x64) ![0, g.val, 0, 0] S1x1x128x64.size (inb_head g)))
  kb := k0_pay15 (k0_pay9 (iblk m c 1 t)) (k0_pay9 (iblk m c 2 t))
  vb := k0_pay16 (iblk m c 3 t) (iblk m c 4 t)
  sk := k0_pay11 (View.ld (iblk m c 5 t) (Rect.unit (s := S1x4x1x1) ![0, g.val, 0, 0] S1x1x1x1.size (inb_sink g)))
  ct := k0_pay53 (View.ld (iblk m c 6 t) (Rect.unit (s := S1x4x128x64) ![0, g.val, 0, 0] S1x1x128x64.size (inb_head g)))

/-- The four heads' shares in a band, added. -/
def bandSum (D : Fin 4 → FVec Ideal S256x64 .bf16) : FVec Ideal S256x64 .f32 :=
  extf .f32 (addf (addf (addf (D 3) (D 2)) (D 1)) (D 0)) bitsLt_bf16_f32

/-- A band added to the rows it falls on, cut into its two blocks and put together again. -/
def addBand (x : FVec Ideal S256x64 .f32) (w : FVec Ideal S1x256x64 .f32) : FVec Ideal S1x256x64 .f32 :=
  shapeCast S1x256x64 (addf (shapeCast S256x64 w shapeCasts_S1x256x64_S256x64) (concatenate S256x64 0
    [⟨S128x64, extractStridedSlice S128x64 ![0, 0] x slices_S256x64_o0_0_S128x64⟩,
     ⟨S128x64, extractStridedSlice S128x64 ![128, 0] x slices_S256x64_o128_0_S128x64⟩]
    concatenates_S128x64_S128x64_S256x64_d0)) shapeCasts_S256x64_S1x256x64

/-- The sum over a group's heads of a band's rows. -/
theorem bandSum_apply (D : Fin 4 → FVec Ideal S256x64 .bf16) (s : Fin 256) (d : Fin 64) :
    bandSum D (ix2 s d) = ∑ g : Fin 4, (D g (ix2 s d) : EReal) := by
  unfold bandSum
  pointwise
  rw [Fin.sum_univ_four]
  abel

/-- A band's rows are added to what was there. -/
theorem addBand_apply (x : FVec Ideal S256x64 .f32) (w : FVec Ideal S1x256x64 .f32) (s : Fin 256) (d : Fin 64) :
    addBand x w (ix3 0 s d) = (w (ix3 0 s d) + x (ix2 s d) : EReal) := by
  unfold addBand
  pointwise
  split
  · rfl
  · exact congrArg (fun i => w (ix3 0 s d) + x (ix2 i d)) (Fin.ext (by simp only []; omega))

/-- The first of the rows a grid point's band falls on. -/
theorem off_band : ∀ t : Fin cfg0.N, k0_off1 (grid0.coords t) = ![0, 128 * (t.val % 16), 0] := by decide +kernel

/-- A band placed at the rows from `o` on. -/
def place (o : ℕ) (x : FVec Ideal S256x64 .f32) (j : Fin 2176) (d : Fin 64) : EReal :=
  if h : o ≤ j.val ∧ j.val < o + 256 then x (ix2 ⟨j.val - o, by omega⟩ d) else 0

/-- A load of the rows a band falls on, read at an index. -/
theorem ld_band {off : Fin 3 → ℕ} {o : ℕ} (ho : off = ![0, o, 0]) (inb : ∀ a, off a + S1x256x64.size a ≤ S1x2176x64.size a)
    (Z : S1x2176x64.Idx → EReal) (j : Fin 2176) (d : Fin 64) (h : o ≤ j.val ∧ j.val < o + 256) :
    View.ld (Val := Elt Ideal) (e' := .f32) Z (Rect.unit (s := S1x2176x64) off S1x256x64.size inb) (ix3 0 ⟨j.val - o, by omega⟩ d) = Z (ix3 0 j d) := by
  subst ho
  refine congrArg Z (funext fun a => Fin.ext ?_)
  fin_cases a
  · rfl
  · show o + 1 * (j.val - o) = j.val
    omega
  · show 0 + 1 * d.val = d.val
    omega

/-- A band's rows added to a buffer filled before. -/
theorem canon_band {off : Fin 3 → ℕ} {o : ℕ} (ho : off = ![0, o, 0]) (inb : ∀ a, off a + S1x256x64.size a ≤ S1x2176x64.size a)
    (x : FVec Ideal S256x64 .f32) (Z : S1x2176x64.Idx → EReal) (L : List (View.Piece (Elt Ideal) S1x2176x64 .f32))
    (hL : View.canon L = Z) (j : Fin 2176) (d : Fin 64) :
    View.canon ((⟨Rect.unit (s := S1x2176x64) off S1x256x64.size inb,
      addBand x (View.ld (Val := Elt Ideal) (e' := .f32) Z (Rect.unit (s := S1x2176x64) off S1x256x64.size inb))⟩ : View.Piece (Elt Ideal) S1x2176x64 .f32) :: L) (ix3 0 j d)
      = Z (ix3 0 j d) + place o x j d := by
  unfold place
  split
  · rename_i h
    have e : (ix3 0 j d : S1x2176x64.Idx) = (Rect.unit (s := S1x2176x64) off S1x256x64.size inb).emb (ix3 0 ⟨j.val - o, by omega⟩ d) := by
      subst ho
      refine funext fun a => Fin.ext ?_
      fin_cases a
      · rfl
      · show j.val = o + 1 * (j.val - o)
        omega
      · show d.val = 0 + 1 * d.val
        omega
    rw [e, View.canon_cons_emb, addBand_apply, ← e, ld_band ho inb Z j d h]
  · rename_i h
    rw [View.canon_cons_of_not_mem, hL, add_zero]
    subst ho
    rw [Rect.mem_set_unit]
    intro hm
    exact h ⟨(hm 1).1, (hm 1).2⟩

/-- A band's rows added to a buffer that carries earlier contents. -/
theorem writes_band {sp : Space} (v : View sig .tc sp S1x2176x64 .f32) (f : v.ty.Contents (Elt Ideal)) {off : Fin 3 → ℕ} {o : ℕ}
    (ho : off = ![0, o, 0]) (inb : ∀ a, off a + S1x256x64.size a ≤ S1x2176x64.size a)
    (x : FVec Ideal S256x64 .f32) (Z : S1x2176x64.Idx → EReal)
    (hZ : v.read (Elt Ideal) f = Z) (j : Fin 2176) (d : Fin 64) :
    v.read (Elt Ideal) (v.writes (Elt Ideal) f [(⟨Rect.unit (s := S1x2176x64) off S1x256x64.size inb,
      addBand x (View.ld (Val := Elt Ideal) (e' := .f32) Z (Rect.unit (s := S1x2176x64) off S1x256x64.size inb))⟩ : View.Piece (Elt Ideal) S1x2176x64 .f32)]) (ix3 0 j d)
      = Z (ix3 0 j d) + place o x j d := by
  unfold place
  split
  · rename_i h
    rw [View.read_writes_cons_unit_of_mem v f inb _ [] (ix3 0 j d) (ix3 0 ⟨j.val - o, by omega⟩ d) ho, addBand_apply, ld_band ho inb Z j d h]
    intro a
    fin_cases a
    · rfl
    · show j.val = o + (j.val - o)
      omega
    · show d.val = 0 + d.val
      omega
  · rename_i h
    rw [View.read_writes_cons_unit_of_not_mem v f inb _ [] (ix3 0 j d) ho 1, View.writes_nil, hZ, add_zero]
    show j.val < o ∨ o + 256 ≤ j.val
    omega

/-- The share a grid point adds to the gradient of the keys. -/
def shareK (c : Dev nD) (t : Fin cfg0.N) (j : Fin 2176) (d : Fin 64) : EReal :=
  place (128 * (t.val % 16)) (bandSum fun g => (hd m c t g).dk) j d

/-- The share a grid point adds to the gradient of the values. -/
def shareV (c : Dev nD) (t : Fin cfg0.N) (j : Fin 2176) (d : Fin 64) : EReal :=
  place (128 * (t.val % 16)) (bandSum fun g => (hd m c t g).dv) j d

/-- A whole array of zeros, stored last, is what is left. -/
theorem canon_zero (L : List (View.Piece (Elt Ideal) S1x2176x64 .f32)) (inb : ∀ a, (![0, 0, 0] : Fin 3 → ℕ) a + S1x2176x64.size a ≤ S1x2176x64.size a) :
    View.canon ((⟨Rect.unit (s := S1x2176x64) ![0, 0, 0] S1x2176x64.size inb, fun _ => (0 : EReal)⟩ : View.Piece (Elt Ideal) S1x2176x64 .f32) :: L)
      = fun _ => (0 : EReal) :=
  View.canon_cons_unit_lit inb _ L (by decide)

/-- The array a group starts from is zero. -/
theorem zero_word : (k0_pay94 (F := Ideal)) = fun _ => (0 : EReal) := by
  funext y
  exact Ideal.ofBits_zero_f32

/-- The keys' gradient after a group's first point. -/
theorem dk_A (c : Dev nD) (t : Fin cfg0.N) (h : t.val % 16 = 0) (j : Fin 2176) (d : Fin 64) :
    (outsAt0 m c t.val t.isLt).2.1 (ix3 0 j d) = (0 + shareK m c t j d : EReal) := by
  rw [outsAt0_A m c t h]
  frame_out
  rw [zero_word]
  exact canon_band (off_band t) _ (bandSum fun g => (hd m c t g).dk) (fun _ => 0) _ (canon_zero [] _) j d

/-- The values' gradient after a group's first point. -/
theorem dv_A (c : Dev nD) (t : Fin cfg0.N) (h : t.val % 16 = 0) (j : Fin 2176) (d : Fin 64) :
    (outsAt0 m c t.val t.isLt).2.2.1 (ix3 0 j d) = (0 + shareV m c t j d : EReal) := by
  rw [outsAt0_A m c t h]
  frame_out
  rw [show (k0_pay95 (F := Ideal)) = fun _ => (0 : EReal) from zero_word]
  exact canon_band (off_band t) _ (bandSum fun g => (hd m c t g).dv) (fun _ => 0) _ (canon_zero [] _) j d

/-- The keys' gradient after a later point, from the one before. -/
theorem dk_B (c : Dev nD) (t : Fin cfg0.N) (h : ¬ t.val % 16 = 0) (j : Fin 2176) (d : Fin 64) :
    (outsAt0 m c t.val t.isLt).2.1 (ix3 0 j d)
      = ((outsAt0 m c (t.val - 1) (Nat.lt_of_le_of_lt (Nat.sub_le _ _) t.isLt)).2.1 (ix3 0 j d) + shareK m c t j d : EReal) := by
  rw [outsAt0_B m c t h]
  frame_out
  exact writes_band _ _ (off_band t) _ (bandSum fun g => (hd m c t g).dk) _ (Memref.IsWhole.read_unread _ _) j d

/-- The values' gradient after a later point, from the one before. -/
theorem dv_B (c : Dev nD) (t : Fin cfg0.N) (h : ¬ t.val % 16 = 0) (j : Fin 2176) (d : Fin 64) :
    (outsAt0 m c t.val t.isLt).2.2.1 (ix3 0 j d)
      = ((outsAt0 m c (t.val - 1) (Nat.lt_of_le_of_lt (Nat.sub_le _ _) t.isLt)).2.2.1 (ix3 0 j d) + shareV m c t j d : EReal) := by
  rw [outsAt0_B m c t h]
  frame_out
  exact writes_band _ _ (off_band t) _ (bandSum fun g => (hd m c t g).dv) _ (Memref.IsWhole.read_unread _ _) j d

/-- One head's piece of a buffer of four heads' rows. -/
def piece {n k : ℕ} (g : Fin 4) (inb : ∀ a, (![0, g.val, 0, 0] : Fin 4 → ℕ) a + (![1, 1, n, k] : Fin 4 → ℕ) a ≤ (⟨4, ![1, 4, n, k]⟩ : Shape).size a)
    (P : (⟨4, ![1, 1, n, k]⟩ : Shape).Idx → EReal) : View.Piece (Elt Ideal) (⟨4, ![1, 4, n, k]⟩ : Shape) .f32 :=
  ⟨Rect.unit (s := (⟨4, ![1, 4, n, k]⟩ : Shape)) ![0, g.val, 0, 0] ![1, 1, n, k] inb, P⟩

/-- A head's own piece is read at its indices. -/
theorem canon_piece {n k : ℕ} (g : Fin 4) (inb : ∀ a, (![0, g.val, 0, 0] : Fin 4 → ℕ) a + (![1, 1, n, k] : Fin 4 → ℕ) a ≤ (⟨4, ![1, 4, n, k]⟩ : Shape).size a)
    (P : (⟨4, ![1, 1, n, k]⟩ : Shape).Idx → EReal) (L : List (View.Piece (Elt Ideal) (⟨4, ![1, 4, n, k]⟩ : Shape) .f32)) (r : Fin n) (d : Fin k) :
    View.canon (piece g inb P :: L) (ix4 0 g r d) = P (ix4 0 0 r d) := by
  have e : (ix4 0 g r d : (⟨4, ![1, 4, n, k]⟩ : Shape).Idx)
      = (Rect.unit (s := (⟨4, ![1, 4, n, k]⟩ : Shape)) ![0, g.val, 0, 0] ![1, 1, n, k] inb).emb (ix4 0 0 r d) := by
    refine funext fun a => Fin.ext ?_
    fin_cases a
    · rfl
    · rfl
    · show r.val = 0 + 1 * r.val
      omega
    · show d.val = 0 + 1 * d.val
      omega
  rw [e]
  exact View.canon_cons_emb _ _ _ _

/-- Another head's piece is passed over. -/
theorem canon_piece_ne {n k : ℕ} (g g' : Fin 4) (hg : g' ≠ g)
    (inb : ∀ a, (![0, g.val, 0, 0] : Fin 4 → ℕ) a + (![1, 1, n, k] : Fin 4 → ℕ) a ≤ (⟨4, ![1, 4, n, k]⟩ : Shape).size a)
    (P : (⟨4, ![1, 1, n, k]⟩ : Shape).Idx → EReal) (L : List (View.Piece (Elt Ideal) (⟨4, ![1, 4, n, k]⟩ : Shape) .f32)) (r : Fin n) (d : Fin k) :
    View.canon (piece g inb P :: L) (ix4 0 g' r d) = View.canon L (ix4 0 g' r d) := by
  refine View.canon_cons_of_not_mem _ _ ?_
  unfold piece
  rw [Rect.mem_set_unit]
  intro hm
  have h := hm 1
  have h1 : g.val ≤ g'.val := h.1
  have h2 : g'.val < g.val + 1 := h.2
  exact hg (Fin.ext (by omega))

/-- Four heads' pieces are read each at its own indices. -/
theorem canon_pieces {n k : ℕ} (inb : ∀ g : Fin 4, ∀ a, (![0, g.val, 0, 0] : Fin 4 → ℕ) a + (![1, 1, n, k] : Fin 4 → ℕ) a ≤ (⟨4, ![1, 4, n, k]⟩ : Shape).size a)
    (P : Fin 4 → (⟨4, ![1, 1, n, k]⟩ : Shape).Idx → EReal) (g : Fin 4) (r : Fin n) (d : Fin k) :
    View.canon [piece 3 (inb 3) (P 3), piece 2 (inb 2) (P 2), piece 1 (inb 1) (P 1), piece 0 (inb 0) (P 0)] (ix4 0 g r d)
      = P g (ix4 0 0 r d) := by
  by_cases h3 : g = 3
  · subst h3; exact canon_piece _ _ _ _ _ _
  rw [canon_piece_ne _ _ h3]
  by_cases h2 : g = 2
  · subst h2; exact canon_piece _ _ _ _ _ _
  rw [canon_piece_ne _ _ h2]
  by_cases h1 : g = 1
  · subst h1; exact canon_piece _ _ _ _ _ _
  rw [canon_piece_ne _ _ h1]
  obtain rfl : g = 0 := by omega
  exact canon_piece _ _ _ _ _ _

/-- A head's share added to the sinks' gradient. -/
def addSink (x : FVec Ideal S1x1 .f32) (w : FVec Ideal S1x1x1x1 .f32) : FVec Ideal S1x1x1x1 .f32 :=
  shapeCast S1x1x1x1 (addf (shapeCast S1x1 w shapeCasts_S1x1x1x1_S1x1) x) shapeCasts_S1x1_S1x1x1x1

/-- A sink's share is added to what was there. -/
theorem addSink_apply (x : FVec Ideal S1x1 .f32) (w : FVec Ideal S1x1x1x1 .f32) :
    addSink x w (ix4 0 0 0 0) = (w (ix4 0 0 0 0) + x (ix2 0 0) : EReal) := by
  unfold addSink
  pointwise

/-- A head's sink loaded from the buffer. -/
theorem ld_sink (g : Fin 4) (Z : S1x4x1x1.Idx → EReal) :
    View.ld (Val := Elt Ideal) (e' := .f32) Z (Rect.unit (s := S1x4x1x1) ![0, g.val, 0, 0] S1x1x1x1.size (inb_sink g)) (ix4 0 0 0 0)
      = Z (ix4 0 g 0 0) := by
  refine congrArg Z (funext fun a => Fin.ext ?_)
  fin_cases a <;> rfl

/-- A head's share added to what earlier stores left. -/
theorem canon_sink {sp : Space} (v : View sig .tc sp S1x4x1x1 .f32) (g : Fin 4) (x : FVec Ideal S1x1 .f32)
    (L : List (View.Piece (Elt Ideal) S1x4x1x1 .f32)) (g' : Fin 4) :
    View.canon (piece g (inb_sink g) (addSink x (v.readCov L (Rect.unit (s := S1x4x1x1) ![0, g.val, 0, 0] S1x1x1x1.size (inb_sink g)).toLoadRect)) :: L)
      (ix4 0 g' 0 0) = (View.canon L (ix4 0 g' 0 0) + if g' = g then (x (ix2 0 0) : EReal) else 0 : EReal) := by
  split
  · rename_i h
    subst h
    rw [canon_piece, addSink_apply, View.readCov_eq_canon']
    exact congrArg (· + (x (ix2 0 0) : EReal)) (ld_sink g' (View.canon L))
  · rename_i h
    rw [canon_piece_ne _ _ h, add_zero]

/-- The sinks' gradient is filled with zeros first. -/
theorem canon_fill (g : Fin 4) : View.canon [(⟨Rect.unit (s := S1x4x1x1) ![0, 0, 0, 0] S1x4x1x1.size inb_S1x4x1x1_S1x4x1x1_0_0_0_0,
    k0_pay96 (F := Ideal)⟩ : View.Piece (Elt Ideal) S1x4x1x1 .f32)] (ix4 0 g 0 0) = (0 : EReal) := by
  exact (congrFun (View.canon_cons_unit_lit (Val := Elt Ideal) (e := .f32) inb_S1x4x1x1_S1x4x1x1_0_0_0_0 (k0_pay96 (F := Ideal)) [] (by decide)) (ix4 0 g 0 0)).trans
    Ideal.ofBits_zero_f32

set_option maxHeartbeats 2000000 in
/-- The queries' gradient that a point leaves. -/
theorem dq_at (c : Dev nD) (t : Fin cfg0.N) (g : Fin 4) (r : Fin 128) (d : Fin 64) :
    (outsAt0 m c t.val t.isLt).1 (ix4 0 g r d) = (hd m c t g).read.dq r d := by
  rw [← VHead.dq_apply]
  by_cases h : t.val % 16 = 0
  · rw [outsAt0_A m c t h]
    frame_out
    exact canon_pieces (n := 128) (k := 64) inb_head (fun g => (hd m c t g).dq) g r d
  · rw [outsAt0_B m c t h]
    frame_out
    exact canon_pieces (n := 128) (k := 64) inb_head (fun g => (hd m c t g).dq) g r d

set_option maxHeartbeats 2000000 in
/-- The sinks' gradient after a group's first point. -/
theorem dsink_A (c : Dev nD) (t : Fin cfg0.N) (h : t.val % 16 = 0) (g : Fin 4) :
    (outsAt0 m c t.val t.isLt).2.2.2 (ix4 0 g 0 0) = (0 + (hd m c t g).read.dsink : EReal) := by
  rw [outsAt0_A m c t h, ← VHead.dsink_apply]
  frame_out
  refine (canon_sink _ 3 (hd m c t 3).dsink _ g).trans ?_
  refine (congrArg (fun z : EReal => z + _) (canon_sink _ 2 (hd m c t 2).dsink _ g)).trans ?_
  refine (congrArg (fun z : EReal => z + _ + _) (canon_sink _ 1 (hd m c t 1).dsink _ g)).trans ?_
  refine (congrArg (fun z : EReal => z + _ + _ + _) (canon_sink _ 0 (hd m c t 0).dsink _ g)).trans ?_
  refine (congrArg (fun z : EReal => z + _ + _ + _ + _) (canon_fill g)).trans ?_
  fin_cases g <;> simp

set_option maxHeartbeats 2000000 in
/-- The sinks' gradient after a later point, from the one before. -/
theorem dsink_B (c : Dev nD) (t : Fin cfg0.N) (h : ¬ t.val % 16 = 0) (g : Fin 4) :
    (outsAt0 m c t.val t.isLt).2.2.2 (ix4 0 g 0 0)
      = ((outsAt0 m c (t.val - 1) (Nat.lt_of_le_of_lt (Nat.sub_le _ _) t.isLt)).2.2.2 (ix4 0 g 0 0) + (hd m c t g).read.dsink : EReal) := by
  rw [← ld_sink g (outsAt0 m c (t.val - 1) _).2.2.2, ← VHead.dsink_apply, ← addSink_apply]
  rw [outsAt0_B m c t h]
  frame_out
  exact canon_pieces (n := 1) (k := 1) inb_sink (fun g => addSink (hd m c t g).dsink
    (View.ld (Val := Elt Ideal) (e' := .f32) (outsAt0 m c (t.val - 1) (Nat.lt_of_le_of_lt (Nat.sub_le _ _) t.isLt)).2.2.2
      (Rect.unit (s := S1x4x1x1) ![0, g.val, 0, 0] S1x1x1x1.size (inb_sink g)))) g 0 0

end Cert.KernelIdeal.Blk

end
-- ==== Proof.Data.lean ====
module

public import proofs.«01_k».proof.Proof.Bands
public import proofs.«01_k».proof.Proof.Point

@[expose] public section

noncomputable section

namespace Cert.KernelIdeal.Blk

open Idealize.ShloMosaic Idealize.SL.Sem Cert.KernelIdeal.Gen

variable (m : (ℓ : Loc nD τ sig) → Buf (Elt Ideal) ℓ)

/-- The arguments read at their rows and columns. -/
def arrays (c : Dev nD) : Band.Arrays where
  q i j := m ((c.tc : Thread nD τ).loc main_arg0) (ix2 i j)
  k i j := m ((c.tc : Thread nD τ).loc main_arg1) (ix2 i j)
  v i j := m ((c.tc : Thread nD τ).loc main_arg2) (ix2 i j)
  sinks i := m ((c.tc : Thread nD τ).loc main_arg3) (ix1 i)
  ct i j := m ((c.tc : Thread nD τ).loc main_arg4) (ix2 i j)

/-- The queries laid out by heads, as the call finds them. -/
theorem V_v1 (c : Dev nD) (h g : Fin 4) (i : Fin 2048) (d : Fin 64) :
    V m c main_v1 (ix4 h g i d) = (arrays m c).q i (Band.col h g d) := by
  have e : V m c main_v1 = (transpose S4x4x2048x64 [1, 2, 0, 3] (shapeCast S2048x4x4x64 (m ((c.tc : Thread nD τ).loc main_arg0)) shapeCasts_S2048x1024_S2048x4x4x64) transposes_S2048x4x4x64_S4x4x2048x64_1_2_0_3) := by
    show StableHlo.after hostOps0 (fun b => m (c, b)) (Proc.devRef .tc main_v1) = _
    unfold hostOps0
    after_results
    rfl
  rw [e]
  pointwise
  exact congrArg (fun x => m ((c.tc : Thread nD τ).loc main_arg0) (ix2 i x)) (Fin.ext (by simp only [Band.col]; omega))

/-- The keys laid out by heads, as the call finds them. -/
theorem V_v3 (c : Dev nD) (h : Fin 4) (i : Fin 2048) (d : Fin 64) :
    V m c main_v3 (ix3 h i d) = (arrays m c).k i (Band.kcol h d) := by
  have e : V m c main_v3 = (transpose S4x2048x64 [1, 0, 2] (shapeCast S2048x4x64 (m ((c.tc : Thread nD τ).loc main_arg1)) shapeCasts_S2048x256_S2048x4x64) transposes_S2048x4x64_S4x2048x64_1_0_2) := by
    show StableHlo.after hostOps0 (fun b => m (c, b)) (Proc.devRef .tc main_v3) = _
    unfold hostOps0
    after_results
    rfl
  rw [e]
  pointwise
  exact congrArg (fun x => m ((c.tc : Thread nD τ).loc main_arg1) (ix2 i x)) (Fin.ext (by simp only [Band.kcol]; omega))

/-- The values laid out by heads, as the call finds them. -/
theorem V_v5 (c : Dev nD) (h : Fin 4) (i : Fin 2048) (d : Fin 64) :
    V m c main_v5 (ix3 h i d) = (arrays m c).v i (Band.kcol h d) := by
  have e : V m c main_v5 = (transpose S4x2048x64 [1, 0, 2] (shapeCast S2048x4x64 (m ((c.tc : Thread nD τ).loc main_arg2)) shapeCasts_S2048x256_S2048x4x64) transposes_S2048x4x64_S4x2048x64_1_0_2) := by
    show StableHlo.after hostOps0 (fun b => m (c, b)) (Proc.devRef .tc main_v5) = _
    unfold hostOps0
    after_results
    rfl
  rw [e]
  pointwise
  exact congrArg (fun x => m ((c.tc : Thread nD τ).loc main_arg2) (ix2 i x)) (Fin.ext (by simp only [Band.kcol]; omega))

/-- The cotangent laid out by heads, as the call finds it. -/
theorem V_v8 (c : Dev nD) (h g : Fin 4) (i : Fin 2048) (d : Fin 64) :
    V m c main_v8 (ix4 h g i d) = (arrays m c).ct i (Band.col h g d) := by
  have e : V m c main_v8 = (transpose S4x4x2048x64 [1, 2, 0, 3] (shapeCast S2048x4x4x64 (m ((c.tc : Thread nD τ).loc main_arg4)) shapeCasts_S2048x1024_S2048x4x4x64) transposes_S2048x4x4x64_S4x4x2048x64_1_2_0_3) := by
    show StableHlo.after hostOps0 (fun b => m (c, b)) (Proc.devRef .tc main_v8) = _
    unfold hostOps0
    after_results
    rfl
  rw [e]
  pointwise
  exact congrArg (fun x => m ((c.tc : Thread nD τ).loc main_arg4) (ix2 i x)) (Fin.ext (by simp only [Band.col]; omega))

/-- The sinks by groups, as the call finds them. -/
theorem V_v6 (c : Dev nD) (h g : Fin 4) :
    V m c main_v6 (ix4 h g 0 0) = (arrays m c).sinks (Band.sinkAt h g) := by
  have e : V m c main_v6 = (shapeCast S4x4x1x1 (m ((c.tc : Thread nD τ).loc main_arg3)) shapeCasts_S16_S4x4x1x1) := by
    show StableHlo.after hostOps0 (fun b => m (c, b)) (Proc.devRef .tc main_v6) = _
    unfold hostOps0
    after_results
    rfl
  rw [e]
  pointwise
  exact congrArg (fun x => m ((c.tc : Thread nD τ).loc main_arg3) (ix1 x)) (Fin.ext (by simp only [Band.sinkAt]; omega))

/-- Where the queries' window lies at a point. -/
theorem index0 : ∀ t : Fin cfg0.N, win0_0.index t = ![t.val / 16, 0, t.val % 16, 0] := by decide +kernel
/-- Where the window of the keys before lies at a point. -/
theorem index1 : ∀ t : Fin cfg0.N, win0_1.index t = ![t.val / 16, t.val % 16 - 1, 0] := by decide +kernel
/-- Where the window of the values before lies at a point. -/
theorem index3 : ∀ t : Fin cfg0.N, win0_3.index t = ![t.val / 16, t.val % 16 - 1, 0] := by decide +kernel
/-- Where the values' window lies at a point. -/
theorem index4 : ∀ t : Fin cfg0.N, win0_4.index t = ![t.val / 16, t.val % 16, 0] := by decide +kernel
/-- Where the sinks' window lies at a point. -/
theorem index5 : ∀ t : Fin cfg0.N, win0_5.index t = ![t.val / 16, 0, 0, 0] := by decide +kernel
/-- Where the cotangent's window lies at a point. -/
theorem index6 : ∀ t : Fin cfg0.N, win0_6.index t = ![t.val / 16, 0, t.val % 16, 0] := by decide +kernel
/-- Where the keys' window lies at a point. -/
theorem index2 : ∀ t : Fin cfg0.N, win0_2.index t = ![t.val / 16, t.val % 16, 0] := by decide +kernel

/-- The group of heads a grid point works on. -/
def grp (t : Fin cfg0.N) : Fin 4 := ⟨t.val / 16, by have := t.isLt; exact Nat.div_lt_of_lt_mul (this.trans_eq (by decide +kernel))⟩

/-- The block of rows a grid point works on. -/
def blkOf (t : Fin cfg0.N) : Fin 16 := ⟨t.val % 16, by omega⟩

/-- The queries a point reads. -/
theorem blk0 (c : Dev nD) (t : Fin cfg0.N) (g : Fin 4) (r : Fin 128) (d : Fin 64) :
    iblk m c 0 t (ix4 0 g r d) = V m c main_v1 (ix4 (grp t) g (Band.row (blkOf t) r) d) := by
  blk_simp [iblk]
  blk_ext [index0, grp, blkOf, Band.row]

/-- The keys of the block before, which a point reads. -/
theorem blk1 (c : Dev nD) (t : Fin cfg0.N) (r : Fin 128) (d : Fin 64) :
    iblk m c 1 t (ix3 0 r d) = V m c main_v3 (ix3 (grp t) ⟨128 * ((blkOf t).val - 1) + r.val, by omega⟩ d) := by
  blk_simp [iblk]
  blk_ext [index1, grp, blkOf]

/-- The window's test as the kernel's words make it, of a distance not negative. -/
theorem window_pos : ∀ x : Fin 256, IntOp.andi (IntOp.cmpi CmpIPredicate.sge (BitVec.ofNat 32 x.val) 0#32)
    (IntOp.cmpi CmpIPredicate.slt (BitVec.ofNat 32 x.val) 128#32) = if x.val < 128 then 1#1 else 0#1 := by decide +kernel

/-- The window's test as the kernel's words make it, of a negative distance. -/
theorem window_neg : ∀ x : Fin 256, IntOp.andi (IntOp.cmpi CmpIPredicate.sge (BitVec.ofNat 32 (4294967295 - x.val)) 0#32)
    (IntOp.cmpi CmpIPredicate.slt (BitVec.ofNat 32 (4294967295 - x.val)) 128#32) = 0#1 := by decide +kernel

/-- A difference of two small numbers, as a word. -/
theorem sub_word (a b : ℕ) (ha : a < 256) (hb : b < 256) : IntOp.subi (BitVec.ofNat 32 a) (BitVec.ofNat 32 b)
    = if b ≤ a then BitVec.ofNat 32 (a - b) else BitVec.ofNat 32 (4294967295 - (b - a - 1)) := by
  refine BitVec.eq_of_toNat_eq ?_
  split
  · simp only [IntOp.subi, BitVec.toNat_sub, BitVec.toNat_ofNat]
    omega
  · simp only [IntOp.subi, BitVec.toNat_sub, BitVec.toNat_ofNat]
    omega

/-- The values of the block before, which a point reads. -/
theorem blk3 (c : Dev nD) (t : Fin cfg0.N) (r : Fin 128) (d : Fin 64) :
    iblk m c 3 t (ix3 0 r d) = V m c main_v5 (ix3 (grp t) ⟨128 * ((blkOf t).val - 1) + r.val, by omega⟩ d) := by
  blk_simp [iblk]
  blk_ext [index3, grp, blkOf]

/-- The keys of the point's own block. -/
theorem blk2 (c : Dev nD) (t : Fin cfg0.N) (r : Fin 128) (d : Fin 64) :
    iblk m c 2 t (ix3 0 r d) = V m c main_v3 (ix3 (grp t) (Band.row (blkOf t) r) d) := by
  blk_simp [iblk]
  blk_ext [index2, grp, blkOf, Band.row]

/-- The values of the point's own block. -/
theorem blk4 (c : Dev nD) (t : Fin cfg0.N) (r : Fin 128) (d : Fin 64) :
    iblk m c 4 t (ix3 0 r d) = V m c main_v5 (ix3 (grp t) (Band.row (blkOf t) r) d) := by
  blk_simp [iblk]
  blk_ext [index4, grp, blkOf, Band.row]

/-- The sinks a point reads. -/
theorem blk5 (c : Dev nD) (t : Fin cfg0.N) (g : Fin 4) :
    iblk m c 5 t (ix4 0 g 0 0) = V m c main_v6 (ix4 (grp t) g 0 0) := by
  blk_simp [iblk]
  blk_ext [index5, grp]

/-- The cotangent a point reads. -/
theorem blk6 (c : Dev nD) (t : Fin cfg0.N) (g : Fin 4) (r : Fin 128) (d : Fin 64) :
    iblk m c 6 t (ix4 0 g r d) = V m c main_v8 (ix4 (grp t) g (Band.row (blkOf t) r) d) := by
  blk_simp [iblk]
  blk_ext [index6, grp, blkOf, Band.row]

/-- The window's condition on the rows of a block and of its band, in machine words. -/
theorem window_word (r : Fin 128) (s : Fin 256) :
    IntOp.andi (IntOp.cmpi CmpIPredicate.sge (IntOp.subi (IntOp.addi (BitVec.ofNat 32 r.val) 128#32) (BitVec.ofNat 32 s.val)) 0#32)
      (IntOp.cmpi CmpIPredicate.slt (IntOp.subi (IntOp.addi (BitVec.ofNat 32 r.val) 128#32) (BitVec.ofNat 32 s.val)) 128#32)
      = if s.val ≤ r.val + 128 ∧ r.val < s.val then 1#1 else 0#1 := by
  have e : IntOp.addi (BitVec.ofNat 32 r.val) 128#32 = BitVec.ofNat 32 (r.val + 128) := (BitVec.ofNat_add r.val 128).symm
  rw [e, sub_word _ _ (by omega) (by omega)]
  by_cases h : s.val ≤ r.val + 128
  · rw [if_pos h, window_pos ⟨r.val + 128 - s.val, by omega⟩]
    refine if_congr ?_ rfl rfl
    show r.val + 128 - s.val < 128 ↔ _
    omega
  · rw [if_neg h, window_neg ⟨s.val - (r.val + 128) - 1, by omega⟩, if_neg (by omega)]

/-- The condition that a band's row lies in the sequence, in machine words. -/
theorem inside_word : ∀ (n : Fin 16) (s : Fin 256),
    IntOp.cmpi CmpIPredicate.sge (IntOp.subi (IntOp.addi (Scalar.muli (BitVec.ofNat 32 n.val) 128#32) (BitVec.ofNat 32 s.val)) 128#32) 0#32
      = if 128 ≤ 128 * n.val + s.val then 1#1 else 0#1 := by decide +kernel

/-- A point's second coordinate is its block. -/
theorem coord1 : ∀ t : Fin cfg0.N, (grid0.coords t 1).val = t.val % 16 := by decide +kernel

/-- What the kernel's mask lets a row see at a point. -/
theorem ok_at (t : Fin cfg0.N) (r : Fin 128) (s : Fin 256) :
    k0_pay4 (grid0.coords t) (ix2 r s) = Band.seen (blkOf t) r s := by
  unfold k0_pay4
  pointwise
  rw [coord1, window_word]
  rw [show t.val % 16 = (blkOf t).val from rfl, inside_word (blkOf t) s]
  unfold Band.seen
  split <;> split <;> split <;> first | rfl | (exfalso; simp only [blkOf] at *; omega)

/-- The vectors of a grid point's heads hold the rows and columns of the arguments. -/
theorem read_hd (c : Dev nD) (t : Fin cfg0.N) (g : Fin 4) :
    (hd m c t g).read = (arrays m c).headC (grp t) (blkOf t) g := by
  unfold VHead.read Band.Arrays.headC hd
  congr 1
  · funext r s
    exact ok_at t r s
  · funext r d
    unfold k0_pay5
    pointwise
    rw [blk0, V_v1]
  · funext s d
    unfold k0_pay15 k0_pay9
    pointwise
    unfold Band.clamped
    split
    · rw [blk1, V_v3]
    · rw [blk2, V_v3]
      rfl
  · funext s d
    unfold k0_pay16
    pointwise
    unfold Band.clamped
    split
    · rw [blk3, V_v5]
    · rw [blk4, V_v5]
      rfl
  · unfold k0_pay11
    pointwise
    rw [blk5, V_v6]
  · funext r d
    unfold k0_pay53
    pointwise
    rw [blk6, V_v8]

end Cert.KernelIdeal.Blk

end
-- ==== Proof.Acc.lean ====
module

public import proofs.«01_k».proof.Proof.Data

@[expose] public section

noncomputable section

namespace Cert.KernelIdeal.Blk

open Idealize.ShloMosaic Idealize.SL.Sem Cert.KernelIdeal.Gen

variable (m : (ℓ : Loc nD τ sig) → Buf (Elt Ideal) ℓ)

/-- Block `n` of group `h` is worked on at one grid point. -/
def pt (h : Fin 4) (n : Fin 16) : Fin cfg0.N := ⟨16 * h.val + n.val, (by omega : 16 * h.val + n.val < 64).trans_eq (by decide +kernel)⟩

/-- The group of a point given by its group and block. -/
theorem grp_pt (h : Fin 4) (n : Fin 16) : grp (pt h n) = h := Fin.ext (by simp only [grp, pt]; omega)

/-- The block of a point given by its group and block. -/
theorem blkOf_pt (h : Fin 4) (n : Fin 16) : blkOf (pt h n) = n := Fin.ext (by simp only [blkOf, pt]; omega)

/-- Sixteen points' shares, the first over zero, add up to the sum over the blocks. -/
theorem sum_points {ι : Type} (f : (n : ℕ) → n < cfg0.N → ι → EReal) (share : Fin cfg0.N → ι → EReal)
    (hA : ∀ t : Fin cfg0.N, t.val % 16 = 0 → ∀ i, f t.val t.isLt i = 0 + share t i)
    (hB : ∀ t : Fin cfg0.N, ¬ t.val % 16 = 0 → ∀ i,
      f t.val t.isLt i = f (t.val - 1) (Nat.lt_of_le_of_lt (Nat.sub_le _ _) t.isLt) i + share t i)
    (t : Fin cfg0.N) (ht : t.val % 16 = 15) (i : ι) :
    f t.val t.isLt i = ∑ n : Fin 16, share (pt (grp t) n) i := by
  have key := Pipeline.eq_sum_of_reset_step_apply_of_mod f 16 (fun _ => 0)
    (fun k i => if hk : k < cfg0.N then share ⟨k, hk⟩ i else 0)
    (fun t h i => by rw [dif_pos t.isLt]; exact hA t h i)
    (fun t h i => by rw [dif_pos t.isLt]; exact hB t h i) t ht i
  rw [key, zero_add, Finset.sum_range]
  refine Finset.sum_congr rfl fun n _ => ?_
  exact dif_pos (pt (grp t) n).isLt

/-- The keys' gradient after a group's last point: the sum over the bands. -/
theorem dk_last (c : Dev nD) (t : Fin cfg0.N) (ht : t.val % 16 = 15) (j : Fin 2176) (d : Fin 64) :
    (outsAt0 m c t.val t.isLt).2.1 (ix3 0 j d) = ∑ n : Fin 16, shareK m c (pt (grp t) n) j d :=
  sum_points (ι := Fin 2176 × Fin 64) (fun n h i => (outsAt0 m c n h).2.1 (ix3 0 i.1 i.2)) (fun t i => shareK m c t i.1 i.2)
    (fun t h i => dk_A m c t h i.1 i.2) (fun t h i => dk_B m c t h i.1 i.2) t ht (j, d)

/-- The values' gradient after a group's last point: the sum over the bands. -/
theorem dv_last (c : Dev nD) (t : Fin cfg0.N) (ht : t.val % 16 = 15) (j : Fin 2176) (d : Fin 64) :
    (outsAt0 m c t.val t.isLt).2.2.1 (ix3 0 j d) = ∑ n : Fin 16, shareV m c (pt (grp t) n) j d :=
  sum_points (ι := Fin 2176 × Fin 64) (fun n h i => (outsAt0 m c n h).2.2.1 (ix3 0 i.1 i.2)) (fun t i => shareV m c t i.1 i.2)
    (fun t h i => dv_A m c t h i.1 i.2) (fun t h i => dv_B m c t h i.1 i.2) t ht (j, d)

/-- The sinks' gradient after a group's last point: the sum over the blocks. -/
theorem dsink_last (c : Dev nD) (t : Fin cfg0.N) (ht : t.val % 16 = 15) (g : Fin 4) :
    (outsAt0 m c t.val t.isLt).2.2.2 (ix4 0 g 0 0) = ∑ n : Fin 16, (hd m c (pt (grp t) n) g).read.dsink :=
  sum_points (ι := Fin 4) (fun n h g => (outsAt0 m c n h).2.2.2 (ix4 0 g 0 0)) (fun t g => (hd m c t g).read.dsink)
    (fun t h g => dsink_A m c t h g) (fun t h g => dsink_B m c t h g) t ht g

/-- A grid point's share of the keys' gradient, from the arguments. -/
theorem shareK_eq (c : Dev nD) (h : Fin 4) (n : Fin 16) (j : Fin 2176) (d : Fin 64) :
    shareK m c (pt h n) j d = if hb : 128 * n.val ≤ j.val ∧ j.val < 128 * n.val + 256
      then (arrays m c).dkBand h n ⟨j.val - 128 * n.val, by omega⟩ d else 0 := by
  have e : (pt h n).val % 16 = n.val := congrArg Fin.val (blkOf_pt h n)
  unfold shareK place
  simp only [e]
  refine dite_congr rfl (fun hb => ?_) fun _ => rfl
  rw [bandSum_apply]
  refine Finset.sum_congr rfl fun g _ => ?_
  rw [VHead.dk_apply, read_hd, grp_pt, blkOf_pt, ((arrays m c).sameSeen h n g).dk_eq]

/-- A grid point's share of the values' gradient, from the arguments. -/
theorem shareV_eq (c : Dev nD) (h : Fin 4) (n : Fin 16) (j : Fin 2176) (d : Fin 64) :
    shareV m c (pt h n) j d = if hb : 128 * n.val ≤ j.val ∧ j.val < 128 * n.val + 256
      then (arrays m c).dvBand h n ⟨j.val - 128 * n.val, by omega⟩ d else 0 := by
  have e : (pt h n).val % 16 = n.val := congrArg Fin.val (blkOf_pt h n)
  unfold shareV place
  simp only [e]
  refine dite_congr rfl (fun hb => ?_) fun _ => rfl
  rw [bandSum_apply]
  refine Finset.sum_congr rfl fun g _ => ?_
  rw [VHead.dv_apply, read_hd, grp_pt, blkOf_pt, ((arrays m c).sameSeen h n g).dv_eq]

/-- The keys' gradient before its rows over the padding are dropped. -/
def paddedK (c : Dev nD) : S4x2176x64.Idx → EReal :=
  fun y => ∑ n : Fin 16, shareK m c (pt (y 0) n) (y 1) (y 2)

/-- The values' gradient before its rows over the padding are dropped. -/
def paddedV (c : Dev nD) : S4x2176x64.Idx → EReal :=
  fun y => ∑ n : Fin 16, shareV m c (pt (y 0) n) (y 1) (y 2)

/-- Where the queries' gradient's window lies at a point. -/
theorem index7 : ∀ t : Fin cfg0.N, win0_7.index t = ![t.val / 16, 0, t.val % 16, 0] := by decide +kernel
/-- Where the keys' gradient's window lies at a point. -/
theorem index8 : ∀ t : Fin cfg0.N, win0_8.index t = ![t.val / 16, 0, 0] := by decide +kernel
/-- Where the values' gradient's window lies at a point. -/
theorem index9 : ∀ t : Fin cfg0.N, win0_9.index t = ![t.val / 16, 0, 0] := by decide +kernel
/-- Where the sinks' gradient's window lies at a point. -/
theorem index10 : ∀ t : Fin cfg0.N, win0_10.index t = ![t.val / 16, 0, 0, 0] := by decide +kernel

/-- An index of a padded block is a row and a lane. -/
theorem idx_rows (y : S1x2176x64.Idx) : ∃ (j : Fin 2176) (d : Fin 64), y = ix3 0 j d :=
  ⟨y 1, y 2, funext fun a => by
    fin_cases a
    · exact Subsingleton.elim (α := Fin 1) _ _
    · rfl
    · rfl⟩

/-- An index of a block of heads is a head, a row and a lane. -/
theorem idx_heads (y : S1x4x128x64.Idx) : ∃ (g : Fin 4) (r : Fin 128) (d : Fin 64), y = ix4 0 g r d :=
  ⟨y 1, y 2, y 3, funext fun a => by
    fin_cases a
    · exact Subsingleton.elim (α := Fin 1) _ _
    · rfl
    · rfl
    · rfl⟩

/-- An index of a block of sinks is a head. -/
theorem idx_sinks (y : S1x4x1x1.Idx) : ∃ g : Fin 4, y = ix4 0 g 0 0 :=
  ⟨y 1, funext fun a => by
    fin_cases a
    · exact Subsingleton.elim (α := Fin 1) _ _
    · rfl
    · exact Subsingleton.elim (α := Fin 1) _ _
    · exact Subsingleton.elim (α := Fin 1) _ _⟩

/-- The queries' gradient with its heads first. -/
def headsQ (c : Dev nD) : S4x4x2048x64.Idx → EReal :=
  fun y => (arrays m c).dq ⟨(y 2).val / 128, by have : (y 2).val < 2048 := (y 2).isLt; omega⟩ ⟨(y 2).val % 128, by omega⟩ (y 0) (y 1) (y 3)

/-- The sinks' gradient by groups of heads. -/
def groupedS (c : Dev nD) : S4x4x1x1.Idx → EReal :=
  fun y => (arrays m c).dsink (y 0) (y 1)

/-- The queries' gradient by heads, at a row of a block. -/
theorem headsQ_apply (c : Dev nD) (n : Fin 16) (r : Fin 128) (h g : Fin 4) (d : Fin 64) :
    headsQ m c (ix4 h g (Band.row n r) d) = (arrays m c).dq n r h g d := by
  have e1 : (128 * n.val + r.val) / 128 = n.val := by omega
  have e2 : (128 * n.val + r.val) % 128 = r.val := by omega
  show (arrays m c).dq ⟨(128 * n.val + r.val) / 128, _⟩ ⟨(128 * n.val + r.val) % 128, _⟩ h g d = _
  simp only [e1, e2]

/-- The queries' gradient after the call. -/
theorem final7 (c : Dev nD) : (dats m 0 c).arrAt 7 cfg0.N = headsQ m c := by
  refine (dats m 0 c).arrAt_eq_of_covers 7 _ (by decide +kernel) fun t hf y => ?_
  blk_simp
  rw [after0_7]
  obtain ⟨g, r, d, rfl⟩ := idx_heads y
  have e : (win0_7.blk t).view.emb (ix4 0 g r d) = ix4 (grp t) g (Band.row (blkOf t) r) d := by
    blk_ext [index7, grp, blkOf, Band.row]
  rw [e]
  refine (dq_at m c t g r d).trans ?_
  rw [read_hd, ((arrays m c).sameSeen (grp t) (blkOf t) g).dq_eq]
  exact (headsQ_apply m c (blkOf t) r (grp t) g d).symm

/-- The keys' gradient after the call, with its padding rows. -/
theorem final8 (c : Dev nD) : (dats m 0 c).arrAt 8 cfg0.N = paddedK m c := by
  refine (dats m 0 c).arrAt_eq_of_covers 8 _ (by decide +kernel) fun t hf y => ?_
  blk_simp
  rw [after0_8]
  obtain ⟨j, d, rfl⟩ := idx_rows y
  have e : (win0_8.blk t).view.emb (ix3 0 j d) = ix3 (grp t) j d := by
    blk_ext [index8, grp]
  rw [e]
  exact dk_last m c t ((flush0_8 t).mp hf) j d

/-- The values' gradient after the call, with its padding rows. -/
theorem final9 (c : Dev nD) : (dats m 0 c).arrAt 9 cfg0.N = paddedV m c := by
  refine (dats m 0 c).arrAt_eq_of_covers 9 _ (by decide +kernel) fun t hf y => ?_
  blk_simp
  rw [after0_9]
  obtain ⟨j, d, rfl⟩ := idx_rows y
  have e : (win0_9.blk t).view.emb (ix3 0 j d) = ix3 (grp t) j d := by
    blk_ext [index9, grp]
  rw [e]
  exact dv_last m c t ((flush0_9 t).mp hf) j d

/-- The sinks' gradient after the call. -/
theorem final10 (c : Dev nD) : (dats m 0 c).arrAt 10 cfg0.N = groupedS m c := by
  refine (dats m 0 c).arrAt_eq_of_covers 10 _ (by decide +kernel) fun t hf y => ?_
  blk_simp
  rw [after0_10]
  obtain ⟨g, rfl⟩ := idx_sinks y
  have e : (win0_10.blk t).view.emb (ix4 0 g 0 0) = ix4 (grp t) g 0 0 := by
    blk_ext [index10, grp]
  rw [e]
  refine (dsink_last m c t ((flush0_10 t).mp hf) g).trans ?_
  show _ = ∑ n : Fin 16, ((arrays m c).head (grp t) n g).dsink
  refine Finset.sum_congr rfl fun n _ => ?_
  rw [read_hd, grp_pt, blkOf_pt, ((arrays m c).sameSeen (grp t) n g).dsink_eq]

/-- A window's array holds after the region what the points left in it. -/
theorem array_after (c : Dev nD) (w : Fin cfg0.W) :
    Pipeline.withArrays (cfgs 0).spec c (V0 m c) (fun w => (dats m 0 c).arrAt w (cfgs 0).N) (Proc.devRef .tc (Pipeline.arrRef (cfgs 0).spec w))
      = (dats m 0 c).arrAt w cfg0.N :=
  (dats m 0 c).withArrays_arrAt sharedIn0 (V0 m c) (A_eq m c) w

/-- The keys' gradient with its padding, read at a row of the sequence. -/
theorem paddedK_apply (c : Dev nD) (n : Fin 16) (r : Fin 128) (h : Fin 4) (d : Fin 64) :
    paddedK m c (ix3 h ⟨128 + (128 * n.val + r.val), by omega⟩ d) = Band.joined (fun b s => (arrays m c).dkBand h b s d) n r := by
  refine Eq.trans ?_ (Band.sum_bands _ n r)
  exact Finset.sum_congr rfl fun b _ => shareK_eq m c h b _ d

/-- The values' gradient with its padding, read at a row of the sequence. -/
theorem paddedV_apply (c : Dev nD) (n : Fin 16) (r : Fin 128) (h : Fin 4) (d : Fin 64) :
    paddedV m c (ix3 h ⟨128 + (128 * n.val + r.val), by omega⟩ d) = Band.joined (fun b s => (arrays m c).dvBand h b s d) n r := by
  refine Eq.trans ?_ (Band.sum_bands _ n r)
  exact Finset.sum_congr rfl fun b _ => shareV_eq m c h b _ d

/-- The kernel's queries' gradient. -/
theorem tailQ (c : Dev nD) (n : Fin 16) (r : Fin 128) (h g : Fin 4) (d : Fin 64) :
    Pipeline.afterTail₀ cfgs (dats m) 0 (V0 m) [hostOps1] c main_v11 (ix2 (Band.row n r) (Band.col h g d)) = (arrays m c).dq n r h g d := by
  have e : Pipeline.afterTail₀ cfgs (dats m) 0 (V0 m) [hostOps1] c main_v11 = shapeCast S2048x1024 (transpose S2048x4x4x64 [2, 0, 1, 3] ((dats m 0 c).arrAt 7 cfg0.N) transposes_S4x4x2048x64_S2048x4x4x64_2_0_1_3) shapeCasts_S2048x4x4x64_S2048x1024 := by
    unfold Pipeline.afterTail₀
    show StableHlo.after hostOps1 _ (Proc.devRef .tc main_v11) = _
    unfold hostOps1
    after_results
    exact congrArg (fun z => shapeCast S2048x1024 (transpose S2048x4x4x64 [2, 0, 1, 3] z transposes_S4x4x2048x64_S2048x4x4x64_2_0_1_3) shapeCasts_S2048x4x4x64_S2048x1024) (array_after m c 7)
  rw [e, final7]
  pointwise
  have e1 : (256 * h.val + 64 * g.val + d.val) / 256 = h.val := by omega
  have e2 : (256 * h.val + 64 * g.val + d.val) / 64 % 4 = g.val := by omega
  have e3 : (256 * h.val + 64 * g.val + d.val) % 64 = d.val := by omega
  simp only [Band.col, e1, e2, e3]
  exact headsQ_apply m c n r h g d

/-- The kernel's keys' gradient. -/
theorem tailK (c : Dev nD) (n : Fin 16) (r : Fin 128) (h : Fin 4) (d : Fin 64) :
    Pipeline.afterTail₀ cfgs (dats m) 0 (V0 m) [hostOps1] c main_v14 (ix2 (Band.row n r) (Band.kcol h d))
      = Band.joined (fun b s => (arrays m c).dkBand h b s d) n r := by
  have e : Pipeline.afterTail₀ cfgs (dats m) 0 (V0 m) [hostOps1] c main_v14 = shapeCast S2048x256 (transpose S2048x4x64 [1, 0, 2] (extractStridedSlice S4x2048x64 ![0, 128, 0] ((dats m 0 c).arrAt 8 cfg0.N) slices_S4x2176x64_S4x2048x64_0_128_0) transposes_S4x2048x64_S2048x4x64_1_0_2) shapeCasts_S2048x4x64_S2048x256 := by
    unfold Pipeline.afterTail₀
    show StableHlo.after hostOps1 _ (Proc.devRef .tc main_v14) = _
    unfold hostOps1
    after_results
    exact congrArg (fun z => shapeCast S2048x256 (transpose S2048x4x64 [1, 0, 2] (extractStridedSlice S4x2048x64 ![0, 128, 0] z slices_S4x2176x64_S4x2048x64_0_128_0) transposes_S4x2048x64_S2048x4x64_1_0_2) shapeCasts_S2048x4x64_S2048x256) (array_after m c 8)
  rw [e, final8]
  pointwise
  have e1 : (64 * h.val + d.val) / 64 = h.val := by omega
  have e2 : (64 * h.val + d.val) % 64 = d.val := by omega
  simp only [Band.kcol, e1, e2]
  exact paddedK_apply m c n r h d

/-- The kernel's values' gradient. -/
theorem tailV (c : Dev nD) (n : Fin 16) (r : Fin 128) (h : Fin 4) (d : Fin 64) :
    Pipeline.afterTail₀ cfgs (dats m) 0 (V0 m) [hostOps1] c main_v17 (ix2 (Band.row n r) (Band.kcol h d))
      = Band.joined (fun b s => (arrays m c).dvBand h b s d) n r := by
  have e : Pipeline.afterTail₀ cfgs (dats m) 0 (V0 m) [hostOps1] c main_v17 = shapeCast S2048x256 (transpose S2048x4x64 [1, 0, 2] (extractStridedSlice S4x2048x64 ![0, 128, 0] ((dats m 0 c).arrAt 9 cfg0.N) slices_S4x2176x64_S4x2048x64_0_128_0) transposes_S4x2048x64_S2048x4x64_1_0_2) shapeCasts_S2048x4x64_S2048x256 := by
    unfold Pipeline.afterTail₀
    show StableHlo.after hostOps1 _ (Proc.devRef .tc main_v17) = _
    unfold hostOps1
    after_results
    exact congrArg (fun z => shapeCast S2048x256 (transpose S2048x4x64 [1, 0, 2] (extractStridedSlice S4x2048x64 ![0, 128, 0] z slices_S4x2176x64_S4x2048x64_0_128_0) transposes_S4x2048x64_S2048x4x64_1_0_2) shapeCasts_S2048x4x64_S2048x256) (array_after m c 9)
  rw [e, final9]
  pointwise
  have e1 : (64 * h.val + d.val) / 64 = h.val := by omega
  have e2 : (64 * h.val + d.val) % 64 = d.val := by omega
  simp only [Band.kcol, e1, e2]
  exact paddedV_apply m c n r h d

/-- The kernel's sinks' gradient. -/
theorem tailS (c : Dev nD) (h g : Fin 4) :
    Pipeline.afterTail₀ cfgs (dats m) 0 (V0 m) [hostOps1] c main_v18 (ix1 (Band.sinkAt h g)) = (arrays m c).dsink h g := by
  have e : Pipeline.afterTail₀ cfgs (dats m) 0 (V0 m) [hostOps1] c main_v18 = shapeCast S16 ((dats m 0 c).arrAt 10 cfg0.N) shapeCasts_S4x4x1x1_S16 := by
    unfold Pipeline.afterTail₀
    show StableHlo.after hostOps1 _ (Proc.devRef .tc main_v18) = _
    unfold hostOps1
    after_results
    exact congrArg (fun z => shapeCast S16 z shapeCasts_S4x4x1x1_S16) (array_after m c 10)
  rw [e, final10]
  pointwise
  have e1 : (4 * h.val + g.val) / 4 = h.val := by omega
  have e2 : (4 * h.val + g.val) % 4 = g.val := by omega
  simp only [Band.sinkAt, e1, e2]
  rfl

end Cert.KernelIdeal.Blk

end
-- ==== Proof.Ref.lean ====
module

public import proofs.«01_k».proof.Proof.Data
public import proofs.«01_k».proof.Proof.Gen.ReferenceIdeal.Read
public import Idealize.ShloMosaic.Lib.TwoAxisContraction
public import Idealize.ShloMosaic.Lib.KernelVsHost

@[expose] public section

noncomputable section

namespace Cert.ReferenceIdeal.At

open Idealize.ShloMosaic Idealize.SL.Sem Cert.ReferenceIdeal Cert.ReferenceIdeal.Gen Cert.ReferenceIdeal.Read

variable (x0 : (⟨S2048x1024, .f32⟩ : BufTy).Contents (Elt Ideal)) (x1 x2 : (⟨S2048x256, .f32⟩ : BufTy).Contents (Elt Ideal))
  (x3 : (⟨S16, .f32⟩ : BufTy).Contents (Elt Ideal)) (x4 : (⟨S2048x1024, .bf16⟩ : BufTy).Contents (Elt Ideal))

/-- The arguments read at their rows and columns. -/
def arr : Band.Arrays where
  q i j := x0 (ix2 i j)
  k i j := x1 (ix2 i j)
  v i j := x2 (ix2 i j)
  sinks i := x3 (ix1 i)
  ct i j := x4 (ix2 i j)

/-- The queries by blocks, groups and heads. -/
theorem v0_at (i : S16x128x4x4x64.Idx) :
    val_main_v0 (F := Ideal) x0 i = (arr x0 x1 x2 x3 x4).q (Band.row (i 0) (i 1)) (Band.col (i 2) (i 3) (i 4)) := by
  rw [val_main_v0_apply]
  refine congrArg x0 (funext fun a => ?_)
  have h0 : (i 0).val < 16 := (i 0).isLt
  have h1 : (i 1).val < 128 := (i 1).isLt
  have h2 : (i 2).val < 4 := (i 2).isLt
  have h3 : (i 3).val < 4 := (i 3).isLt
  have h4 : (i 4).val < 64 := (i 4).isLt
  fin_cases a
  · exact Fin.ext (by simp only [idx_main_v0, Band.row, ix2]; omega)
  · exact Fin.ext (by simp only [idx_main_v0, Band.col, ix2]; omega)

/-- A band of a padded array's rows: the second half of a block's band is the block itself. -/
theorem band_rows (A : Fin 2048 → Fin 256 → EReal) (n : Fin 16) (s : Fin 256) (h : Fin 4) (d : Fin 64) :
    (if _ : s.val < 128 then if hz : n.val * 128 + s.val < 128 then (0 : EReal)
        else A ⟨n.val * 128 + s.val - 128, by omega⟩ ⟨h.val * 64 + d.val, by omega⟩
      else if hz : (1 + n.val) * 128 + (s.val - 128) < 128 then 0
        else A ⟨(1 + n.val) * 128 + (s.val - 128) - 128, by omega⟩ ⟨h.val * 64 + d.val, by omega⟩)
      = Band.padded A h n s d := by
  have e : (⟨h.val * 64 + d.val, by omega⟩ : Fin 256) = Band.kcol h d := Fin.ext (by simp only [Band.kcol]; omega)
  unfold Band.padded
  simp only [e]
  split
  · split
    · rw [dif_pos (by omega)]
    · rw [dif_neg (by omega)]
      exact congrArg (A · _) (Fin.ext (by simp only []; omega))
  · rw [dif_neg (by omega), dif_neg (by omega)]
    exact congrArg (A · _) (Fin.ext (by simp only []; omega))

/-- The bands of the keys. -/
theorem v7_at (i : S16x256x4x64.Idx) :
    val_main_v7 (F := Ideal) x1 i = Band.padded (arr x0 x1 x2 x3 x4).k (i 2) (i 0) (i 1) (i 3) := by
  obtain ⟨n, s, h, d, rfl⟩ : ∃ (n : Fin 16) (s : Fin 256) (h : Fin 4) (d : Fin 64), i = ix4 n s h d := ⟨_, _, _, _, ValueIdx.eq_ix4 i⟩
  unfold val_main_v7 val_main_v5 val_main_v6 val_main_v4 val_main_v2 val_main_v1 val_main_cst
  pointwise
  exact band_rows (fun i j => x1 (ix2 i j)) n s h d

/-- The bands of the values. -/
theorem v14_at (i : S16x256x4x64.Idx) :
    val_main_v14 (F := Ideal) x2 i = Band.padded (arr x0 x1 x2 x3 x4).v (i 2) (i 0) (i 1) (i 3) := by
  obtain ⟨n, s, h, d, rfl⟩ : ∃ (n : Fin 16) (s : Fin 256) (h : Fin 4) (d : Fin 64), i = ix4 n s h d := ⟨_, _, _, _, ValueIdx.eq_ix4 i⟩
  unfold val_main_v14 val_main_v12 val_main_v13 val_main_v11 val_main_v9 val_main_v8 val_main_cst_1
  pointwise
  exact band_rows (fun i j => x2 (ix2 i j)) n s h d

/-- Which rows of a band a query sees. -/
theorem seen_at (i : S16x4x4x128x256.Idx) : val_main_v50_1 (F := Ideal) i = Band.seen (i 0) (i 3) (i 4) := by
  simp only [val_main_v50_1_apply, val_main_v49_apply, val_main_v48_apply, val_main_v47_apply, val_main_v46_apply, val_main_v45_apply,
    val_main_v44_apply, val_main_v43_apply, val_main_v42_apply, val_main_v41_apply, val_main_v40_apply, val_main_v39_apply, val_main_v38_apply,
    val_main_v37_apply, val_main_v36_apply, val_main_v35_apply, val_main_v34_apply, val_main_v33_apply, val_main_v32_apply, val_main_v31_apply,
    val_main_v30_apply, val_main_v29_apply, val_main_v28_apply, val_main_v27_apply, val_main_v26_apply, val_main_v25_apply, val_main_v24_apply,
    val_main_v23_apply, val_main_v22_apply, val_main_v21_apply, val_main_v20_apply, val_main_v19_apply, val_main_c_apply, val_main_c_4_apply,
    val_main_c_5_apply, val_main_c_6_apply, val_main_c_7_apply, val_main_c_8_apply]
  rw [KernelIdeal.Blk.window_word (i 3) (i 4)]
  refine (congrArg (IntOp.andi _) (KernelIdeal.Blk.inside_word (i 0) (i 4))).trans ?_
  unfold Band.seen
  split <;> split <;> split <;> first | rfl | (exfalso; omega)

/-- The word for minus infinity. -/
theorem bot_word : (FloatOps.ofBits (F := Ideal) FTy.f32 0xFF800000#32) = (⊥ : EReal) := by
  simp [Ideal.ofBits, Ideal.ieee]

/-- The word for zero. -/
theorem zero_word : (FloatOps.ofBits (F := Ideal) FTy.f32 0x00000000#32) = (0 : EReal) := Ideal.ofBits_zero_f32

/-- The word for one. -/
theorem one_word : (FloatOps.ofBits (F := Ideal) FTy.f32 0x3F800000#32) = (1 : EReal) := Ideal.ofBits_one_f32

/-- A row of the scores' maxima, its last axis of length one dropped. -/
theorem drop_last (i : S16x4x4x128x1.Idx) : idx_main_v106 i = idx_main_v58 i := funext fun a => by
  have h0 : (i 0).val < 16 := (i 0).isLt
  have h1 : (i 1).val < 4 := (i 1).isLt
  have h2 : (i 2).val < 4 := (i 2).isLt
  have h3 : (i 3).val < 128 := (i 3).isLt
  have h4 : (i 4).val < 1 := (i 4).isLt
  fin_cases a
  · exact Fin.ext (by simp only [idx_main_v106, idx_main_v58]; omega)
  · exact Fin.ext (by simp only [idx_main_v106, idx_main_v58]; omega)
  · exact Fin.ext (by simp only [idx_main_v106, idx_main_v58]; omega)
  · exact Fin.ext (by simp only [idx_main_v106, idx_main_v58]; omega)

/-- The masked scores. -/
theorem score_at (i : S16x4x4x128x256.Idx) :
    val_main_v50_0 (F := Ideal) x0 x1 i = ((arr x0 x1 x2 x3 x4).head (i 1) (i 0) (i 2)).score (i 3) (i 4) := by
  rw [val_main_v50_0_apply, seen_at, val_main_v18_apply, val_main_v16_apply, val_main_v15_apply]
  simp only [v7_at x0 x1 x2 x3 x4, v0_at x0 x1 x2 x3 x4, val_main_v17_apply, val_main_cst_3_apply, val_main_call0_v2_apply,
    val_main_call0_v0_apply, val_main_cst_9_apply]
  unfold Band.Head.score
  exact congrArg₂ (Scalar.select _) (congrArg (fun z : EReal => z * Band.eighth) (Finset.sum_congr rfl fun d _ => mul_comm _ _)) bot_word

/-- The largest masked score. -/
theorem rowmax_at (i : S16x4x4x128.Idx) :
    val_main_v52 (F := Ideal) x0 x1 i
      = Finset.univ.fold max ⊥ (((arr x0 x1 x2 x3 x4).head (i 1) (i 0) (i 2)).score (i 3)) := by
  unfold val_main_v52 val_main_cst_10
  rw [hostReduce_maximumf_eq_multiReduction _ _ _ _ (by decide) (by decide) (by decide), Ideal.multiReduction_maximumf_single, bot_word]
  refine congrArg (Finset.univ.fold max ⊥) (funext fun s => ?_)
  exact score_at x0 x1 x2 x3 x4 _

/-- The reference's sinks. -/
theorem sink_at (i : S1x4x4x1x1.Idx) : val_main_v51 (F := Ideal) x3 i = (arr x0 x1 x2 x3 x4).sinks (Band.sinkAt (i 1) (i 2)) := by
  rw [val_main_v51_apply]
  refine congrArg x3 (funext fun a => ?_)
  have h0 : (i 0).val < 1 := (i 0).isLt
  have h1 : (i 1).val < 4 := (i 1).isLt
  have h2 : (i 2).val < 4 := (i 2).isLt
  have h3 : (i 3).val < 1 := (i 3).isLt
  have h4 : (i 4).val < 1 := (i 4).isLt
  fin_cases a
  exact Fin.ext (by simp only [idx_main_v51, Band.sinkAt, ix1]; omega)

/-- The maximum of a row's scores, in the reference. -/
theorem top_at (i : S16x4x4x128x1.Idx) :
    val_main_v60 (F := Ideal) x0 x1 x3 i = ((arr x0 x1 x2 x3 x4).head (i 1) (i 0) (i 2)).top (i 3) := by
  rw [val_main_v60_apply, val_main_v58_apply, val_main_v59_apply, rowmax_at x0 x1 x2 x3 x4, sink_at x0 x1 x2 x3 x4]
  rfl

/-- The exponentials, in the reference. -/
theorem p_at (i : S16x4x4x128x256.Idx) :
    val_main_v81 (F := Ideal) x0 x1 x3 i = ((arr x0 x1 x2 x3 x4).head (i 1) (i 0) (i 2)).p (i 3) (i 4) := by
  rw [val_main_v81_apply, val_main_v80_apply, val_main_v79_apply, top_at x0 x1 x2 x3 x4, score_at x0 x1 x2 x3 x4]
  rfl

/-- The sink's exponential, in the reference. -/
theorem e_at (i : S16x4x4x128x1.Idx) :
    val_main_v86 (F := Ideal) x0 x1 x3 i = ((arr x0 x1 x2 x3 x4).head (i 1) (i 0) (i 2)).e (i 3) := by
  rw [val_main_v86_apply, val_main_v85_apply, val_main_v84_apply, top_at x0 x1 x2 x3 x4, sink_at x0 x1 x2 x3 x4]
  rfl

/-- A row's denominator, in the reference. -/
theorem den_at (i : S16x4x4x128x1.Idx) :
    val_main_v87 (F := Ideal) x0 x1 x3 i = ((arr x0 x1 x2 x3 x4).head (i 1) (i 0) (i 2)).den (i 3) := by
  rw [val_main_v87_apply, val_main_v83_apply, val_main_v82_apply, e_at x0 x1 x2 x3 x4]
  simp only [p_at x0 x1 x2 x3 x4, val_main_cst_18_apply]
  rw [zero_word, zero_add]
  rfl

/-- The probabilities, in the reference. -/
theorem pr_at (i : S16x4x4x128x256.Idx) :
    val_main_v89 (F := Ideal) x0 x1 x3 i = ((arr x0 x1 x2 x3 x4).head (i 1) (i 0) (i 2)).pr (i 3) (i 4) := by
  rw [val_main_v89_apply, val_main_v88_apply, den_at x0 x1 x2 x3 x4, p_at x0 x1 x2 x3 x4]
  rfl

/-- The cotangent by heads, in the reference. -/
theorem ct_at (i : S16x4x64x4x128.Idx) :
    val_main_v98 (F := Ideal) x4 i = (arr x0 x1 x2 x3 x4).ct (Band.row (i 0) (i 4)) (Band.col (i 1) (i 3) (i 2)) := by
  rw [val_main_v98_apply, val_main_v97_apply, val_main_v96_apply]
  refine congrArg x4 (funext fun a => ?_)
  have h0 : (i 0).val < 16 := (i 0).isLt
  have h1 : (i 1).val < 4 := (i 1).isLt
  have h2 : (i 2).val < 64 := (i 2).isLt
  have h3 : (i 3).val < 4 := (i 3).isLt
  have h4 : (i 4).val < 128 := (i 4).isLt
  fin_cases a
  · exact Fin.ext (by simp only [idx_main_v97, idx_main_v98, Band.row, ix2]; omega)
  · exact Fin.ext (by simp only [idx_main_v97, idx_main_v98, Band.col, ix2]; omega)

/-- The probabilities' cotangent, in the reference. -/
theorem dP_at (i : S16x4x4x128x256.Idx) :
    val_main_v99 (F := Ideal) x2 x4 i = ((arr x0 x1 x2 x3 x4).head (i 1) (i 0) (i 2)).dP (i 3) (i 4) := by
  rw [val_main_v99_apply]
  simp only [ct_at x0 x1 x2 x3 x4, v14_at x0 x1 x2 x3 x4]
  rfl

/-- The denominator's cotangent, in the reference. -/
theorem dd_at (i : S16x4x4x128x1.Idx) :
    val_main_v107 (F := Ideal) x0 x1 x2 x3 x4 i = ((arr x0 x1 x2 x3 x4).head (i 1) (i 0) (i 2)).dd (i 3) := by
  rw [val_main_v107_apply, val_main_v106_apply, drop_last, val_main_v105_apply]
  simp only [val_main_v104_apply, val_main_v103_apply, val_main_v102_apply, val_main_v92_apply, val_main_v91_apply, val_main_v90_apply,
    val_main_cst_19_apply, val_main_cst_20_apply, p_at x0 x1 x2 x3 x4, den_at x0 x1 x2 x3 x4, dP_at x0 x1 x2 x3 x4]
  rw [zero_word, zero_add, one_word]
  rfl

end Cert.ReferenceIdeal.At

end
-- ==== Proof.RefBack.lean ====
module

public import proofs.«01_k».proof.Proof.Ref

@[expose] public section

noncomputable section

namespace Cert.ReferenceIdeal.At

open Idealize.ShloMosaic Idealize.SL.Sem Cert.ReferenceIdeal Cert.ReferenceIdeal.Gen Cert.ReferenceIdeal.Read

variable (x0 : (⟨S2048x1024, .f32⟩ : BufTy).Contents (Elt Ideal)) (x1 x2 : (⟨S2048x256, .f32⟩ : BufTy).Contents (Elt Ideal))
  (x3 : (⟨S16, .f32⟩ : BufTy).Contents (Elt Ideal)) (x4 : (⟨S2048x1024, .bf16⟩ : BufTy).Contents (Elt Ideal))

/-- The cotangent of the masked scores that does not come through their maximum. -/
theorem dscore_at (i : S16x4x4x128x256.Idx) :
    val_main_v117 (F := Ideal) x0 x1 x2 x3 x4 i = ((arr x0 x1 x2 x3 x4).head (i 1) (i 0) (i 2)).dscore (i 3) (i 4) := by
  rw [val_main_v117_apply, val_main_v116_apply, val_main_v115_apply, val_main_v114_apply, val_main_v109_apply, val_main_v108_apply]
  simp only [dd_at x0 x1 x2 x3 x4, p_at x0 x1 x2 x3 x4, den_at x0 x1 x2 x3 x4, dP_at x0 x1 x2 x3 x4, val_main_cst_22_apply]
  rw [zero_word, zero_add, Fin.sum_univ_one]
  rfl

/-- The cotangent of the maximum. -/
theorem dtop_at (i : S16x4x4x128x1.Idx) :
    val_main_v121 (F := Ideal) x0 x1 x2 x3 x4 i = ((arr x0 x1 x2 x3 x4).head (i 1) (i 0) (i 2)).dtop (i 3) := by
  rw [val_main_v121_apply, val_main_v120_apply, show idx_main_v120 i = idx_main_v106 i from rfl, drop_last, val_main_v119_apply,
    val_main_v113_apply, val_main_v110_apply]
  simp only [dd_at x0 x1 x2 x3 x4, e_at x0 x1 x2 x3 x4, dscore_at, val_main_v118_apply, val_main_cst_23_apply]
  rw [zero_word, zero_add]
  rfl

/-- Where the maximum is attained, as a number. -/
theorem attained (i : S16x4x4x128x256.Idx) : val_main_v56 (F := Ideal) x0 x1 i = (0 : EReal) ∨ val_main_v56 (F := Ideal) x0 x1 i = (1 : EReal) := by
  rw [val_main_v56_apply]
  rcases Band.Head.bit_cases (val_main_v55 (F := Ideal) x0 x1 i) with h | h
  · right
    rw [h]
    show (((1#1 : BitVec 1).toNat : ℝ) : EReal) = 1
    simp
  · left
    rw [h]
    show (((0#1 : BitVec 1).toNat : ℝ) : EReal) = 0
    simp

/-- Over the reals nothing reaches the maximum. -/
theorem dtop_zero_at (hfin : ∀ h n g, ((arr x0 x1 x2 x3 x4).head h n g).Finite) (i : S16x4x4x128x1.Idx) :
    val_main_v121 (F := Ideal) x0 x1 x2 x3 x4 i = (0 : EReal) :=
  (dtop_at x0 x1 x2 x3 x4 i).trans (Band.Head.dtop_zero (hfin _ _ _) _)

variable (hfin : ∀ h n g, ((arr x0 x1 x2 x3 x4).head h n g).Finite)
include hfin

/-- Nothing reaches the scores through their maximum. -/
theorem extra_at (i : S16x4x4x128x256.Idx) : val_main_v130 (F := Ideal) x0 x1 x2 x3 x4 i = (0 : EReal) := by
  have h127 : ∀ j, val_main_v127 (F := Ideal) x0 x1 x2 x3 x4 j = (0 : EReal) := fun j => by
    rw [val_main_v127_apply, Fin.sum_univ_one, val_main_v126_apply, dtop_zero_at x0 x1 x2 x3 x4 hfin, val_main_cst_25_apply, zero_word, zero_add]
    exact zero_mul _
  rw [val_main_v130_apply]
  rcases attained x0 x1 i with h | h
  · rw [h]
    exact mul_zero _
  · rw [val_main_v129_apply, val_main_v128_apply, h127]
    have hc : val_main_v57 (F := Ideal) x0 x1 (idx_main_v129 i) ≠ (0 : EReal) := by
      rw [val_main_v57_apply, val_main_cst_11_apply, zero_word, zero_add]
      have h1 : (1 : EReal) ≤ ∑ k : Fin 256, val_main_v56 (F := Ideal) x0 x1 (idx_main_v57 (idx_main_v129 i) k) := by
        have e : idx_main_v57 (idx_main_v129 i) (i 4) = i := funext fun a => by fin_cases a <;> rfl
        refine le_trans (le_of_eq ?_) (Finset.single_le_sum (f := fun k : Fin 256 => (val_main_v56 (F := Ideal) x0 x1 (idx_main_v57 (idx_main_v129 i) k) : EReal))
          (fun k _ => ?_) (Finset.mem_univ (i 4 : Fin 256)))
        · rw [e, h]
        · rcases attained x0 x1 (idx_main_v57 (idx_main_v129 i) k) with h | h
          · exact le_of_eq h.symm
          · exact le_of_le_of_eq zero_le_one h.symm
      exact ne_of_gt (lt_of_lt_of_le zero_lt_one h1)
    show Ideal.div 0 _ * _ = (0 : EReal)
    rw [Ideal.div, if_neg hc, zero_mul, zero_mul]

/-- The cotangent of the products of queries and keys. -/
theorem ds_at (i : S16x4x4x128x256.Idx) :
    val_main_v135 (F := Ideal) x0 x1 x2 x3 x4 i = ((arr x0 x1 x2 x3 x4).head (i 1) (i 0) (i 2)).ds (i 3) (i 4) := by
  rw [val_main_v135_apply, val_main_v133_apply, val_main_v131_apply, extra_at x0 x1 x2 x3 x4 hfin, dscore_at, seen_at, val_main_v134_apply]
  show Scalar.select _ (_ + (0 : EReal)) (FloatOps.ofBits (F := Ideal) FTy.f32 0x00000000#32) * Band.eighth = _
  rw [add_zero, zero_word]
  unfold Band.Head.ds
  rcases Band.Head.bit_cases (Band.seen (i 0) (i 3) (i 4)) with h | h
  · rw [show ((arr x0 x1 x2 x3 x4).head (i 1) (i 0) (i 2)).ok (i 3) (i 4) = 1#1 from h, h]
    rfl
  · rw [show ((arr x0 x1 x2 x3 x4).head (i 1) (i 0) (i 2)).ok (i 3) (i 4) = 0#1 from h, h]
    exact zero_mul _

/-- The reference's gradient of the queries. -/
theorem dq_at (n : Fin 16) (r : Fin 128) (h g : Fin 4) (d : Fin 64) :
    val_main_v157 (F := Ideal) x0 x1 x2 x3 x4 (ix2 (Band.row n r) (Band.col h g d)) = (arr x0 x1 x2 x3 x4).dq n r h g d := by
  have e : idx_main_v157 (ix2 (Band.row n r) (Band.col h g d)) = ix5 n r h g d := funext fun a => by
    have hn := n.isLt
    have hr := r.isLt
    have hh := h.isLt
    have hg := g.isLt
    have hd := d.isLt
    fin_cases a
    · exact Fin.ext (by simp only [idx_main_v157, Band.row, Band.col, ix2, ix5]; omega)
    · exact Fin.ext (by simp only [idx_main_v157, Band.row, Band.col, ix2, ix5]; omega)
    · exact Fin.ext (by simp only [idx_main_v157, Band.row, Band.col, ix2, ix5]; omega)
    · exact Fin.ext (by simp only [idx_main_v157, Band.row, Band.col, ix2, ix5]; omega)
    · exact Fin.ext (by simp only [idx_main_v157, Band.row, Band.col, ix2, ix5]; omega)
  rw [val_main_v157_apply, e, val_main_v138_apply, val_main_v137_apply]
  simp only [val_main_v136_apply, ds_at x0 x1 x2 x3 x4 hfin, v7_at x0 x1 x2 x3 x4]
  rfl

omit hfin in
/-- Two halves of the bands' rows, padded to seventeen blocks and added, read at a row of the sequence. -/
theorem joined_at (Y : FVec Ideal S16x256x4x64 .f32) (n : Fin 16) (r : Fin 128) (h : Fin 4) (d : Fin 64) :
    (extractStridedSlice S2048x256 ![128, 0]
      (shapeCast S2176x256 (addf (F := Ideal) (φ := .f32)
        (pad S17x128x4x64 ![1, 0, 0, 0] ![0, 0, 0, 0] ![0, 0, 0, 0] (extractStridedSlice S16x128x4x64 ![0, 128, 0, 0] Y slices_S16x256x4x64_S16x128x4x64_0_128_0_0)
          (constant S_ .f32 0x00000000#32) pads_S16x128x4x64_S17x128x4x64_100_000_000_000 h_S_)
        (pad S17x128x4x64 ![0, 0, 0, 0] ![1, 0, 0, 0] ![0, 0, 0, 0] (extractStridedSlice S16x128x4x64 ![0, 0, 0, 0] Y slices_S16x256x4x64_S16x128x4x64_0_0_0_0)
          (constant S_ .f32 0x00000000#32) pads_S16x128x4x64_S17x128x4x64_010_000_000_000 h_S_))
        shapeCasts_S17x128x4x64_S2176x256) slices_S2176x256_S2048x256_128_0 : FVec Ideal S2048x256 .f32) (ix2 (Band.row n r) (Band.kcol h d))
      = Band.joined (fun b s => Y (ix4 b s h d)) n r := by
  pointwise
  have e1 : (128 + (128 * n.val + r.val)) / 128 = n.val + 1 := by omega
  have e2 : (128 + (128 * n.val + r.val)) % 128 = r.val := by omega
  have e3 : (64 * h.val + d.val) / 64 = h.val := by omega
  have e4 : (64 * h.val + d.val) % 64 = d.val := by omega
  simp only [Band.row, Band.kcol, e1, e2, e3, e4]
  unfold Band.joined
  refine congrArg₂ (fun x y : EReal => x + y) ?_ ?_
  · rw [dif_pos (by omega)]
    rfl
  · by_cases hn : n.val + 1 < 16
    · refine (dif_pos ⟨hn, r.isLt, h.isLt, d.isLt⟩).trans (Eq.trans ?_ (dif_pos hn).symm)
      rfl
    · rw [dif_neg (by omega), dif_neg hn]

omit hfin in
/-- The bands' gradient of the values. -/
theorem dvBand_at (n : Fin 16) (s : Fin 256) (h : Fin 4) (d : Fin 64) :
    val_main_v101 (F := Ideal) x0 x1 x3 x4 (ix4 n s h d) = (arr x0 x1 x2 x3 x4).dvBand h n s d := by
  rw [val_main_v101_apply]
  unfold val_main_v100 Band.Arrays.dvBand
  simp only [Host.dotGeneral]
  rw [Ideal.dotGeneral_apply, ValueIdx.sum_contr2 dot_S16x4x64x4x128_S16x4x4x128x256_S16x4x64x256_34_23_2_4_01_01 4 128 rfl rfl rfl]
  refine Finset.sum_congr rfl fun g _ => Finset.sum_congr rfl fun r _ => ?_
  rw [ct_at x0 x1 x2 x3 x4, pr_at x0 x1 x2 x3 x4]
  rfl

/-- The bands' gradient of the keys. -/
theorem dkBand_at (n : Fin 16) (s : Fin 256) (h : Fin 4) (d : Fin 64) :
    val_main_v140 (F := Ideal) x0 x1 x2 x3 x4 (ix4 n s h d) = (arr x0 x1 x2 x3 x4).dkBand h n s d := by
  rw [val_main_v140_apply]
  unfold val_main_v139 Band.Arrays.dkBand
  simp only [Host.dotGeneral]
  rw [Ideal.dotGeneral_apply, ValueIdx.sum_contr2 dot_S16x4x256x128x4_S16x128x4x4x64_S16x4x256x64_34_13_2_4_01_02 128 4 rfl rfl rfl, Finset.sum_comm]
  refine Finset.sum_congr rfl fun g _ => Finset.sum_congr rfl fun r _ => ?_
  rw [val_main_v136_apply, ds_at x0 x1 x2 x3 x4 hfin, v0_at x0 x1 x2 x3 x4]
  rfl

omit hfin in
/-- The reference's gradient of the values. -/
theorem dv_at (n : Fin 16) (r : Fin 128) (h : Fin 4) (d : Fin 64) :
    val_main_v148 (F := Ideal) x0 x1 x3 x4 (ix2 (Band.row n r) (Band.kcol h d))
      = Band.joined (fun b s => (arr x0 x1 x2 x3 x4).dvBand h b s d) n r := by
  refine (joined_at (val_main_v101 (F := Ideal) x0 x1 x3 x4) n r h d).trans ?_
  exact congrArg (fun D => Band.joined D n r) (funext fun b => funext fun s => dvBand_at x0 x1 x2 x3 x4 b s h d)

/-- The reference's gradient of the keys. -/
theorem dk_at (n : Fin 16) (r : Fin 128) (h : Fin 4) (d : Fin 64) :
    val_main_v156 (F := Ideal) x0 x1 x2 x3 x4 (ix2 (Band.row n r) (Band.kcol h d))
      = Band.joined (fun b s => (arr x0 x1 x2 x3 x4).dkBand h b s d) n r := by
  refine (joined_at (val_main_v140 (F := Ideal) x0 x1 x2 x3 x4) n r h d).trans ?_
  exact congrArg (fun D => Band.joined D n r) (funext fun b => funext fun s => dkBand_at x0 x1 x2 x3 x4 hfin b s h d)

omit hfin in
/-- A sum over the blocks and their rows. -/
theorem sum_rows (x : FVec Ideal S16x4x4x128x1 .f32) (h g : Fin 4) :
    (Host.reduceAdd x (constant S_ .f32 0x00000000#32) reducesTo_S16x4x4x128x1_S4x4x1_d0_3 h_S_ : FVec Ideal S4x4x1 .f32) (ix3 h g 0)
      = ∑ n : Fin 16, ∑ r : Fin 128, (x (ix5 n h g r 0) : EReal) := by
  rw [ValueIdx.hostReduceAdd_apply]
  unfold Ideal.hostReduceAdd
  rw [show (constant (F := Ideal) S_ .f32 0x00000000#32) (Shape.Idx.first h_S_) = (0 : EReal) from zero_word, zero_add,
    ← Finset.sum_product']
  have back : ∀ i : S16x4x4x128x1.Idx, reducesTo_S16x4x4x128x1_S4x4x1_d0_3.drop i = ix3 h g 0 → ix5 (i 0) h g (i 3) 0 = i := fun i hi => by
    funext a
    fin_cases a
    · rfl
    · exact (congrFun hi 0).symm
    · exact (congrFun hi 1).symm
    · rfl
    · exact Subsingleton.elim (α := Fin 1) _ _
  refine Finset.sum_nbij' (fun i => ((i 0 : Fin 16), (i 3 : Fin 128))) (fun p => ix5 p.1 h g p.2 0) (fun _ _ => by simp) (fun p _ => ?_)
    (fun i hi => back i (Finset.mem_filter.mp hi).2) (fun _ _ => rfl) (fun i hi => congrArg x (back i (Finset.mem_filter.mp hi).2).symm)
  refine Finset.mem_filter.mpr ⟨Finset.mem_univ _, funext fun b => ?_⟩
  fin_cases b <;> rfl

/-- The reference's gradient of the sinks. -/
theorem dsink_at (h g : Fin 4) :
    val_main_v132 (F := Ideal) x0 x1 x2 x3 x4 (ix1 (Band.sinkAt h g)) = (arr x0 x1 x2 x3 x4).dsink h g := by
  have e : idx_main_v112 (idx_main_v132 (ix1 (Band.sinkAt h g))) = ix3 h g 0 := funext fun a => by
    have hh := h.isLt
    have hg := g.isLt
    fin_cases a
    · exact Fin.ext (by simp only [idx_main_v112, idx_main_v132, Band.sinkAt, ix1, ix3]; omega)
    · exact Fin.ext (by simp only [idx_main_v112, idx_main_v132, Band.sinkAt, ix1, ix3]; omega)
    · exact Subsingleton.elim (α := Fin 1) _ _
  rw [val_main_v132_apply, val_main_v125_apply, val_main_v112_apply, val_main_v124_apply,
    show idx_main_v124 (idx_main_v132 (ix1 (Band.sinkAt h g))) = idx_main_v112 (idx_main_v132 (ix1 (Band.sinkAt h g))) from rfl, e]
  unfold val_main_v111 val_main_v123 val_main_cst_21 val_main_cst_24
  rw [sum_rows, sum_rows]
  have hz : ∑ n : Fin 16, ∑ r : Fin 128, (val_main_v122 (F := Ideal) x0 x1 x2 x3 x4 (ix5 n h g r 0) : EReal) = 0 :=
    Finset.sum_eq_zero fun n _ => Finset.sum_eq_zero fun r _ => by
      rw [val_main_v122_apply, dtop_zero_at x0 x1 x2 x3 x4 hfin]
      exact zero_mul _
  rw [hz]
  refine (add_zero _).trans (Finset.sum_congr rfl fun n _ => Finset.sum_congr rfl fun r _ => ?_)
  rw [val_main_v110_apply, dd_at x0 x1 x2 x3 x4, e_at x0 x1 x2 x3 x4]
  rfl

end Cert.ReferenceIdeal.At

end
-- ==== Proof.Reals.lean ====
module

public import proofs.«01_k».proof.Defs
public import proofs.«01_k».proof.Proof.Bands
public import Idealize.ShloMosaic.Lib.ValueIdx

@[expose] public section

noncomputable section

namespace Cert.Band

open Idealize.ShloMosaic

/-- Every row of the sequence is a row of a block. -/
theorem row_exists (i : Fin 2048) : ∃ n r, i = row n r :=
  ⟨⟨i.val / 128, by omega⟩, ⟨i.val % 128, by omega⟩, Fin.ext (by simp only [row]; omega)⟩

/-- Every column of the queries belongs to a group and a head. -/
theorem col_exists (i : Fin 1024) : ∃ h g d, i = col h g d :=
  ⟨⟨i.val / 256, by omega⟩, ⟨i.val / 64 % 4, by omega⟩, ⟨i.val % 64, by omega⟩, Fin.ext (by simp only [col]; omega)⟩

/-- Every column of the keys belongs to a group. -/
theorem kcol_exists (i : Fin 256) : ∃ h d, i = kcol h d :=
  ⟨⟨i.val / 64, by omega⟩, ⟨i.val % 64, by omega⟩, Fin.ext (by simp only [kcol]; omega)⟩

/-- Every sink belongs to a group and a head. -/
theorem sinkAt_exists (i : Fin 16) : ∃ h g, i = sinkAt h g :=
  ⟨⟨i.val / 4, by omega⟩, ⟨i.val % 4, by omega⟩, Fin.ext (by simp only [sinkAt]; omega)⟩

/-- A padded row of reals is real. -/
theorem padded_real {A : Fin 2048 → Fin 256 → EReal} (hA : ∀ i j, ∃ x : ℝ, A i j = x) (h : Fin 4) (n : Fin 16) (s : Fin 256)
    (d : Fin 64) : ∃ x : ℝ, padded A h n s d = x := by
  unfold padded
  split
  · exact ⟨0, rfl⟩
  · exact hA _ _

/-- Heads of real arrays are real. -/
theorem Arrays.head_finite (X : Arrays) (hq : ∀ i j, ∃ x : ℝ, X.q i j = x) (hk : ∀ i j, ∃ x : ℝ, X.k i j = x)
    (hv : ∀ i j, ∃ x : ℝ, X.v i j = x) (hs : ∀ i, ∃ x : ℝ, X.sinks i = x) (hct : ∀ i j, ∃ x : ℝ, X.ct i j = x)
    (h : Fin 4) (n : Fin 16) (g : Fin 4) : (X.head h n g).Finite where
  q _ _ := hq _ _
  k _ _ := padded_real hk _ _ _ _
  v _ _ := padded_real hv _ _ _ _
  sink := hs _
  ct _ _ := hct _ _

end Cert.Band

namespace Cert.Finite

open Idealize.ShloMosaic

/-- The precondition's side conditions. -/
theorem facts : Cert.Pre_finite.Facts where
  bcast_S_S2048x1024 := by decide
  bcast_S_S2048x256 := by decide
  bcast_S_S16 := by decide
  bitsLt_bf16_f32 := by decide

/-- Above the least and below the greatest extended real lies a real. -/
theorem real_of_between (x : EReal) (h : BitVec.ofBool (decide (Ideal.ofBits .f32 0xFF800000#32 < x)) &&& BitVec.ofBool (decide (x < Ideal.ofBits .f32 0x7F800000#32)) = 1#1) :
    ∃ y : ℝ, x = y := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  induction x with
  | bot => simp at h
  | top => simp at h
  | coe y => exact ⟨y, rfl⟩

end Cert.Finite

end
-- ==== Proof.MlpSpec.lean ====
module

public import Idealize.ShloMosaic.Lib.Pointwise

@[expose] public section

noncomputable section

namespace Cert.Mlp

open Idealize.ShloMosaic

/-- A matrix of extended reals. -/
abbrev Mat (m n : ℕ) := (⟨2, ![m, n]⟩ : Shape).Idx → EReal

variable {m k n : ℕ}

/-- Rows on columns. -/
def mulNN (x : Mat m k) (w : Mat k n) : Mat m n := fun y => ∑ i : Fin k, x (ix2 (y 0) i) * w (ix2 i (y 1))

/-- Rows on rows. -/
def mulNT (x : Mat m k) (w : Mat n k) : Mat m n := fun y => ∑ i : Fin k, x (ix2 (y 0) i) * w (ix2 (y 1) i)

/-- Columns on columns. -/
def mulTN (x : Mat k m) (w : Mat k n) : Mat m n := fun y => ∑ i : Fin k, x (ix2 i (y 0)) * w (ix2 i (y 1))

/-- The squared positive part. -/
def act (x : EReal) : EReal := max x 0 * max x 0

/-- What the squared positive part hands back of a cotangent: a factor for the square, then one for the maximum, which a
    tie halves. -/
def actBack (x dy : EReal) : EReal :=
  dy * (Ideal.ofBits FTy.f32 0x40000000#32 * max x 0)
    * if 0 < x then 1 else if x = 0 then Ideal.ofBits FTy.f32 0x3F000000#32 else 0

/-- The hidden layer: the first product with its bias, then the activation. -/
def hidden (x : Mat m n) (b : Mat 1 n) : Mat m n := fun y => act (x y + b (ix2 0 (y 1)))

/-- The cotangent before the activation. -/
def hiddenBack (x : Mat m n) (b : Mat 1 n) (dy : Mat m n) : Mat m n := fun y => actBack (x y + b (ix2 0 (y 1))) (dy y)

/-- The columns' sums, as a row. -/
def colSum (x : Mat m n) : Mat 1 n := fun y => ∑ i : Fin m, x (ix2 i (y 1))

/-- Four blocks of 512 rows are all the rows. -/
theorem sum_blocks (f : ℕ → EReal) : ∑ n : Fin 4, ∑ r : Fin 512, f (512 * n.val + r.val) = ∑ i : Fin 2048, f i.val := by
  have h := Fintype.sum_equiv (finProdFinEquiv (m := 4) (n := 512)) (fun p => f (512 * p.1.val + p.2.val)) (fun i => f i.val)
    fun p => congrArg f (by simp only [finProdFinEquiv, Equiv.coe_fn_mk]; omega)
  rw [Fintype.sum_prod_type] at h
  exact h

end Cert.Mlp

end
-- ==== Proof.MlpBlock.lean ====
module

public import proofs.«01_k».proof.Proof.Gen.Kernel2Ideal.Skeleton
public import proofs.«01_k».proof.Proof.MlpSpec

@[expose] public section

noncomputable section

namespace Cert.Kernel2Ideal.Mlp

open Idealize.ShloMosaic Idealize.SL.Sem Cert.Kernel2Ideal.Gen Cert.Mlp

/-- A block of the first product: rows of the left operand on columns of the right. -/
theorem ff1_apply (x : Vec Ideal S2048x1024 .bf16) (w : Vec Ideal S1024x2048 .bf16) (r : Fin 2048) (j : Fin 2048) :
    k0_pay1 x w (ix2 r j) = (∑ k : Fin 1024, x (ix2 r k) * w (ix2 k j) : EReal) := by
  unfold k0_pay1
  pointwise

/-- A block of the activation. -/
theorem act_apply (x : Vec Ideal S512x4096 .bf16) (b : Vec Ideal S1x4096 .f32) (r : Fin 512) (j : Fin 4096) :
    k1_pay1 x b (ix2 r j) = act (x (ix2 r j) + b (ix2 0 j)) := by
  unfold k1_pay1
  pointwise
  rfl

/-- A block of the second product. -/
theorem ff2_apply (x : Vec Ideal S2048x4096 .bf16) (w : Vec Ideal S4096x512 .bf16) (r : Fin 2048) (j : Fin 512) :
    k2_pay1 x w (ix2 r j) = (∑ k : Fin 4096, x (ix2 r k) * w (ix2 k j) : EReal) := by
  unfold k2_pay1
  pointwise

/-- A block of the activation's cotangent: rows of the cotangent on rows of the weights. -/
theorem dh_apply (x : Vec Ideal S2048x1024 .bf16) (w : Vec Ideal S2048x1024 .bf16) (r : Fin 2048) (j : Fin 2048) :
    k3_pay1 x w (ix2 r j) = (∑ k : Fin 1024, x (ix2 r k) * w (ix2 j k) : EReal) := by
  unfold k3_pay1
  pointwise

/-- A block of the second weights' gradient: columns of the activation on columns of the cotangent. -/
theorem dw2_apply (x : Vec Ideal S2048x4096 .bf16) (y : Vec Ideal S2048x512 .bf16) (r : Fin 4096) (j : Fin 512) :
    k4_pay1 x y (ix2 r j) = (∑ k : Fin 2048, x (ix2 k r) * y (ix2 k j) : EReal) := by
  unfold k4_pay1
  pointwise

/-- A block of the cotangent before the activation, kept at full width. -/
theorem act_bwd_apply (x : Vec Ideal S512x4096 .bf16) (b : Vec Ideal S1x4096 .f32) (dy : Vec Ideal S512x4096 .bf16)
    (r : Fin 512) (j : Fin 4096) : k5_pay1 x b dy (ix2 r j) = actBack (x (ix2 r j) + b (ix2 0 j)) (dy (ix2 r j)) := by
  unfold k5_pay1
  pointwise
  rfl

/-- The same block as it is stored. -/
theorem act_bwd_stored (x : Vec Ideal S512x4096 .bf16) (b : Vec Ideal S1x4096 .f32) (dy : Vec Ideal S512x4096 .bf16)
    (r : Fin 512) (j : Fin 4096) : k5_pay2 x b dy (ix2 r j) = actBack (x (ix2 r j) + b (ix2 0 j)) (dy (ix2 r j)) := by
  rw [← act_bwd_apply]
  unfold k5_pay2
  pointwise

/-- The bias's gradient starts at zero. -/
theorem db_zero (j : Fin 4096) : k5_pay3 (F := Ideal) (ix2 0 j) = (0 : EReal) := by
  unfold k5_pay3
  pointwise

/-- A block's columns are added to the bias's gradient. -/
theorem db_apply (x : Vec Ideal S512x4096 .bf16) (b : Vec Ideal S1x4096 .f32) (dy : Vec Ideal S512x4096 .bf16)
    (a : Vec Ideal S1x4096 .f32) (j : Fin 4096) : k5_pay4 x b dy a (ix2 0 j)
      = (a (ix2 0 j) + ∑ r : Fin 512, actBack (x (ix2 r j) + b (ix2 0 j)) (dy (ix2 r j)) : EReal) := by
  unfold k5_pay4
  pointwise
  simp only [act_bwd_apply]

/-- A block of the input's gradient. -/
theorem du_apply (x : Vec Ideal S2048x4096 .bf16) (w : Vec Ideal S512x4096 .bf16) (r : Fin 2048) (j : Fin 512) :
    k6_pay1 x w (ix2 r j) = (∑ k : Fin 4096, x (ix2 r k) * w (ix2 j k) : EReal) := by
  unfold k6_pay1
  pointwise

/-- A block of the first weights' gradient. -/
theorem dw1_apply (x : Vec Ideal S2048x1024 .bf16) (y : Vec Ideal S2048x2048 .bf16) (r : Fin 1024) (j : Fin 2048) :
    k7_pay1 x y (ix2 r j) = (∑ k : Fin 2048, x (ix2 k r) * y (ix2 k j) : EReal) := by
  unfold k7_pay1
  pointwise

end Cert.Kernel2Ideal.Mlp

end
-- ==== Proof.MlpRegions.lean ====
module

public import proofs.«01_k».proof.Proof.MlpBlock
public import proofs.«01_k».proof.Proof.Gen.Kernel2Ideal.Frame
public import Idealize.ShloMosaic.Lib.Pipeline.ValueKit

@[expose] public section

noncomputable section

namespace Cert.Kernel2Ideal.Mlp

open Idealize.ShloMosaic Idealize.SL.Sem Cert.Kernel2Ideal.Gen Cert.Mlp

variable (V : (c : Dev nD) → (b : Ref sig .tc) → Buf (Elt Ideal) ((c.tc : Thread nD τ).loc b))

/-- Where window 0 of call 0 lies at a point. -/
theorem index0_0 : ∀ t : Fin cfg0.N, win0_0.index t = ![0, 0] := by decide +kernel
/-- Where window 1 of call 0 lies at a point. -/
theorem index0_1 : ∀ t : Fin cfg0.N, win0_1.index t = ![0, t.val] := by decide +kernel
/-- Where window 2 of call 0 lies at a point. -/
theorem index0_2 : ∀ t : Fin cfg0.N, win0_2.index t = ![0, t.val] := by decide +kernel

/-- The first product after its call. -/
theorem final0 (c : Dev nD) : (dat0 V c).arrAt 2 cfg0.N = mulNN (V c main_arg0) (V c main_arg1) := by
  refine (dat0 V c).arrAt_eq_of_covers 2 _ (by decide +kernel) fun t hf y => ?_
  blk_simp
  rw [after0_2]
  frame_out
  obtain ⟨r, j, rfl⟩ : ∃ r j, y = ix2 r j := ⟨y 0, y 1, eq_ix2 y⟩
  refine (ff1_apply _ _ r j).trans ?_
  have ht : t.val < 2 := t.isLt.trans_eq (by decide +kernel)
  have e : (win0_2.blk t).view.emb (ix2 r j) = ix2 r ⟨2048 * t.val + j.val, by omega⟩ := by
    blk_ext [index0_2]
  rw [e]
  refine Finset.sum_congr rfl fun k _ => congrArg₂ (· * ·) ?_ ?_
  · blk_simp [iblk0]
    blk_ext [index0_0]
  · blk_simp [iblk0]
    blk_ext [index0_1]

/-- Where window 0 of call 1 lies at a point. -/
theorem index1_0 : ∀ t : Fin cfg1.N, win1_0.index t = ![t.val, 0] := by decide +kernel
/-- Where window 1 of call 1 lies at a point. -/
theorem index1_1 : ∀ t : Fin cfg1.N, win1_1.index t = ![0, 0] := by decide +kernel
/-- Where window 2 of call 1 lies at a point. -/
theorem index1_2 : ∀ t : Fin cfg1.N, win1_2.index t = ![t.val, 0] := by decide +kernel

/-- The hidden layer after its call. -/
theorem final1 (c : Dev nD) : (dat1 V c).arrAt 2 cfg1.N = hidden (V c main_v0) (V c main_arg2) := by
  refine (dat1 V c).arrAt_eq_of_covers 2 _ (by decide +kernel) fun t hf y => ?_
  blk_simp
  rw [after1_2]
  frame_out
  obtain ⟨r, j, rfl⟩ : ∃ r j, y = ix2 r j := ⟨y 0, y 1, eq_ix2 y⟩
  refine (act_apply _ _ r j).trans ?_
  have ht : t.val < 4 := t.isLt.trans_eq (by decide +kernel)
  have e : (win1_2.blk t).view.emb (ix2 r j) = ix2 ⟨512 * t.val + r.val, by omega⟩ j := by
    blk_ext [index1_2]
  rw [e]
  refine congrArg act (congrArg₂ (· + ·) ?_ ?_)
  · blk_simp [iblk1]
    blk_ext [index1_0]
  · blk_simp [iblk1]
    blk_ext [index1_1]

/-- Where window 0 of call 2 lies at a point. -/
theorem index2_0 : ∀ t : Fin cfg2.N, win2_0.index t = ![0, 0] := by decide +kernel
/-- Where window 1 of call 2 lies at a point. -/
theorem index2_1 : ∀ t : Fin cfg2.N, win2_1.index t = ![0, t.val] := by decide +kernel
/-- Where window 2 of call 2 lies at a point. -/
theorem index2_2 : ∀ t : Fin cfg2.N, win2_2.index t = ![0, t.val] := by decide +kernel

/-- The second product after its call. -/
theorem final2 (c : Dev nD) : (dat2 V c).arrAt 2 cfg2.N = mulNN (V c main_v1) (V c main_arg3) := by
  refine (dat2 V c).arrAt_eq_of_covers 2 _ (by decide +kernel) fun t hf y => ?_
  blk_simp
  rw [after2_2]
  frame_out
  obtain ⟨r, j, rfl⟩ : ∃ r j, y = ix2 r j := ⟨y 0, y 1, eq_ix2 y⟩
  refine (ff2_apply _ _ r j).trans ?_
  have ht : t.val < 2 := t.isLt.trans_eq (by decide +kernel)
  have e : (win2_2.blk t).view.emb (ix2 r j) = ix2 r ⟨512 * t.val + j.val, by omega⟩ := by
    blk_ext [index2_2]
  rw [e]
  refine Finset.sum_congr rfl fun k _ => congrArg₂ (· * ·) ?_ ?_
  · blk_simp [iblk2]
    blk_ext [index2_0]
  · blk_simp [iblk2]
    blk_ext [index2_1]

/-- Where window 0 of call 3 lies at a point. -/
theorem index3_0 : ∀ t : Fin cfg3.N, win3_0.index t = ![0, 0] := by decide +kernel
/-- Where window 1 of call 3 lies at a point. -/
theorem index3_1 : ∀ t : Fin cfg3.N, win3_1.index t = ![t.val, 0] := by decide +kernel
/-- Where window 2 of call 3 lies at a point. -/
theorem index3_2 : ∀ t : Fin cfg3.N, win3_2.index t = ![0, t.val] := by decide +kernel

/-- The hidden layer's cotangent after its call. -/
theorem final3 (c : Dev nD) : (dat3 V c).arrAt 2 cfg3.N = mulNT (V c main_arg4) (V c main_arg3) := by
  refine (dat3 V c).arrAt_eq_of_covers 2 _ (by decide +kernel) fun t hf y => ?_
  blk_simp
  rw [after3_2]
  frame_out
  obtain ⟨r, j, rfl⟩ : ∃ r j, y = ix2 r j := ⟨y 0, y 1, eq_ix2 y⟩
  refine (dh_apply _ _ r j).trans ?_
  have ht : t.val < 2 := t.isLt.trans_eq (by decide +kernel)
  have e : (win3_2.blk t).view.emb (ix2 r j) = ix2 r ⟨2048 * t.val + j.val, by omega⟩ := by
    blk_ext [index3_2]
  rw [e]
  refine Finset.sum_congr rfl fun k _ => congrArg₂ (· * ·) ?_ ?_
  · blk_simp [iblk3]
    blk_ext [index3_0]
  · blk_simp [iblk3]
    blk_ext [index3_1]

/-- Where window 0 of call 4 lies at a point. -/
theorem index4_0 : ∀ t : Fin cfg4.N, win4_0.index t = ![0, 0] := by decide +kernel
/-- Where window 1 of call 4 lies at a point. -/
theorem index4_1 : ∀ t : Fin cfg4.N, win4_1.index t = ![0, t.val] := by decide +kernel
/-- Where window 2 of call 4 lies at a point. -/
theorem index4_2 : ∀ t : Fin cfg4.N, win4_2.index t = ![0, t.val] := by decide +kernel

/-- The second weights' gradient after its call. -/
theorem final4 (c : Dev nD) : (dat4 V c).arrAt 2 cfg4.N = mulTN (V c main_v1) (V c main_arg4) := by
  refine (dat4 V c).arrAt_eq_of_covers 2 _ (by decide +kernel) fun t hf y => ?_
  blk_simp
  rw [after4_2]
  frame_out
  obtain ⟨r, j, rfl⟩ : ∃ r j, y = ix2 r j := ⟨y 0, y 1, eq_ix2 y⟩
  refine (dw2_apply _ _ r j).trans ?_
  have ht : t.val < 2 := t.isLt.trans_eq (by decide +kernel)
  have e : (win4_2.blk t).view.emb (ix2 r j) = ix2 r ⟨512 * t.val + j.val, by omega⟩ := by
    blk_ext [index4_2]
  rw [e]
  refine Finset.sum_congr rfl fun k _ => congrArg₂ (· * ·) ?_ ?_
  · blk_simp [iblk4]
    blk_ext [index4_0]
  · blk_simp [iblk4]
    blk_ext [index4_1]

/-- Where window 0 of call 6 lies at a point. -/
theorem index6_0 : ∀ t : Fin cfg6.N, win6_0.index t = ![0, 0] := by decide +kernel
/-- Where window 1 of call 6 lies at a point. -/
theorem index6_1 : ∀ t : Fin cfg6.N, win6_1.index t = ![t.val, 0] := by decide +kernel
/-- Where window 2 of call 6 lies at a point. -/
theorem index6_2 : ∀ t : Fin cfg6.N, win6_2.index t = ![0, t.val] := by decide +kernel

/-- The input's gradient after its call. -/
theorem final6 (c : Dev nD) : (dat6 V c).arrAt 2 cfg6.N = mulNT (V c main_v5_0) (V c main_arg1) := by
  refine (dat6 V c).arrAt_eq_of_covers 2 _ (by decide +kernel) fun t hf y => ?_
  blk_simp
  rw [after6_2]
  frame_out
  obtain ⟨r, j, rfl⟩ : ∃ r j, y = ix2 r j := ⟨y 0, y 1, eq_ix2 y⟩
  refine (du_apply _ _ r j).trans ?_
  have ht : t.val < 2 := t.isLt.trans_eq (by decide +kernel)
  have e : (win6_2.blk t).view.emb (ix2 r j) = ix2 r ⟨512 * t.val + j.val, by omega⟩ := by
    blk_ext [index6_2]
  rw [e]
  refine Finset.sum_congr rfl fun k _ => congrArg₂ (· * ·) ?_ ?_
  · blk_simp [iblk6]
    blk_ext [index6_0]
  · blk_simp [iblk6]
    blk_ext [index6_1]

/-- Where window 0 of call 7 lies at a point. -/
theorem index7_0 : ∀ t : Fin cfg7.N, win7_0.index t = ![0, 0] := by decide +kernel
/-- Where window 1 of call 7 lies at a point. -/
theorem index7_1 : ∀ t : Fin cfg7.N, win7_1.index t = ![0, t.val] := by decide +kernel
/-- Where window 2 of call 7 lies at a point. -/
theorem index7_2 : ∀ t : Fin cfg7.N, win7_2.index t = ![0, t.val] := by decide +kernel

/-- The first weights' gradient after its call. -/
theorem final7 (c : Dev nD) : (dat7 V c).arrAt 2 cfg7.N = mulTN (V c main_arg0) (V c main_v5_0) := by
  refine (dat7 V c).arrAt_eq_of_covers 2 _ (by decide +kernel) fun t hf y => ?_
  blk_simp
  rw [after7_2]
  frame_out
  obtain ⟨r, j, rfl⟩ : ∃ r j, y = ix2 r j := ⟨y 0, y 1, eq_ix2 y⟩
  refine (dw1_apply _ _ r j).trans ?_
  have ht : t.val < 2 := t.isLt.trans_eq (by decide +kernel)
  have e : (win7_2.blk t).view.emb (ix2 r j) = ix2 r ⟨2048 * t.val + j.val, by omega⟩ := by
    blk_ext [index7_2]
  rw [e]
  refine Finset.sum_congr rfl fun k _ => congrArg₂ (· * ·) ?_ ?_
  · blk_simp [iblk7]
    blk_ext [index7_0]
  · blk_simp [iblk7]
    blk_ext [index7_1]

end Cert.Kernel2Ideal.Mlp

end
-- ==== Proof.MlpBias.lean ====
module

public import proofs.«01_k».proof.Proof.MlpBlock
public import proofs.«01_k».proof.Proof.Gen.Kernel2Ideal.Frame
public import Idealize.ShloMosaic.Lib.Pipeline.ValueKit

@[expose] public section

noncomputable section

namespace Cert.Kernel2Ideal.Mlp

open Idealize.ShloMosaic Idealize.SL.Sem Cert.Kernel2Ideal.Gen Cert.Mlp

variable (V : (c : Dev nD) → (b : Ref sig .tc) → Buf (Elt Ideal) ((c.tc : Thread nD τ).loc b))

/-- Where the product's window lies at a point. -/
theorem index5_0 : ∀ t : Fin cfg5.N, win5_0.index t = ![t.val, 0] := by decide +kernel
/-- Where the bias's window lies at a point. -/
theorem index5_1 : ∀ t : Fin cfg5.N, win5_1.index t = ![0, 0] := by decide +kernel
/-- Where the cotangent's window lies at a point. -/
theorem index5_2 : ∀ t : Fin cfg5.N, win5_2.index t = ![t.val, 0] := by decide +kernel
/-- Where the window of the product's cotangent lies at a point. -/
theorem index5_3 : ∀ t : Fin cfg5.N, win5_3.index t = ![t.val, 0] := by decide +kernel
/-- Where the window of the bias's gradient lies at a point. -/
theorem index5_4 : ∀ t : Fin cfg5.N, win5_4.index t = ![0, 0] := by decide +kernel

/-- The call has four points. -/
theorem points5 (t : Fin cfg5.N) : t.val < 4 := t.isLt.trans_eq (by decide +kernel)

/-- The cotangent before the activation, from the call's operands. -/
def back5 (c : Dev nD) : Mat 2048 4096 := hiddenBack (V c main_v0) (V c main_arg2) (V c main_v3)

/-- A block's entry of the cotangent before the activation. -/
def entry (x : Vec Ideal S512x4096 .bf16) (b : Vec Ideal S1x4096 .f32) (dy : Vec Ideal S512x4096 .bf16) (r : Fin 512) (j : Fin 4096) :
    EReal := actBack (x (ix2 r j) + b (ix2 0 j)) (dy (ix2 r j))

/-- A point's entries of that cotangent. -/
theorem back5_apply (c : Dev nD) (t : Fin cfg5.N) (r : Fin 512) (j : Fin 4096) :
    entry (iblk5 V c 0 t) (iblk5 V c 1 t) (iblk5 V c 2 t) r j
      = back5 V c (ix2 ⟨512 * t.val + r.val, by have := points5 t; omega⟩ j) := by
  refine congrArg₂ actBack (congrArg₂ (· + ·) ?_ ?_) ?_
  · blk_simp [iblk5]
    blk_ext [index5_0]
  · blk_simp [iblk5]
    blk_ext [index5_1]
  · blk_simp [iblk5]
    blk_ext [index5_2]

/-- The rows a point leaves of the cotangent. -/
theorem rows5 (c : Dev nD) (t : Fin cfg5.N) (r : Fin 512) (j : Fin 4096) :
    (outsAt5 V c t.val t.isLt).1 (ix2 r j) = back5 V c (ix2 ⟨512 * t.val + r.val, by have := points5 t; omega⟩ j) := by
  rw [← back5_apply]
  by_cases h : t.val % 4 = 0
  · rw [outsAt5_A V c t h]
    frame_out
    exact act_bwd_stored _ _ _ r j
  · rw [outsAt5_B V c t h]
    frame_out
    exact act_bwd_stored _ _ _ r j

/-- The cotangent's array after the call. -/
theorem final5_3 (c : Dev nD) : (dat5 V c).arrAt 3 cfg5.N = hiddenBack (V c main_v0) (V c main_arg2) (V c main_v3) := by
  refine (dat5 V c).arrAt_eq_of_covers 3 _ (by decide +kernel) fun t hf y => ?_
  blk_simp
  rw [after5_3]
  obtain ⟨r, j, rfl⟩ : ∃ r j, y = ix2 r j := ⟨y 0, y 1, eq_ix2 y⟩
  have e : (win5_3.blk t).view.emb (ix2 r j) = ix2 ⟨512 * t.val + r.val, by have := points5 t; omega⟩ j := by
    blk_ext [index5_3]
  rw [e]
  exact rows5 V c t r j

/-- A row of the cotangent, by its number. -/
def rowAt (c : Dev nD) (j : Fin 4096) (i : ℕ) : EReal := if h : i < 2048 then back5 V c (ix2 ⟨i, h⟩ j) else 0

/-- A point's share of the bias's gradient. -/
def share5 (c : Dev nD) (t : ℕ) (j : Fin 4096) : EReal :=
  ∑ r : Fin 512, rowAt V c j (512 * t + r.val)

/-- A point's share of the bias's gradient, from the whole arrays. -/
theorem share5_eq (c : Dev nD) (t : Fin cfg5.N) (j : Fin 4096) : share5 V c t.val j
    = ∑ r : Fin 512, entry (iblk5 V c 0 t) (iblk5 V c 1 t) (iblk5 V c 2 t) r j :=
  Finset.sum_congr rfl fun r _ => (dif_pos (by have := points5 t; omega)).trans (back5_apply V c t r j).symm

/-- The first point's bias gradient starts over zero. -/
theorem bias5_A (c : Dev nD) (t : Fin cfg5.N) (h : t.val % 4 = 0) (j : Fin 4096) :
    (outsAt5 V c t.val t.isLt).2 (ix2 0 j) = 0 + share5 V c t.val j := by
  rw [outsAt5_A V c t h, share5_eq]
  frame_out
  refine (db_apply _ _ _ _ j).trans ?_
  rw [db_zero]
  rfl

/-- A later point adds to what the point before left. -/
theorem bias5_B (c : Dev nD) (t : Fin cfg5.N) (h : ¬ t.val % 4 = 0) (j : Fin 4096) :
    (outsAt5 V c t.val t.isLt).2 (ix2 0 j)
      = (outsAt5 V c (t.val - 1) (Nat.lt_of_le_of_lt (Nat.sub_le _ _) t.isLt)).2 (ix2 0 j) + share5 V c t.val j := by
  rw [outsAt5_B V c t h, share5_eq]
  frame_out
  exact db_apply _ _ _ _ j

/-- After the last point the bias's gradient sums all the rows. -/
theorem bias5_last (c : Dev nD) (t : Fin cfg5.N) (ht : t.val % 4 = 3) (j : Fin 4096) :
    (outsAt5 V c t.val t.isLt).2 (ix2 0 j) = ∑ i : Fin 2048, back5 V c (ix2 i j) := by
  have key := Pipeline.eq_sum_of_reset_step_apply_of_mod (fun n h (j : Fin 4096) => (outsAt5 V c n h).2 (ix2 0 j)) 4 (fun _ => 0)
    (share5 V c) (fun t h j => bias5_A V c t h j) (fun t h j => bias5_B V c t h j) t ht j
  have h4 := points5 t
  have hd : t.val / 4 = 0 := by omega
  refine key.trans ?_
  rw [zero_add, Finset.sum_range, hd]
  have e : ∀ n : Fin 4, share5 V c (4 * 0 + n.val) j = ∑ r : Fin 512, rowAt V c j (512 * n.val + r.val) := fun n => by
    rw [Nat.mul_zero, Nat.zero_add]
    rfl
  refine (Finset.sum_congr rfl fun n _ => e n).trans ((sum_blocks (rowAt V c j)).trans (Finset.sum_congr rfl fun i _ => ?_))
  exact dif_pos i.isLt

/-- The bias's gradient after the call. -/
theorem final5_4 (c : Dev nD) : (dat5 V c).arrAt 4 cfg5.N = colSum (hiddenBack (V c main_v0) (V c main_arg2) (V c main_v3)) := by
  refine (dat5 V c).arrAt_eq_of_covers 4 _ (by decide +kernel) fun t hf y => ?_
  blk_simp
  rw [after5_4]
  obtain ⟨r, j, rfl⟩ : ∃ r j, y = ix2 r j := ⟨y 0, y 1, eq_ix2 y⟩
  obtain rfl : r = 0 := Subsingleton.elim (α := Fin 1) _ _
  have e : (win5_4.blk t).view.emb (ix2 0 j) = ix2 0 j := by
    blk_ext [index5_4]
  rw [e]
  exact bias5_last V c t ((flush5_4 t).mp hf) j

end Cert.Kernel2Ideal.Mlp

end
-- ==== Proof.MlpRun.lean ====
module

public import proofs.«01_k».proof.Proof.MlpRegions
public import proofs.«01_k».proof.Proof.MlpBias

@[expose] public section

noncomputable section

namespace Cert.Kernel2Ideal.Mlp

open Idealize.ShloMosaic Idealize.ShloMosaic.TcCoe Idealize.SL.Sem Cert.Kernel2Ideal.Gen Cert.Mlp

section Launch

open Idealize.ShloMosaic.Tactic Idealize.SL Idealize.SL.RA Idealize.SL.BI
open scoped Idealize.SL.BI
open Idealize.SL.BI.BIBase Idealize.SL.BI.Laws Idealize.SL.ProofMode Idealize.ShloMosaic.Rounds

variable {F : FTy → Type} [FloatOps F] (m : (ℓ : Loc nD τ sig) → Buf (Elt F) ℓ) (ρ : Dev nD → PrngReg)

local notation "𝕄" => MT nD τ sig Unit (Elt F) ℕ (UR sig nD τ) ℕ

/-- The eight calls end with every buffer as the last call leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Launch

variable (m : (ℓ : Loc nD τ sig) → Buf (Elt Ideal) ℓ) (ρ : Dev nD → PrngReg) (c : Dev nD)

/-- The layer's input. -/
abbrev inp : Mat 2048 1024 := m ((c.tc : Thread nD τ).loc main_arg0)
/-- The first weights. -/
abbrev wt1 : Mat 1024 4096 := m ((c.tc : Thread nD τ).loc main_arg1)
/-- The bias. -/
abbrev bia : Mat 1 4096 := m ((c.tc : Thread nD τ).loc main_arg2)
/-- The second weights. -/
abbrev wt2 : Mat 4096 1024 := m ((c.tc : Thread nD τ).loc main_arg3)
/-- The output's cotangent. -/
abbrev cot : Mat 2048 1024 := m ((c.tc : Thread nD τ).loc main_arg4)

/-- The hidden layer. -/
abbrev hid : Mat 2048 4096 := hidden (mulNN (inp m c) (wt1 m c)) (bia m c)
/-- The cotangent before the activation. -/
abbrev bak : Mat 2048 4096 := hiddenBack (mulNN (inp m c) (wt1 m c)) (bia m c) (mulNT (cot m c) (wt2 m c))

/-- The first product at its call's exit. -/
theorem pre_1 : V1 m ρ c main_v0 = mulNN (inp m c) (wt1 m c) := (W1_arr m ρ c 2).trans (final0 (V0 m ρ) c)

/-- The first product, as the backward call finds it. -/
theorem pre_5 : V5 m ρ c main_v0 = mulNN (inp m c) (wt1 m c) :=
  (W5_of m ρ c main_v0 (by decide +kernel)).trans ((W4_of m ρ c main_v0 (by decide +kernel)).trans
    ((W3_of m ρ c main_v0 (by decide +kernel)).trans ((W2_of m ρ c main_v0 (by decide +kernel)).trans (pre_1 m ρ c))))

/-- The hidden layer at its call's exit. -/
theorem hid_2 : V2 m ρ c main_v1 = hid m c := by
  refine (W2_arr m ρ c 2).trans ((final1 (V1 m ρ) c).trans ?_)
  rw [pre_1, show V1 m ρ c main_arg2 = bia m c from W1_args m ρ c main_arg2 (by decide)]

/-- The hidden layer, as the call for the second weight's gradient finds it. -/
theorem hid_4 : V4 m ρ c main_v1 = hid m c :=
  (W4_of m ρ c main_v1 (by decide +kernel)).trans ((W3_of m ρ c main_v1 (by decide +kernel)).trans (hid_2 m ρ c))

/-- The output. -/
theorem out_8 : V8 m ρ c main_v2 = mulNN (hid m c) (wt2 m c) := by
  refine (W8_of m ρ c main_v2 (by decide +kernel)).trans ((W7_of m ρ c main_v2 (by decide +kernel)).trans
    ((W6_of m ρ c main_v2 (by decide +kernel)).trans ((W5_of m ρ c main_v2 (by decide +kernel)).trans
    ((W4_of m ρ c main_v2 (by decide +kernel)).trans ((W3_arr m ρ c 2).trans ((final2 (V2 m ρ) c).trans ?_))))))
  rw [hid_2, show V2 m ρ c main_arg3 = wt2 m c from W2_args m ρ c main_arg3 (by decide)]

/-- The hidden layer's cotangent. -/
theorem dh_5 : V5 m ρ c main_v3 = mulNT (cot m c) (wt2 m c) := by
  refine (W5_of m ρ c main_v3 (by decide +kernel)).trans ((W4_arr m ρ c 2).trans ((final3 (V3 m ρ) c).trans ?_))
  rw [show V3 m ρ c main_arg4 = cot m c from W3_args m ρ c main_arg4 (by decide),
    show V3 m ρ c main_arg3 = wt2 m c from W3_args m ρ c main_arg3 (by decide)]

/-- The second weights' gradient. -/
theorem dw2_8 : V8 m ρ c main_v4 = mulTN (hid m c) (cot m c) := by
  refine (W8_of m ρ c main_v4 (by decide +kernel)).trans ((W7_of m ρ c main_v4 (by decide +kernel)).trans
    ((W6_of m ρ c main_v4 (by decide +kernel)).trans ((W5_arr m ρ c 2).trans ((final4 (V4 m ρ) c).trans ?_))))
  rw [hid_4, show V4 m ρ c main_arg4 = cot m c from W4_args m ρ c main_arg4 (by decide)]

/-- The cotangent before the activation, at its call's exit. -/
theorem bak_6 : V6 m ρ c main_v5_0 = bak m c := by
  refine (W6_arr m ρ c 3).trans ((final5_3 (V5 m ρ) c).trans ?_)
  rw [pre_5, dh_5, show V5 m ρ c main_arg2 = bia m c from W5_args m ρ c main_arg2 (by decide)]

/-- The first product's cotangent, as the call for the first weight's gradient finds it. -/
theorem bak_7 : V7 m ρ c main_v5_0 = bak m c := (W7_of m ρ c main_v5_0 (by decide +kernel)).trans (bak_6 m ρ c)

/-- The bias's gradient. -/
theorem db_8 : V8 m ρ c main_v5_1 = colSum (bak m c) := by
  refine (W8_of m ρ c main_v5_1 (by decide +kernel)).trans ((W7_of m ρ c main_v5_1 (by decide +kernel)).trans
    ((W6_arr m ρ c 4).trans ((final5_4 (V5 m ρ) c).trans ?_)))
  rw [pre_5, dh_5, show V5 m ρ c main_arg2 = bia m c from W5_args m ρ c main_arg2 (by decide)]

/-- The input's gradient. -/
theorem du_8 : V8 m ρ c main_v6 = mulNT (bak m c) (wt1 m c) := by
  refine (W8_of m ρ c main_v6 (by decide +kernel)).trans ((W7_arr m ρ c 2).trans ((final6 (V6 m ρ) c).trans ?_))
  rw [bak_6, show V6 m ρ c main_arg1 = wt1 m c from W6_args m ρ c main_arg1 (by decide)]

/-- The first weights' gradient. -/
theorem dw1_8 : V8 m ρ c main_v7 = mulTN (inp m c) (bak m c) := by
  refine (W8_arr m ρ c 2).trans ((final7 (V7 m ρ) c).trans ?_)
  rw [bak_7, show V7 m ρ c main_arg0 = inp m c from W7_args m ρ c main_arg0 (by decide)]

/-- The kernel's run with its five results. -/
theorem run_results : θ_run defs (onTc (τ := τ) (main (F := Ideal))) ⟨m, fun _ => 0, ρ⟩ (fun r => ∀ c : Dev nD,
      r.2.mem ((c.tc : Thread nD τ).loc main_v2) = mulNN (hid m c) (wt2 m c)
      ∧ r.2.mem ((c.tc : Thread nD τ).loc main_v6) = mulNT (bak m c) (wt1 m c)
      ∧ r.2.mem ((c.tc : Thread nD τ).loc main_v7) = mulTN (inp m c) (bak m c)
      ∧ r.2.mem ((c.tc : Thread nD τ).loc main_v5_1) = colSum (bak m c)
      ∧ r.2.mem ((c.tc : Thread nD τ).loc main_v4) = mulTN (hid m c) (cot m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v2 (by decide))).trans (out_8 m ρ c), (h c _ (mem_uc main_v6 (by decide))).trans (du_8 m ρ c),
      (h c _ (mem_uc main_v7 (by decide))).trans (dw1_8 m ρ c), (h c _ (mem_uc main_v5_1 (by decide))).trans (db_8 m ρ c),
      (h c _ (mem_uc main_v4 (by decide))).trans (dw2_8 m ρ c),
      (h c _ (mem_uc main_arg0 (by decide))).trans (W8_main_arg0 m ρ c), (h c _ (mem_uc main_arg1 (by decide))).trans (W8_main_arg1 m ρ c),
      (h c _ (mem_uc main_arg2 (by decide))).trans (W8_main_arg2 m ρ c), (h c _ (mem_uc main_arg3 (by decide))).trans (W8_main_arg3 m ρ c),
      (h c _ (mem_uc main_arg4 (by decide))).trans (W8_main_arg4 m ρ c)⟩)
    (run_all m ρ)

end Cert.Kernel2Ideal.Mlp

end
-- ==== Proof.MlpRef.lean ====
module

public import proofs.«01_k».proof.Proof.MlpSpec
public import proofs.«01_k».proof.Proof.Gen.Reference2Ideal.Read

@[expose] public section

noncomputable section

namespace Cert.Reference2Ideal.Mlp

open Idealize.ShloMosaic Cert.Reference2Ideal Cert.Reference2Ideal.Read Cert.Mlp

variable (x0 : (⟨S2048x1024, .bf16⟩ : BufTy).Contents (Elt Ideal)) (x1 : (⟨S1024x4096, .bf16⟩ : BufTy).Contents (Elt Ideal))
  (x2 : (⟨S1x4096, .f32⟩ : BufTy).Contents (Elt Ideal)) (x3 : (⟨S4096x1024, .bf16⟩ : BufTy).Contents (Elt Ideal))
  (x4 : (⟨S2048x1024, .bf16⟩ : BufTy).Contents (Elt Ideal))

/-- The first product. -/
theorem pre_eq : val_main_v3 (F := Ideal) x0 x1 = mulNN x0 x1 := by
  funext y
  refine (val_main_v3_apply x0 x1 y).trans (Finset.sum_congr rfl fun k _ => congrArg₂ (· * ·) ?_ ?_)
  · exact congrArg x0 (eq_ix2 _)
  · exact congrArg x1 (eq_ix2 _)

/-- The first product with its bias. -/
theorem biased_apply (y : S2048x4096.Idx) : val_main_v5 (F := Ideal) x0 x1 x2 y = (mulNN x0 x1 y + x2 (ix2 0 (y 1)) : EReal) := by
  rw [val_main_v5_apply, pre_eq, val_main_v4_apply]
  refine congrArg (mulNN x0 x1 y + ·) (congrArg x2 ?_)
  refine (eq_ix2 _).trans (congrArg₂ ix2 (Subsingleton.elim (α := Fin 1) _ _) rfl)

/-- The zero word is zero. -/
theorem zero_word : (FloatOps.ofBits (F := Ideal) FTy.f32 0x00000000#32 : EReal) = 0 := Ideal.ofBits_zero_f32

/-- The positive part. -/
theorem positive_apply (y : S2048x4096.Idx) :
    val_main_v7 (F := Ideal) x0 x1 x2 y = (max (mulNN x0 x1 y + x2 (ix2 0 (y 1))) 0 : EReal) := by
  rw [val_main_v7_apply, biased_apply, val_main_v6_apply, val_main_cst_apply]
  exact congrArg (max _) zero_word

/-- The hidden layer. -/
theorem hidden_eq : val_main_v17 (F := Ideal) x0 x1 x2 = hidden (mulNN x0 x1) x2 := by
  funext y
  rw [val_main_v17_apply, positive_apply]
  rfl

/-- The second product. -/
theorem ff_eq : val_main_v21 (F := Ideal) x0 x1 x2 x3 = mulNN (hidden (mulNN x0 x1) x2) x3 := by
  funext y
  refine (val_main_v20_apply x0 x1 x2 x3 y).trans (Finset.sum_congr rfl fun k _ => congrArg₂ (· * ·) ?_ ?_)
  · rw [hidden_eq]
    exact congrArg (hidden (mulNN x0 x1) x2) (eq_ix2 _)
  · exact congrArg x3 (eq_ix2 _)

/-- The second weights' gradient. -/
theorem dw2_eq : val_main_v33 (F := Ideal) x0 x1 x2 x4 = mulTN (hidden (mulNN x0 x1) x2) x4 := by
  funext y
  refine (val_main_v24_apply x0 x1 x2 x4 y).trans ((val_main_v23_apply x0 x1 x2 x4 _).trans (Finset.sum_congr rfl fun k _ => ?_))
  refine (mul_comm _ _).trans (congrArg₂ (· * ·) ?_ ?_)
  · rw [hidden_eq]
    exact congrArg (hidden (mulNN x0 x1) x2) (eq_ix2 _)
  · exact congrArg x4 (eq_ix2 _)

/-- The hidden layer's cotangent. -/
theorem dh_eq : val_main_v25 (F := Ideal) x3 x4 = mulNT x4 x3 := by
  funext y
  refine (val_main_v25_apply x3 x4 y).trans (Finset.sum_congr rfl fun k _ => congrArg₂ (· * ·) ?_ ?_)
  · exact congrArg x4 (eq_ix2 _)
  · exact congrArg x3 (eq_ix2 _)

/-- The maximum's factor: one above zero, a half at it, zero below. -/
theorem factor_apply (y : S2048x4096.Idx) : val_main_v16 (F := Ideal) x0 x1 x2 y
    = (if 0 < mulNN x0 x1 y + x2 (ix2 0 (y 1)) then 1
        else if mulNN x0 x1 y + x2 (ix2 0 (y 1)) = 0 then Ideal.ofBits FTy.f32 0x3F000000#32 else 0 : EReal) := by
  rw [val_main_v16_apply, val_main_v15_apply, val_main_v9_apply, val_main_v11_apply, biased_apply, val_main_v8_apply,
    val_main_v10_apply, val_main_v12_apply, val_main_v13_apply, val_main_v14_apply, val_main_cst_0_apply, val_main_cst_1_apply,
    val_main_cst_2_apply, val_main_cst_3_apply, val_main_cst_4_apply]
  generalize (mulNN x0 x1 y + x2 (ix2 0 (y 1)) : EReal) = x
  pointwise

/-- The cotangent before the activation. -/
theorem back_eq : val_main_v27 (F := Ideal) x0 x1 x2 x3 x4 = hiddenBack (mulNN x0 x1) x2 (mulNT x4 x3) := by
  funext y
  rw [val_main_v27_apply, val_main_v26_apply, factor_apply, dh_eq, val_main_v19_apply, positive_apply, val_main_v18_apply,
    val_main_cst_5_apply]
  rfl

/-- The bias's gradient. -/
theorem db_eq : val_main_v29 (F := Ideal) x0 x1 x2 x3 x4 = colSum (hiddenBack (mulNN x0 x1) x2 (mulNT x4 x3)) := by
  funext y
  rw [val_main_v29_apply, val_main_v28_apply, val_main_cst_6_apply, back_eq]
  refine (congrArg (· + _) zero_word).trans ((zero_add _).trans (Finset.sum_congr rfl fun k _ => ?_))
  refine congrArg (hiddenBack (mulNN x0 x1) x2 (mulNT x4 x3)) ((eq_ix2 _).trans (congrArg₂ ix2 rfl (Fin.ext ?_)))
  have h0 : (y 0).val < 1 := (y 0).isLt
  show (y 0).val * 4096 + (y 1).val = (y 1).val
  omega

/-- The input's gradient. -/
theorem du_eq : val_main_v35 (F := Ideal) x0 x1 x2 x3 x4 = mulNT (hiddenBack (mulNN x0 x1) x2 (mulNT x4 x3)) x1 := by
  funext y
  refine (val_main_v32_apply x0 x1 x2 x3 x4 y).trans (Finset.sum_congr rfl fun k _ => congrArg₂ (· * ·) ?_ ?_)
  · rw [back_eq]
    exact congrArg (hiddenBack (mulNN x0 x1) x2 (mulNT x4 x3)) (eq_ix2 _)
  · exact congrArg x1 (eq_ix2 _)

/-- The first weights' gradient. -/
theorem dw1_eq : val_main_v34 (F := Ideal) x0 x1 x2 x3 x4 = mulTN x0 (hiddenBack (mulNN x0 x1) x2 (mulNT x4 x3)) := by
  funext y
  refine (val_main_v31_apply x0 x1 x2 x3 x4 y).trans ((val_main_v30_apply x0 x1 x2 x3 x4 _).trans (Finset.sum_congr rfl fun k _ => ?_))
  refine (mul_comm _ _).trans (congrArg₂ (· * ·) ?_ ?_)
  · exact congrArg x0 (eq_ix2 _)
  · rw [back_eq]
    exact congrArg (hiddenBack (mulNN x0 x1) x2 (mulNT x4 x3)) (eq_ix2 _)

end Cert.Reference2Ideal.Mlp

end
-- ==== Proof.MlpProof.lean ====
module

public import proofs.«01_k».proof.Defs
public import proofs.«01_k».proof.Proof.MlpRun
public import proofs.«01_k».proof.Proof.MlpRef
public import Idealize.ShloMosaic.Adequacy
public import Idealize.ShloMosaic.Init

@[expose] public section

noncomputable section

namespace Cert.Proof

open Idealize.ShloMosaic Idealize.SL.Sem

/-- The feed-forward reference terminates, leaves its arguments unchanged and has no semaphore. -/
theorem frameR2 : Cert.quiescent_Reference2Ideal (hReference2Ideal := Reference2Ideal.Gen.facts) := fun m ρ _ =>
  (θ_run Reference2Ideal.defs _ _).mono (fun r h => ⟨fun c => (h c).2.2.2.2.2, sem_eq_zero_of_no_sems (by decide) r.2⟩)
    (Reference2Ideal.Value.run (F := Ideal) m ρ)

/-- The feed-forward kernel and its reference end with equal results. -/
theorem algebraic2 : Cert.algebraic_Kernel2Ideal_Reference2Ideal (hKernel2Ideal := Kernel2Ideal.Gen.facts)
    (hReference2Ideal := Reference2Ideal.Gen.facts) := by
  intro m g m' g' _ hargs
  refine ⟨_, _, _, _, _, Kernel2Ideal.Mlp.run_results m g, ?_⟩
  refine (θ_run _ _ _).mono (fun r h c => ?_) (Reference2Ideal.Value.run (F := Ideal) m' g')
  obtain ⟨a0, a1, a2, a3, a4⟩ := hargs c
  obtain ⟨r0, r1, r2, r3, r4, hr⟩ := h c
  rw [a0, a1, a2, a3] at r0
  rw [a0, a1, a2, a3, a4] at r1 r2 r3
  rw [a0, a1, a2, a4] at r4
  exact ⟨r0.trans ((Reference2Ideal.Read.val_main_v21_eq _ _ _ _).trans (Reference2Ideal.Mlp.ff_eq _ _ _ _)),
    r1.trans ((Reference2Ideal.Read.val_main_v35_eq _ _ _ _ _).trans (Reference2Ideal.Mlp.du_eq _ _ _ _ _)),
    r2.trans ((Reference2Ideal.Read.val_main_v34_eq _ _ _ _ _).trans (Reference2Ideal.Mlp.dw1_eq _ _ _ _ _)),
    r3.trans ((Reference2Ideal.Read.val_main_v29_eq _ _ _ _ _).trans (Reference2Ideal.Mlp.db_eq _ _ _ _ _)),
    r4.trans ((Reference2Ideal.Read.val_main_v33_eq _ _ _ _).trans (Reference2Ideal.Mlp.dw2_eq _ _ _ _)), hr⟩

end Cert.Proof

end
-- ==== Proof.InSpec.lean ====
module

public import proofs.«01_k».proof.Proof.MlpSpec

@[expose] public section

noncomputable section

namespace Cert.In

open Idealize.ShloMosaic Cert.Mlp

variable {m k n : ℕ}

/-- An entry of a matrix by its column's number; past the last column, zero. -/
def entryAt (x : Mat m n) (r : Fin m) (j : ℕ) : EReal := if h : j < n then x (ix2 r ⟨j, h⟩) else 0

/-- A column inside the matrix is read. -/
theorem entryAt_lt (x : Mat m n) (r : Fin m) (j : ℕ) (h : j < n) : entryAt x r j = x (ix2 r ⟨j, h⟩) := dif_pos h

/-- A matrix's entry is the one at its column's number. -/
theorem entryAt_val (x : Mat m n) (y : (⟨2, ![m, n]⟩ : Shape).Idx) : x y = entryAt x (y 0) (y 1).val :=
  (congrArg x (eq_ix2 y)).trans (entryAt_lt x (y 0) (y 1).val (y 1).isLt).symm

/-- Where the kernel keeps a column of the projection: the narrow pieces go behind the wide ones. -/
def place (j : ℕ) : ℕ :=
  if j < 1024 then j else if j < 1536 then j + 6144 else if j < 5632 then j - 512 else if j < 5648 then j + 2048 else j - 528

/-- Which column of the projection the kernel keeps at a place. -/
def origin (c : ℕ) : ℕ :=
  if c < 1024 then c else if c < 5120 then c + 512 else if c < 7168 then c + 528 else if c < 7680 then c - 6144 else c - 2048

/-- A column's place lies before the filling. -/
theorem place_lt {j : ℕ} (h : j < 7696) : place j < 7696 := by
  unfold place
  split_ifs <;> omega

/-- A place before the filling holds a column. -/
theorem origin_lt {c : ℕ} (h : c < 7696) : origin c < 7696 := by
  unfold origin
  split_ifs <;> omega

/-- A column is what its place holds. -/
theorem origin_place {j : ℕ} (h : j < 7696) : origin (place j) = j := by
  unfold origin place
  split_ifs <;> omega

/-- What a place holds has that place. -/
theorem place_origin {c : ℕ} (h : c < 7696) : place (origin c) = c := by
  unfold origin place
  split_ifs <;> omega

/-- The columns in the kernel's order, zeros filling up. -/
def permuted (w : Mat m 7696) : Mat m 8192 := fun y =>
  if h : (y 1).val < 7696 then w (ix2 (y 0) ⟨origin (y 1).val, origin_lt h⟩) else 0

/-- A column's place as one of the kernel's columns. -/
def placed (j : Fin 7696) : Fin 8192 := ⟨place j.val, (place_lt j.isLt).trans (by norm_num)⟩

/-- The columns brought back to their own order. -/
def unpermuted (g : Mat m 8192) : Mat m 7696 := fun y => g (ix2 (y 0) (placed (y 1)))

/-- A permuted matrix at a column's place. -/
theorem permuted_placed (w : Mat m 7696) (r : Fin m) (j : Fin 7696) : permuted w (ix2 r (placed j)) = w (ix2 r j) := by
  refine (dif_pos (place_lt j.isLt)).trans (congrArg w (congrArg (ix2 r) (Fin.ext (origin_place j.isLt))))

/-- Different columns have different places. -/
theorem placed_injective : Function.Injective placed := fun a b h => Fin.ext (by
  have e := congrArg (fun c : Fin 8192 => origin c.val) h
  exact (origin_place a.isLt).symm.trans (e.trans (origin_place b.isLt)))

/-- Rows on rows: the columns' order and the filling don't matter. -/
theorem mulNT_permuted (d : Mat m 7696) (w : Mat n 7696) : mulNT (permuted d) (permuted w) = mulNT d w := by
  funext y
  refine (Fintype.sum_of_injective placed placed_injective (fun j => d (ix2 (y 0) j) * w (ix2 (y 1) j))
    (fun c => permuted d (ix2 (y 0) c) * permuted w (ix2 (y 1) c)) (fun c hc => ?_) (fun j => ?_)).symm
  · have h : ¬ c.val < 7696 := fun h => hc ⟨⟨origin c.val, origin_lt h⟩, Fin.ext (place_origin h)⟩
    have e : permuted d (ix2 (y 0) c) = 0 := dif_neg h
    rw [e, zero_mul]
  · exact (congrArg₂ (· * ·) (permuted_placed d (y 0) j) (permuted_placed w (y 1) j)).symm

/-- A product whose right operand is permuted is the product, permuted. -/
theorem unpermuted_mulNN (u : Mat m k) (w : Mat k 7696) : unpermuted (mulNN u (permuted w)) = mulNN u w := by
  funext y
  obtain ⟨r, j, rfl⟩ : ∃ r j, y = ix2 r j := ⟨y 0, y 1, eq_ix2 y⟩
  show (∑ i : Fin k, u (ix2 r i) * permuted w (ix2 i (placed j)) : EReal) = ∑ i : Fin k, u (ix2 r i) * w (ix2 i j)
  exact Finset.sum_congr rfl fun i _ => congrArg (u (ix2 r i) * ·) (permuted_placed w i j)

/-- The same of the product of columns. -/
theorem unpermuted_mulTN (u : Mat k m) (d : Mat k 7696) : unpermuted (mulTN u (permuted d)) = mulTN u d := by
  funext y
  obtain ⟨r, j, rfl⟩ : ∃ r j, y = ix2 r j := ⟨y 0, y 1, eq_ix2 y⟩
  show (∑ i : Fin k, u (ix2 i r) * permuted d (ix2 i (placed j)) : EReal) = ∑ i : Fin k, u (ix2 i r) * d (ix2 i j)
  exact Finset.sum_congr rfl fun i _ => congrArg (u (ix2 i r) * ·) (permuted_placed d i j)

/-- The layer's input with its scale and shift. -/
def modulated (x : Mat m n) (sc sh : Mat 1 n) : Mat m n := fun y =>
  x y * (Ideal.ofBits FTy.f32 0x3F800000#32 + sc (ix2 0 (y 1))) + sh (ix2 0 (y 1))

/-- The input's cotangent: the residual's, and the modulation's through the scale. -/
def inputBack (sc : Mat 1 n) (du dx : Mat m n) : Mat m n := fun y =>
  du y * (Ideal.ofBits FTy.f32 0x3F800000#32 + sc (ix2 0 (y 1))) + dx y

/-- The scale's cotangent, before the rows are summed. -/
def scaleBack (x du : Mat m n) : Mat m n := fun y => x y * du y

/-- The projection's cotangent from its eleven pieces' ones, at a column's number. -/
def joinedAt (dq : Mat m 1024) (dk dv : Mat m 256) (eq ek ev ez : Mat m 1024) (db da : Mat m 8) (ga gb : Mat m 1024)
    (r : Fin m) (j : ℕ) : EReal :=
  if j < 1024 then entryAt dq r j else if j < 1280 then entryAt dk r (j - 1024) else if j < 1536 then entryAt dv r (j - 1280)
  else if j < 2560 then entryAt eq r (j - 1536) else if j < 3584 then entryAt ek r (j - 2560)
  else if j < 4608 then entryAt ev r (j - 3584) else if j < 5632 then entryAt ez r (j - 4608)
  else if j < 5640 then entryAt db r (j - 5632) else if j < 5648 then entryAt da r (j - 5640)
  else if j < 6672 then entryAt ga r (j - 5648) else entryAt gb r (j - 6672)

/-- The projection's cotangent from its pieces' ones. -/
def joined (dq : Mat m 1024) (dk dv : Mat m 256) (eq ek ev ez : Mat m 1024) (db da : Mat m 8) (ga gb : Mat m 1024) :
    Mat m 7696 := fun y => joinedAt dq dk dv eq ek ev ez db da ga gb (y 0) (y 1).val

/-- A column's number lies in one of the eleven pieces. -/
theorem piece_cases {j : ℕ} (h : j < 7696) : j < 1024 ∨ 1024 ≤ j ∧ j < 1280 ∨ 1280 ≤ j ∧ j < 1536 ∨ 1536 ≤ j ∧ j < 2560
    ∨ 2560 ≤ j ∧ j < 3584 ∨ 3584 ≤ j ∧ j < 4608 ∨ 4608 ≤ j ∧ j < 5632 ∨ 5632 ≤ j ∧ j < 5640 ∨ 5640 ≤ j ∧ j < 5648
    ∨ 5648 ≤ j ∧ j < 6672 ∨ 6672 ≤ j := by omega

end Cert.In

end
-- ==== Proof.InBlock.lean ====
module

public import proofs.«01_k».proof.Proof.Gen.Kernel3Ideal.Skeleton
public import proofs.«01_k».proof.Proof.InSpec

@[expose] public section

noncomputable section

namespace Cert.Kernel3Ideal.In

open Idealize.ShloMosaic Idealize.SL.Sem Cert.Kernel3Ideal.Gen Cert.Mlp Cert.In

/-- A block of the modulated input. -/
theorem mod_apply (x : Vec Ideal S512x1024 .f32) (sc sh : Vec Ideal S1x1024 .f32) (r : Fin 512) (j : Fin 1024) :
    k0_pay1 x sc sh (ix2 r j)
      = (x (ix2 r j) * (Ideal.ofBits FTy.f32 0x3F800000#32 + sc (ix2 0 j)) + sh (ix2 0 j) : EReal) := by
  unfold k0_pay1
  pointwise

/-- A block of the projection. -/
theorem proj_apply (x : Vec Ideal S2048x1024 .bf16) (w : Vec Ideal S1024x1024 .bf16) (r : Fin 2048) (j : Fin 1024) :
    k1_pay1 x w (ix2 r j) = (∑ k : Fin 1024, x (ix2 r k) * w (ix2 k j) : EReal) := by
  unfold k1_pay1
  pointwise

/-- A block of the modulated input's cotangent: rows on rows. -/
theorem du_apply (x : Vec Ideal S1024x8192 .bf16) (w : Vec Ideal S256x8192 .bf16) (r : Fin 1024) (j : Fin 256) :
    k2_pay1 x w (ix2 r j) = (∑ k : Fin 8192, x (ix2 r k) * w (ix2 j k) : EReal) := by
  unfold k2_pay1
  pointwise

/-- A block of the weights' gradient: columns on columns. -/
theorem dw_apply (x : Vec Ideal S2048x1024 .bf16) (y : Vec Ideal S2048x2048 .bf16) (r : Fin 1024) (j : Fin 2048) :
    k3_pay1 x y (ix2 r j) = (∑ k : Fin 2048, x (ix2 k r) * y (ix2 k j) : EReal) := by
  unfold k3_pay1
  pointwise

/-- The cotangent a block reads. -/
theorem read_apply (x : Vec Ideal S512x1024 .bf16) (r : Fin 512) (j : Fin 1024) :
    k4_pay1 x (ix2 r j) = (x (ix2 r j) : EReal) := by
  unfold k4_pay1
  pointwise

/-- A block of the input's cotangent. -/
theorem dx_apply (sc : Vec Ideal S1x1024 .f32) (du : Vec Ideal S512x1024 .bf16) (dx : Vec Ideal S512x1024 .f32)
    (r : Fin 512) (j : Fin 1024) : k4_pay2 sc du dx (ix2 r j)
      = (du (ix2 r j) * (Ideal.ofBits FTy.f32 0x3F800000#32 + sc (ix2 0 j)) + dx (ix2 r j) : EReal) := by
  unfold k4_pay2
  pointwise
  rw [read_apply]

/-- The scale's gradient starts at zero. -/
theorem dsc_zero (j : Fin 1024) : k4_pay3 (F := Ideal) (ix2 0 j) = (0 : EReal) := by
  unfold k4_pay3
  pointwise

/-- The shift's gradient starts at zero. -/
theorem dsh_zero (j : Fin 1024) : k4_pay4 (F := Ideal) (ix2 0 j) = (0 : EReal) := by
  unfold k4_pay4
  pointwise

/-- A block's products with the input are added to the scale's gradient. -/
theorem dsc_apply (x : Vec Ideal S512x1024 .f32) (du : Vec Ideal S512x1024 .bf16) (a : Vec Ideal S1x1024 .f32) (j : Fin 1024) :
    k4_pay5 x du a (ix2 0 j) = (a (ix2 0 j) + ∑ r : Fin 512, x (ix2 r j) * du (ix2 r j) : EReal) := by
  unfold k4_pay5
  pointwise
  simp only [read_apply]

/-- A block's columns are added to the shift's gradient. -/
theorem dsh_apply (du : Vec Ideal S512x1024 .bf16) (a : Vec Ideal S1x1024 .f32) (j : Fin 1024) :
    k4_pay6 du a (ix2 0 j) = (a (ix2 0 j) + ∑ r : Fin 512, du (ix2 r j) : EReal) := by
  unfold k4_pay6
  pointwise
  simp only [read_apply]

end Cert.Kernel3Ideal.In

end
-- ==== Proof.InRegions.lean ====
module

public import proofs.«01_k».proof.Proof.InBlock
public import proofs.«01_k».proof.Proof.Gen.Kernel3Ideal.Frame
public import Idealize.ShloMosaic.Lib.Pipeline.ValueKit

@[expose] public section

noncomputable section

namespace Cert.Kernel3Ideal.In

open Idealize.ShloMosaic Idealize.SL.Sem Cert.Kernel3Ideal.Gen Cert.Mlp Cert.In

variable (V : (c : Dev nD) → (b : Ref sig .tc) → Buf (Elt Ideal) ((c.tc : Thread nD τ).loc b))

/-- Where the input's block lies at a point. -/
theorem index0_0 : ∀ t : Fin cfg0.N, win0_0.index t = ![t.val, 0] := by decide +kernel
/-- Where the scale lies at a point. -/
theorem index0_1 : ∀ t : Fin cfg0.N, win0_1.index t = ![0, 0] := by decide +kernel
/-- Where the shift lies at a point. -/
theorem index0_2 : ∀ t : Fin cfg0.N, win0_2.index t = ![0, 0] := by decide +kernel
/-- Where the modulated input's block lies at a point. -/
theorem index0_3 : ∀ t : Fin cfg0.N, win0_3.index t = ![t.val, 0] := by decide +kernel

/-- The modulated input after its call. -/
theorem final0 (c : Dev nD) : (dat0 V c).arrAt 3 cfg0.N = modulated (V c main_arg0) (V c main_arg1) (V c main_arg2) := by
  refine (dat0 V c).arrAt_eq_of_covers 3 _ (by decide +kernel) fun t hf y => ?_
  blk_simp
  rw [after0_3]
  frame_out
  obtain ⟨r, j, rfl⟩ : ∃ r j, y = ix2 r j := ⟨y 0, y 1, eq_ix2 y⟩
  refine (mod_apply _ _ _ r j).trans ?_
  have ht : t.val < 4 := t.isLt.trans_eq (by decide +kernel)
  have e : (win0_3.blk t).view.emb (ix2 r j) = ix2 ⟨512 * t.val + r.val, by omega⟩ j := by
    blk_ext [index0_3]
  rw [e]
  refine congrArg₂ (· + ·) (congrArg₂ (· * ·) ?_ (congrArg (Ideal.ofBits FTy.f32 0x3F800000#32 + ·) ?_)) ?_
  · blk_simp [iblk0]
    blk_ext [index0_0]
  · blk_simp [iblk0]
    blk_ext [index0_1]
  · blk_simp [iblk0]
    blk_ext [index0_2]

/-- Where the modulated input lies at a point. -/
theorem index1_0 : ∀ t : Fin cfg1.N, win1_0.index t = ![0, 0] := by decide +kernel
/-- Where the weights' block lies at a point. -/
theorem index1_1 : ∀ t : Fin cfg1.N, win1_1.index t = ![0, t.val] := by decide +kernel
/-- Where the projection's block lies at a point. -/
theorem index1_2 : ∀ t : Fin cfg1.N, win1_2.index t = ![0, t.val] := by decide +kernel

/-- The projection after its call. -/
theorem final1 (c : Dev nD) : (dat1 V c).arrAt 2 cfg1.N = mulNN (V c main_v7) (V c main_v6) := by
  refine (dat1 V c).arrAt_eq_of_covers 2 _ (by decide +kernel) fun t hf y => ?_
  blk_simp
  rw [after1_2]
  frame_out
  obtain ⟨r, j, rfl⟩ : ∃ r j, y = ix2 r j := ⟨y 0, y 1, eq_ix2 y⟩
  refine (proj_apply _ _ r j).trans ?_
  have ht : t.val < 8 := t.isLt.trans_eq (by decide +kernel)
  have e : (win1_2.blk t).view.emb (ix2 r j) = ix2 r ⟨1024 * t.val + j.val, by omega⟩ := by
    blk_ext [index1_2]
  rw [e]
  refine Finset.sum_congr rfl fun k _ => congrArg₂ (· * ·) ?_ ?_
  · blk_simp [iblk1]
    blk_ext [index1_0]
  · blk_simp [iblk1]
    blk_ext [index1_1]

/-- Where the projection's cotangent's block lies at a point. -/
theorem index2_0 : ∀ t : Fin cfg2.N, win2_0.index t = ![t.val / 4, 0] := by decide +kernel
/-- Where the weights' block lies at a point. -/
theorem index2_1 : ∀ t : Fin cfg2.N, win2_1.index t = ![t.val % 4, 0] := by decide +kernel
/-- Where the modulated input's cotangent's block lies at a point. -/
theorem index2_2 : ∀ t : Fin cfg2.N, win2_2.index t = ![t.val / 4, t.val % 4] := by decide +kernel

/-- The modulated input's cotangent after its call. -/
theorem final2 (c : Dev nD) : (dat2 V c).arrAt 2 cfg2.N = mulNT (V c main_v16) (V c main_v6) := by
  refine (dat2 V c).arrAt_eq_of_covers 2 _ (by decide +kernel) fun t hf y => ?_
  blk_simp
  rw [after2_2]
  frame_out
  obtain ⟨r, j, rfl⟩ : ∃ r j, y = ix2 r j := ⟨y 0, y 1, eq_ix2 y⟩
  refine (du_apply _ _ r j).trans ?_
  have ht : t.val < 8 := t.isLt.trans_eq (by decide +kernel)
  have e : (win2_2.blk t).view.emb (ix2 r j) = ix2 ⟨1024 * (t.val / 4) + r.val, by omega⟩ ⟨256 * (t.val % 4) + j.val, by omega⟩ := by
    blk_ext [index2_2]
  rw [e]
  refine Finset.sum_congr rfl fun k _ => congrArg₂ (· * ·) ?_ ?_
  · blk_simp [iblk2]
    blk_ext [index2_0]
  · blk_simp [iblk2]
    blk_ext [index2_1]

/-- Where the modulated input lies at a point. -/
theorem index3_0 : ∀ t : Fin cfg3.N, win3_0.index t = ![0, 0] := by decide +kernel
/-- Where the projection's cotangent's block lies at a point. -/
theorem index3_1 : ∀ t : Fin cfg3.N, win3_1.index t = ![0, t.val] := by decide +kernel
/-- Where the gradient's block lies at a point. -/
theorem index3_2 : ∀ t : Fin cfg3.N, win3_2.index t = ![0, t.val] := by decide +kernel

/-- The weights' gradient after its call. -/
theorem final3 (c : Dev nD) : (dat3 V c).arrAt 2 cfg3.N = mulTN (V c main_v7) (V c main_v16) := by
  refine (dat3 V c).arrAt_eq_of_covers 2 _ (by decide +kernel) fun t hf y => ?_
  blk_simp
  rw [after3_2]
  frame_out
  obtain ⟨r, j, rfl⟩ : ∃ r j, y = ix2 r j := ⟨y 0, y 1, eq_ix2 y⟩
  refine (dw_apply _ _ r j).trans ?_
  have ht : t.val < 4 := t.isLt.trans_eq (by decide +kernel)
  have e : (win3_2.blk t).view.emb (ix2 r j) = ix2 r ⟨2048 * t.val + j.val, by omega⟩ := by
    blk_ext [index3_2]
  rw [e]
  refine Finset.sum_congr rfl fun k _ => congrArg₂ (· * ·) ?_ ?_
  · blk_simp [iblk3]
    blk_ext [index3_0]
  · blk_simp [iblk3]
    blk_ext [index3_1]

end Cert.Kernel3Ideal.In

end
-- ==== Proof.InSums.lean ====
module

public import proofs.«01_k».proof.Proof.InBlock
public import proofs.«01_k».proof.Proof.Gen.Kernel3Ideal.Frame
public import Idealize.ShloMosaic.Lib.Pipeline.ValueKit

@[expose] public section

noncomputable section

namespace Cert.Kernel3Ideal.In

open Idealize.ShloMosaic Idealize.SL.Sem Cert.Kernel3Ideal.Gen Cert.Mlp Cert.In

variable (V : (c : Dev nD) → (b : Ref sig .tc) → Buf (Elt Ideal) ((c.tc : Thread nD τ).loc b))

/-- Where the input's block lies at a point. -/
theorem index4_0 : ∀ t : Fin cfg4.N, win4_0.index t = ![t.val, 0] := by decide +kernel
/-- Where the scale lies at a point. -/
theorem index4_1 : ∀ t : Fin cfg4.N, win4_1.index t = ![0, 0] := by decide +kernel
/-- Where the modulated input's cotangent's block lies at a point. -/
theorem index4_3 : ∀ t : Fin cfg4.N, win4_3.index t = ![t.val, 0] := by decide +kernel
/-- Where the residual's cotangent's block lies at a point. -/
theorem index4_4 : ∀ t : Fin cfg4.N, win4_4.index t = ![t.val, 0] := by decide +kernel
/-- Where the input's cotangent's block lies at a point. -/
theorem index4_5 : ∀ t : Fin cfg4.N, win4_5.index t = ![t.val, 0] := by decide +kernel
/-- Where the scale's gradient lies at a point. -/
theorem index4_6 : ∀ t : Fin cfg4.N, win4_6.index t = ![0, 0] := by decide +kernel
/-- Where the shift's gradient lies at a point. -/
theorem index4_7 : ∀ t : Fin cfg4.N, win4_7.index t = ![0, 0] := by decide +kernel

/-- The last call has four points. -/
theorem points4 (t : Fin cfg4.N) : t.val < 4 := t.isLt.trans_eq (by decide +kernel)

/-- A block's entry of the input's cotangent. -/
def entryX (sc : Vec Ideal S1x1024 .f32) (du : Vec Ideal S512x1024 .bf16) (dx : Vec Ideal S512x1024 .f32) (r : Fin 512)
    (j : Fin 1024) : EReal := du (ix2 r j) * (Ideal.ofBits FTy.f32 0x3F800000#32 + sc (ix2 0 j)) + dx (ix2 r j)

/-- A point's entries of the input's cotangent. -/
theorem entryX_apply (c : Dev nD) (t : Fin cfg4.N) (r : Fin 512) (j : Fin 1024) :
    entryX (iblk4 V c 1 t) (iblk4 V c 3 t) (iblk4 V c 4 t) r j = inputBack (V c main_arg1) (V c main_v17) (V c main_arg15)
      (ix2 ⟨512 * t.val + r.val, by have := points4 t; omega⟩ j) := by
  refine congrArg₂ (· + ·) (congrArg₂ (· * ·) ?_ (congrArg (Ideal.ofBits FTy.f32 0x3F800000#32 + ·) ?_)) ?_
  · blk_simp [iblk4]
    blk_ext [index4_3]
  · blk_simp [iblk4]
    blk_ext [index4_1]
  · blk_simp [iblk4]
    blk_ext [index4_4]

/-- The rows a point leaves of the input's cotangent. -/
theorem rows4 (c : Dev nD) (t : Fin cfg4.N) (r : Fin 512) (j : Fin 1024) :
    (outsAt4 V c t.val t.isLt).1 (ix2 r j) = inputBack (V c main_arg1) (V c main_v17) (V c main_arg15)
      (ix2 ⟨512 * t.val + r.val, by have := points4 t; omega⟩ j) := by
  rw [← entryX_apply]
  by_cases h : t.val % 4 = 0
  · rw [outsAt4_A V c t h]
    frame_out
    exact dx_apply _ _ _ r j
  · rw [outsAt4_B V c t h]
    frame_out
    exact dx_apply _ _ _ r j

/-- The input's cotangent after the call. -/
theorem final4_5 (c : Dev nD) :
    (dat4 V c).arrAt 5 cfg4.N = inputBack (V c main_arg1) (V c main_v17) (V c main_arg15) := by
  refine (dat4 V c).arrAt_eq_of_covers 5 _ (by decide +kernel) fun t hf y => ?_
  blk_simp
  rw [after4_5]
  obtain ⟨r, j, rfl⟩ : ∃ r j, y = ix2 r j := ⟨y 0, y 1, eq_ix2 y⟩
  have e : (win4_5.blk t).view.emb (ix2 r j) = ix2 ⟨512 * t.val + r.val, by have := points4 t; omega⟩ j := by
    blk_ext [index4_5]
  rw [e]
  exact rows4 V c t r j

/-- The scale's gradient before the rows are summed, from the call's operands. -/
def wholeScale (c : Dev nD) : Mat 2048 1024 := scaleBack (V c main_arg0) (V c main_v17)

/-- A row of it, by its number. -/
def rowScale (c : Dev nD) (j : Fin 1024) (i : ℕ) : EReal := if h : i < 2048 then wholeScale V c (ix2 ⟨i, h⟩ j) else 0

/-- A point's share of it. -/
def shareScale (c : Dev nD) (t : ℕ) (j : Fin 1024) : EReal := ∑ r : Fin 512, rowScale V c j (512 * t + r.val)

/-- A block's entry of it. -/
def entryScale (x : Vec Ideal S512x1024 .f32) (du : Vec Ideal S512x1024 .bf16) (r : Fin 512) (j : Fin 1024) : EReal := x (ix2 r j) * du (ix2 r j)

/-- A point's entries of it. -/
theorem entryScale_apply (c : Dev nD) (t : Fin cfg4.N) (r : Fin 512) (j : Fin 1024) :
    entryScale (iblk4 V c 0 t) (iblk4 V c 3 t) r j = wholeScale V c (ix2 ⟨512 * t.val + r.val, by have := points4 t; omega⟩ j) := by
  refine congrArg₂ (· * ·) ?_ ?_
  · blk_simp [iblk4]
    blk_ext [index4_0]
  · blk_simp [iblk4]
    blk_ext [index4_3]

/-- A point's share is the sum of its block's entries. -/
theorem shareScale_eq (c : Dev nD) (t : Fin cfg4.N) (j : Fin 1024) :
    shareScale V c t.val j = ∑ r : Fin 512, entryScale (iblk4 V c 0 t) (iblk4 V c 3 t) r j :=
  Finset.sum_congr rfl fun r _ => (dif_pos (by have := points4 t; omega)).trans (entryScale_apply V c t r j).symm

/-- The first point starts over zero. -/
theorem stepScale_A (c : Dev nD) (t : Fin cfg4.N) (h : t.val % 4 = 0) (j : Fin 1024) :
    (outsAt4 V c t.val t.isLt).2.1 (ix2 0 j) = 0 + shareScale V c t.val j := by
  rw [outsAt4_A V c t h, shareScale_eq]
  frame_out
  refine (dsc_apply _ _ _ j).trans ?_
  rw [dsc_zero]
  rfl

/-- A later point adds to what the point before left. -/
theorem stepScale_B (c : Dev nD) (t : Fin cfg4.N) (h : ¬ t.val % 4 = 0) (j : Fin 1024) :
    (outsAt4 V c t.val t.isLt).2.1 (ix2 0 j)
      = (outsAt4 V c (t.val - 1) (Nat.lt_of_le_of_lt (Nat.sub_le _ _) t.isLt)).2.1 (ix2 0 j) + shareScale V c t.val j := by
  rw [outsAt4_B V c t h, shareScale_eq]
  frame_out
  exact dsc_apply _ _ _ j

/-- After the last point all the rows are summed. -/
theorem lastScale (c : Dev nD) (t : Fin cfg4.N) (ht : t.val % 4 = 3) (j : Fin 1024) :
    (outsAt4 V c t.val t.isLt).2.1 (ix2 0 j) = ∑ i : Fin 2048, wholeScale V c (ix2 i j) := by
  have key := Pipeline.eq_sum_of_reset_step_apply_of_mod (fun n h (j : Fin 1024) => (outsAt4 V c n h).2.1 (ix2 0 j)) 4
    (fun _ => 0) (shareScale V c) (fun t h j => stepScale_A V c t h j) (fun t h j => stepScale_B V c t h j) t ht j
  have h4 := points4 t
  have hd : t.val / 4 = 0 := by omega
  refine key.trans ?_
  rw [zero_add, Finset.sum_range, hd]
  have e : ∀ n : Fin 4, shareScale V c (4 * 0 + n.val) j = ∑ r : Fin 512, rowScale V c j (512 * n.val + r.val) := fun n => by
    rw [Nat.mul_zero, Nat.zero_add]
    rfl
  refine (Finset.sum_congr rfl fun n _ => e n).trans ((sum_blocks (rowScale V c j)).trans (Finset.sum_congr rfl fun i _ => ?_))
  exact dif_pos i.isLt

/-- The scale's gradient after the call. -/
theorem final4_6 (c : Dev nD) : (dat4 V c).arrAt 6 cfg4.N = colSum (scaleBack (V c main_arg0) (V c main_v17)) := by
  refine (dat4 V c).arrAt_eq_of_covers 6 _ (by decide +kernel) fun t hf y => ?_
  blk_simp
  rw [after4_6]
  obtain ⟨r, j, rfl⟩ : ∃ r j, y = ix2 r j := ⟨y 0, y 1, eq_ix2 y⟩
  obtain rfl : r = 0 := Subsingleton.elim (α := Fin 1) _ _
  have e : (win4_6.blk t).view.emb (ix2 0 j) = ix2 0 j := by
    blk_ext [index4_6]
  rw [e]
  exact lastScale V c t ((flush4_6 t).mp hf) j

/-- The shift's gradient before the rows are summed, from the call's operands. -/
def wholeShift (c : Dev nD) : Mat 2048 1024 := V c main_v17

/-- A row of it, by its number. -/
def rowShift (c : Dev nD) (j : Fin 1024) (i : ℕ) : EReal := if h : i < 2048 then wholeShift V c (ix2 ⟨i, h⟩ j) else 0

/-- A point's share of it. -/
def shareShift (c : Dev nD) (t : ℕ) (j : Fin 1024) : EReal := ∑ r : Fin 512, rowShift V c j (512 * t + r.val)

/-- A block's entry of it. -/
def entryShift (du : Vec Ideal S512x1024 .bf16) (r : Fin 512) (j : Fin 1024) : EReal := du (ix2 r j)

/-- A point's entries of it. -/
theorem entryShift_apply (c : Dev nD) (t : Fin cfg4.N) (r : Fin 512) (j : Fin 1024) :
    entryShift (iblk4 V c 3 t) r j = wholeShift V c (ix2 ⟨512 * t.val + r.val, by have := points4 t; omega⟩ j) := by
  unfold entryShift wholeShift
  blk_simp [iblk4]
  blk_ext [index4_3]

/-- A point's share is the sum of its block's entries. -/
theorem shareShift_eq (c : Dev nD) (t : Fin cfg4.N) (j : Fin 1024) :
    shareShift V c t.val j = ∑ r : Fin 512, entryShift (iblk4 V c 3 t) r j :=
  Finset.sum_congr rfl fun r _ => (dif_pos (by have := points4 t; omega)).trans (entryShift_apply V c t r j).symm

/-- The first point starts over zero. -/
theorem stepShift_A (c : Dev nD) (t : Fin cfg4.N) (h : t.val % 4 = 0) (j : Fin 1024) :
    (outsAt4 V c t.val t.isLt).2.2 (ix2 0 j) = 0 + shareShift V c t.val j := by
  rw [outsAt4_A V c t h, shareShift_eq]
  frame_out
  refine (dsh_apply _ _ j).trans ?_
  rw [dsh_zero]
  rfl

/-- A later point adds to what the point before left. -/
theorem stepShift_B (c : Dev nD) (t : Fin cfg4.N) (h : ¬ t.val % 4 = 0) (j : Fin 1024) :
    (outsAt4 V c t.val t.isLt).2.2 (ix2 0 j)
      = (outsAt4 V c (t.val - 1) (Nat.lt_of_le_of_lt (Nat.sub_le _ _) t.isLt)).2.2 (ix2 0 j) + shareShift V c t.val j := by
  rw [outsAt4_B V c t h, shareShift_eq]
  frame_out
  exact dsh_apply _ _ j

/-- After the last point all the rows are summed. -/
theorem lastShift (c : Dev nD) (t : Fin cfg4.N) (ht : t.val % 4 = 3) (j : Fin 1024) :
    (outsAt4 V c t.val t.isLt).2.2 (ix2 0 j) = ∑ i : Fin 2048, wholeShift V c (ix2 i j) := by
  have key := Pipeline.eq_sum_of_reset_step_apply_of_mod (fun n h (j : Fin 1024) => (outsAt4 V c n h).2.2 (ix2 0 j)) 4
    (fun _ => 0) (shareShift V c) (fun t h j => stepShift_A V c t h j) (fun t h j => stepShift_B V c t h j) t ht j
  have h4 := points4 t
  have hd : t.val / 4 = 0 := by omega
  refine key.trans ?_
  rw [zero_add, Finset.sum_range, hd]
  have e : ∀ n : Fin 4, shareShift V c (4 * 0 + n.val) j = ∑ r : Fin 512, rowShift V c j (512 * n.val + r.val) := fun n => by
    rw [Nat.mul_zero, Nat.zero_add]
    rfl
  refine (Finset.sum_congr rfl fun n _ => e n).trans ((sum_blocks (rowShift V c j)).trans (Finset.sum_congr rfl fun i _ => ?_))
  exact dif_pos i.isLt

/-- The shift's gradient after the call. -/
theorem final4_7 (c : Dev nD) : (dat4 V c).arrAt 7 cfg4.N = colSum (V c main_v17) := by
  refine (dat4 V c).arrAt_eq_of_covers 7 _ (by decide +kernel) fun t hf y => ?_
  blk_simp
  rw [after4_7]
  obtain ⟨r, j, rfl⟩ : ∃ r j, y = ix2 r j := ⟨y 0, y 1, eq_ix2 y⟩
  obtain rfl : r = 0 := Subsingleton.elim (α := Fin 1) _ _
  have e : (win4_7.blk t).view.emb (ix2 0 j) = ix2 0 j := by
    blk_ext [index4_7]
  rw [e]
  exact lastShift V c t ((flush4_7 t).mp hf) j

end Cert.Kernel3Ideal.In

end
-- ==== Proof.InCols.lean ====
module

public import proofs.«01_k».proof.Proof.InBlock

@[expose] public section

noncomputable section

namespace Cert.Kernel3Ideal.In

open Idealize.ShloMosaic Idealize.SL.Sem Cert.Kernel3Ideal Cert.Kernel3Ideal.Gen Cert.Mlp Cert.In

/-- The weights' columns as the host puts them in the kernel's order. -/
def packW (w : Vec Ideal S1024x7696 .bf16) : Vec Ideal S1024x8192 .bf16 :=
  concatenate S1024x8192 1
    [⟨S1024x1024, extractStridedSlice S1024x1024 ![0, 0] w slices_S1024x7696_S1024x1024_0_0⟩,
      ⟨S1024x4096, extractStridedSlice S1024x4096 ![0, 1536] w slices_S1024x7696_S1024x4096_0_1536⟩,
      ⟨S1024x2048, extractStridedSlice S1024x2048 ![0, 5648] w slices_S1024x7696_S1024x2048_0_5648⟩,
      ⟨S1024x512, extractStridedSlice S1024x512 ![0, 1024] w slices_S1024x7696_S1024x512_0_1024⟩,
      ⟨S1024x16, extractStridedSlice S1024x16 ![0, 5632] w slices_S1024x7696_S1024x16_0_5632⟩,
      ⟨S1024x496, broadcastInDim S1024x496 ![] bcast_S_S1024x496 (constant (F := Ideal) S_ .bf16 0x0000#16 : Vec Ideal S_ .bf16)⟩]
    concatenates_S1024x1024_S1024x4096_S1024x2048_S1024x512_S1024x16_S1024x496_S1024x8192_d1

/-- They are the permuted columns, zeros filling up. -/
theorem packW_eq (w : Vec Ideal S1024x7696 .bf16) : packW w = permuted w := by
  funext y
  obtain ⟨r, j, rfl⟩ : ∃ r j, y = ix2 r j := ⟨y 0, y 1, eq_ix2 y⟩
  unfold packW
  pointwise
  have hj := j.isLt
  show _ = if h : j.val < 7696 then w (ix2 r ⟨origin j.val, origin_lt h⟩) else 0
  by_cases hl : j.val < 7696
  · rw [dif_pos hl]
    split_ifs <;> first
      | (exfalso; omega)
      | (refine congrArg w (congrArg (ix2 r) (Fin.ext ?_))
         simp (disch := omega) only [origin, if_pos, if_neg]
         first | done | omega)
  · rw [dif_neg hl]
    split_ifs <;> first | rfl | (exfalso; omega)

/-- The kernel's columns of the projection as the host puts them back. -/
def backP (g : Vec Ideal S2048x8192 .f32) : Vec Ideal S2048x7696 .f32 :=
  concatenate S2048x7696 1
    [⟨S2048x1024, extractStridedSlice S2048x1024 ![0, 0] g slices_S2048x8192_S2048x1024_0_0⟩,
      ⟨S2048x512, extractStridedSlice S2048x512 ![0, 7168] g slices_S2048x8192_S2048x512_0_7168⟩,
      ⟨S2048x4096, extractStridedSlice S2048x4096 ![0, 1024] g slices_S2048x8192_S2048x4096_0_1024⟩,
      ⟨S2048x16, extractStridedSlice S2048x16 ![0, 7680] g slices_S2048x8192_S2048x16_0_7680⟩,
      ⟨S2048x2048, extractStridedSlice S2048x2048 ![0, 5120] g slices_S2048x8192_S2048x2048_0_5120⟩]
    concatenates_S2048x1024_S2048x512_S2048x4096_S2048x16_S2048x2048_S2048x7696_d1

/-- They are the columns in their own order. -/
theorem backP_eq (g : Vec Ideal S2048x8192 .f32) : backP g = unpermuted g := by
  funext y
  obtain ⟨r, j, rfl⟩ : ∃ r j, y = ix2 r j := ⟨y 0, y 1, eq_ix2 y⟩
  unfold backP
  pointwise
  have hj := j.isLt
  show _ = g (ix2 r ⟨place j.val, _⟩)
  split_ifs <;> refine congrArg g (congrArg (ix2 r) (Fin.ext ?_)) <;>
    simp (disch := omega) only [place, if_pos, if_neg] <;> omega

/-- The two narrow pieces' cotangents, zeros filling up. -/
def packB (db da : Vec Ideal S2048x8 .f32) : FVec Ideal S2048x128 .f32 :=
  concatenate S2048x128 1 [⟨S2048x8, db⟩, ⟨S2048x8, da⟩,
    ⟨S2048x112, broadcastInDim S2048x112 ![] bcast_S_S2048x112 (constant (F := Ideal) S_ .f32 0x00000000#32 : Vec Ideal S_ .f32)⟩]
    concatenates_S2048x8_S2048x8_S2048x112_S2048x128_d1

/-- The kernel's columns of the weights' gradient as the host puts them back. -/
def backW (g : Vec Ideal S1024x8192 .bf16) : Vec Ideal S1024x7696 .bf16 :=
  concatenate S1024x7696 1
    [⟨S1024x1024, extractStridedSlice S1024x1024 ![0, 0] g slices_S1024x8192_S1024x1024_0_0⟩,
      ⟨S1024x512, extractStridedSlice S1024x512 ![0, 7168] g slices_S1024x8192_S1024x512_0_7168⟩,
      ⟨S1024x4096, extractStridedSlice S1024x4096 ![0, 1024] g slices_S1024x8192_S1024x4096_0_1024⟩,
      ⟨S1024x16, extractStridedSlice S1024x16 ![0, 7680] g slices_S1024x8192_S1024x16_0_7680⟩,
      ⟨S1024x2048, extractStridedSlice S1024x2048 ![0, 5120] g slices_S1024x8192_S1024x2048_0_5120⟩]
    concatenates_S1024x1024_S1024x512_S1024x4096_S1024x16_S1024x2048_S1024x7696_d1

/-- They are the columns in their own order. -/
theorem backW_eq (g : Vec Ideal S1024x8192 .bf16) : backW g = unpermuted g := by
  funext y
  obtain ⟨r, j, rfl⟩ : ∃ r j, y = ix2 r j := ⟨y 0, y 1, eq_ix2 y⟩
  unfold backW
  pointwise
  have hj := j.isLt
  show _ = g (ix2 r ⟨place j.val, _⟩)
  split_ifs <;> refine congrArg g (congrArg (ix2 r) (Fin.ext ?_)) <;>
    simp (disch := omega) only [place, if_pos, if_neg] <;> omega

/-- The pieces' cotangents as the host puts them side by side in the kernel's order. -/
def packD (dq : FVec Ideal S2048x1024 .f32) (dk dv : FVec Ideal S2048x256 .f32) (eq ek ev ez : Vec Ideal S2048x1024 .bf16)
    (db da : Vec Ideal S2048x8 .f32) (ga gb : Vec Ideal S2048x1024 .bf16) : Vec Ideal S2048x8192 .bf16 :=
  concatenate S2048x8192 1
    [⟨S2048x1024, (truncf .bf16 dq bitsLt_bf16_f32 : FVec Ideal S2048x1024 .bf16)⟩, ⟨S2048x1024, eq⟩, ⟨S2048x1024, ek⟩,
      ⟨S2048x1024, ev⟩, ⟨S2048x1024, ez⟩, ⟨S2048x1024, ga⟩, ⟨S2048x1024, gb⟩,
      ⟨S2048x256, (truncf .bf16 dk bitsLt_bf16_f32 : FVec Ideal S2048x256 .bf16)⟩,
      ⟨S2048x256, (truncf .bf16 dv bitsLt_bf16_f32 : FVec Ideal S2048x256 .bf16)⟩,
      ⟨S2048x128, (truncf .bf16 (packB db da) bitsLt_bf16_f32 : FVec Ideal S2048x128 .bf16)⟩,
      ⟨S2048x384, broadcastInDim S2048x384 ![] bcast_S_S2048x384 (constant (F := Ideal) S_ .bf16 0x0000#16 : Vec Ideal S_ .bf16)⟩]
    concatenates_S2048x1024_S2048x1024_S2048x1024_S2048x1024_S2048x1024_S2048x1024_S2048x1024_S2048x256_S2048x256_S2048x128_S2048x384_S2048x8192_d1

/-- They are the permuted columns of the pieces' cotangents joined, zeros filling up. -/
theorem packD_eq (dq : FVec Ideal S2048x1024 .f32) (dk dv : FVec Ideal S2048x256 .f32) (eq ek ev ez : Vec Ideal S2048x1024 .bf16)
    (db da : Vec Ideal S2048x8 .f32) (ga gb : Vec Ideal S2048x1024 .bf16) :
    packD dq dk dv eq ek ev ez db da ga gb = permuted (joined dq dk dv eq ek ev ez db da ga gb) := by
  funext y
  obtain ⟨r, j, rfl⟩ : ∃ r j, y = ix2 r j := ⟨y 0, y 1, eq_ix2 y⟩
  unfold packD packB
  pointwise
  have hj := j.isLt
  by_cases hl : j.val < 7696
  · refine Eq.trans ?_ (dif_pos hl).symm
    show _ = joinedAt dq dk dv eq ek ev ez db da ga gb r (origin j.val)
    unfold joinedAt
    generalize hc : j.val = c at hl ⊢
    rcases (by omega : c < 1024 ∨ 1024 ≤ c ∧ c < 2048 ∨ 2048 ≤ c ∧ c < 3072 ∨ 3072 ≤ c ∧ c < 4096 ∨ 4096 ≤ c ∧ c < 5120 ∨ 5120 ≤ c ∧ c < 6144 ∨ 6144 ≤ c ∧ c < 7168 ∨ 7168 ≤ c ∧ c < 7424 ∨ 7424 ≤ c ∧ c < 7680 ∨ 7680 ≤ c ∧ c < 7688 ∨ 7688 ≤ c ∧ c < 7696) with
      h | h | h | h | h | h | h | h | h | h | h
    · have e : origin c = c := by
        unfold origin
        split_ifs <;> omega
      rw [e]
      refine (dif_pos (by omega)).trans ?_
      refine Eq.symm ?_
      refine (if_pos (by omega)).trans ?_
      exact (entryAt_lt _ r _ (by omega)).trans (congrArg _ (congrArg (ix2 r) (Fin.ext (by dsimp only; try omega))))
    · have e : origin c = c + 512 := by
        unfold origin
        split_ifs <;> omega
      rw [e]
      refine (dif_neg (by omega)).trans ?_
      refine (dif_pos (by omega)).trans ?_
      refine Eq.symm ?_
      refine (if_neg (by omega)).trans ?_
      refine (if_neg (by omega)).trans ?_
      refine (if_neg (by omega)).trans ?_
      refine (if_pos (by omega)).trans ?_
      exact (entryAt_lt _ r _ (by omega)).trans (congrArg _ (congrArg (ix2 r) (Fin.ext (by dsimp only; try omega))))
    · have e : origin c = c + 512 := by
        unfold origin
        split_ifs <;> omega
      rw [e]
      refine (dif_neg (by omega)).trans ?_
      refine (dif_neg (by omega)).trans ?_
      refine (dif_pos (by omega)).trans ?_
      refine Eq.symm ?_
      refine (if_neg (by omega)).trans ?_
      refine (if_neg (by omega)).trans ?_
      refine (if_neg (by omega)).trans ?_
      refine (if_neg (by omega)).trans ?_
      refine (if_pos (by omega)).trans ?_
      exact (entryAt_lt _ r _ (by omega)).trans (congrArg _ (congrArg (ix2 r) (Fin.ext (by dsimp only; try omega))))
    · have e : origin c = c + 512 := by
        unfold origin
        split_ifs <;> omega
      rw [e]
      refine (dif_neg (by omega)).trans ?_
      refine (dif_neg (by omega)).trans ?_
      refine (dif_neg (by omega)).trans ?_
      refine (dif_pos (by omega)).trans ?_
      refine Eq.symm ?_
      refine (if_neg (by omega)).trans ?_
      refine (if_neg (by omega)).trans ?_
      refine (if_neg (by omega)).trans ?_
      refine (if_neg (by omega)).trans ?_
      refine (if_neg (by omega)).trans ?_
      refine (if_pos (by omega)).trans ?_
      exact (entryAt_lt _ r _ (by omega)).trans (congrArg _ (congrArg (ix2 r) (Fin.ext (by dsimp only; try omega))))
    · have e : origin c = c + 512 := by
        unfold origin
        split_ifs <;> omega
      rw [e]
      refine (dif_neg (by omega)).trans ?_
      refine (dif_neg (by omega)).trans ?_
      refine (dif_neg (by omega)).trans ?_
      refine (dif_neg (by omega)).trans ?_
      refine (dif_pos (by omega)).trans ?_
      refine Eq.symm ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_pos (by omega)).trans ?_
      exact (entryAt_lt _ r _ (by omega)).trans (congrArg _ (congrArg (ix2 r) (Fin.ext (by dsimp only; try omega))))
    · have e : origin c = c + 528 := by
        unfold origin
        split_ifs <;> omega
      rw [e]
      refine (dif_neg (by omega)).trans ?_
      refine (dif_neg (by omega)).trans ?_
      refine (dif_neg (by omega)).trans ?_
      refine (dif_neg (by omega)).trans ?_
      refine (dif_neg (by omega)).trans ?_
      refine (dif_pos (by omega)).trans ?_
      refine Eq.symm ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_pos (by omega)).trans ?_
      exact (entryAt_lt _ r _ (by omega)).trans (congrArg _ (congrArg (ix2 r) (Fin.ext (by dsimp only; try omega))))
    · have e : origin c = c + 528 := by
        unfold origin
        split_ifs <;> omega
      rw [e]
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_pos (by omega)).trans ?_
      refine Eq.symm ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      exact (entryAt_lt _ r _ (by omega)).trans (congrArg _ (congrArg (ix2 r) (Fin.ext (by dsimp only; try omega))))
    · have e : origin c = c - 6144 := by
        unfold origin
        split_ifs <;> omega
      rw [e]
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_pos (by omega)).trans ?_
      refine Eq.symm ?_
      refine (if_neg (by omega)).trans ?_
      refine (if_pos (by omega)).trans ?_
      exact (entryAt_lt _ r _ (by omega)).trans (congrArg _ (congrArg (ix2 r) (Fin.ext (by dsimp only; try omega))))
    · have e : origin c = c - 6144 := by
        unfold origin
        split_ifs <;> omega
      rw [e]
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_pos (by omega)).trans ?_
      refine Eq.symm ?_
      refine (if_neg (by omega)).trans ?_
      refine (if_neg (by omega)).trans ?_
      refine (if_pos (by omega)).trans ?_
      exact (entryAt_lt _ r _ (by omega)).trans (congrArg _ (congrArg (ix2 r) (Fin.ext (by dsimp only; try omega))))
    · have e : origin c = c - 2048 := by
        unfold origin
        split_ifs <;> omega
      rw [e]
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_pos (by omega)).trans ?_
      refine (dif_pos (by omega)).trans ?_
      refine Eq.symm ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_pos (by omega)).trans ?_
      exact (entryAt_lt _ r _ (by omega)).trans (congrArg _ (congrArg (ix2 r) (Fin.ext (by dsimp only; try omega))))
    · have e : origin c = c - 2048 := by
        unfold origin
        split_ifs <;> omega
      rw [e]
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_pos (by omega)).trans ?_
      refine (dif_neg (by omega)).trans ?_
      refine (dif_pos (by omega)).trans ?_
      refine Eq.symm ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_neg (by omega)).trans ?_
      refine (if_pos (by omega)).trans ?_
      exact (entryAt_lt _ r _ (by omega)).trans (congrArg _ (congrArg (ix2 r) (Fin.ext (by dsimp only; try omega))))
  · refine Eq.trans ?_ (dif_neg hl).symm
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    split_ifs <;> first | rfl | (exfalso; omega)

end Cert.Kernel3Ideal.In

end
-- ==== Proof.InRun.lean ====
module

public import proofs.«01_k».proof.Proof.InRegions
public import proofs.«01_k».proof.Proof.InSums
public import proofs.«01_k».proof.Proof.InCols

@[expose] public section

noncomputable section

namespace Cert.Kernel3Ideal.In

open Idealize.ShloMosaic Idealize.ShloMosaic.TcCoe Idealize.SL.Sem Cert.Kernel3Ideal Cert.Kernel3Ideal.Gen Cert.Mlp Cert.In

section Launch

open Idealize.ShloMosaic.Tactic Idealize.SL Idealize.SL.RA Idealize.SL.BI
open scoped Idealize.SL.BI
open Idealize.SL.BI.BIBase Idealize.SL.BI.Laws Idealize.SL.ProofMode Idealize.ShloMosaic.Rounds

variable {F : FTy → Type} [FloatOps F] (m : (ℓ : Loc nD τ sig) → Buf (Elt F) ℓ) (ρ : Dev nD → PrngReg)

local notation "𝕄" => MT nD τ sig Unit (Elt F) ℕ (UR sig nD τ) ℕ

/-- The five calls and the host's lines end with every buffer as the last line leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Launch

variable (m : (ℓ : Loc nD τ sig) → Buf (Elt Ideal) ℓ) (ρ : Dev nD → PrngReg) (c : Dev nD)

/-- The layer's input. -/
abbrev arg0 : Mat 2048 1024 := m ((c.tc : Thread nD τ).loc main_arg0)
/-- The scale. -/
abbrev arg1 : Mat 1 1024 := m ((c.tc : Thread nD τ).loc main_arg1)
/-- The shift. -/
abbrev arg2 : Mat 1 1024 := m ((c.tc : Thread nD τ).loc main_arg2)
/-- The projection's weights. -/
abbrev arg3 : Mat 1024 7696 := m ((c.tc : Thread nD τ).loc main_arg3)
/-- The queries' cotangent. -/
abbrev arg4 : Mat 2048 1024 := m ((c.tc : Thread nD τ).loc main_arg4)
/-- The keys' cotangent. -/
abbrev arg5 : Mat 2048 256 := m ((c.tc : Thread nD τ).loc main_arg5)
/-- The values' cotangent. -/
abbrev arg6 : Mat 2048 256 := m ((c.tc : Thread nD τ).loc main_arg6)
/-- The linear attention's queries' cotangent. -/
abbrev arg7 : Mat 2048 1024 := m ((c.tc : Thread nD τ).loc main_arg7)
/-- The linear attention's keys' cotangent. -/
abbrev arg8 : Mat 2048 1024 := m ((c.tc : Thread nD τ).loc main_arg8)
/-- The linear attention's values' cotangent. -/
abbrev arg9 : Mat 2048 1024 := m ((c.tc : Thread nD τ).loc main_arg9)
/-- The linear attention's gate's cotangent. -/
abbrev arg10 : Mat 2048 1024 := m ((c.tc : Thread nD τ).loc main_arg10)
/-- The write strengths' cotangent. -/
abbrev arg11 : Mat 2048 8 := m ((c.tc : Thread nD τ).loc main_arg11)
/-- The decays' cotangent. -/
abbrev arg12 : Mat 2048 8 := m ((c.tc : Thread nD τ).loc main_arg12)
/-- The first merge gate's cotangent. -/
abbrev arg13 : Mat 2048 1024 := m ((c.tc : Thread nD τ).loc main_arg13)
/-- The second merge gate's cotangent. -/
abbrev arg14 : Mat 2048 1024 := m ((c.tc : Thread nD τ).loc main_arg14)
/-- The residual's cotangent. -/
abbrev arg15 : Mat 2048 1024 := m ((c.tc : Thread nD τ).loc main_arg15)

/-- The modulated input. -/
abbrev modIn : Mat 2048 1024 := modulated (arg0 m c) (arg1 m c) (arg2 m c)
/-- The projection's cotangent. -/
abbrev cot : Mat 2048 7696 := joined (arg4 m c) (arg5 m c) (arg6 m c) (arg7 m c) (arg8 m c) (arg9 m c) (arg10 m c) (arg11 m c) (arg12 m c) (arg13 m c) (arg14 m c)
/-- The modulated input's cotangent. -/
abbrev modBack : Mat 2048 1024 := mulNT (cot m c) (arg3 m c)

/-- The weights before the first call, in the kernel's order. -/
theorem weights_1 : V1 m ρ c main_v6 = permuted (arg3 m c) := by
  refine Eq.trans ?_ (packW_eq (arg3 m c))
  show StableHlo.after hostOps0 (W0 m ρ c) (Proc.devRef .tc main_v6) = _
  unfold hostOps0
  after_results
  rfl

/-- The weights before the second call. -/
theorem weights_2 : V2 m ρ c main_v6 = permuted (arg3 m c) := (W2_of m ρ c main_v6 (by decide +kernel)).trans (weights_1 m ρ c)

/-- The weights before the third call. -/
theorem weights_4 : V4 m ρ c main_v6 = permuted (arg3 m c) :=
  (W4_of m ρ c main_v6 (by decide +kernel)).trans ((W3_of m ρ c main_v6 (by decide +kernel)).trans (weights_2 m ρ c))

/-- The modulated input at its call's exit. -/
theorem mod_2 : V2 m ρ c main_v7 = modIn m c := by
  refine (W2_arr m ρ c 3).trans ((final0 (V1 m ρ) c).trans ?_)
  rw [show V1 m ρ c main_arg0 = arg0 m c from W1_args m ρ c main_arg0 (by decide),
    show V1 m ρ c main_arg1 = arg1 m c from W1_args m ρ c main_arg1 (by decide),
    show V1 m ρ c main_arg2 = arg2 m c from W1_args m ρ c main_arg2 (by decide)]

/-- The modulated input before the fourth call. -/
theorem mod_5 : V5 m ρ c main_v7 = modIn m c :=
  (W5_of m ρ c main_v7 (by decide +kernel)).trans ((W4_of m ρ c main_v7 (by decide +kernel)).trans
    ((W3_of m ρ c main_v7 (by decide +kernel)).trans (mod_2 m ρ c)))

/-- The projection before the last host lines, in the kernel's order. -/
theorem proj_7 : V7 m ρ c main_v8 = mulNN (modIn m c) (permuted (arg3 m c)) := by
  refine (W7_of m ρ c main_v8 (by decide +kernel)).trans ((W6_of m ρ c main_v8 (by decide +kernel)).trans
    ((W5_of m ρ c main_v8 (by decide +kernel)).trans ((W4_of m ρ c main_v8 (by decide +kernel)).trans
    ((W3_arr m ρ c 2).trans ((final1 (V2 m ρ) c).trans ?_)))))
  rw [mod_2, weights_2]

/-- The projection's cotangent before the third call, in the kernel's order. -/
theorem cot_4 : V4 m ρ c main_v16 = permuted (cot m c) := by
  refine Eq.trans ?_ (packD_eq (arg4 m c) (arg5 m c) (arg6 m c) (arg7 m c) (arg8 m c) (arg9 m c) (arg10 m c) (arg11 m c) (arg12 m c) (arg13 m c) (arg14 m c))
  have e : V4 m ρ c main_v16 = packD (W3 m ρ c (Proc.devRef .tc main_arg4)) (W3 m ρ c (Proc.devRef .tc main_arg5)) (W3 m ρ c (Proc.devRef .tc main_arg6)) (W3 m ρ c (Proc.devRef .tc main_arg7)) (W3 m ρ c (Proc.devRef .tc main_arg8)) (W3 m ρ c (Proc.devRef .tc main_arg9)) (W3 m ρ c (Proc.devRef .tc main_arg10)) (W3 m ρ c (Proc.devRef .tc main_arg11)) (W3 m ρ c (Proc.devRef .tc main_arg12)) (W3 m ρ c (Proc.devRef .tc main_arg13)) (W3 m ρ c (Proc.devRef .tc main_arg14)) := by
    show StableHlo.after hostOps2 (W3 m ρ c) (Proc.devRef .tc main_v16) = _
    unfold hostOps2
    after_results
    rfl
  rw [e, W3_args m ρ c main_arg4 (by decide), W3_args m ρ c main_arg5 (by decide), W3_args m ρ c main_arg6 (by decide), W3_args m ρ c main_arg7 (by decide), W3_args m ρ c main_arg8 (by decide), W3_args m ρ c main_arg9 (by decide), W3_args m ρ c main_arg10 (by decide), W3_args m ρ c main_arg11 (by decide), W3_args m ρ c main_arg12 (by decide), W3_args m ρ c main_arg13 (by decide), W3_args m ρ c main_arg14 (by decide)]

/-- The projection's cotangent before the fourth call. -/
theorem cot_5 : V5 m ρ c main_v16 = permuted (cot m c) := (W5_of m ρ c main_v16 (by decide +kernel)).trans (cot_4 m ρ c)

/-- The modulated input's cotangent before the last call. -/
theorem du_6 : V6 m ρ c main_v17 = modBack m c := by
  refine (W6_of m ρ c main_v17 (by decide +kernel)).trans ((W5_arr m ρ c 2).trans ((final2 (V4 m ρ) c).trans ?_))
  rw [cot_4, weights_4, mulNT_permuted]

/-- The weights' gradient before the last host lines, in the kernel's order. -/
theorem dw_7 : V7 m ρ c main_v18 = mulTN (modIn m c) (permuted (cot m c)) := by
  refine (W7_of m ρ c main_v18 (by decide +kernel)).trans ((W6_arr m ρ c 2).trans ((final3 (V5 m ρ) c).trans ?_))
  rw [mod_5, cot_5]

/-- The input's gradient. -/
theorem dx_8 : W8 m ρ c (Proc.devRef .tc main_v19_0) = inputBack (arg1 m c) (modBack m c) (arg15 m c) := by
  refine (W8_of m ρ c main_v19_0 (by decide +kernel)).trans ((W7_arr m ρ c 5).trans ((final4_5 (V6 m ρ) c).trans ?_))
  rw [du_6, show V6 m ρ c main_arg1 = arg1 m c from W6_args m ρ c main_arg1 (by decide),
    show V6 m ρ c main_arg15 = arg15 m c from W6_args m ρ c main_arg15 (by decide)]

/-- The scale's gradient. -/
theorem dsc_8 : W8 m ρ c (Proc.devRef .tc main_v19_1) = colSum (scaleBack (arg0 m c) (modBack m c)) := by
  refine (W8_of m ρ c main_v19_1 (by decide +kernel)).trans ((W7_arr m ρ c 6).trans ((final4_6 (V6 m ρ) c).trans ?_))
  rw [du_6, show V6 m ρ c main_arg0 = arg0 m c from W6_args m ρ c main_arg0 (by decide)]

/-- The shift's gradient. -/
theorem dsh_8 : W8 m ρ c (Proc.devRef .tc main_v19_2) = colSum (modBack m c) := by
  refine (W8_of m ρ c main_v19_2 (by decide +kernel)).trans ((W7_arr m ρ c 7).trans ((final4_7 (V6 m ρ) c).trans ?_))
  rw [du_6]

/-- The projection. -/
theorem proj_8 : W8 m ρ c (Proc.devRef .tc main_v25) = mulNN (modIn m c) (arg3 m c) := by
  have e : W8 m ρ c (Proc.devRef .tc main_v25) = backP (V7 m ρ c main_v8) := by
    show StableHlo.after hostOps5 (W7 m ρ c) (Proc.devRef .tc main_v25) = _
    unfold hostOps5
    after_results
    rfl
  rw [e, proj_7, backP_eq, unpermuted_mulNN]

/-- The weights' gradient. -/
theorem dw_8 : W8 m ρ c (Proc.devRef .tc main_v31) = mulTN (modIn m c) (cot m c) := by
  have e : W8 m ρ c (Proc.devRef .tc main_v31) = backW (V7 m ρ c main_v18) := by
    show StableHlo.after hostOps5 (W7 m ρ c) (Proc.devRef .tc main_v31) = _
    unfold hostOps5
    after_results
    rfl
  rw [e, dw_7, backW_eq, unpermuted_mulTN]

/-- The kernel's run with its five results. -/
theorem run_results : θ_run defs (onTc (τ := τ) (main (F := Ideal))) ⟨m, fun _ => 0, ρ⟩ (fun r => ∀ c : Dev nD,
      r.2.mem ((c.tc : Thread nD τ).loc main_v25) = mulNN (modIn m c) (arg3 m c)
      ∧ r.2.mem ((c.tc : Thread nD τ).loc main_v19_0) = inputBack (arg1 m c) (modBack m c) (arg15 m c)
      ∧ r.2.mem ((c.tc : Thread nD τ).loc main_v19_1) = colSum (scaleBack (arg0 m c) (modBack m c))
      ∧ r.2.mem ((c.tc : Thread nD τ).loc main_v19_2) = colSum (modBack m c)
      ∧ r.2.mem ((c.tc : Thread nD τ).loc main_v31) = mulTN (modIn m c) (cot m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c _ (mem_uc main_v25 (by decide))).trans (proj_8 m ρ c), (h c _ (mem_uc main_v19_0 (by decide))).trans (dx_8 m ρ c),
      (h c _ (mem_uc main_v19_1 (by decide))).trans (dsc_8 m ρ c), (h c _ (mem_uc main_v19_2 (by decide))).trans (dsh_8 m ρ c),
      (h c _ (mem_uc main_v31 (by decide))).trans (dw_8 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c)⟩)
    (run_all m ρ)

end Cert.Kernel3Ideal.In

end
-- ==== Proof.InPads.lean ====
module

public import proofs.«01_k».proof.Proof.InSpec
public import proofs.«01_k».proof.Proof.Gen.Reference3Ideal.Read

@[expose] public section

noncomputable section

namespace Cert.Reference3Ideal.In

open Idealize.ShloMosaic Cert.Reference3Ideal Cert.Reference3Ideal.Read Cert.Mlp Cert.In

/-- A piece put among zeros, read at a column's number. -/
def among {m n : ℕ} (lo : ℕ) (x : Mat m n) (r : Fin m) (j : ℕ) : EReal := if lo ≤ j then entryAt x r (j - lo) else 0

/-- Before its first column there are zeros. -/
theorem among_before {m n : ℕ} (lo : ℕ) (x : Mat m n) (r : Fin m) (j : ℕ) (h : j < lo) : among lo x r j = 0 :=
  if_neg (by omega)

/-- Behind its last column there are zeros. -/
theorem among_behind {m n : ℕ} (lo : ℕ) (x : Mat m n) (r : Fin m) (j : ℕ) (h : lo + n ≤ j) : among lo x r j = 0 :=
  (if_pos (by omega)).trans (dif_neg (by omega))

/-- From its first column on, the piece. -/
theorem among_inside {m n : ℕ} (lo : ℕ) (x : Mat m n) (r : Fin m) (j : ℕ) (h : lo ≤ j) :
    among lo x r j = entryAt x r (j - lo) := if_pos h

/-- The piece among zeros, from the test on both ends. -/
theorem among_eq {m n : ℕ} (lo : ℕ) (x : Mat m n) (r : Fin m) (j : ℕ) :
    (if h : lo ≤ j ∧ j - lo < n then x (ix2 r ⟨j - lo, h.2⟩) else 0) = among lo x r j := by
  unfold among entryAt
  by_cases h : lo ≤ j
  · by_cases h' : j - lo < n
    · rw [dif_pos ⟨h, h'⟩, if_pos h, dif_pos h']
    · rw [dif_neg (fun q => h' q.2), if_pos h, dif_neg h']
  · rw [dif_neg (fun q => h q.1), if_neg h]

/-- The second gate's cotangent among zeros. -/
theorem pad25 (x14 : (⟨S2048x1024, .bf16⟩ : BufTy).Contents (Elt Ideal)) (r : Fin 2048) (j : Fin 7696) :
    val_main_v25 (F := Ideal) x14 (ix2 r j) = among 6672 (x14 : Mat 2048 1024) r j.val := by
  rw [← among_eq]
  unfold val_main_v25 val_main_cst_0 val_main_v24
  pointwise

/-- The first gate's cotangent among zeros. -/
theorem pad26 (x13 : (⟨S2048x1024, .bf16⟩ : BufTy).Contents (Elt Ideal)) (r : Fin 2048) (j : Fin 7696) :
    val_main_v26 (F := Ideal) x13 (ix2 r j) = among 5648 (x13 : Mat 2048 1024) r j.val := by
  rw [← among_eq]
  unfold val_main_v26 val_main_cst_1 val_main_v23
  pointwise

/-- The decays' cotangent among zeros. -/
theorem pad28 (x12 : (⟨S2048x8, .f32⟩ : BufTy).Contents (Elt Ideal)) (r : Fin 2048) (j : Fin 7696) :
    val_main_v28 (F := Ideal) x12 (ix2 r j) = among 5640 (x12 : Mat 2048 8) r j.val := by
  rw [← among_eq]
  unfold val_main_v28 val_main_cst_2
  pointwise

/-- The write strengths' cotangent among zeros. -/
theorem pad30 (x11 : (⟨S2048x8, .f32⟩ : BufTy).Contents (Elt Ideal)) (r : Fin 2048) (j : Fin 7696) :
    val_main_v30 (F := Ideal) x11 (ix2 r j) = among 5632 (x11 : Mat 2048 8) r j.val := by
  rw [← among_eq]
  unfold val_main_v30 val_main_cst_3
  pointwise

/-- The linear output gate's cotangent among zeros. -/
theorem pad32 (x10 : (⟨S2048x1024, .bf16⟩ : BufTy).Contents (Elt Ideal)) (r : Fin 2048) (j : Fin 7696) :
    val_main_v32 (F := Ideal) x10 (ix2 r j) = among 4608 (x10 : Mat 2048 1024) r j.val := by
  rw [← among_eq]
  unfold val_main_v32 val_main_cst_4 val_main_v22
  pointwise

/-- The linear values' cotangent among zeros. -/
theorem pad34 (x9 : (⟨S2048x1024, .bf16⟩ : BufTy).Contents (Elt Ideal)) (r : Fin 2048) (j : Fin 7696) :
    val_main_v34 (F := Ideal) x9 (ix2 r j) = among 3584 (x9 : Mat 2048 1024) r j.val := by
  rw [← among_eq]
  unfold val_main_v34 val_main_cst_5 val_main_v21
  pointwise

/-- The linear keys' cotangent among zeros. -/
theorem pad36 (x8 : (⟨S2048x1024, .bf16⟩ : BufTy).Contents (Elt Ideal)) (r : Fin 2048) (j : Fin 7696) :
    val_main_v36 (F := Ideal) x8 (ix2 r j) = among 2560 (x8 : Mat 2048 1024) r j.val := by
  rw [← among_eq]
  unfold val_main_v36 val_main_cst_6 val_main_v20
  pointwise

/-- The linear queries' cotangent among zeros. -/
theorem pad38 (x7 : (⟨S2048x1024, .bf16⟩ : BufTy).Contents (Elt Ideal)) (r : Fin 2048) (j : Fin 7696) :
    val_main_v38 (F := Ideal) x7 (ix2 r j) = among 1536 (x7 : Mat 2048 1024) r j.val := by
  rw [← among_eq]
  unfold val_main_v38 val_main_cst_7 val_main_v19
  pointwise

/-- The values' cotangent among zeros. -/
theorem pad40 (x6 : (⟨S2048x256, .f32⟩ : BufTy).Contents (Elt Ideal)) (r : Fin 2048) (j : Fin 7696) :
    val_main_v40 (F := Ideal) x6 (ix2 r j) = among 1280 (x6 : Mat 2048 256) r j.val := by
  rw [← among_eq]
  unfold val_main_v40 val_main_cst_8
  pointwise

/-- The keys' cotangent among zeros. -/
theorem pad42 (x5 : (⟨S2048x256, .f32⟩ : BufTy).Contents (Elt Ideal)) (r : Fin 2048) (j : Fin 7696) :
    val_main_v42 (F := Ideal) x5 (ix2 r j) = among 1024 (x5 : Mat 2048 256) r j.val := by
  rw [← among_eq]
  unfold val_main_v42 val_main_cst_9
  pointwise

/-- The queries' cotangent among zeros. -/
theorem pad44 (x4 : (⟨S2048x1024, .f32⟩ : BufTy).Contents (Elt Ideal)) (r : Fin 2048) (j : Fin 7696) :
    val_main_v44 (F := Ideal) x4 (ix2 r j) = among 0 (x4 : Mat 2048 1024) r j.val := by
  rw [← among_eq]
  unfold val_main_v44 val_main_cst_10
  pointwise

variable (x4 : (⟨S2048x1024, .f32⟩ : BufTy).Contents (Elt Ideal)) (x5 : (⟨S2048x256, .f32⟩ : BufTy).Contents (Elt Ideal)) (x6 : (⟨S2048x256, .f32⟩ : BufTy).Contents (Elt Ideal)) (x7 : (⟨S2048x1024, .bf16⟩ : BufTy).Contents (Elt Ideal)) (x8 : (⟨S2048x1024, .bf16⟩ : BufTy).Contents (Elt Ideal)) (x9 : (⟨S2048x1024, .bf16⟩ : BufTy).Contents (Elt Ideal)) (x10 : (⟨S2048x1024, .bf16⟩ : BufTy).Contents (Elt Ideal)) (x11 : (⟨S2048x8, .f32⟩ : BufTy).Contents (Elt Ideal)) (x12 : (⟨S2048x8, .f32⟩ : BufTy).Contents (Elt Ideal)) (x13 : (⟨S2048x1024, .bf16⟩ : BufTy).Contents (Elt Ideal)) (x14 : (⟨S2048x1024, .bf16⟩ : BufTy).Contents (Elt Ideal))

/-- The projection's cotangent: the sum of the pieces among zeros is the pieces side by side. -/
theorem joined_eq : val_main_v45 (F := Ideal) x4 x5 x6 x7 x8 x9 x10 x11 x12 x13 x14 = joined x4 x5 x6 x7 x8 x9 x10 x11 x12 x13 x14 := by
  funext y
  obtain ⟨r, j, rfl⟩ : ∃ r j, y = ix2 r j := ⟨y 0, y 1, eq_ix2 y⟩
  rw [val_main_v45_apply, val_main_v43_apply, val_main_v41_apply, val_main_v39_apply, val_main_v37_apply, val_main_v35_apply,
    val_main_v33_apply, val_main_v31_apply, val_main_v29_apply, val_main_v27_apply, pad25, pad26, pad28, pad30, pad32, pad34,
    pad36, pad38, pad40, pad42, pad44]
  show (among 6672 x14 r j.val + among 5648 x13 r j.val + among 5640 x12 r j.val + among 5632 x11 r j.val + among 4608 x10 r j.val
    + among 3584 x9 r j.val + among 2560 x8 r j.val + among 1536 x7 r j.val + among 1280 x6 r j.val + among 1024 x5 r j.val
    + among 0 x4 r j.val : EReal) = joinedAt x4 x5 x6 x7 x8 x9 x10 x11 x12 x13 x14 r j.val
  unfold joinedAt
  have hj := j.isLt
  generalize j.val = c at hj ⊢
  rcases piece_cases hj with h | h | h | h | h | h | h | h | h | h | h <;>
    simp (disch := omega) only [among_before, among_behind, if_pos, if_neg, zero_add, add_zero] <;>
    exact among_inside _ _ _ _ (by omega)

end Cert.Reference3Ideal.In

end
-- ==== Proof.InRef.lean ====
module

public import proofs.«01_k».proof.Proof.InPads

@[expose] public section

noncomputable section

namespace Cert.Reference3Ideal.In

open Idealize.ShloMosaic Cert.Reference3Ideal Cert.Reference3Ideal.Read Cert.Mlp Cert.In

variable (x0 : (⟨S2048x1024, .f32⟩ : BufTy).Contents (Elt Ideal)) (x1 x2 : (⟨S1x1024, .f32⟩ : BufTy).Contents (Elt Ideal))
  (x3 : (⟨S1024x7696, .bf16⟩ : BufTy).Contents (Elt Ideal)) (x4 : (⟨S2048x1024, .f32⟩ : BufTy).Contents (Elt Ideal))
  (x5 x6 : (⟨S2048x256, .f32⟩ : BufTy).Contents (Elt Ideal)) (x7 x8 x9 x10 : (⟨S2048x1024, .bf16⟩ : BufTy).Contents (Elt Ideal))
  (x11 x12 : (⟨S2048x8, .f32⟩ : BufTy).Contents (Elt Ideal)) (x13 x14 : (⟨S2048x1024, .bf16⟩ : BufTy).Contents (Elt Ideal))
  (x15 : (⟨S2048x1024, .f32⟩ : BufTy).Contents (Elt Ideal))

/-- One plus the scale, spread over the rows. -/
theorem scale_apply (y : S2048x1024.Idx) :
    val_main_v2 (F := Ideal) x1 y = (Ideal.ofBits FTy.f32 0x3F800000#32 + x1 (ix2 0 (y 1)) : EReal) := by
  rw [val_main_v2_apply, val_main_v1_apply, val_main_v0_apply, val_main_cst_apply]
  refine congrArg (Ideal.ofBits FTy.f32 0x3F800000#32 + ·) (congrArg x1 ((eq_ix2 _).trans ?_))
  exact congrArg₂ ix2 (Subsingleton.elim (α := Fin 1) _ _) rfl

/-- The modulated input. -/
theorem modulated_eq : val_main_v5 (F := Ideal) x0 x1 x2 = modulated x0 x1 x2 := by
  funext y
  rw [val_main_v5_apply, val_main_v3_apply, scale_apply, val_main_v4_apply]
  refine congrArg (x0 y * (Ideal.ofBits FTy.f32 0x3F800000#32 + x1 (ix2 0 (y 1))) + ·) (congrArg x2 ((eq_ix2 _).trans ?_))
  exact congrArg₂ ix2 (Subsingleton.elim (α := Fin 1) _ _) rfl

/-- The projection. -/
theorem proj_eq : val_main_v7 (F := Ideal) x0 x1 x2 x3 = mulNN (modulated x0 x1 x2) x3 := by
  funext y
  refine (val_main_v7_apply x0 x1 x2 x3 y).trans (Finset.sum_congr rfl fun k _ => congrArg₂ (· * ·) ?_ ?_)
  · rw [modulated_eq]
    exact congrArg (modulated x0 x1 x2) (eq_ix2 _)
  · exact congrArg x3 (eq_ix2 _)

/-- The weights' gradient. -/
theorem dw_eq : val_main_v49 (F := Ideal) x0 x1 x2 x4 x5 x6 x7 x8 x9 x10 x11 x12 x13 x14 = mulTN (modulated x0 x1 x2) (joined x4 x5 x6 x7 x8 x9 x10 x11 x12 x13 x14) := by
  funext y
  refine (val_main_v47_apply x0 x1 x2 x4 x5 x6 x7 x8 x9 x10 x11 x12 x13 x14 y).trans ((val_main_v46_apply x0 x1 x2 x4 x5 x6 x7 x8 x9 x10 x11 x12 x13 x14 _).trans (Finset.sum_congr rfl fun k _ => ?_))
  refine (mul_comm _ _).trans (congrArg₂ (· * ·) ?_ ?_)
  · rw [modulated_eq]
    exact congrArg (modulated x0 x1 x2) (eq_ix2 _)
  · rw [joined_eq]
    exact congrArg (joined x4 x5 x6 x7 x8 x9 x10 x11 x12 x13 x14) (eq_ix2 _)

/-- The modulated input's cotangent. -/
theorem du_eq : val_main_v48 (F := Ideal) x3 x4 x5 x6 x7 x8 x9 x10 x11 x12 x13 x14 = mulNT (joined x4 x5 x6 x7 x8 x9 x10 x11 x12 x13 x14) x3 := by
  funext y
  refine (val_main_v48_apply x3 x4 x5 x6 x7 x8 x9 x10 x11 x12 x13 x14 y).trans (Finset.sum_congr rfl fun k _ => congrArg₂ (· * ·) ?_ ?_)
  · rw [joined_eq]
    exact congrArg (joined x4 x5 x6 x7 x8 x9 x10 x11 x12 x13 x14) (eq_ix2 _)
  · exact congrArg x3 (eq_ix2 _)

/-- The shift's gradient. -/
theorem dsh_eq : val_main_v51 (F := Ideal) x3 x4 x5 x6 x7 x8 x9 x10 x11 x12 x13 x14 = colSum (mulNT (joined x4 x5 x6 x7 x8 x9 x10 x11 x12 x13 x14) x3) := by
  funext y
  rw [val_main_v51_apply, val_main_v50_apply, val_main_cst_11_apply, du_eq]
  refine (congrArg (· + _) Ideal.ofBits_zero_f32).trans ((zero_add _).trans (Finset.sum_congr rfl fun k _ => ?_))
  refine congrArg (mulNT (joined x4 x5 x6 x7 x8 x9 x10 x11 x12 x13 x14) x3) ((eq_ix2 _).trans (congrArg₂ ix2 rfl (Fin.ext ?_)))
  have h0 : (y 0).val < 1 := (y 0).isLt
  show (y 0).val * 1024 + (y 1).val = (y 1).val
  omega

/-- The scale's gradient. -/
theorem dsc_eq : val_main_v54 (F := Ideal) x0 x3 x4 x5 x6 x7 x8 x9 x10 x11 x12 x13 x14 = colSum (scaleBack x0 (mulNT (joined x4 x5 x6 x7 x8 x9 x10 x11 x12 x13 x14) x3)) := by
  funext y
  rw [val_main_v54_apply, val_main_v53_apply, val_main_cst_12_apply]
  refine (congrArg (· + _) Ideal.ofBits_zero_f32).trans ((zero_add _).trans (Finset.sum_congr rfl fun k _ => ?_))
  rw [val_main_v52_apply, du_eq]
  refine congrArg (scaleBack x0 (mulNT (joined x4 x5 x6 x7 x8 x9 x10 x11 x12 x13 x14) x3)) ((eq_ix2 _).trans (congrArg₂ ix2 rfl (Fin.ext ?_)))
  have h0 : (y 0).val < 1 := (y 0).isLt
  show (y 0).val * 1024 + (y 1).val = (y 1).val
  omega

/-- The input's gradient. -/
theorem dx_eq : val_main_v57 (F := Ideal) x1 x3 x4 x5 x6 x7 x8 x9 x10 x11 x12 x13 x14 x15 = inputBack x1 (mulNT (joined x4 x5 x6 x7 x8 x9 x10 x11 x12 x13 x14) x3) x15 := by
  funext y
  rw [val_main_v57_apply, val_main_v56_apply, du_eq, val_main_v55_apply, val_main_v1_apply, val_main_v0_apply, val_main_cst_apply]
  refine (add_comm _ _).trans (congrArg (· + x15 y) (congrArg ((mulNT (joined x4 x5 x6 x7 x8 x9 x10 x11 x12 x13 x14) x3) y * ·)
    (congrArg (Ideal.ofBits FTy.f32 0x3F800000#32 + ·) (congrArg x1 ((eq_ix2 _).trans ?_)))))
  exact congrArg₂ ix2 (Subsingleton.elim (α := Fin 1) _ _) rfl

end Cert.Reference3Ideal.In

end
-- ==== Proof.InProof.lean ====
module

public import proofs.«01_k».proof.Defs
public import proofs.«01_k».proof.Proof.InRun
public import proofs.«01_k».proof.Proof.InRef
public import Idealize.ShloMosaic.Adequacy
public import Idealize.ShloMosaic.Init

@[expose] public section

noncomputable section

namespace Cert.Proof

open Idealize.ShloMosaic Idealize.SL.Sem

/-- The input projection's reference terminates, leaves its arguments unchanged and has no semaphore. -/
theorem frameR3 : Cert.quiescent_Reference3Ideal (hReference3Ideal := Reference3Ideal.Gen.facts) := fun m ρ _ =>
  (θ_run Reference3Ideal.defs _ _).mono (fun r h => ⟨fun c => (h c).2.2.2.2.2, sem_eq_zero_of_no_sems (by decide) r.2⟩)
    (Reference3Ideal.Value.run (F := Ideal) m ρ)

set_option maxHeartbeats 4000000 in
/-- The input projection's kernel and its reference end with equal results. -/
theorem algebraic3 : Cert.algebraic_Kernel3Ideal_Reference3Ideal (hKernel3Ideal := Kernel3Ideal.Gen.facts)
    (hReference3Ideal := Reference3Ideal.Gen.facts) := by
  intro m g m' g' _ hargs
  refine ⟨_, _, _, _, _, Kernel3Ideal.In.run_results m g, ?_⟩
  refine (θ_run _ _ _).mono (fun r h c => ?_) (Reference3Ideal.Value.run (F := Ideal) m' g')
  obtain ⟨a0, a1, a2, a3, a4, a5, a6, a7, a8, a9, a10, a11, a12, a13, a14, a15⟩ := hargs c
  obtain ⟨r0, r1, r2, r3, r4, hr⟩ := h c
  rw [a0, a1, a2, a3] at r0
  rw [a1, a3, a4, a5, a6, a7, a8, a9, a10, a11, a12, a13, a14, a15] at r1
  rw [a0, a3, a4, a5, a6, a7, a8, a9, a10, a11, a12, a13, a14] at r2
  rw [a3, a4, a5, a6, a7, a8, a9, a10, a11, a12, a13, a14] at r3
  rw [a0, a1, a2, a4, a5, a6, a7, a8, a9, a10, a11, a12, a13, a14] at r4
  exact ⟨r0.trans ((Reference3Ideal.Read.val_main_v7_eq _ _ _ _).trans (Reference3Ideal.In.proj_eq _ _ _ _)),
    r1.trans ((Reference3Ideal.Read.val_main_v57_eq _ _ _ _ _ _ _ _ _ _ _ _ _ _).trans (Reference3Ideal.In.dx_eq _ _ _ _ _ _ _ _ _ _ _ _ _ _)),
    r2.trans ((Reference3Ideal.Read.val_main_v54_eq _ _ _ _ _ _ _ _ _ _ _ _ _).trans (Reference3Ideal.In.dsc_eq _ _ _ _ _ _ _ _ _ _ _ _ _)),
    r3.trans ((Reference3Ideal.Read.val_main_v51_eq _ _ _ _ _ _ _ _ _ _ _ _).trans (Reference3Ideal.In.dsh_eq _ _ _ _ _ _ _ _ _ _ _ _)),
    r4.trans ((Reference3Ideal.Read.val_main_v49_eq _ _ _ _ _ _ _ _ _ _ _ _ _ _).trans (Reference3Ideal.In.dw_eq _ _ _ _ _ _ _ _ _ _ _ _ _ _)), hr⟩

end Cert.Proof

end
-- ==== Proof.MergeSpec.lean ====
module

public import proofs.«01_k».proof.Proof.InSpec

@[expose] public section

noncomputable section

namespace Cert.Merge

open Idealize.ShloMosaic Cert.Mlp Cert.In

variable {m n : ℕ}

/-- A thousand and twenty-four columns from a given one on. -/
def columns (o : ℕ) (h : o + 1024 ≤ n) (p : Mat m n) : Mat m 1024 := fun y =>
  p (ix2 (y 0) ⟨o + (y 1).val, (Nat.add_lt_add_left (y 1).isLt o).trans_le h⟩)

/-- The two branches, each weighed by its gate's logistic, added. -/
def merged (ga gb ya yb : Mat m n) : Mat m n := fun y => Ideal.logistic (ga y) * ya y + Ideal.logistic (gb y) * yb y

/-- A branch's cotangent: its gate's logistic times the merged branches' cotangent. -/
def branchBack (g d : Mat m n) : Mat m n := fun y => Ideal.logistic (g y) * d y

/-- A gate's cotangent: the merged branches' cotangent times the branch, times the logistic's slope. -/
def gateBack (g b d : Mat m n) : Mat m n := fun y =>
  d y * b y * (Ideal.logistic (g y) * (Ideal.ofBits FTy.f32 0x3F800000#32 - Ideal.logistic (g y)))

/-- The first gate's columns in the kernel's order are its columns in their own. -/
theorem columns_first (p : Mat m 7696) :
    columns 5120 (by norm_num) (permuted p) = columns 5648 (by norm_num) p := by
  funext y
  obtain ⟨r, j, rfl⟩ : ∃ r j, y = ix2 r j := ⟨y 0, y 1, eq_ix2 y⟩
  have hj := j.isLt
  refine (dif_pos (show 5120 + j.val < 7696 by omega)).trans (congrArg p (congrArg (ix2 r) (Fin.ext ?_)))
  show origin (5120 + j.val) = 5648 + j.val
  simp (disch := omega) only [origin, if_pos, if_neg]
  omega

/-- The second gate's columns in the kernel's order are its columns in their own. -/
theorem columns_second (p : Mat m 7696) :
    columns 6144 (by norm_num) (permuted p) = columns 6672 (by norm_num) p := by
  funext y
  obtain ⟨r, j, rfl⟩ : ∃ r j, y = ix2 r j := ⟨y 0, y 1, eq_ix2 y⟩
  have hj := j.isLt
  refine (dif_pos (show 6144 + j.val < 7696 by omega)).trans (congrArg p (congrArg (ix2 r) (Fin.ext ?_)))
  show origin (6144 + j.val) = 6672 + j.val
  simp (disch := omega) only [origin, if_pos, if_neg]
  omega

end Cert.Merge

end
-- ==== Proof.MergeBlock.lean ====
module

public import proofs.«01_k».proof.Proof.Gen.Kernel4Ideal.Skeleton
public import proofs.«01_k».proof.Proof.MergeSpec

@[expose] public section

noncomputable section

namespace Cert.Kernel4Ideal.Merge

open Idealize.ShloMosaic Idealize.SL.Sem Cert.Kernel4Ideal.Gen Cert.Mlp Cert.Merge

/-- The first branch's projection, entry by entry. -/
theorem prod0_apply (x : Vec Ideal S2048x1024 .bf16) (w : Vec Ideal S1024x1024 .bf16) (r : Fin 2048) (j : Fin 1024) :
    k0_pay1 x w (ix2 r j) = (∑ k : Fin 1024, x (ix2 r k) * w (ix2 k j) : EReal) := by
  unfold k0_pay1
  pointwise

/-- The second branch's projection, entry by entry. -/
theorem prod1_apply (x : Vec Ideal S2048x1024 .bf16) (w : Vec Ideal S1024x1024 .bf16) (r : Fin 2048) (j : Fin 1024) :
    k1_pay1 x w (ix2 r j) = (∑ k : Fin 1024, x (ix2 r k) * w (ix2 k j) : EReal) := by
  unfold k1_pay1
  pointwise

/-- The mixed output, entry by entry. -/
theorem prod3_apply (x : Vec Ideal S2048x1024 .bf16) (w : Vec Ideal S1024x1024 .bf16) (r : Fin 2048) (j : Fin 1024) :
    k3_pay1 x w (ix2 r j) = (∑ k : Fin 1024, x (ix2 r k) * w (ix2 k j) : EReal) := by
  unfold k3_pay1
  pointwise

/-- The merged branches' cotangent, entry by entry. -/
theorem prod4_apply (x : Vec Ideal S2048x1024 .bf16) (w : Vec Ideal S1024x1024 .bf16) (r : Fin 2048) (j : Fin 1024) :
    k4_pay1 x w (ix2 r j) = (∑ k : Fin 1024, x (ix2 r k) * w (ix2 j k) : EReal) := by
  unfold k4_pay1
  pointwise

/-- The output weights' gradient, entry by entry. -/
theorem prod5_apply (x : Vec Ideal S2048x1024 .bf16) (w : Vec Ideal S2048x1024 .bf16) (r : Fin 1024) (j : Fin 1024) :
    k5_pay1 x w (ix2 r j) = (∑ k : Fin 2048, x (ix2 k r) * w (ix2 k j) : EReal) := by
  unfold k5_pay1
  pointwise

/-- The first branch's input's gradient, entry by entry. -/
theorem prod7_apply (x : Vec Ideal S2048x1024 .bf16) (w : Vec Ideal S1024x1024 .bf16) (r : Fin 2048) (j : Fin 1024) :
    k7_pay1 x w (ix2 r j) = (∑ k : Fin 1024, x (ix2 r k) * w (ix2 j k) : EReal) := by
  unfold k7_pay1
  pointwise

/-- The first branch's weights' gradient, entry by entry. -/
theorem prod8_apply (x : Vec Ideal S2048x1024 .bf16) (w : Vec Ideal S2048x1024 .bf16) (r : Fin 1024) (j : Fin 1024) :
    k8_pay1 x w (ix2 r j) = (∑ k : Fin 2048, x (ix2 k r) * w (ix2 k j) : EReal) := by
  unfold k8_pay1
  pointwise

/-- The second branch's input's gradient, entry by entry. -/
theorem prod9_apply (x : Vec Ideal S2048x1024 .bf16) (w : Vec Ideal S1024x1024 .bf16) (r : Fin 2048) (j : Fin 1024) :
    k9_pay1 x w (ix2 r j) = (∑ k : Fin 1024, x (ix2 r k) * w (ix2 j k) : EReal) := by
  unfold k9_pay1
  pointwise

/-- The second branch's weights' gradient, entry by entry. -/
theorem prod10_apply (x : Vec Ideal S2048x1024 .bf16) (w : Vec Ideal S2048x1024 .bf16) (r : Fin 1024) (j : Fin 1024) :
    k10_pay1 x w (ix2 r j) = (∑ k : Fin 2048, x (ix2 k r) * w (ix2 k j) : EReal) := by
  unfold k10_pay1
  pointwise

/-- A block of the merged branches. -/
theorem gate_apply (ga gb : Vec Ideal S512x1024 .f32) (ya yb : Vec Ideal S512x1024 .bf16) (r : Fin 512) (j : Fin 1024) :
    k2_pay1 ga gb ya yb (ix2 r j)
      = (Ideal.logistic (ga (ix2 r j)) * ya (ix2 r j) + Ideal.logistic (gb (ix2 r j)) * yb (ix2 r j) : EReal) := by
  unfold k2_pay1
  pointwise

/-- A block of the first gate's cotangent. -/
theorem dga_apply (g : Vec Ideal S512x1024 .f32) (b d : Vec Ideal S512x1024 .bf16) (r : Fin 512) (j : Fin 1024) :
    k6_pay4 g b d (ix2 r j) = (d (ix2 r j) * b (ix2 r j)
      * (Ideal.logistic (g (ix2 r j)) * (Ideal.ofBits FTy.f32 0x3F800000#32 - Ideal.logistic (g (ix2 r j)))) : EReal) := by
  unfold k6_pay4 k6_pay1 k6_pay2
  pointwise

/-- A block of the second gate's cotangent. -/
theorem dgb_apply (g : Vec Ideal S512x1024 .f32) (b d : Vec Ideal S512x1024 .bf16) (r : Fin 512) (j : Fin 1024) :
    k6_pay5 g b d (ix2 r j) = (d (ix2 r j) * b (ix2 r j)
      * (Ideal.logistic (g (ix2 r j)) * (Ideal.ofBits FTy.f32 0x3F800000#32 - Ideal.logistic (g (ix2 r j)))) : EReal) := by
  unfold k6_pay5 k6_pay1 k6_pay3
  pointwise

/-- A block of the first branch's cotangent. -/
theorem dya_apply (g : Vec Ideal S512x1024 .f32) (d : Vec Ideal S512x1024 .bf16) (r : Fin 512) (j : Fin 1024) :
    k6_pay6 g d (ix2 r j) = (Ideal.logistic (g (ix2 r j)) * d (ix2 r j) : EReal) := by
  unfold k6_pay6 k6_pay1 k6_pay2
  pointwise

/-- A block of the second branch's cotangent. -/
theorem dyb_apply (g : Vec Ideal S512x1024 .f32) (d : Vec Ideal S512x1024 .bf16) (r : Fin 512) (j : Fin 1024) :
    k6_pay7 g d (ix2 r j) = (Ideal.logistic (g (ix2 r j)) * d (ix2 r j) : EReal) := by
  unfold k6_pay7 k6_pay1 k6_pay3
  pointwise

end Cert.Kernel4Ideal.Merge

end
-- ==== Proof.MergeRegions.lean ====
module

public import proofs.«01_k».proof.Proof.MergeBlock
public import proofs.«01_k».proof.Proof.Gen.Kernel4Ideal.Frame
public import Idealize.ShloMosaic.Lib.Pipeline.ValueKit

@[expose] public section

noncomputable section

namespace Cert.Kernel4Ideal.Merge

open Idealize.ShloMosaic Idealize.SL.Sem Cert.Kernel4Ideal.Gen Cert.Mlp Cert.Merge

variable (V : (c : Dev nD) → (b : Ref sig .tc) → Buf (Elt Ideal) ((c.tc : Thread nD τ).loc b))

/-- The left operand of call 0 is one block. -/
theorem index0_0 : ∀ t : Fin cfg0.N, win0_0.index t = ![0, 0] := by decide +kernel
/-- The right operand of call 0 is one block. -/
theorem index0_1 : ∀ t : Fin cfg0.N, win0_1.index t = ![0, 0] := by decide +kernel
/-- The product of call 0 is one block. -/
theorem index0_2 : ∀ t : Fin cfg0.N, win0_2.index t = ![0, 0] := by decide +kernel

/-- The first branch's projection after its call. -/
theorem final0 (c : Dev nD) : (dat0 V c).arrAt 2 cfg0.N = mulNN (V c main_arg0) (V c main_arg3) := by
  refine (dat0 V c).arrAt_eq_of_covers 2 _ (by decide +kernel) fun t hf y => ?_
  blk_simp
  rw [after0_2]
  frame_out
  obtain ⟨r, j, rfl⟩ : ∃ r j, y = ix2 r j := ⟨y 0, y 1, eq_ix2 y⟩
  refine (prod0_apply _ _ r j).trans ?_
  have e : (win0_2.blk t).view.emb (ix2 r j) = ix2 r j := by
    blk_ext [index0_2]
  rw [e]
  refine Finset.sum_congr rfl fun k _ => congrArg₂ (· * ·) ?_ ?_
  · blk_simp [iblk0]
    blk_ext [index0_0]
  · blk_simp [iblk0]
    blk_ext [index0_1]

/-- The left operand of call 1 is one block. -/
theorem index1_0 : ∀ t : Fin cfg1.N, win1_0.index t = ![0, 0] := by decide +kernel
/-- The right operand of call 1 is one block. -/
theorem index1_1 : ∀ t : Fin cfg1.N, win1_1.index t = ![0, 0] := by decide +kernel
/-- The product of call 1 is one block. -/
theorem index1_2 : ∀ t : Fin cfg1.N, win1_2.index t = ![0, 0] := by decide +kernel

/-- The second branch's projection after its call. -/
theorem final1 (c : Dev nD) : (dat1 V c).arrAt 2 cfg1.N = mulNN (V c main_arg1) (V c main_arg4) := by
  refine (dat1 V c).arrAt_eq_of_covers 2 _ (by decide +kernel) fun t hf y => ?_
  blk_simp
  rw [after1_2]
  frame_out
  obtain ⟨r, j, rfl⟩ : ∃ r j, y = ix2 r j := ⟨y 0, y 1, eq_ix2 y⟩
  refine (prod1_apply _ _ r j).trans ?_
  have e : (win1_2.blk t).view.emb (ix2 r j) = ix2 r j := by
    blk_ext [index1_2]
  rw [e]
  refine Finset.sum_congr rfl fun k _ => congrArg₂ (· * ·) ?_ ?_
  · blk_simp [iblk1]
    blk_ext [index1_0]
  · blk_simp [iblk1]
    blk_ext [index1_1]

/-- The left operand of call 3 is one block. -/
theorem index3_0 : ∀ t : Fin cfg3.N, win3_0.index t = ![0, 0] := by decide +kernel
/-- The right operand of call 3 is one block. -/
theorem index3_1 : ∀ t : Fin cfg3.N, win3_1.index t = ![0, 0] := by decide +kernel
/-- The product of call 3 is one block. -/
theorem index3_2 : ∀ t : Fin cfg3.N, win3_2.index t = ![0, 0] := by decide +kernel

/-- The mixed output after its call. -/
theorem final3 (c : Dev nD) : (dat3 V c).arrAt 2 cfg3.N = mulNN (V c main_v9) (V c main_arg5) := by
  refine (dat3 V c).arrAt_eq_of_covers 2 _ (by decide +kernel) fun t hf y => ?_
  blk_simp
  rw [after3_2]
  frame_out
  obtain ⟨r, j, rfl⟩ : ∃ r j, y = ix2 r j := ⟨y 0, y 1, eq_ix2 y⟩
  refine (prod3_apply _ _ r j).trans ?_
  have e : (win3_2.blk t).view.emb (ix2 r j) = ix2 r j := by
    blk_ext [index3_2]
  rw [e]
  refine Finset.sum_congr rfl fun k _ => congrArg₂ (· * ·) ?_ ?_
  · blk_simp [iblk3]
    blk_ext [index3_0]
  · blk_simp [iblk3]
    blk_ext [index3_1]

/-- The left operand of call 4 is one block. -/
theorem index4_0 : ∀ t : Fin cfg4.N, win4_0.index t = ![0, 0] := by decide +kernel
/-- The right operand of call 4 is one block. -/
theorem index4_1 : ∀ t : Fin cfg4.N, win4_1.index t = ![0, 0] := by decide +kernel
/-- The product of call 4 is one block. -/
theorem index4_2 : ∀ t : Fin cfg4.N, win4_2.index t = ![0, 0] := by decide +kernel

/-- The merged branches' cotangent after its call. -/
theorem final4 (c : Dev nD) : (dat4 V c).arrAt 2 cfg4.N = mulNT (V c main_arg6) (V c main_arg5) := by
  refine (dat4 V c).arrAt_eq_of_covers 2 _ (by decide +kernel) fun t hf y => ?_
  blk_simp
  rw [after4_2]
  frame_out
  obtain ⟨r, j, rfl⟩ : ∃ r j, y = ix2 r j := ⟨y 0, y 1, eq_ix2 y⟩
  refine (prod4_apply _ _ r j).trans ?_
  have e : (win4_2.blk t).view.emb (ix2 r j) = ix2 r j := by
    blk_ext [index4_2]
  rw [e]
  refine Finset.sum_congr rfl fun k _ => congrArg₂ (· * ·) ?_ ?_
  · blk_simp [iblk4]
    blk_ext [index4_0]
  · blk_simp [iblk4]
    blk_ext [index4_1]

/-- The left operand of call 5 is one block. -/
theorem index5_0 : ∀ t : Fin cfg5.N, win5_0.index t = ![0, 0] := by decide +kernel
/-- The right operand of call 5 is one block. -/
theorem index5_1 : ∀ t : Fin cfg5.N, win5_1.index t = ![0, 0] := by decide +kernel
/-- The product of call 5 is one block. -/
theorem index5_2 : ∀ t : Fin cfg5.N, win5_2.index t = ![0, 0] := by decide +kernel

/-- The output weights' gradient after its call. -/
theorem final5 (c : Dev nD) : (dat5 V c).arrAt 2 cfg5.N = mulTN (V c main_v9) (V c main_arg6) := by
  refine (dat5 V c).arrAt_eq_of_covers 2 _ (by decide +kernel) fun t hf y => ?_
  blk_simp
  rw [after5_2]
  frame_out
  obtain ⟨r, j, rfl⟩ : ∃ r j, y = ix2 r j := ⟨y 0, y 1, eq_ix2 y⟩
  refine (prod5_apply _ _ r j).trans ?_
  have e : (win5_2.blk t).view.emb (ix2 r j) = ix2 r j := by
    blk_ext [index5_2]
  rw [e]
  refine Finset.sum_congr rfl fun k _ => congrArg₂ (· * ·) ?_ ?_
  · blk_simp [iblk5]
    blk_ext [index5_0]
  · blk_simp [iblk5]
    blk_ext [index5_1]

/-- The left operand of call 7 is one block. -/
theorem index7_0 : ∀ t : Fin cfg7.N, win7_0.index t = ![0, 0] := by decide +kernel
/-- The right operand of call 7 is one block. -/
theorem index7_1 : ∀ t : Fin cfg7.N, win7_1.index t = ![0, 0] := by decide +kernel
/-- The product of call 7 is one block. -/
theorem index7_2 : ∀ t : Fin cfg7.N, win7_2.index t = ![0, 0] := by decide +kernel

/-- The first branch's input's gradient after its call. -/
theorem final7 (c : Dev nD) : (dat7 V c).arrAt 2 cfg7.N = mulNT (V c main_v13_2) (V c main_arg3) := by
  refine (dat7 V c).arrAt_eq_of_covers 2 _ (by decide +kernel) fun t hf y => ?_
  blk_simp
  rw [after7_2]
  frame_out
  obtain ⟨r, j, rfl⟩ : ∃ r j, y = ix2 r j := ⟨y 0, y 1, eq_ix2 y⟩
  refine (prod7_apply _ _ r j).trans ?_
  have e : (win7_2.blk t).view.emb (ix2 r j) = ix2 r j := by
    blk_ext [index7_2]
  rw [e]
  refine Finset.sum_congr rfl fun k _ => congrArg₂ (· * ·) ?_ ?_
  · blk_simp [iblk7]
    blk_ext [index7_0]
  · blk_simp [iblk7]
    blk_ext [index7_1]

/-- The left operand of call 8 is one block. -/
theorem index8_0 : ∀ t : Fin cfg8.N, win8_0.index t = ![0, 0] := by decide +kernel
/-- The right operand of call 8 is one block. -/
theorem index8_1 : ∀ t : Fin cfg8.N, win8_1.index t = ![0, 0] := by decide +kernel
/-- The product of call 8 is one block. -/
theorem index8_2 : ∀ t : Fin cfg8.N, win8_2.index t = ![0, 0] := by decide +kernel

/-- The first branch's weights' gradient after its call. -/
theorem final8 (c : Dev nD) : (dat8 V c).arrAt 2 cfg8.N = mulTN (V c main_arg0) (V c main_v13_2) := by
  refine (dat8 V c).arrAt_eq_of_covers 2 _ (by decide +kernel) fun t hf y => ?_
  blk_simp
  rw [after8_2]
  frame_out
  obtain ⟨r, j, rfl⟩ : ∃ r j, y = ix2 r j := ⟨y 0, y 1, eq_ix2 y⟩
  refine (prod8_apply _ _ r j).trans ?_
  have e : (win8_2.blk t).view.emb (ix2 r j) = ix2 r j := by
    blk_ext [index8_2]
  rw [e]
  refine Finset.sum_congr rfl fun k _ => congrArg₂ (· * ·) ?_ ?_
  · blk_simp [iblk8]
    blk_ext [index8_0]
  · blk_simp [iblk8]
    blk_ext [index8_1]

/-- The left operand of call 9 is one block. -/
theorem index9_0 : ∀ t : Fin cfg9.N, win9_0.index t = ![0, 0] := by decide +kernel
/-- The right operand of call 9 is one block. -/
theorem index9_1 : ∀ t : Fin cfg9.N, win9_1.index t = ![0, 0] := by decide +kernel
/-- The product of call 9 is one block. -/
theorem index9_2 : ∀ t : Fin cfg9.N, win9_2.index t = ![0, 0] := by decide +kernel

/-- The second branch's input's gradient after its call. -/
theorem final9 (c : Dev nD) : (dat9 V c).arrAt 2 cfg9.N = mulNT (V c main_v13_3) (V c main_arg4) := by
  refine (dat9 V c).arrAt_eq_of_covers 2 _ (by decide +kernel) fun t hf y => ?_
  blk_simp
  rw [after9_2]
  frame_out
  obtain ⟨r, j, rfl⟩ : ∃ r j, y = ix2 r j := ⟨y 0, y 1, eq_ix2 y⟩
  refine (prod9_apply _ _ r j).trans ?_
  have e : (win9_2.blk t).view.emb (ix2 r j) = ix2 r j := by
    blk_ext [index9_2]
  rw [e]
  refine Finset.sum_congr rfl fun k _ => congrArg₂ (· * ·) ?_ ?_
  · blk_simp [iblk9]
    blk_ext [index9_0]
  · blk_simp [iblk9]
    blk_ext [index9_1]

/-- The left operand of call 10 is one block. -/
theorem index10_0 : ∀ t : Fin cfg10.N, win10_0.index t = ![0, 0] := by decide +kernel
/-- The right operand of call 10 is one block. -/
theorem index10_1 : ∀ t : Fin cfg10.N, win10_1.index t = ![0, 0] := by decide +kernel
/-- The product of call 10 is one block. -/
theorem index10_2 : ∀ t : Fin cfg10.N, win10_2.index t = ![0, 0] := by decide +kernel

/-- The second branch's weights' gradient after its call. -/
theorem final10 (c : Dev nD) : (dat10 V c).arrAt 2 cfg10.N = mulTN (V c main_arg1) (V c main_v13_3) := by
  refine (dat10 V c).arrAt_eq_of_covers 2 _ (by decide +kernel) fun t hf y => ?_
  blk_simp
  rw [after10_2]
  frame_out
  obtain ⟨r, j, rfl⟩ : ∃ r j, y = ix2 r j := ⟨y 0, y 1, eq_ix2 y⟩
  refine (prod10_apply _ _ r j).trans ?_
  have e : (win10_2.blk t).view.emb (ix2 r j) = ix2 r j := by
    blk_ext [index10_2]
  rw [e]
  refine Finset.sum_congr rfl fun k _ => congrArg₂ (· * ·) ?_ ?_
  · blk_simp [iblk10]
    blk_ext [index10_0]
  · blk_simp [iblk10]
    blk_ext [index10_1]

/-- Where the block of the first gate lies at a point. -/
theorem index2_0 : ∀ t : Fin cfg2.N, win2_0.index t = ![t.val, 5] := by decide +kernel
/-- Where the block of the second gate lies at a point. -/
theorem index2_1 : ∀ t : Fin cfg2.N, win2_1.index t = ![t.val, 6] := by decide +kernel
/-- Where the block of the first branch lies at a point. -/
theorem index2_2 : ∀ t : Fin cfg2.N, win2_2.index t = ![t.val, 0] := by decide +kernel
/-- Where the block of the second branch lies at a point. -/
theorem index2_3 : ∀ t : Fin cfg2.N, win2_3.index t = ![t.val, 0] := by decide +kernel
/-- Where the block of the merged branches lies at a point. -/
theorem index2_4 : ∀ t : Fin cfg2.N, win2_4.index t = ![t.val, 0] := by decide +kernel

/-- The merged branches after their call. -/
theorem final2 (c : Dev nD) : (dat2 V c).arrAt 4 cfg2.N
    = merged (columns 5120 (by norm_num) (V c main_v6)) (columns 6144 (by norm_num) (V c main_v6)) (V c main_v7) (V c main_v8) := by
  refine (dat2 V c).arrAt_eq_of_covers 4 _ (by decide +kernel) fun t hf y => ?_
  blk_simp
  rw [after2_4]
  frame_out
  obtain ⟨r, j, rfl⟩ : ∃ r j, y = ix2 r j := ⟨y 0, y 1, eq_ix2 y⟩
  refine (gate_apply _ _ _ _ r j).trans ?_
  have ht : t.val < 4 := t.isLt.trans_eq (by decide +kernel)
  have e : (win2_4.blk t).view.emb (ix2 r j) = ix2 ⟨512 * t.val + r.val, by omega⟩ j := by
    blk_ext [index2_4]
  rw [e]
  refine congrArg₂ (· + ·) (congrArg₂ (· * ·) (congrArg Ideal.logistic ?_) ?_) (congrArg₂ (· * ·) (congrArg Ideal.logistic ?_) ?_)
  · unfold columns
    blk_simp [iblk2]
    blk_ext [index2_0]
  · blk_simp [iblk2]
    blk_ext [index2_2]
  · unfold columns
    blk_simp [iblk2]
    blk_ext [index2_1]
  · blk_simp [iblk2]
    blk_ext [index2_3]

/-- Where the block of the first gate lies at a point of the second gate call. -/
theorem index6_0 : ∀ t : Fin cfg6.N, win6_0.index t = ![t.val, 5] := by decide +kernel
/-- Where the block of the second gate lies at a point of the second gate call. -/
theorem index6_1 : ∀ t : Fin cfg6.N, win6_1.index t = ![t.val, 6] := by decide +kernel
/-- Where the block of the first branch lies at a point of the second gate call. -/
theorem index6_2 : ∀ t : Fin cfg6.N, win6_2.index t = ![t.val, 0] := by decide +kernel
/-- Where the block of the second branch lies at a point of the second gate call. -/
theorem index6_3 : ∀ t : Fin cfg6.N, win6_3.index t = ![t.val, 0] := by decide +kernel
/-- Where the block of the merged branches' cotangent lies at a point of the second gate call. -/
theorem index6_4 : ∀ t : Fin cfg6.N, win6_4.index t = ![t.val, 0] := by decide +kernel
/-- Where the block of the first gate's cotangent lies at a point of the second gate call. -/
theorem index6_5 : ∀ t : Fin cfg6.N, win6_5.index t = ![t.val, 0] := by decide +kernel
/-- Where the block of the second gate's cotangent lies at a point of the second gate call. -/
theorem index6_6 : ∀ t : Fin cfg6.N, win6_6.index t = ![t.val, 0] := by decide +kernel
/-- Where the block of the first branch's cotangent lies at a point of the second gate call. -/
theorem index6_7 : ∀ t : Fin cfg6.N, win6_7.index t = ![t.val, 0] := by decide +kernel
/-- Where the block of the second branch's cotangent lies at a point of the second gate call. -/
theorem index6_8 : ∀ t : Fin cfg6.N, win6_8.index t = ![t.val, 0] := by decide +kernel

/-- The logistic's slope. -/
def slope (x : EReal) : EReal := Ideal.logistic x * (Ideal.ofBits FTy.f32 0x3F800000#32 - Ideal.logistic x)

/-- The first gate's cotangent after the call. -/
theorem final6_5 (c : Dev nD) : (dat6 V c).arrAt 5 cfg6.N = gateBack (columns 5120 (by norm_num) (V c main_v6)) (V c main_v7) (V c main_v11) := by
  refine (dat6 V c).arrAt_eq_of_covers 5 _ (by decide +kernel) fun t hf y => ?_
  blk_simp
  rw [after6_5]
  frame_out
  obtain ⟨r, j, rfl⟩ : ∃ r j, y = ix2 r j := ⟨y 0, y 1, eq_ix2 y⟩
  refine (dga_apply _ _ _ r j).trans ?_
  have ht : t.val < 4 := t.isLt.trans_eq (by decide +kernel)
  have e : (win6_5.blk t).view.emb (ix2 r j) = ix2 ⟨512 * t.val + r.val, by omega⟩ j := by
    blk_ext [index6_5]
  rw [e]
  refine congrArg₂ (· * ·) (congrArg₂ (· * ·) ?_ ?_) (congrArg slope ?_)
  · blk_simp [iblk6]
    blk_ext [index6_4]
  · blk_simp [iblk6]
    blk_ext [index6_2]
  · unfold columns
    blk_simp [iblk6]
    blk_ext [index6_0]

/-- The second gate's cotangent after the call. -/
theorem final6_6 (c : Dev nD) : (dat6 V c).arrAt 6 cfg6.N = gateBack (columns 6144 (by norm_num) (V c main_v6)) (V c main_v8) (V c main_v11) := by
  refine (dat6 V c).arrAt_eq_of_covers 6 _ (by decide +kernel) fun t hf y => ?_
  blk_simp
  rw [after6_6]
  frame_out
  obtain ⟨r, j, rfl⟩ : ∃ r j, y = ix2 r j := ⟨y 0, y 1, eq_ix2 y⟩
  refine (dgb_apply _ _ _ r j).trans ?_
  have ht : t.val < 4 := t.isLt.trans_eq (by decide +kernel)
  have e : (win6_6.blk t).view.emb (ix2 r j) = ix2 ⟨512 * t.val + r.val, by omega⟩ j := by
    blk_ext [index6_6]
  rw [e]
  refine congrArg₂ (· * ·) (congrArg₂ (· * ·) ?_ ?_) (congrArg slope ?_)
  · blk_simp [iblk6]
    blk_ext [index6_4]
  · blk_simp [iblk6]
    blk_ext [index6_3]
  · unfold columns
    blk_simp [iblk6]
    blk_ext [index6_1]

/-- The first branch's cotangent after the call. -/
theorem final6_7 (c : Dev nD) : (dat6 V c).arrAt 7 cfg6.N = branchBack (columns 5120 (by norm_num) (V c main_v6)) (V c main_v11) := by
  refine (dat6 V c).arrAt_eq_of_covers 7 _ (by decide +kernel) fun t hf y => ?_
  blk_simp
  rw [after6_7]
  frame_out
  obtain ⟨r, j, rfl⟩ : ∃ r j, y = ix2 r j := ⟨y 0, y 1, eq_ix2 y⟩
  refine (dya_apply _ _ r j).trans ?_
  have ht : t.val < 4 := t.isLt.trans_eq (by decide +kernel)
  have e : (win6_7.blk t).view.emb (ix2 r j) = ix2 ⟨512 * t.val + r.val, by omega⟩ j := by
    blk_ext [index6_7]
  rw [e]
  refine congrArg₂ (· * ·) (congrArg Ideal.logistic ?_) ?_
  · unfold columns
    blk_simp [iblk6]
    blk_ext [index6_0]
  · blk_simp [iblk6]
    blk_ext [index6_4]

/-- The second branch's cotangent after the call. -/
theorem final6_8 (c : Dev nD) : (dat6 V c).arrAt 8 cfg6.N = branchBack (columns 6144 (by norm_num) (V c main_v6)) (V c main_v11) := by
  refine (dat6 V c).arrAt_eq_of_covers 8 _ (by decide +kernel) fun t hf y => ?_
  blk_simp
  rw [after6_8]
  frame_out
  obtain ⟨r, j, rfl⟩ : ∃ r j, y = ix2 r j := ⟨y 0, y 1, eq_ix2 y⟩
  refine (dyb_apply _ _ r j).trans ?_
  have ht : t.val < 4 := t.isLt.trans_eq (by decide +kernel)
  have e : (win6_8.blk t).view.emb (ix2 r j) = ix2 ⟨512 * t.val + r.val, by omega⟩ j := by
    blk_ext [index6_8]
  rw [e]
  refine congrArg₂ (· * ·) (congrArg Ideal.logistic ?_) ?_
  · unfold columns
    blk_simp [iblk6]
    blk_ext [index6_1]
  · blk_simp [iblk6]
    blk_ext [index6_4]

end Cert.Kernel4Ideal.Merge

end
-- ==== Proof.MergeCols.lean ====
module

public import proofs.«01_k».proof.Proof.MergeBlock

@[expose] public section

noncomputable section

namespace Cert.Kernel4Ideal.Merge

open Idealize.ShloMosaic Idealize.SL.Sem Cert.Kernel4Ideal Cert.Kernel4Ideal.Gen Cert.Mlp Cert.In

/-- The projection's columns as the host puts them in the kernel's order. -/
def packP (p : Vec Ideal S2048x7696 .f32) : Vec Ideal S2048x8192 .f32 :=
  concatenate S2048x8192 1
    [⟨S2048x1024, extractStridedSlice S2048x1024 ![0, 0] p slices_S2048x7696_S2048x1024_0_0⟩,
      ⟨S2048x4096, extractStridedSlice S2048x4096 ![0, 1536] p slices_S2048x7696_S2048x4096_0_1536⟩,
      ⟨S2048x2048, extractStridedSlice S2048x2048 ![0, 5648] p slices_S2048x7696_S2048x2048_0_5648⟩,
      ⟨S2048x512, extractStridedSlice S2048x512 ![0, 1024] p slices_S2048x7696_S2048x512_0_1024⟩,
      ⟨S2048x16, extractStridedSlice S2048x16 ![0, 5632] p slices_S2048x7696_S2048x16_0_5632⟩,
      ⟨S2048x496, broadcastInDim S2048x496 ![] bcast_S_S2048x496 (constant (F := Ideal) S_ .f32 0x00000000#32 : Vec Ideal S_ .f32)⟩]
    concatenates_S2048x1024_S2048x4096_S2048x2048_S2048x512_S2048x16_S2048x496_S2048x8192_d1

/-- They are the permuted columns, zeros filling up. -/
theorem packP_eq (p : Vec Ideal S2048x7696 .f32) : packP p = permuted p := by
  funext y
  obtain ⟨r, j, rfl⟩ : ∃ r j, y = ix2 r j := ⟨y 0, y 1, eq_ix2 y⟩
  unfold packP
  pointwise
  have hj := j.isLt
  show _ = if h : j.val < 7696 then p (ix2 r ⟨origin j.val, origin_lt h⟩) else 0
  by_cases hl : j.val < 7696
  · rw [dif_pos hl]
    split_ifs <;> first
      | (exfalso; omega)
      | (refine congrArg p (congrArg (ix2 r) (Fin.ext ?_))
         simp (disch := omega) only [origin, if_pos, if_neg]
         first | done | omega)
  · rw [dif_neg hl]
    split_ifs <;> first | rfl | (exfalso; omega)

end Cert.Kernel4Ideal.Merge

end
-- ==== Proof.MergeRun.lean ====
module

public import proofs.«01_k».proof.Proof.MergeRegions
public import proofs.«01_k».proof.Proof.MergeCols

@[expose] public section

noncomputable section

namespace Cert.Kernel4Ideal.Merge

open Idealize.ShloMosaic Idealize.ShloMosaic.TcCoe Idealize.SL.Sem Cert.Kernel4Ideal Cert.Kernel4Ideal.Gen Cert.Mlp Cert.In Cert.Merge

section Launch

open Idealize.ShloMosaic.Tactic Idealize.SL Idealize.SL.RA Idealize.SL.BI
open scoped Idealize.SL.BI
open Idealize.SL.BI.BIBase Idealize.SL.BI.Laws Idealize.SL.ProofMode Idealize.ShloMosaic.Rounds

variable {F : FTy → Type} [FloatOps F] (m : (ℓ : Loc nD τ sig) → Buf (Elt F) ℓ) (ρ : Dev nD → PrngReg)

local notation "𝕄" => MT nD τ sig Unit (Elt F) ℕ (UR sig nD τ) ℕ

/-- The host's lines and the eleven calls end with every buffer as the last call leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => h)

end Launch

variable (m : (ℓ : Loc nD τ sig) → Buf (Elt Ideal) ℓ) (ρ : Dev nD → PrngReg) (c : Dev nD)

/-- The first branch. -/
abbrev arg0 : Mat 2048 1024 := m ((c.tc : Thread nD τ).loc main_arg0)
/-- The second branch. -/
abbrev arg1 : Mat 2048 1024 := m ((c.tc : Thread nD τ).loc main_arg1)
/-- The projection. -/
abbrev arg2 : Mat 2048 7696 := m ((c.tc : Thread nD τ).loc main_arg2)
/-- The first branch's weights. -/
abbrev arg3 : Mat 1024 1024 := m ((c.tc : Thread nD τ).loc main_arg3)
/-- The second branch's weights. -/
abbrev arg4 : Mat 1024 1024 := m ((c.tc : Thread nD τ).loc main_arg4)
/-- The output weights. -/
abbrev arg5 : Mat 1024 1024 := m ((c.tc : Thread nD τ).loc main_arg5)
/-- The mixed output's cotangent. -/
abbrev arg6 : Mat 2048 1024 := m ((c.tc : Thread nD τ).loc main_arg6)

/-- The first gate. -/
abbrev gA : Mat 2048 1024 := columns 5648 (by norm_num) (arg2 m c)
/-- The second gate. -/
abbrev gB : Mat 2048 1024 := columns 6672 (by norm_num) (arg2 m c)
/-- The first branch, projected. -/
abbrev yA : Mat 2048 1024 := mulNN (arg0 m c) (arg3 m c)
/-- The second branch, projected. -/
abbrev yB : Mat 2048 1024 := mulNN (arg1 m c) (arg4 m c)
/-- The merged branches. -/
abbrev both : Mat 2048 1024 := merged (gA m c) (gB m c) (yA m c) (yB m c)
/-- The merged branches' cotangent. -/
abbrev bothBack : Mat 2048 1024 := mulNT (arg6 m c) (arg5 m c)
/-- The first branch's cotangent. -/
abbrev yABack : Mat 2048 1024 := branchBack (gA m c) (bothBack m c)
/-- The second branch's cotangent. -/
abbrev yBBack : Mat 2048 1024 := branchBack (gB m c) (bothBack m c)

/-- The projection before the first call, in the kernel's order. -/
theorem pack_1 : W1 m ρ c (Proc.devRef .tc main_v6) = permuted (arg2 m c) := by
  refine Eq.trans ?_ (packP_eq (arg2 m c))
  show StableHlo.after hostOps0 (W0 m ρ c) (Proc.devRef .tc main_v6) = _
  unfold hostOps0
  after_results
  rfl

/-- The projection in the kernel's order at boundary 3. -/
theorem pack_3 : W3 m ρ c (Proc.devRef .tc main_v6) = permuted (arg2 m c) :=
  (W3_of m ρ c main_v6 (by decide +kernel)).trans ((W2_of m ρ c main_v6 (by decide +kernel)).trans (pack_1 m ρ c))

/-- The projection in the kernel's order at boundary 7. -/
theorem pack_7 : W7 m ρ c (Proc.devRef .tc main_v6) = permuted (arg2 m c) :=
  (W7_of m ρ c main_v6 (by decide +kernel)).trans ((W6_of m ρ c main_v6 (by decide +kernel)).trans ((W5_of m ρ c main_v6 (by decide +kernel)).trans ((W4_of m ρ c main_v6 (by decide +kernel)).trans (pack_3 m ρ c))))

/-- The first branch, projected, at its call's exit. -/
theorem ya_2 : W2 m ρ c (Proc.devRef .tc main_v7) = yA m c := by
  refine (W2_arr m ρ c 2).trans ((final0 (V1 m ρ) c).trans ?_)
  rw [show V1 m ρ c main_arg0 = arg0 m c from W1_args m ρ c main_arg0 (by decide),
    show V1 m ρ c main_arg3 = arg3 m c from W1_args m ρ c main_arg3 (by decide)]

/-- The first branch, projected, at boundary 3. -/
theorem ya_3 : W3 m ρ c (Proc.devRef .tc main_v7) = yA m c :=
  (W3_of m ρ c main_v7 (by decide +kernel)).trans (ya_2 m ρ c)

/-- The first branch, projected, at boundary 7. -/
theorem ya_7 : W7 m ρ c (Proc.devRef .tc main_v7) = yA m c :=
  (W7_of m ρ c main_v7 (by decide +kernel)).trans ((W6_of m ρ c main_v7 (by decide +kernel)).trans ((W5_of m ρ c main_v7 (by decide +kernel)).trans ((W4_of m ρ c main_v7 (by decide +kernel)).trans (ya_3 m ρ c))))

/-- The second branch, projected, at its call's exit. -/
theorem yb_3 : W3 m ρ c (Proc.devRef .tc main_v8) = yB m c := by
  refine (W3_arr m ρ c 2).trans ((final1 (V2 m ρ) c).trans ?_)
  rw [show V2 m ρ c main_arg1 = arg1 m c from W2_args m ρ c main_arg1 (by decide),
    show V2 m ρ c main_arg4 = arg4 m c from W2_args m ρ c main_arg4 (by decide)]

/-- The second branch, projected, at boundary 7. -/
theorem yb_7 : W7 m ρ c (Proc.devRef .tc main_v8) = yB m c :=
  (W7_of m ρ c main_v8 (by decide +kernel)).trans ((W6_of m ρ c main_v8 (by decide +kernel)).trans ((W5_of m ρ c main_v8 (by decide +kernel)).trans ((W4_of m ρ c main_v8 (by decide +kernel)).trans (yb_3 m ρ c))))

/-- The merged branches at its call's exit. -/
theorem gm_4 : W4 m ρ c (Proc.devRef .tc main_v9) = both m c := by
  refine (W4_arr m ρ c 4).trans ((final2 (V3 m ρ) c).trans ?_)
  rw [show V3 m ρ c main_v6 = permuted (arg2 m c) from pack_3 m ρ c,
    show V3 m ρ c main_v7 = yA m c from ya_3 m ρ c,
    show V3 m ρ c main_v8 = yB m c from yb_3 m ρ c,
    columns_first,
    columns_second]

/-- The merged branches at boundary 6. -/
theorem gm_6 : W6 m ρ c (Proc.devRef .tc main_v9) = both m c :=
  (W6_of m ρ c main_v9 (by decide +kernel)).trans ((W5_of m ρ c main_v9 (by decide +kernel)).trans (gm_4 m ρ c))

/-- The mixed output at its call's exit. -/
theorem mixed_5 : W5 m ρ c (Proc.devRef .tc main_v10) = mulNN (both m c) (arg5 m c) := by
  refine (W5_arr m ρ c 2).trans ((final3 (V4 m ρ) c).trans ?_)
  rw [show V4 m ρ c main_v9 = both m c from gm_4 m ρ c,
    show V4 m ρ c main_arg5 = arg5 m c from W4_args m ρ c main_arg5 (by decide)]

/-- The mixed output at boundary 12. -/
theorem mixed_12 : W12 m ρ c (Proc.devRef .tc main_v10) = mulNN (both m c) (arg5 m c) :=
  (W12_of m ρ c main_v10 (by decide +kernel)).trans ((W11_of m ρ c main_v10 (by decide +kernel)).trans ((W10_of m ρ c main_v10 (by decide +kernel)).trans ((W9_of m ρ c main_v10 (by decide +kernel)).trans ((W8_of m ρ c main_v10 (by decide +kernel)).trans ((W7_of m ρ c main_v10 (by decide +kernel)).trans ((W6_of m ρ c main_v10 (by decide +kernel)).trans (mixed_5 m ρ c)))))))

/-- The merged branches' cotangent at its call's exit. -/
theorem dgm_6 : W6 m ρ c (Proc.devRef .tc main_v11) = bothBack m c := by
  refine (W6_arr m ρ c 2).trans ((final4 (V5 m ρ) c).trans ?_)
  rw [show V5 m ρ c main_arg6 = arg6 m c from W5_args m ρ c main_arg6 (by decide),
    show V5 m ρ c main_arg5 = arg5 m c from W5_args m ρ c main_arg5 (by decide)]

/-- The merged branches' cotangent at boundary 7. -/
theorem dgm_7 : W7 m ρ c (Proc.devRef .tc main_v11) = bothBack m c :=
  (W7_of m ρ c main_v11 (by decide +kernel)).trans (dgm_6 m ρ c)

/-- The output weights' gradient at its call's exit. -/
theorem dwo_7 : W7 m ρ c (Proc.devRef .tc main_v12) = mulTN (both m c) (arg6 m c) := by
  refine (W7_arr m ρ c 2).trans ((final5 (V6 m ρ) c).trans ?_)
  rw [show V6 m ρ c main_v9 = both m c from gm_6 m ρ c,
    show V6 m ρ c main_arg6 = arg6 m c from W6_args m ρ c main_arg6 (by decide)]

/-- The output weights' gradient at boundary 12. -/
theorem dwo_12 : W12 m ρ c (Proc.devRef .tc main_v12) = mulTN (both m c) (arg6 m c) :=
  (W12_of m ρ c main_v12 (by decide +kernel)).trans ((W11_of m ρ c main_v12 (by decide +kernel)).trans ((W10_of m ρ c main_v12 (by decide +kernel)).trans ((W9_of m ρ c main_v12 (by decide +kernel)).trans ((W8_of m ρ c main_v12 (by decide +kernel)).trans (dwo_7 m ρ c)))))

/-- The first gate's cotangent at its call's exit. -/
theorem dga_8 : W8 m ρ c (Proc.devRef .tc main_v13_0) = gateBack (gA m c) (yA m c) (bothBack m c) := by
  refine (W8_arr m ρ c 5).trans ((final6_5 (V7 m ρ) c).trans ?_)
  rw [show V7 m ρ c main_v6 = permuted (arg2 m c) from pack_7 m ρ c,
    show V7 m ρ c main_v7 = yA m c from ya_7 m ρ c,
    show V7 m ρ c main_v11 = bothBack m c from dgm_7 m ρ c,
    columns_first]

/-- The first gate's cotangent at boundary 12. -/
theorem dga_12 : W12 m ρ c (Proc.devRef .tc main_v13_0) = gateBack (gA m c) (yA m c) (bothBack m c) :=
  (W12_of m ρ c main_v13_0 (by decide +kernel)).trans ((W11_of m ρ c main_v13_0 (by decide +kernel)).trans ((W10_of m ρ c main_v13_0 (by decide +kernel)).trans ((W9_of m ρ c main_v13_0 (by decide +kernel)).trans (dga_8 m ρ c))))

/-- The second gate's cotangent at its call's exit. -/
theorem dgb_8 : W8 m ρ c (Proc.devRef .tc main_v13_1) = gateBack (gB m c) (yB m c) (bothBack m c) := by
  refine (W8_arr m ρ c 6).trans ((final6_6 (V7 m ρ) c).trans ?_)
  rw [show V7 m ρ c main_v6 = permuted (arg2 m c) from pack_7 m ρ c,
    show V7 m ρ c main_v8 = yB m c from yb_7 m ρ c,
    show V7 m ρ c main_v11 = bothBack m c from dgm_7 m ρ c,
    columns_second]

/-- The second gate's cotangent at boundary 12. -/
theorem dgb_12 : W12 m ρ c (Proc.devRef .tc main_v13_1) = gateBack (gB m c) (yB m c) (bothBack m c) :=
  (W12_of m ρ c main_v13_1 (by decide +kernel)).trans ((W11_of m ρ c main_v13_1 (by decide +kernel)).trans ((W10_of m ρ c main_v13_1 (by decide +kernel)).trans ((W9_of m ρ c main_v13_1 (by decide +kernel)).trans (dgb_8 m ρ c))))

/-- The first branch's cotangent at its call's exit. -/
theorem dya_8 : W8 m ρ c (Proc.devRef .tc main_v13_2) = yABack m c := by
  refine (W8_arr m ρ c 7).trans ((final6_7 (V7 m ρ) c).trans ?_)
  rw [show V7 m ρ c main_v6 = permuted (arg2 m c) from pack_7 m ρ c,
    show V7 m ρ c main_v11 = bothBack m c from dgm_7 m ρ c,
    columns_first]

/-- The first branch's cotangent at boundary 9. -/
theorem dya_9 : W9 m ρ c (Proc.devRef .tc main_v13_2) = yABack m c :=
  (W9_of m ρ c main_v13_2 (by decide +kernel)).trans (dya_8 m ρ c)

/-- The second branch's cotangent at its call's exit. -/
theorem dyb_8 : W8 m ρ c (Proc.devRef .tc main_v13_3) = yBBack m c := by
  refine (W8_arr m ρ c 8).trans ((final6_8 (V7 m ρ) c).trans ?_)
  rw [show V7 m ρ c main_v6 = permuted (arg2 m c) from pack_7 m ρ c,
    show V7 m ρ c main_v11 = bothBack m c from dgm_7 m ρ c,
    columns_second]

/-- The second branch's cotangent at boundary 10. -/
theorem dyb_10 : W10 m ρ c (Proc.devRef .tc main_v13_3) = yBBack m c :=
  (W10_of m ρ c main_v13_3 (by decide +kernel)).trans ((W9_of m ρ c main_v13_3 (by decide +kernel)).trans (dyb_8 m ρ c))

/-- The second branch's cotangent at boundary 11. -/
theorem dyb_11 : W11 m ρ c (Proc.devRef .tc main_v13_3) = yBBack m c :=
  (W11_of m ρ c main_v13_3 (by decide +kernel)).trans (dyb_10 m ρ c)

/-- The first branch's input's gradient at its call's exit. -/
theorem doa_9 : W9 m ρ c (Proc.devRef .tc main_v14) = mulNT (yABack m c) (arg3 m c) := by
  refine (W9_arr m ρ c 2).trans ((final7 (V8 m ρ) c).trans ?_)
  rw [show V8 m ρ c main_v13_2 = yABack m c from dya_8 m ρ c,
    show V8 m ρ c main_arg3 = arg3 m c from W8_args m ρ c main_arg3 (by decide)]

/-- The first branch's input's gradient at boundary 12. -/
theorem doa_12 : W12 m ρ c (Proc.devRef .tc main_v14) = mulNT (yABack m c) (arg3 m c) :=
  (W12_of m ρ c main_v14 (by decide +kernel)).trans ((W11_of m ρ c main_v14 (by decide +kernel)).trans ((W10_of m ρ c main_v14 (by decide +kernel)).trans (doa_9 m ρ c)))

/-- The first branch's weights' gradient at its call's exit. -/
theorem dwa_10 : W10 m ρ c (Proc.devRef .tc main_v15) = mulTN (arg0 m c) (yABack m c) := by
  refine (W10_arr m ρ c 2).trans ((final8 (V9 m ρ) c).trans ?_)
  rw [show V9 m ρ c main_v13_2 = yABack m c from dya_9 m ρ c,
    show V9 m ρ c main_arg0 = arg0 m c from W9_args m ρ c main_arg0 (by decide)]

/-- The first branch's weights' gradient at boundary 12. -/
theorem dwa_12 : W12 m ρ c (Proc.devRef .tc main_v15) = mulTN (arg0 m c) (yABack m c) :=
  (W12_of m ρ c main_v15 (by decide +kernel)).trans ((W11_of m ρ c main_v15 (by decide +kernel)).trans (dwa_10 m ρ c))

/-- The second branch's input's gradient at its call's exit. -/
theorem dob_11 : W11 m ρ c (Proc.devRef .tc main_v16) = mulNT (yBBack m c) (arg4 m c) := by
  refine (W11_arr m ρ c 2).trans ((final9 (V10 m ρ) c).trans ?_)
  rw [show V10 m ρ c main_v13_3 = yBBack m c from dyb_10 m ρ c,
    show V10 m ρ c main_arg4 = arg4 m c from W10_args m ρ c main_arg4 (by decide)]

/-- The second branch's input's gradient at boundary 12. -/
theorem dob_12 : W12 m ρ c (Proc.devRef .tc main_v16) = mulNT (yBBack m c) (arg4 m c) :=
  (W12_of m ρ c main_v16 (by decide +kernel)).trans (dob_11 m ρ c)

/-- The second branch's weights' gradient at its call's exit. -/
theorem dwb_12 : W12 m ρ c (Proc.devRef .tc main_v17) = mulTN (arg1 m c) (yBBack m c) := by
  refine (W12_arr m ρ c 2).trans ((final10 (V11 m ρ) c).trans ?_)
  rw [show V11 m ρ c main_v13_3 = yBBack m c from dyb_11 m ρ c,
    show V11 m ρ c main_arg1 = arg1 m c from W11_args m ρ c main_arg1 (by decide)]

/-- The kernel's run with its eight results. -/
theorem run_results : θ_run defs (onTc (τ := τ) (main (F := Ideal))) ⟨m, fun _ => 0, ρ⟩ (fun r => ∀ c : Dev nD,
      r.2.mem ((c.tc : Thread nD τ).loc main_v10) = mulNN (both m c) (arg5 m c)
      ∧ r.2.mem ((c.tc : Thread nD τ).loc main_v14) = mulNT (yABack m c) (arg3 m c)
      ∧ r.2.mem ((c.tc : Thread nD τ).loc main_v16) = mulNT (yBBack m c) (arg4 m c)
      ∧ r.2.mem ((c.tc : Thread nD τ).loc main_v13_0) = gateBack (gA m c) (yA m c) (bothBack m c)
      ∧ r.2.mem ((c.tc : Thread nD τ).loc main_v13_1) = gateBack (gB m c) (yB m c) (bothBack m c)
      ∧ r.2.mem ((c.tc : Thread nD τ).loc main_v15) = mulTN (arg0 m c) (yABack m c)
      ∧ r.2.mem ((c.tc : Thread nD τ).loc main_v17) = mulTN (arg1 m c) (yBBack m c)
      ∧ r.2.mem ((c.tc : Thread nD τ).loc main_v12) = mulTN (both m c) (arg6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v10 (by decide))).trans (mixed_12 m ρ c),
      (h c _ (mem_uc main_v14 (by decide))).trans (doa_12 m ρ c),
      (h c _ (mem_uc main_v16 (by decide))).trans (dob_12 m ρ c),
      (h c _ (mem_uc main_v13_0 (by decide))).trans (dga_12 m ρ c),
      (h c _ (mem_uc main_v13_1 (by decide))).trans (dgb_12 m ρ c),
      (h c _ (mem_uc main_v15 (by decide))).trans (dwa_12 m ρ c),
      (h c _ (mem_uc main_v17 (by decide))).trans (dwb_12 m ρ c),
      (h c _ (mem_uc main_v12 (by decide))).trans (dwo_12 m ρ c),
      (h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c)⟩)
    (run_all m ρ)

end Cert.Kernel4Ideal.Merge

end
-- ==== Proof.MergeRef.lean ====
module

public import proofs.«01_k».proof.Proof.MergeSpec
public import proofs.«01_k».proof.Proof.Gen.Reference4Ideal.Read

@[expose] public section

noncomputable section

namespace Cert.Reference4Ideal.Merge

open Idealize.ShloMosaic Cert.Reference4Ideal Cert.Reference4Ideal.Read Cert.Mlp Cert.Merge

variable (x0 x1 : (⟨S2048x1024, .bf16⟩ : BufTy).Contents (Elt Ideal)) (x2 : (⟨S2048x7696, .f32⟩ : BufTy).Contents (Elt Ideal))
  (x3 x4 x5 : (⟨S1024x1024, .bf16⟩ : BufTy).Contents (Elt Ideal)) (x6 : (⟨S2048x1024, .bf16⟩ : BufTy).Contents (Elt Ideal))

/-- The word of one. -/
theorem one_word : Ideal.ofBits FTy.f32 0x3F800000#32 = (1 : EReal) := by
  pointwise

/-- The first gate's logistic. -/
theorem first_apply (y : S2048x1024.Idx) :
    val_main_v22 (F := Ideal) x2 y = Ideal.logistic (columns 5648 (by norm_num) x2 y) := by
  rw [val_main_v22_apply, val_main_v21_apply, val_main_cst_0_apply, val_main_v20_apply, val_main_v19_apply, val_main_cst_apply,
    val_main_v18_apply, val_main_v17_apply, val_main_v9_apply, eq_ix2 (idx_main_v9 y)]
  show Ideal.div (Ideal.ofBits FTy.f32 0x3F800000#32) (Ideal.ofBits FTy.f32 0x3F800000#32 + _) = _
  rw [one_word]
  rfl

/-- The second gate's logistic. -/
theorem second_apply (y : S2048x1024.Idx) :
    val_main_v32 (F := Ideal) x2 y = Ideal.logistic (columns 6672 (by norm_num) x2 y) := by
  rw [val_main_v32_apply, val_main_v31_apply, val_main_cst_3_apply, val_main_v30_apply, val_main_v29_apply, val_main_cst_2_apply,
    val_main_v28_apply, val_main_v27_apply, val_main_v10_apply, eq_ix2 (idx_main_v10 y)]
  show Ideal.div (Ideal.ofBits FTy.f32 0x3F800000#32) (Ideal.ofBits FTy.f32 0x3F800000#32 + _) = _
  rw [one_word]
  rfl

/-- The first branch, projected. -/
theorem ya_eq : val_main_v13 (F := Ideal) x0 x3 = mulNN x0 x3 := by
  funext y
  refine (val_main_v13_apply x0 x3 y).trans (Finset.sum_congr rfl fun k _ => congrArg₂ (· * ·) ?_ ?_)
  · exact congrArg x0 (eq_ix2 _)
  · exact congrArg x3 (eq_ix2 _)

/-- The second branch, projected. -/
theorem yb_eq : val_main_v16 (F := Ideal) x1 x4 = mulNN x1 x4 := by
  funext y
  refine (val_main_v16_apply x1 x4 y).trans (Finset.sum_congr rfl fun k _ => congrArg₂ (· * ·) ?_ ?_)
  · exact congrArg x1 (eq_ix2 _)
  · exact congrArg x4 (eq_ix2 _)

/-- The merged branches. -/
theorem both_eq : val_main_v37 (F := Ideal) x0 x1 x2 x3 x4
    = merged (columns 5648 (by norm_num) x2) (columns 6672 (by norm_num) x2) (mulNN x0 x3) (mulNN x1 x4) := by
  funext y
  rw [val_main_v37_apply, val_main_v26_apply, val_main_v36_apply, first_apply, second_apply, ya_eq, yb_eq]
  rfl

/-- The mixed output. -/
theorem mixed_eq : val_main_v61 (F := Ideal) x0 x1 x2 x3 x4 x5
    = mulNN (merged (columns 5648 (by norm_num) x2) (columns 6672 (by norm_num) x2) (mulNN x0 x3) (mulNN x1 x4)) x5 := by
  funext y
  refine (val_main_v39_apply x0 x1 x2 x3 x4 x5 y).trans (Finset.sum_congr rfl fun k _ => congrArg₂ (· * ·) ?_ ?_)
  · rw [both_eq]
    exact congrArg (merged _ _ _ _) (eq_ix2 _)
  · exact congrArg x5 (eq_ix2 _)

/-- The merged branches' cotangent. -/
theorem back_eq : val_main_v43 (F := Ideal) x5 x6 = mulNT x6 x5 := by
  funext y
  refine (val_main_v43_apply x5 x6 y).trans (Finset.sum_congr rfl fun k _ => congrArg₂ (· * ·) ?_ ?_)
  · exact congrArg x6 (eq_ix2 _)
  · exact congrArg x5 (eq_ix2 _)

/-- The output weights' gradient. -/
theorem dwo_eq : val_main_v44 (F := Ideal) x0 x1 x2 x3 x4 x6
    = mulTN (merged (columns 5648 (by norm_num) x2) (columns 6672 (by norm_num) x2) (mulNN x0 x3) (mulNN x1 x4)) x6 := by
  funext y
  refine (val_main_v42_apply x0 x1 x2 x3 x4 x6 y).trans ((val_main_v41_apply x0 x1 x2 x3 x4 x6 _).trans (Finset.sum_congr rfl fun k _ => ?_))
  refine (mul_comm _ _).trans (congrArg₂ (· * ·) ?_ ?_)
  · rw [both_eq]
    exact congrArg (merged _ _ _ _) (eq_ix2 _)
  · exact congrArg x6 (eq_ix2 _)

/-- The first branch's cotangent. -/
theorem dya_eq : val_main_v48 (F := Ideal) x2 x5 x6 = branchBack (columns 5648 (by norm_num) x2) (mulNT x6 x5) := by
  funext y
  rw [val_main_v48_apply, first_apply, back_eq]
  rfl

/-- The second branch's cotangent. -/
theorem dyb_eq : val_main_v45 (F := Ideal) x2 x5 x6 = branchBack (columns 6672 (by norm_num) x2) (mulNT x6 x5) := by
  funext y
  rw [val_main_v45_apply, second_apply, back_eq]
  rfl

/-- The first gate's cotangent. -/
theorem dga_eq : val_main_v62 (F := Ideal) x0 x2 x3 x5 x6
    = gateBack (columns 5648 (by norm_num) x2) (mulNN x0 x3) (mulNT x6 x5) := by
  funext y
  refine (val_main_v50_apply x0 x2 x3 x5 x6 y).trans ?_
  rw [val_main_v49_apply, val_main_v25_apply, val_main_v24_apply, val_main_v23_apply, val_main_cst_1_apply, first_apply, back_eq, ya_eq]
  rfl

/-- The second gate's cotangent. -/
theorem dgb_eq : val_main_v63 (F := Ideal) x1 x2 x4 x5 x6
    = gateBack (columns 6672 (by norm_num) x2) (mulNN x1 x4) (mulNT x6 x5) := by
  funext y
  refine (val_main_v47_apply x1 x2 x4 x5 x6 y).trans ?_
  rw [val_main_v46_apply, val_main_v35_apply, val_main_v34_apply, val_main_v33_apply, val_main_cst_4_apply, second_apply, back_eq, yb_eq]
  rfl

/-- The first branch's input's gradient. -/
theorem doa_eq : val_main_v60 (F := Ideal) x2 x3 x5 x6 = mulNT (branchBack (columns 5648 (by norm_num) x2) (mulNT x6 x5)) x3 := by
  funext y
  refine (val_main_v58_apply x2 x3 x5 x6 y).trans (Finset.sum_congr rfl fun k _ => congrArg₂ (· * ·) ?_ ?_)
  · rw [dya_eq]
    exact congrArg (branchBack _ _) (eq_ix2 _)
  · exact congrArg x3 (eq_ix2 _)

/-- The second branch's input's gradient. -/
theorem dob_eq : val_main_v55 (F := Ideal) x2 x4 x5 x6 = mulNT (branchBack (columns 6672 (by norm_num) x2) (mulNT x6 x5)) x4 := by
  funext y
  refine (val_main_v53_apply x2 x4 x5 x6 y).trans (Finset.sum_congr rfl fun k _ => congrArg₂ (· * ·) ?_ ?_)
  · rw [dyb_eq]
    exact congrArg (branchBack _ _) (eq_ix2 _)
  · exact congrArg x4 (eq_ix2 _)

/-- The first branch's weights' gradient. -/
theorem dwa_eq : val_main_v59 (F := Ideal) x0 x2 x5 x6 = mulTN x0 (branchBack (columns 5648 (by norm_num) x2) (mulNT x6 x5)) := by
  funext y
  refine (val_main_v57_apply x0 x2 x5 x6 y).trans ((val_main_v56_apply x0 x2 x5 x6 _).trans (Finset.sum_congr rfl fun k _ => ?_))
  refine (mul_comm _ _).trans (congrArg₂ (· * ·) ?_ ?_)
  · exact congrArg x0 (eq_ix2 _)
  · rw [dya_eq]
    exact congrArg (branchBack _ _) (eq_ix2 _)

/-- The second branch's weights' gradient. -/
theorem dwb_eq : val_main_v54 (F := Ideal) x1 x2 x5 x6 = mulTN x1 (branchBack (columns 6672 (by norm_num) x2) (mulNT x6 x5)) := by
  funext y
  refine (val_main_v52_apply x1 x2 x5 x6 y).trans ((val_main_v51_apply x1 x2 x5 x6 _).trans (Finset.sum_congr rfl fun k _ => ?_))
  refine (mul_comm _ _).trans (congrArg₂ (· * ·) ?_ ?_)
  · exact congrArg x1 (eq_ix2 _)
  · rw [dyb_eq]
    exact congrArg (branchBack _ _) (eq_ix2 _)

end Cert.Reference4Ideal.Merge

end
-- ==== Proof.MergeProof.lean ====
module

public import proofs.«01_k».proof.Defs
public import proofs.«01_k».proof.Proof.MergeRun
public import proofs.«01_k».proof.Proof.MergeRef
public import Idealize.ShloMosaic.Adequacy
public import Idealize.ShloMosaic.Init

@[expose] public section

noncomputable section

namespace Cert.Proof

open Idealize.ShloMosaic Idealize.SL.Sem

/-- The merge's reference terminates, leaves its arguments unchanged and has no semaphore. -/
theorem frameR4 : Cert.quiescent_Reference4Ideal (hReference4Ideal := Reference4Ideal.Gen.facts) := fun m ρ _ =>
  (θ_run Reference4Ideal.defs _ _).mono (fun r h => ⟨fun c => (h c).2.2.2.2.2.2.2.2, sem_eq_zero_of_no_sems (by decide) r.2⟩)
    (Reference4Ideal.Value.run (F := Ideal) m ρ)

set_option maxHeartbeats 4000000 in
/-- The merge's kernel and its reference end with equal results. -/
theorem algebraic4 : Cert.algebraic_Kernel4Ideal_Reference4Ideal (hKernel4Ideal := Kernel4Ideal.Gen.facts)
    (hReference4Ideal := Reference4Ideal.Gen.facts) := by
  intro m g m' g' _ hargs
  refine ⟨_, _, _, _, _, _, _, _, Kernel4Ideal.Merge.run_results m g, ?_⟩
  refine (θ_run _ _ _).mono (fun r h c => ?_) (Reference4Ideal.Value.run (F := Ideal) m' g')
  obtain ⟨a0, a1, a2, a3, a4, a5, a6⟩ := hargs c
  obtain ⟨r0, r1, r2, r3, r4, r5, r6, r7, hr⟩ := h c
  rw [a0, a1, a2, a3, a4, a5] at r0
  rw [a2, a3, a5, a6] at r1
  rw [a2, a4, a5, a6] at r2
  rw [a0, a2, a3, a5, a6] at r3
  rw [a1, a2, a4, a5, a6] at r4
  rw [a0, a2, a5, a6] at r5
  rw [a1, a2, a5, a6] at r6
  rw [a0, a1, a2, a3, a4, a6] at r7
  exact ⟨r0.trans ((Reference4Ideal.Read.val_main_v61_eq _ _ _ _ _ _).trans (Reference4Ideal.Merge.mixed_eq _ _ _ _ _ _)),
    r1.trans ((Reference4Ideal.Read.val_main_v60_eq _ _ _ _).trans (Reference4Ideal.Merge.doa_eq _ _ _ _)),
    r2.trans ((Reference4Ideal.Read.val_main_v55_eq _ _ _ _).trans (Reference4Ideal.Merge.dob_eq _ _ _ _)),
    r3.trans ((Reference4Ideal.Read.val_main_v62_eq _ _ _ _ _).trans (Reference4Ideal.Merge.dga_eq _ _ _ _ _)),
    r4.trans ((Reference4Ideal.Read.val_main_v63_eq _ _ _ _ _).trans (Reference4Ideal.Merge.dgb_eq _ _ _ _ _)),
    r5.trans ((Reference4Ideal.Read.val_main_v59_eq _ _ _ _).trans (Reference4Ideal.Merge.dwa_eq _ _ _ _)),
    r6.trans ((Reference4Ideal.Read.val_main_v54_eq _ _ _ _).trans (Reference4Ideal.Merge.dwb_eq _ _ _ _)),
    r7.trans ((Reference4Ideal.Read.val_main_v44_eq _ _ _ _ _ _).trans (Reference4Ideal.Merge.dwo_eq _ _ _ _ _ _)), hr⟩

end Cert.Proof

end
-- ==== Proof.NormSpec.lean ====
module

public import proofs.«01_k».proof.Proof.InSpec
public import Idealize.ShloMosaic.Lib.Pipeline.ValueKit

@[expose] public section

noncomputable section

namespace Cert.Norm

open Idealize.ShloMosaic Cert.Mlp

/-- A row of 1024 extended reals. -/
abbrev Row := Fin 1024 → EReal

/-- The residual's factor. -/
def alpha : EReal := Ideal.ofBits FTy.f32 0x3FD744FD#32

/-- The row's length. -/
def width : EReal := Ideal.ofBits FTy.f32 0x44800000#32

/-- A row's mean. -/
def mean (z : Row) : EReal := Ideal.div (∑ k : Fin 1024, z k) width

/-- A row less its mean. -/
def dev (z : Row) (j : Fin 1024) : EReal := z j - mean z

/-- A row's variance, with the small number that keeps its root away from zero. -/
def spread (z : Row) : EReal :=
  Ideal.div (∑ k : Fin 1024, dev z k * dev z k) width + Ideal.ofBits FTy.f32 0x3727C5AC#32

/-- One over its root. -/
def scale (z : Row) : EReal := Ideal.rsqrt (spread z)

/-- The normed row, before its weights. -/
def unit (z : Row) (j : Fin 1024) : EReal := dev z j * scale z

/-- The normed row. -/
def norm (z g b : Row) (j : Fin 1024) : EReal := unit z j * g j + b j

/-- The cotangent that reaches the row through the numerator. -/
def direct (z g d : Row) (j : Fin 1024) : EReal := d j * g j * scale z

/-- The derivative of one over the root. -/
def scaleSlope (z : Row) : EReal := Ideal.ofBits FTy.f32 0xBF000000#32 * Ideal.div (scale z) (spread z)

/-- The cotangent that reaches the row through its variance. -/
def indirect (z g d : Row) (j : Fin 1024) : EReal :=
  Ideal.div ((∑ k : Fin 1024, dev z k * (d k * g k)) * scaleSlope z) width * (Ideal.ofBits FTy.f32 0x40000000#32 * dev z j)

/-- The row's cotangent: the two, less their mean. -/
def back (z g d : Row) (j : Fin 1024) : EReal :=
  direct z g d j + indirect z g d j
    + Ideal.div ((∑ k : Fin 1024, -direct z g d k) + ∑ k : Fin 1024, -indirect z g d k) width

variable {m : ℕ}

/-- A matrix's row. -/
def row (x : Mat m 1024) (r : Fin m) : Row := fun j => x (ix2 r j)

/-- The sum of the residual and the gated branch, which is normed. -/
def preNorm (x y : Mat m 1024) (gt : Mat 1 1024) : Mat m 1024 := fun i =>
  alpha * x i + (1 + gt (ix2 0 (i 1))) * y i

/-- A bias added to every row. -/
def biased (x : Mat m 1024) (b : Mat 1 1024) : Mat m 1024 := fun i => x i + b (ix2 0 (i 1))

/-- The rows, normed before their weights. -/
def units (z : Mat m 1024) : Mat m 1024 := fun i => unit (row z (i 0)) (i 1)

/-- The normed rows. -/
def normed (z : Mat m 1024) (g b : Mat 1 1024) : Mat m 1024 := fun i => norm (row z (i 0)) (row g 0) (row b 0) (i 1)

/-- The rows' cotangents. -/
def normBack (z : Mat m 1024) (g : Mat 1 1024) (d : Mat m 1024) : Mat m 1024 := fun i =>
  back (row z (i 0)) (row g 0) (row d (i 0)) (i 1)

/-- The residual's cotangent. -/
def residual (dz : Mat m 1024) : Mat m 1024 := fun i => alpha * dz i

/-- The branch's cotangent. -/
def gated (gt : Mat 1 1024) (dz : Mat m 1024) : Mat m 1024 := fun i =>
  (1 + gt (ix2 0 (i 1))) * dz i

/-- The product, entry by entry. -/
def times (x y : Mat m 1024) : Mat m 1024 := fun i => x i * y i

/-- The normed rows' cotangent: one of its own, and one through the modulation. -/
def through (sc : Mat 1 1024) (dx du : Mat m 1024) : Mat m 1024 := fun i =>
  dx i + du i * (1 + sc (ix2 0 (i 1)))

/-- The normed rows, modulated. -/
def modulated (x : Mat m 1024) (sc sh : Mat 1 1024) : Mat m 1024 := fun i =>
  x i * (1 + sc (ix2 0 (i 1))) + sh (ix2 0 (i 1))

/-- A block of 512 rows. -/
def rows (t : Fin 4) (x : Mat 2048 1024) : Mat 512 1024 := fun i => x (ix2 ⟨512 * t.val + (i 0).val, by have := (i 0).isLt; have := t.isLt; dsimp at *; omega⟩ (i 1))

/-- A block's column sums are added up over the points, so after the last all the rows are summed. -/
theorem sum_points {N : ℕ} (hN : ∀ t : Fin N, t.val < 4) (f : (n : ℕ) → n < N → Fin 1024 → EReal) (w : Mat 2048 1024)
    (hA : ∀ t : Fin N, t.val % 4 = 0 → ∀ j, f t.val t.isLt j = 0 + colSum (rows ⟨t.val, hN t⟩ w) (ix2 0 j))
    (hB : ∀ t : Fin N, ¬ t.val % 4 = 0 → ∀ j, f t.val t.isLt j
      = f (t.val - 1) (Nat.lt_of_le_of_lt (Nat.sub_le _ _) t.isLt) j + colSum (rows ⟨t.val, hN t⟩ w) (ix2 0 j))
    (t : Fin N) (ht : t.val % 4 = 3) (j : Fin 1024) : f t.val t.isLt j = colSum w (ix2 0 j) := by
  let e : ℕ → ℕ → EReal := fun j i => if h : i < 2048 ∧ j < 1024 then w (ix2 ⟨i, h.1⟩ ⟨j, h.2⟩) else 0
  let s : ℕ → Fin 1024 → EReal := fun n j => ∑ r : Fin 512, e j.val (512 * n + r.val)
  have hs : ∀ (n : Fin 4) (j : Fin 1024), s n.val j = colSum (rows n w) (ix2 0 j) := fun n j =>
    Finset.sum_congr rfl fun r _ => dif_pos ⟨by have := n.isLt; have := r.isLt; omega, j.isLt⟩
  have key := Pipeline.eq_sum_of_reset_step_apply_of_mod f 4 (fun _ => 0) s
    (fun t h j => (hA t h j).trans (congrArg (0 + ·) (hs ⟨t.val, hN t⟩ j).symm))
    (fun t h j => (hB t h j).trans (congrArg (_ + ·) (hs ⟨t.val, hN t⟩ j).symm)) t ht j
  have hd : t.val / 4 = 0 := by have := hN t; omega
  refine key.trans ?_
  rw [zero_add, Finset.sum_range, hd]
  have e' : ∀ n : Fin 4, s (4 * 0 + n.val) j = ∑ r : Fin 512, e j.val (512 * n.val + r.val) := fun n => by
    rw [Nat.mul_zero, Nat.zero_add]
  refine (Finset.sum_congr rfl fun n _ => e' n).trans ((sum_blocks (e j.val)).trans (Finset.sum_congr rfl fun i _ => ?_))
  exact dif_pos ⟨i.isLt, j.isLt⟩

end Cert.Norm

end
-- ==== Proof.PostBlock.lean ====
module

public import proofs.«01_k».proof.Proof.Gen.Kernel5Ideal.Skeleton
public import proofs.«01_k».proof.Proof.NormSpec

@[expose] public section

noncomputable section

namespace Cert.Kernel5Ideal.Post

open Idealize.ShloMosaic Idealize.SL.Sem Cert.Kernel5Ideal.Gen Cert.Mlp Cert.Norm

/-- A block of the normed rows. -/
theorem norm_apply (x : Vec Ideal S512x1024 .f32) (y : Vec Ideal S512x1024 .bf16) (gt bf g b : Vec Ideal S1x1024 .f32)
    (r : Fin 512) (j : Fin 1024) :
    k0_pay1 x y gt bf g b (ix2 r j) = normed (preNorm (m := 512) x (biased (m := 512) y bf) gt) g b (ix2 r j) := by
  unfold k0_pay1
  pointwise
  rfl

variable (x : Vec Ideal S512x1024 .f32) (y : Vec Ideal S512x1024 .bf16) (gt bf g : Vec Ideal S1x1024 .f32)
  (d : Vec Ideal S512x1024 .f32) (r : Fin 512) (j : Fin 1024)

/-- A block of the rows to be normed. -/
abbrev pre : Mat 512 1024 := preNorm (m := 512) x (biased (m := 512) y bf) gt

/-- The gate's factor. -/
theorem gate_apply : k1_pay10 gt (ix2 0 j) = (1 + gt (ix2 0 j) : EReal) := by
  unfold k1_pay10
  pointwise

/-- The branch with its bias. -/
theorem branch_apply : k1_pay11 y bf (ix2 r j) = biased (m := 512) y bf (ix2 r j) := by
  unfold k1_pay11
  pointwise
  rfl

/-- The rows to be normed. -/
theorem pre_apply : k1_pay12 x y gt bf (ix2 r j) = pre x y gt bf (ix2 r j) := by
  unfold k1_pay12
  pointwise
  rw [gate_apply, branch_apply]
  rfl

/-- A row's mean. -/
theorem mean_apply : k1_pay13 x y gt bf (ix2 r 0) = mean (row (pre x y gt bf) r) := by
  unfold k1_pay13
  pointwise
  simp only [pre_apply]
  rfl

/-- A row less its mean. -/
theorem dev_apply : k1_pay14 x y gt bf (ix2 r j) = dev (row (pre x y gt bf) r) j := by
  unfold k1_pay14
  pointwise
  rw [pre_apply, mean_apply]
  rfl

/-- Twice a row less its mean. -/
theorem twice_apply : k1_pay15 x y gt bf (ix2 r j)
    = Ideal.ofBits FTy.f32 0x40000000#32 * dev (row (pre x y gt bf) r) j := by
  unfold k1_pay15
  pointwise
  rw [dev_apply]

/-- A row less its mean, once more. -/
theorem dev'_apply : k1_pay16 x y gt bf (ix2 r j) = dev (row (pre x y gt bf) r) j := by
  unfold k1_pay16
  pointwise
  rw [pre_apply, mean_apply]
  rfl

/-- A row's variance. -/
theorem spread_apply : k1_pay17 x y gt bf (ix2 r 0) = spread (row (pre x y gt bf) r) := by
  unfold k1_pay17
  pointwise
  simp only [dev_apply]
  rfl

/-- One over its root. -/
theorem scale_apply : k1_pay18 x y gt bf (ix2 r 0) = scale (row (pre x y gt bf) r) := by
  unfold k1_pay18
  pointwise
  rw [spread_apply]
  rfl

/-- The derivative of one over the root. -/
theorem slope_apply : k1_pay19 x y gt bf (ix2 r 0) = scaleSlope (row (pre x y gt bf) r) := by
  unfold k1_pay19
  pointwise
  rw [spread_apply, scale_apply]
  rfl

/-- One over the root, along the row. -/
theorem along_apply : k1_pay20 x y gt bf (ix2 r j) = scale (row (pre x y gt bf) r) := by
  unfold k1_pay20
  pointwise
  rw [scale_apply]

/-- The cotangent a block reads. -/
theorem read_apply : k1_pay21 d (ix2 r j) = (d (ix2 r j) : EReal) := by
  unfold k1_pay21
  pointwise

/-- The rows' cotangent. -/
theorem back_apply : k1_pay24 g d (k1_pay15 x y gt bf) (k1_pay16 x y gt bf) (k1_pay18 x y gt bf) (k1_pay19 x y gt bf) (ix2 r j)
    = normBack (pre x y gt bf) g d (ix2 r j) := by
  unfold k1_pay24
  pointwise
  simp only [read_apply, twice_apply, dev'_apply, scale_apply, slope_apply, zero_sub, Fin.sum_univ_one]
  rfl

/-- A block of the branch's cotangent. -/
theorem gated_apply : k1_pay25 g d (k1_pay10 gt) (k1_pay15 x y gt bf) (k1_pay16 x y gt bf) (k1_pay18 x y gt bf)
      (k1_pay19 x y gt bf) (ix2 r j) = gated gt (normBack (pre x y gt bf) g d) (ix2 r j) := by
  unfold k1_pay25
  pointwise
  rw [gate_apply, back_apply]
  rfl

/-- A block of the branch's cotangent, as it is stored. -/
theorem stored_apply : k1_pay1 (k1_pay25 g d (k1_pay10 gt) (k1_pay15 x y gt bf) (k1_pay16 x y gt bf) (k1_pay18 x y gt bf)
      (k1_pay19 x y gt bf)) (ix2 r j) = gated gt (normBack (pre x y gt bf) g d) (ix2 r j) := by
  unfold k1_pay1
  pointwise
  exact gated_apply x y gt bf g d r j

/-- A block of the residual's cotangent. -/
theorem residual_apply : k1_pay28 g d (k1_pay15 x y gt bf) (k1_pay16 x y gt bf) (k1_pay18 x y gt bf)
      (k1_pay19 x y gt bf) (ix2 r j) = residual (normBack (pre x y gt bf) g d) (ix2 r j) := by
  unfold k1_pay28
  pointwise
  rw [back_apply]
  rfl

/-- A block's columns of the offset's gradient. -/
theorem offset_apply : k1_pay22 d (ix2 0 j) = colSum (m := 512) (n := 1024) d (ix2 0 j) := by
  unfold k1_pay22
  pointwise
  rfl

/-- A block's columns of the weights' gradient. -/
theorem weights_apply : k1_pay23 d (k1_pay16 x y gt bf) (k1_pay20 x y gt bf) (ix2 0 j)
    = colSum (times (units (pre x y gt bf)) d) (ix2 0 j) := by
  unfold k1_pay23
  pointwise
  simp only [read_apply, dev'_apply, along_apply]
  rfl

/-- A block's columns of the gate's gradient. -/
theorem gates_apply : k1_pay26 g d (k1_pay11 y bf) (k1_pay15 x y gt bf) (k1_pay16 x y gt bf) (k1_pay18 x y gt bf)
      (k1_pay19 x y gt bf) (ix2 0 j) = colSum (times (normBack (pre x y gt bf) g d) (biased (m := 512) y bf)) (ix2 0 j) := by
  unfold k1_pay26
  pointwise
  simp only [back_apply, branch_apply]
  rfl

/-- A block's columns of the bias's gradient. -/
theorem bias_apply : k1_pay27 g d (k1_pay10 gt) (k1_pay15 x y gt bf) (k1_pay16 x y gt bf) (k1_pay18 x y gt bf)
      (k1_pay19 x y gt bf) (ix2 0 j) = colSum (gated gt (normBack (pre x y gt bf) g d)) (ix2 0 j) := by
  unfold k1_pay27
  pointwise
  simp only [gated_apply]
  rfl

/-- An accumulator starts at zero. -/
theorem zero_apply : k1_pay2 (F := Ideal) (ix2 0 j) = (0 : EReal) ∧ k1_pay3 (F := Ideal) (ix2 0 j) = (0 : EReal)
    ∧ k1_pay4 (F := Ideal) (ix2 0 j) = (0 : EReal) ∧ k1_pay5 (F := Ideal) (ix2 0 j) = (0 : EReal) := by
  unfold k1_pay2 k1_pay3 k1_pay4 k1_pay5
  refine ⟨?_, ?_, ?_, ?_⟩ <;> pointwise

/-- A point adds to the accumulators. -/
theorem add_apply (s a : Vec Ideal S1x1024 .f32) : k1_pay6 s a (ix2 0 j) = (a (ix2 0 j) + s (ix2 0 j) : EReal)
    ∧ k1_pay7 s a (ix2 0 j) = (a (ix2 0 j) + s (ix2 0 j) : EReal) ∧ k1_pay8 s a (ix2 0 j) = (a (ix2 0 j) + s (ix2 0 j) : EReal)
    ∧ k1_pay9 s a (ix2 0 j) = (a (ix2 0 j) + s (ix2 0 j) : EReal) := by
  unfold k1_pay6 k1_pay7 k1_pay8 k1_pay9
  refine ⟨?_, ?_, ?_, ?_⟩ <;> pointwise

end Cert.Kernel5Ideal.Post

end
-- ==== Proof.PostRegions.lean ====
module

public import proofs.«01_k».proof.Proof.PostBlock
public import proofs.«01_k».proof.Proof.Gen.Kernel5Ideal.Frame
public import Idealize.ShloMosaic.Lib.Pipeline.ValueKit

@[expose] public section

noncomputable section

namespace Cert.Kernel5Ideal.Post

open Idealize.ShloMosaic Idealize.SL.Sem Cert.Kernel5Ideal.Gen Cert.Mlp Cert.Norm

variable (V : (c : Dev nD) → (b : Ref sig .tc) → Buf (Elt Ideal) ((c.tc : Thread nD τ).loc b)) (c : Dev nD)

/-- Where the forward call's windows lie at a point: the matrices by blocks of rows, the vectors whole. -/
theorem index0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] := by
  decide +kernel

/-- The forward call has four points. -/
theorem points0 (t : Fin cfg0.N) : t.val < 4 := t.isLt.trans_eq (by decide +kernel)

/-- A point's block of the residual. -/
theorem block0_0 (t : Fin cfg0.N) : (iblk0 V c 0 t : Mat 512 1024) = rows ⟨t.val, points0 t⟩ (V c main_arg0) := by
  funext y
  obtain ⟨r, j, rfl⟩ : ∃ r j, y = ix2 r j := ⟨y 0, y 1, eq_ix2 y⟩
  unfold rows
  blk_simp [iblk0]
  blk_ext [(index0 t).1]

/-- A point's block of the branch. -/
theorem block0_1 (t : Fin cfg0.N) : (iblk0 V c 1 t : Mat 512 1024) = rows ⟨t.val, points0 t⟩ (V c main_arg1) := by
  funext y
  obtain ⟨r, j, rfl⟩ : ∃ r j, y = ix2 r j := ⟨y 0, y 1, eq_ix2 y⟩
  unfold rows
  blk_simp [iblk0]
  blk_ext [(index0 t).2.1]

/-- The gate at a point. -/
theorem block0_2 (t : Fin cfg0.N) : (iblk0 V c 2 t : Mat 1 1024) = V c main_arg2 := by
  funext y
  obtain ⟨r, j, rfl⟩ : ∃ r j, y = ix2 r j := ⟨y 0, y 1, eq_ix2 y⟩
  blk_simp [iblk0]
  blk_ext [(index0 t).2.2.1]

/-- The branch's bias at a point. -/
theorem block0_3 (t : Fin cfg0.N) : (iblk0 V c 3 t : Mat 1 1024) = V c main_arg3 := by
  funext y
  obtain ⟨r, j, rfl⟩ : ∃ r j, y = ix2 r j := ⟨y 0, y 1, eq_ix2 y⟩
  blk_simp [iblk0]
  blk_ext [(index0 t).2.2.2.1]

/-- The norm's weights at a point. -/
theorem block0_4 (t : Fin cfg0.N) : (iblk0 V c 4 t : Mat 1 1024) = V c main_arg4 := by
  funext y
  obtain ⟨r, j, rfl⟩ : ∃ r j, y = ix2 r j := ⟨y 0, y 1, eq_ix2 y⟩
  blk_simp [iblk0]
  blk_ext [(index0 t).2.2.2.2.1]

/-- The norm's offset at a point. -/
theorem block0_5 (t : Fin cfg0.N) : (iblk0 V c 5 t : Mat 1 1024) = V c main_arg5 := by
  funext y
  obtain ⟨r, j, rfl⟩ : ∃ r j, y = ix2 r j := ⟨y 0, y 1, eq_ix2 y⟩
  blk_simp [iblk0]
  blk_ext [(index0 t).2.2.2.2.2.1]

/-- The rows to be normed, from the program's operands. -/
abbrev sums : Mat 2048 1024 := preNorm (V c main_arg0) (biased (V c main_arg1) (V c main_arg3)) (V c main_arg2)

/-- The normed rows after the forward call. -/
theorem final0 : (dat0 V c).arrAt 6 cfg0.N = normed (sums V c) (V c main_arg4) (V c main_arg5) := by
  refine (dat0 V c).arrAt_eq_of_covers 6 _ (by decide +kernel) fun t hf y => ?_
  blk_simp
  rw [after0_6]
  frame_out
  obtain ⟨r, j, rfl⟩ : ∃ r j, y = ix2 r j := ⟨y 0, y 1, eq_ix2 y⟩
  refine (norm_apply _ _ _ _ _ _ r j).trans ?_
  have e : (win0_6.blk t).view.emb (ix2 r j) = ix2 ⟨512 * t.val + r.val, by have := points0 t; omega⟩ j := by
    blk_ext [(index0 t).2.2.2.2.2.2]
  rw [e, block0_0, block0_1, block0_2, block0_3, block0_4, block0_5]
  rfl

/-- Where the backward call's windows lie at a point: the matrices by blocks of rows, the vectors whole. -/
theorem index1 : ∀ t : Fin cfg1.N, win1_0.index t = ![t.val, 0] ∧ win1_1.index t = ![t.val, 0] ∧ win1_2.index t = ![0, 0]
    ∧ win1_3.index t = ![0, 0] ∧ win1_4.index t = ![0, 0] ∧ win1_6.index t = ![t.val, 0]
    ∧ win1_7.index t = ![t.val, 0] ∧ win1_8.index t = ![t.val, 0] ∧ win1_9.index t = ![0, 0] ∧ win1_10.index t = ![0, 0]
    ∧ win1_11.index t = ![0, 0] ∧ win1_12.index t = ![0, 0] := by
  decide +kernel

/-- The backward call has four points. -/
theorem points1 (t : Fin cfg1.N) : t.val < 4 := t.isLt.trans_eq (by decide +kernel)

/-- A point's block of the residual. -/
theorem block1_0 (t : Fin cfg1.N) : (iblk1 V c 0 t : Mat 512 1024) = rows ⟨t.val, points1 t⟩ (V c main_arg0) := by
  funext y
  obtain ⟨r, j, rfl⟩ : ∃ r j, y = ix2 r j := ⟨y 0, y 1, eq_ix2 y⟩
  unfold rows
  blk_simp [iblk1]
  blk_ext [(index1 t).1]

/-- A point's block of the branch. -/
theorem block1_1 (t : Fin cfg1.N) : (iblk1 V c 1 t : Mat 512 1024) = rows ⟨t.val, points1 t⟩ (V c main_arg1) := by
  funext y
  obtain ⟨r, j, rfl⟩ : ∃ r j, y = ix2 r j := ⟨y 0, y 1, eq_ix2 y⟩
  unfold rows
  blk_simp [iblk1]
  blk_ext [(index1 t).2.1]

/-- The gate at a point. -/
theorem block1_2 (t : Fin cfg1.N) : (iblk1 V c 2 t : Mat 1 1024) = V c main_arg2 := by
  funext y
  obtain ⟨r, j, rfl⟩ : ∃ r j, y = ix2 r j := ⟨y 0, y 1, eq_ix2 y⟩
  blk_simp [iblk1]
  blk_ext [(index1 t).2.2.1]

/-- The branch's bias at a point. -/
theorem block1_3 (t : Fin cfg1.N) : (iblk1 V c 3 t : Mat 1 1024) = V c main_arg3 := by
  funext y
  obtain ⟨r, j, rfl⟩ : ∃ r j, y = ix2 r j := ⟨y 0, y 1, eq_ix2 y⟩
  blk_simp [iblk1]
  blk_ext [(index1 t).2.2.2.1]

/-- The norm's weights at a point. -/
theorem block1_4 (t : Fin cfg1.N) : (iblk1 V c 4 t : Mat 1 1024) = V c main_arg4 := by
  funext y
  obtain ⟨r, j, rfl⟩ : ∃ r j, y = ix2 r j := ⟨y 0, y 1, eq_ix2 y⟩
  blk_simp [iblk1]
  blk_ext [(index1 t).2.2.2.2.1]

/-- A point's block of the cotangent. -/
theorem block1_6 (t : Fin cfg1.N) : (iblk1 V c 6 t : Mat 512 1024) = rows ⟨t.val, points1 t⟩ (V c main_arg6) := by
  funext y
  obtain ⟨r, j, rfl⟩ : ∃ r j, y = ix2 r j := ⟨y 0, y 1, eq_ix2 y⟩
  unfold rows
  blk_simp [iblk1]
  blk_ext [(index1 t).2.2.2.2.2.1]

/-- The rows' cotangent, from the program's operands. -/
abbrev sumsBack : Mat 2048 1024 := normBack (sums V c) (V c main_arg4) (V c main_arg6)

/-- A point's block of the rows to be normed. -/
theorem block_sums (t : Fin cfg1.N) : pre (iblk1 V c 0 t) (iblk1 V c 1 t) (iblk1 V c 2 t) (iblk1 V c 3 t)
    = rows ⟨t.val, points1 t⟩ (sums V c) := by
  unfold pre
  rw [block1_0, block1_1, block1_2, block1_3]
  rfl

/-- A point's block of the rows' cotangent. -/
theorem block_back (t : Fin cfg1.N) :
    normBack (pre (iblk1 V c 0 t) (iblk1 V c 1 t) (iblk1 V c 2 t) (iblk1 V c 3 t)) (iblk1 V c 4 t : Mat 1 1024) (iblk1 V c 6 t)
      = rows ⟨t.val, points1 t⟩ (sumsBack V c) := by
  rw [block_sums, block1_4, block1_6]
  rfl

/-- A point's block of the biased branch. -/
theorem block_branch (t : Fin cfg1.N) : biased (iblk1 V c 1 t : Mat 512 1024) (iblk1 V c 3 t)
    = rows ⟨t.val, points1 t⟩ (biased (V c main_arg1) (V c main_arg3)) := by
  rw [block1_1, block1_3]
  rfl

/-- The rows a point leaves of the residual's cotangent. -/
theorem rows1_7 (t : Fin cfg1.N) (r : Fin 512) (j : Fin 1024) : (outsAt1 V c t.val t.isLt).1 (ix2 r j)
    = rows ⟨t.val, points1 t⟩ (residual (sumsBack V c)) (ix2 r j) := by
  refine Eq.trans (b := residual (normBack (pre (iblk1 V c 0 t) (iblk1 V c 1 t) (iblk1 V c 2 t) (iblk1 V c 3 t))
    (iblk1 V c 4 t : Mat 1 1024) (iblk1 V c 6 t)) (ix2 r j)) ?_ (by rw [block_back]; rfl)
  by_cases h : t.val % 4 = 0
  · rw [outsAt1_A V c t h]
    frame_out
    exact residual_apply _ _ _ _ _ _ r j
  · rw [outsAt1_B V c t h]
    frame_out
    exact residual_apply _ _ _ _ _ _ r j

/-- The rows a point leaves of the branch's cotangent. -/
theorem rows1_8 (t : Fin cfg1.N) (r : Fin 512) (j : Fin 1024) : (outsAt1 V c t.val t.isLt).2.1 (ix2 r j)
    = rows ⟨t.val, points1 t⟩ (gated (V c main_arg2) (sumsBack V c)) (ix2 r j) := by
  refine Eq.trans (b := gated (iblk1 V c 2 t) (normBack (pre (iblk1 V c 0 t) (iblk1 V c 1 t) (iblk1 V c 2 t) (iblk1 V c 3 t))
    (iblk1 V c 4 t : Mat 1 1024) (iblk1 V c 6 t)) (ix2 r j)) ?_ (by rw [block_back, block1_2]; rfl)
  by_cases h : t.val % 4 = 0
  · rw [outsAt1_A V c t h]
    frame_out
    exact stored_apply _ _ _ _ _ _ r j
  · rw [outsAt1_B V c t h]
    frame_out
    exact stored_apply _ _ _ _ _ _ r j

/-- The residual's cotangent after the call. -/
theorem final1_7 : (dat1 V c).arrAt 7 cfg1.N = residual (sumsBack V c) := by
  refine (dat1 V c).arrAt_eq_of_covers 7 _ (by decide +kernel) fun t hf y => ?_
  blk_simp
  rw [after1_7]
  obtain ⟨r, j, rfl⟩ : ∃ r j, y = ix2 r j := ⟨y 0, y 1, eq_ix2 y⟩
  have e : (win1_7.blk t).view.emb (ix2 r j) = ix2 ⟨512 * t.val + r.val, by have := points1 t; omega⟩ j := by
    blk_ext [(index1 t).2.2.2.2.2.2.1]
  rw [e]
  exact rows1_7 V c t r j

/-- The branch's cotangent after the call. -/
theorem final1_8 : (dat1 V c).arrAt 8 cfg1.N = gated (V c main_arg2) (sumsBack V c) := by
  refine (dat1 V c).arrAt_eq_of_covers 8 _ (by decide +kernel) fun t hf y => ?_
  blk_simp
  rw [after1_8]
  obtain ⟨r, j, rfl⟩ : ∃ r j, y = ix2 r j := ⟨y 0, y 1, eq_ix2 y⟩
  have e : (win1_8.blk t).view.emb (ix2 r j) = ix2 ⟨512 * t.val + r.val, by have := points1 t; omega⟩ j := by
    blk_ext [(index1 t).2.2.2.2.2.2.2.1]
  rw [e]
  exact rows1_8 V c t r j

/-- The gate's gradient after the last point. -/
theorem last9 (t : Fin cfg1.N) (ht : t.val % 4 = 3) (j : Fin 1024) : (outsAt1 V c t.val t.isLt).2.2.1 (ix2 0 j)
    = colSum (times (sumsBack V c) (biased (V c main_arg1) (V c main_arg3))) (ix2 0 j) := by
  have step : ∀ (t : Fin cfg1.N) j, colSum (times (normBack (pre (iblk1 V c 0 t) (iblk1 V c 1 t) (iblk1 V c 2 t)
      (iblk1 V c 3 t)) (iblk1 V c 4 t : Mat 1 1024) (iblk1 V c 6 t)) (biased (iblk1 V c 1 t : Mat 512 1024) (iblk1 V c 3 t))) (ix2 0 j)
      = colSum (rows ⟨t.val, points1 t⟩ (times (sumsBack V c) (biased (V c main_arg1) (V c main_arg3)))) (ix2 0 j) :=
    fun t j => by rw [block_back, block_branch]; rfl
  refine sum_points points1 (fun n h j => (outsAt1 V c n h).2.2.1 (ix2 0 j)) _ (fun t h j => ?_) (fun t h j => ?_) t ht j
  · rw [outsAt1_A V c t h, ← step]
    frame_out
    refine (add_apply j _ _).1.trans (congrArg₂ (· + ·) (zero_apply j).1 (gates_apply _ _ _ _ _ _ j))
  · rw [outsAt1_B V c t h, ← step]
    frame_out
    refine (add_apply j _ _).1.trans (congrArg (_ + ·) (gates_apply _ _ _ _ _ _ j))

/-- The bias's gradient after the last point. -/
theorem last10 (t : Fin cfg1.N) (ht : t.val % 4 = 3) (j : Fin 1024) : (outsAt1 V c t.val t.isLt).2.2.2.1 (ix2 0 j)
    = colSum (gated (V c main_arg2) (sumsBack V c)) (ix2 0 j) := by
  have step : ∀ (t : Fin cfg1.N) j, colSum (gated (iblk1 V c 2 t) (normBack (pre (iblk1 V c 0 t) (iblk1 V c 1 t) (iblk1 V c 2 t)
      (iblk1 V c 3 t)) (iblk1 V c 4 t : Mat 1 1024) (iblk1 V c 6 t))) (ix2 0 j)
      = colSum (rows ⟨t.val, points1 t⟩ (gated (V c main_arg2) (sumsBack V c))) (ix2 0 j) :=
    fun t j => by rw [block_back, block1_2]; rfl
  refine sum_points points1 (fun n h j => (outsAt1 V c n h).2.2.2.1 (ix2 0 j)) _ (fun t h j => ?_) (fun t h j => ?_) t ht j
  · rw [outsAt1_A V c t h, ← step]
    frame_out
    refine (add_apply j _ _).2.1.trans (congrArg₂ (· + ·) (zero_apply j).2.1 (bias_apply _ _ _ _ _ _ j))
  · rw [outsAt1_B V c t h, ← step]
    frame_out
    refine (add_apply j _ _).2.1.trans (congrArg (_ + ·) (bias_apply _ _ _ _ _ _ j))

/-- The norm's weights' gradient after the last point. -/
theorem last11 (t : Fin cfg1.N) (ht : t.val % 4 = 3) (j : Fin 1024) : (outsAt1 V c t.val t.isLt).2.2.2.2.1 (ix2 0 j)
    = colSum (times (units (sums V c)) (V c main_arg6)) (ix2 0 j) := by
  have step : ∀ (t : Fin cfg1.N) j, colSum (times (units (pre (iblk1 V c 0 t) (iblk1 V c 1 t) (iblk1 V c 2 t)
      (iblk1 V c 3 t))) (iblk1 V c 6 t)) (ix2 0 j)
      = colSum (rows ⟨t.val, points1 t⟩ (times (units (sums V c)) (V c main_arg6))) (ix2 0 j) :=
    fun t j => by rw [block_sums, block1_6]; rfl
  refine sum_points points1 (fun n h j => (outsAt1 V c n h).2.2.2.2.1 (ix2 0 j)) _ (fun t h j => ?_) (fun t h j => ?_) t ht j
  · rw [outsAt1_A V c t h, ← step]
    frame_out
    refine (add_apply j _ _).2.2.1.trans (congrArg₂ (· + ·) (zero_apply j).2.2.1 (weights_apply _ _ _ _ _ j))
  · rw [outsAt1_B V c t h, ← step]
    frame_out
    refine (add_apply j _ _).2.2.1.trans (congrArg (_ + ·) (weights_apply _ _ _ _ _ j))

/-- The norm's offset's gradient after the last point. -/
theorem last12 (t : Fin cfg1.N) (ht : t.val % 4 = 3) (j : Fin 1024) : (outsAt1 V c t.val t.isLt).2.2.2.2.2 (ix2 0 j)
    = colSum (V c main_arg6) (ix2 0 j) := by
  have step : ∀ (t : Fin cfg1.N) j, colSum (iblk1 V c 6 t : Mat 512 1024) (ix2 0 j)
      = colSum (rows ⟨t.val, points1 t⟩ (V c main_arg6)) (ix2 0 j) :=
    fun t j => by rw [block1_6]
  refine sum_points points1 (fun n h j => (outsAt1 V c n h).2.2.2.2.2 (ix2 0 j)) _ (fun t h j => ?_) (fun t h j => ?_) t ht j
  · rw [outsAt1_A V c t h, ← step]
    frame_out
    refine (add_apply j _ _).2.2.2.trans (congrArg₂ (· + ·) (zero_apply j).2.2.2 (offset_apply _ j))
  · rw [outsAt1_B V c t h, ← step]
    frame_out
    refine (add_apply j _ _).2.2.2.trans (congrArg (_ + ·) (offset_apply _ j))

/-- The gate's gradient after the call. -/
theorem final1_9 : (dat1 V c).arrAt 9 cfg1.N = colSum (times (sumsBack V c) (biased (V c main_arg1) (V c main_arg3))) := by
  refine (dat1 V c).arrAt_eq_of_covers 9 _ (by decide +kernel) fun t hf y => ?_
  blk_simp
  rw [after1_9]
  obtain ⟨r, j, rfl⟩ : ∃ r j, y = ix2 r j := ⟨y 0, y 1, eq_ix2 y⟩
  obtain rfl : r = 0 := Subsingleton.elim (α := Fin 1) _ _
  have e : (win1_9.blk t).view.emb (ix2 0 j) = ix2 0 j := by
    blk_ext [(index1 t).2.2.2.2.2.2.2.2.1]
  rw [e]
  exact last9 V c t ((flush1_9 t).mp hf) j

/-- The bias's gradient after the call. -/
theorem final1_10 : (dat1 V c).arrAt 10 cfg1.N = colSum (gated (V c main_arg2) (sumsBack V c)) := by
  refine (dat1 V c).arrAt_eq_of_covers 10 _ (by decide +kernel) fun t hf y => ?_
  blk_simp
  rw [after1_10]
  obtain ⟨r, j, rfl⟩ : ∃ r j, y = ix2 r j := ⟨y 0, y 1, eq_ix2 y⟩
  obtain rfl : r = 0 := Subsingleton.elim (α := Fin 1) _ _
  have e : (win1_10.blk t).view.emb (ix2 0 j) = ix2 0 j := by
    blk_ext [(index1 t).2.2.2.2.2.2.2.2.2.1]
  rw [e]
  exact last10 V c t ((flush1_10 t).mp hf) j

/-- The norm's weights' gradient after the call. -/
theorem final1_11 : (dat1 V c).arrAt 11 cfg1.N = colSum (times (units (sums V c)) (V c main_arg6)) := by
  refine (dat1 V c).arrAt_eq_of_covers 11 _ (by decide +kernel) fun t hf y => ?_
  blk_simp
  rw [after1_11]
  obtain ⟨r, j, rfl⟩ : ∃ r j, y = ix2 r j := ⟨y 0, y 1, eq_ix2 y⟩
  obtain rfl : r = 0 := Subsingleton.elim (α := Fin 1) _ _
  have e : (win1_11.blk t).view.emb (ix2 0 j) = ix2 0 j := by
    blk_ext [(index1 t).2.2.2.2.2.2.2.2.2.2.1]
  rw [e]
  exact last11 V c t ((flush1_11 t).mp hf) j

/-- The norm's offset's gradient after the call. -/
theorem final1_12 : (dat1 V c).arrAt 12 cfg1.N = colSum (V c main_arg6) := by
  refine (dat1 V c).arrAt_eq_of_covers 12 _ (by decide +kernel) fun t hf y => ?_
  blk_simp
  rw [after1_12]
  obtain ⟨r, j, rfl⟩ : ∃ r j, y = ix2 r j := ⟨y 0, y 1, eq_ix2 y⟩
  obtain rfl : r = 0 := Subsingleton.elim (α := Fin 1) _ _
  have e : (win1_12.blk t).view.emb (ix2 0 j) = ix2 0 j := by
    blk_ext [(index1 t).2.2.2.2.2.2.2.2.2.2.2]
  rw [e]
  exact last12 V c t ((flush1_12 t).mp hf) j

end Cert.Kernel5Ideal.Post

end
-- ==== Proof.PostRun.lean ====
module

public import proofs.«01_k».proof.Proof.PostRegions

@[expose] public section

noncomputable section

namespace Cert.Kernel5Ideal.Post

open Idealize.ShloMosaic Idealize.ShloMosaic.TcCoe Idealize.SL.Sem Cert.Kernel5Ideal Cert.Kernel5Ideal.Gen Cert.Mlp Cert.Norm

section Launch

open Idealize.ShloMosaic.Tactic Idealize.SL Idealize.SL.RA Idealize.SL.BI
open scoped Idealize.SL.BI
open Idealize.SL.BI.BIBase Idealize.SL.BI.Laws Idealize.SL.ProofMode Idealize.ShloMosaic.Rounds

variable {F : FTy → Type} [FloatOps F] (m : (ℓ : Loc nD τ sig) → Buf (Elt F) ℓ) (ρ : Dev nD → PrngReg)

local notation "𝕄" => MT nD τ sig Unit (Elt F) ℕ (UR sig nD τ) ℕ

/-- The two calls end with every buffer as the last leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

end Launch

variable (m : (ℓ : Loc nD τ sig) → Buf (Elt Ideal) ℓ) (ρ : Dev nD → PrngReg) (c : Dev nD)

/-- The residual. -/
abbrev arg0 : Mat 2048 1024 := m ((c.tc : Thread nD τ).loc main_arg0)
/-- The branch. -/
abbrev arg1 : Mat 2048 1024 := m ((c.tc : Thread nD τ).loc main_arg1)
/-- The gate. -/
abbrev arg2 : Mat 1 1024 := m ((c.tc : Thread nD τ).loc main_arg2)
/-- The branch's bias. -/
abbrev arg3 : Mat 1 1024 := m ((c.tc : Thread nD τ).loc main_arg3)
/-- The norm's weights. -/
abbrev arg4 : Mat 1 1024 := m ((c.tc : Thread nD τ).loc main_arg4)
/-- The norm's offset. -/
abbrev arg5 : Mat 1 1024 := m ((c.tc : Thread nD τ).loc main_arg5)
/-- The result's cotangent. -/
abbrev arg6 : Mat 2048 1024 := m ((c.tc : Thread nD τ).loc main_arg6)

/-- The rows to be normed. -/
abbrev preRows : Mat 2048 1024 := preNorm (arg0 m c) (biased (arg1 m c) (arg3 m c)) (arg2 m c)
/-- Their cotangent. -/
abbrev preBack : Mat 2048 1024 := normBack (preRows m c) (arg4 m c) (arg6 m c)

/-- The second call's operands are the program's. -/
theorem args_1 : V1 m ρ c main_arg0 = arg0 m c ∧ V1 m ρ c main_arg1 = arg1 m c ∧ V1 m ρ c main_arg2 = arg2 m c
    ∧ V1 m ρ c main_arg3 = arg3 m c ∧ V1 m ρ c main_arg4 = arg4 m c ∧ V1 m ρ c main_arg6 = arg6 m c :=
  ⟨W1_args m ρ c main_arg0 (by decide), W1_args m ρ c main_arg1 (by decide), W1_args m ρ c main_arg2 (by decide),
    W1_args m ρ c main_arg3 (by decide), W1_args m ρ c main_arg4 (by decide), W1_args m ρ c main_arg6 (by decide)⟩

/-- The rows to be normed are the second call's. -/
theorem sums_1 : sums (V1 m ρ) c = preRows m c := by
  obtain ⟨h0, h1, h2, h3, -, -⟩ := args_1 m ρ c
  unfold sums
  rw [h0, h1, h2, h3]

/-- Their cotangent is the second call's. -/
theorem sumsBack_1 : sumsBack (V1 m ρ) c = preBack m c := by
  obtain ⟨-, -, -, -, h4, h6⟩ := args_1 m ρ c
  unfold sumsBack
  rw [sums_1, h4, h6]

/-- The normed rows. -/
theorem out_2 : V2 m ρ c main_v0 = normed (preRows m c) (arg4 m c) (arg5 m c) := by
  exact (W2_of m ρ c main_v0 (by decide +kernel)).trans ((W1_arr m ρ c 6).trans (final0 (V0 m ρ) c))

/-- The residual's cotangent. -/
theorem dx_2 : V2 m ρ c main_v1_0 = residual (preBack m c) := by
  obtain ⟨h0, h1, h2, h3, h4, h6⟩ := args_1 m ρ c
  refine (W2_arr m ρ c 7).trans ((final1_7 (V1 m ρ) c).trans ?_)
  rw [sumsBack_1]

/-- The branch's cotangent. -/
theorem dff_2 : V2 m ρ c main_v1_1 = gated (arg2 m c) (preBack m c) := by
  obtain ⟨h0, h1, h2, h3, h4, h6⟩ := args_1 m ρ c
  refine (W2_arr m ρ c 8).trans ((final1_8 (V1 m ρ) c).trans ?_)
  rw [sumsBack_1, h2]

/-- The gate's gradient. -/
theorem dgt_2 : V2 m ρ c main_v1_2 = colSum (times (preBack m c) (biased (arg1 m c) (arg3 m c))) := by
  obtain ⟨h0, h1, h2, h3, h4, h6⟩ := args_1 m ρ c
  refine (W2_arr m ρ c 9).trans ((final1_9 (V1 m ρ) c).trans ?_)
  rw [sumsBack_1, h1, h3]

/-- The bias's gradient. -/
theorem dbias_2 : V2 m ρ c main_v1_3 = colSum (gated (arg2 m c) (preBack m c)) := by
  obtain ⟨h0, h1, h2, h3, h4, h6⟩ := args_1 m ρ c
  refine (W2_arr m ρ c 10).trans ((final1_10 (V1 m ρ) c).trans ?_)
  rw [sumsBack_1, h2]

/-- The norm's weights' gradient. -/
theorem dg_2 : V2 m ρ c main_v1_4 = colSum (times (units (preRows m c)) (arg6 m c)) := by
  obtain ⟨h0, h1, h2, h3, h4, h6⟩ := args_1 m ρ c
  refine (W2_arr m ρ c 11).trans ((final1_11 (V1 m ρ) c).trans ?_)
  rw [sums_1, h6]

/-- The norm's offset's gradient. -/
theorem db_2 : V2 m ρ c main_v1_5 = colSum (arg6 m c) := by
  obtain ⟨h0, h1, h2, h3, h4, h6⟩ := args_1 m ρ c
  refine (W2_arr m ρ c 12).trans ((final1_12 (V1 m ρ) c).trans ?_)
  rw [h6]

/-- The kernel's run with its results. -/
theorem run_results : θ_run defs (onTc (τ := τ) (main (F := Ideal))) ⟨m, fun _ => 0, ρ⟩ (fun r => ∀ c : Dev nD,
      r.2.mem ((c.tc : Thread nD τ).loc main_v0) = normed (preRows m c) (arg4 m c) (arg5 m c)
      ∧ r.2.mem ((c.tc : Thread nD τ).loc main_v1_0) = residual (preBack m c)
      ∧ r.2.mem ((c.tc : Thread nD τ).loc main_v1_1) = gated (arg2 m c) (preBack m c)
      ∧ r.2.mem ((c.tc : Thread nD τ).loc main_v1_2) = colSum (times (preBack m c) (biased (arg1 m c) (arg3 m c)))
      ∧ r.2.mem ((c.tc : Thread nD τ).loc main_v1_3) = colSum (gated (arg2 m c) (preBack m c))
      ∧ r.2.mem ((c.tc : Thread nD τ).loc main_v1_4) = colSum (times (units (preRows m c)) (arg6 m c))
      ∧ r.2.mem ((c.tc : Thread nD τ).loc main_v1_5) = colSum (arg6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v0 (by decide))).trans (out_2 m ρ c),
      (h c _ (mem_uc main_v1_0 (by decide))).trans (dx_2 m ρ c),
      (h c _ (mem_uc main_v1_1 (by decide))).trans (dff_2 m ρ c),
      (h c _ (mem_uc main_v1_2 (by decide))).trans (dgt_2 m ρ c),
      (h c _ (mem_uc main_v1_3 (by decide))).trans (dbias_2 m ρ c),
      (h c _ (mem_uc main_v1_4 (by decide))).trans (dg_2 m ρ c),
      (h c _ (mem_uc main_v1_5 (by decide))).trans (db_2 m ρ c),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c),
      (h c _ (mem_uc main_arg4 (by decide))).trans (W2_main_arg4 m ρ c),
      (h c _ (mem_uc main_arg5 (by decide))).trans (W2_main_arg5 m ρ c),
      (h c _ (mem_uc main_arg6 (by decide))).trans (W2_main_arg6 m ρ c)⟩)
    (run_all m ρ)

end Cert.Kernel5Ideal.Post

end
-- ==== Proof.NormRef.lean ====
module

public import proofs.«01_k».proof.Proof.NormSpec

@[expose] public section

noncomputable section

namespace Cert.Norm

open Idealize.ShloMosaic Cert.Mlp

/-- A matrix's entry is its row's. -/
theorem row_at {m : ℕ} (x : Mat m 1024) (y : (⟨2, ![m, 1024]⟩ : Shape).Idx) : x y = row x (y 0) (y 1) := congrArg x (eq_ix2 y)

/-- A vector's entry is its only row's. -/
theorem vec_at (x : Mat 1 1024) (y : (⟨2, ![1, 1024]⟩ : Shape).Idx) : x y = row x 0 (y 1) :=
  congrArg x ((eq_ix2 y).trans (congrArg₂ ix2 (Subsingleton.elim (α := Fin 1) _ _) rfl))

/-- A sum that starts at the word of zero. -/
theorem sum_from {n : ℕ} (f g : Fin n → EReal) (h : ∀ k, f k = g k) :
    Ideal.ofBits FTy.f32 0x00000000#32 + ∑ k, f k = ∑ k, g k :=
  (congrArg (· + _) Ideal.ofBits_zero_f32).trans ((zero_add _).trans (Finset.sum_congr rfl fun k _ => h k))

/-- A sum of one entry that starts at the word of zero. -/
theorem sum_one (f : Fin 1 → EReal) : Ideal.ofBits FTy.f32 0x00000000#32 + ∑ k, f k = f 0 :=
  (congrArg (· + _) Ideal.ofBits_zero_f32).trans ((zero_add _).trans (Fin.sum_univ_one f))

end Cert.Norm

end
-- ==== Proof.PostRef.lean ====
module

public import proofs.«01_k».proof.Proof.NormRef
public import proofs.«01_k».proof.Proof.Gen.Reference5Ideal.Run
public import proofs.«01_k».proof.Proof.Gen.Reference5Ideal.Read

@[expose] public section

noncomputable section

namespace Cert.Reference5Ideal.Post

open Idealize.ShloMosaic Cert.Reference5Ideal Cert.Reference5Ideal.Read Cert.Mlp Cert.Norm

variable (x0 : (⟨S2048x1024, .f32⟩ : BufTy).Contents (Elt Ideal)) (x1 : (⟨S2048x1024, .bf16⟩ : BufTy).Contents (Elt Ideal))
  (x2 x3 x4 x5 : (⟨S1x1024, .f32⟩ : BufTy).Contents (Elt Ideal)) (x6 : (⟨S2048x1024, .f32⟩ : BufTy).Contents (Elt Ideal))

/-- The rows to be normed. -/
abbrev sums : Mat 2048 1024 := preNorm (m := 2048) x0 (biased (m := 2048) x1 x3) x2

/-- The gate's factor. -/
theorem gate_at (i : S1x1024.Idx) : val_main_v3 (F := Ideal) x2 i = (1 + x2 (ix2 0 (i 1)) : EReal) := by
  rw [val_main_v3_apply, val_main_v2_apply, val_main_cst_0_apply]
  exact congrArg₂ (· + ·) Ideal.ofBits_one_f32 (vec_at x2 i)

/-- The branch with its bias. -/
theorem branch_at (i : S2048x1024.Idx) : val_main_v6 (F := Ideal) x1 x3 i = row (biased (m := 2048) x1 x3) (i 0) (i 1) := by
  rw [val_main_v6_apply, val_main_v4_apply, val_main_v5_apply]
  exact congrArg₂ (· + ·) (row_at (m := 2048) x1 i) (vec_at x3 (idx_main_v5 i))

/-- The rows to be normed, entry by entry. -/
theorem sums_at (i : S2048x1024.Idx) : val_main_v9 (F := Ideal) x0 x1 x2 x3 i = row (sums x0 x1 x2 x3) (i 0) (i 1) := by
  rw [val_main_v9_apply, val_main_v1_apply, val_main_v0_apply, val_main_cst_apply, val_main_v8_apply, val_main_v7_apply,
    gate_at, branch_at]
  exact congrArg₂ (· + ·) (congrArg (alpha * ·) (row_at (m := 2048) x0 i)) rfl

/-- A row's mean. -/
theorem mean_at (i : S2048x1.Idx) : val_main_v13 (F := Ideal) x0 x1 x2 x3 i = mean (row (sums x0 x1 x2 x3) (i 0)) := by
  rw [val_main_v13_apply, val_main_v11_apply, val_main_v10_apply, val_main_v12_apply, val_main_cst_1_apply, val_main_cst_2_apply]
  exact congrArg (Ideal.div · width) (sum_from _ _ fun k => sums_at x0 x1 x2 x3 _)

/-- A row less its mean. -/
theorem dev_at (i : S2048x1024.Idx) : val_main_v15 (F := Ideal) x0 x1 x2 x3 i = dev (row (sums x0 x1 x2 x3) (i 0)) (i 1) := by
  rw [val_main_v15_apply, val_main_v14_apply, mean_at, sums_at]
  rfl

/-- A row less its mean, once more. -/
theorem dev'_at (i : S2048x1024.Idx) : val_main_v24 (F := Ideal) x0 x1 x2 x3 i = dev (row (sums x0 x1 x2 x3) (i 0)) (i 1) := by
  rw [val_main_v24_apply, val_main_v23_apply, mean_at, sums_at]
  rfl

/-- A row's variance. -/
theorem spread_at (i : S2048x1.Idx) : val_main_v26 (F := Ideal) x0 x1 x2 x3 i = spread (row (sums x0 x1 x2 x3) (i 0)) := by
  rw [val_main_v26_apply, val_main_v22_apply, val_main_v20_apply, val_main_v19_apply, val_main_v21_apply, val_main_v25_apply,
    val_main_cst_4_apply, val_main_cst_5_apply, val_main_cst_6_apply]
  refine congrArg (Ideal.div · width + Ideal.ofBits FTy.f32 0x3727C5AC#32) (sum_from _ _ fun k => ?_)
  rw [val_main_v16_apply, dev_at]
  rfl

/-- One over its root. -/
theorem scale_at (i : S2048x1.Idx) : val_main_v27 (F := Ideal) x0 x1 x2 x3 i = scale (row (sums x0 x1 x2 x3) (i 0)) := by
  rw [val_main_v27_apply, spread_at]
  rfl

/-- The derivative of one over the root. -/
theorem slope_at (i : S2048x1.Idx) : val_main_v30 (F := Ideal) x0 x1 x2 x3 i = scaleSlope (row (sums x0 x1 x2 x3) (i 0)) := by
  rw [val_main_v30_apply, val_main_v29_apply, val_main_cst_7_apply, val_main_v28_apply, spread_at, scale_at]
  rfl

/-- The normed row, before its weights. -/
theorem unit_at (i : S2048x1024.Idx) : val_main_v32 (F := Ideal) x0 x1 x2 x3 i = unit (row (sums x0 x1 x2 x3) (i 0)) (i 1) := by
  rw [val_main_v32_apply, val_main_v31_apply, dev'_at, scale_at]
  rfl

/-- The normed rows. -/
theorem norm_eq : val_main_v36 (F := Ideal) x0 x1 x2 x3 x4 x5 = normed (sums x0 x1 x2 x3) x4 x5 := by
  funext i
  rw [val_main_v36_apply, val_main_v34_apply, val_main_v33_apply, val_main_v35_apply, unit_at]
  exact congrArg₂ (fun g b : EReal => unit (row (sums x0 x1 x2 x3) (i 0)) (i 1) * g + b) (vec_at x4 (idx_main_v33 i)) (vec_at x5 (idx_main_v35 i))

/-- The offset's gradient. -/
theorem db_eq : val_main_v39 (F := Ideal) x6 = colSum (m := 2048) (n := 1024) x6 := by
  funext i
  rw [val_main_v39_apply, val_main_v38_apply, val_main_cst_8_apply]
  refine sum_from _ _ fun k => congrArg x6 ((eq_ix2 _).trans (congrArg₂ ix2 rfl (Fin.ext ?_)))
  have h0 : (i 0).val < 1 := (i 0).isLt
  show (i 0).val * 1024 + (i 1).val = (i 1).val
  omega

/-- The cotangent, in the shape it has. -/
theorem cot_at (i : S2048x1024.Idx) : val_main_v37 (F := Ideal) x6 i = row (m := 2048) x6 (i 0) (i 1) := by
  rw [val_main_v37_apply]
  refine congrArg x6 ((eq_ix2 _).trans (congrArg₂ ix2 (Fin.ext ?_) (Fin.ext ?_)))
  · have h0 : (i 1).val < 1024 := (i 1).isLt
    show ((i 0).val * 1024 + (i 1).val) / 1024 = (i 0).val
    omega
  · have h0 : (i 1).val < 1024 := (i 1).isLt
    show ((i 0).val * 1024 + (i 1).val) % 1024 = (i 1).val
    omega

/-- The weights' gradient. -/
theorem dg_eq : val_main_v42 (F := Ideal) x0 x1 x2 x3 x6 = colSum (times (units (sums x0 x1 x2 x3)) x6) := by
  funext i
  rw [val_main_v42_apply, val_main_v41_apply, val_main_cst_9_apply]
  refine sum_from _ _ fun k => ?_
  rw [val_main_v40_apply, unit_at, cot_at]
  refine congrArg (fun y => times (units (sums x0 x1 x2 x3)) x6 (ix2 k y)) (Fin.ext ?_)
  have h0 : (i 0).val < 1 := (i 0).isLt
  show (i 0).val * 1024 + (i 1).val = (i 1).val
  omega

/-- The unit row's cotangent. -/
theorem weighed_at (i : S2048x1024.Idx) :
    val_main_v44 (F := Ideal) x4 x6 i = row (m := 2048) x6 (i 0) (i 1) * row (m := 1) x4 0 (i 1) := by
  rw [val_main_v44_apply, val_main_v43_apply, cot_at]
  exact congrArg (row (m := 2048) x6 (i 0) (i 1) * ·) (vec_at x4 (idx_main_v43 i))

/-- The cotangent through the numerator. -/
theorem direct_at (i : S2048x1024.Idx) : val_main_v49 (F := Ideal) x0 x1 x2 x3 x4 x6 i
    = direct (row (sums x0 x1 x2 x3) (i 0)) (row (m := 1) x4 0) (row (m := 2048) x6 (i 0)) (i 1) := by
  rw [val_main_v49_apply, val_main_v48_apply, weighed_at, scale_at]
  rfl

/-- The number of a row among the rows of one entry. -/
theorem lane (i : S2048x1.Idx) (h : (i 0).val * 1 + (i 1).val < 2048) : (⟨(i 0).val * 1 + (i 1).val, h⟩ : Fin 2048) = i 0 :=
  Fin.ext (by
    have h0 : (i 1).val < 1 := (i 1).isLt
    show (i 0).val * 1 + (i 1).val = (i 0).val
    omega)

/-- The scale's cotangent. -/
theorem dot_at (i : S2048x1.Idx) : val_main_v47 (F := Ideal) x0 x1 x2 x3 x4 x6 i
    = ∑ k : Fin 1024, dev (row (sums x0 x1 x2 x3) (i 0)) k * (row (m := 2048) x6 (i 0) k * row (m := 1) x4 0 k) := by
  rw [val_main_v47_apply, val_main_v46_apply, val_main_cst_10_apply]
  refine sum_from _ _ fun k => ?_
  rw [val_main_v45_apply, dev'_at, weighed_at]
  exact congrArg (fun r => dev (row (sums x0 x1 x2 x3) r) k * (row (m := 2048) x6 r k * row (m := 1) x4 0 k)) (lane i _)

/-- The cotangent through the variance. -/
theorem indirect_at (i : S2048x1024.Idx) : val_main_v58 (F := Ideal) x0 x1 x2 x3 x4 x6 i
    = indirect (row (sums x0 x1 x2 x3) (i 0)) (row (m := 1) x4 0) (row (m := 2048) x6 (i 0)) (i 1) := by
  rw [val_main_v58_apply, val_main_v57_apply, val_main_v56_apply, val_main_cst_13_apply, val_main_v18_apply, val_main_v17_apply,
    val_main_cst_3_apply, dev_at]
  refine congrArg (· * (Ideal.ofBits FTy.f32 0x40000000#32 * dev (row (sums x0 x1 x2 x3) (i 0)) (i 1))) ((sum_one _).trans ?_)
  rw [val_main_v55_apply, val_main_v54_apply, val_main_cst_12_apply, val_main_v50_apply, dot_at, slope_at]
  rfl

/-- The row sum of the two cotangents, with its sign. -/
theorem both_at (i : S2048x1.Idx) : val_main_v63 (F := Ideal) x0 x1 x2 x3 x4 x6 i
    = (∑ k : Fin 1024, -direct (row (sums x0 x1 x2 x3) (i 0)) (row (m := 1) x4 0) (row (m := 2048) x6 (i 0)) k)
      + ∑ k : Fin 1024, -indirect (row (sums x0 x1 x2 x3) (i 0)) (row (m := 1) x4 0) (row (m := 2048) x6 (i 0)) k := by
  rw [val_main_v63_apply, val_main_v53_apply, val_main_v52_apply, val_main_cst_11_apply, val_main_v61_apply, val_main_v60_apply,
    val_main_cst_14_apply]
  refine congrArg₂ (· + ·) (sum_from _ _ fun k => ?_) (sum_from _ _ fun k => ?_)
  · rw [val_main_v51_apply, direct_at]
    exact congrArg (fun r => -direct (row (sums x0 x1 x2 x3) r) (row (m := 1) x4 0) (row (m := 2048) x6 r) k) (lane i _)
  · rw [val_main_v59_apply, indirect_at]
    exact congrArg (fun r => -indirect (row (sums x0 x1 x2 x3) r) (row (m := 1) x4 0) (row (m := 2048) x6 r) k) (lane i _)

/-- The rows' cotangent. -/
abbrev sumsBack : Mat 2048 1024 := normBack (sums x0 x1 x2 x3) x4 x6

/-- The rows' cotangent, entry by entry. -/
theorem back_at (i : S2048x1024.Idx) : val_main_v68 (F := Ideal) x0 x1 x2 x3 x4 x6 i
    = row (sumsBack x0 x1 x2 x3 x4 x6) (i 0) (i 1) := by
  rw [val_main_v68_apply, val_main_v62_apply, direct_at, indirect_at, val_main_v67_apply, val_main_v66_apply, val_main_cst_16_apply]
  refine congrArg (_ + ·) ((sum_one _).trans ?_)
  rw [val_main_v65_apply, val_main_v64_apply, val_main_cst_15_apply, both_at]
  rfl

/-- The branch's cotangent, before it is rounded. -/
theorem gated_at (i : S2048x1024.Idx) : val_main_v70 (F := Ideal) x0 x1 x2 x3 x4 x6 i
    = row (gated x2 (sumsBack x0 x1 x2 x3 x4 x6)) (i 0) (i 1) := by
  rw [val_main_v70_apply, val_main_v69_apply, gate_at, back_at]
  rfl

/-- The branch's cotangent. -/
theorem dff_eq : val_main_v76 (F := Ideal) x0 x1 x2 x3 x4 x6 = gated x2 (sumsBack x0 x1 x2 x3 x4 x6) := by
  funext i
  rw [val_main_v76_apply, gated_at]
  exact (row_at (gated x2 (sumsBack x0 x1 x2 x3 x4 x6)) i).symm

/-- The residual's cotangent. -/
theorem dx_eq : val_main_v78 (F := Ideal) x0 x1 x2 x3 x4 x6 = residual (sumsBack x0 x1 x2 x3 x4 x6) := by
  funext i
  rw [val_main_v78_apply, val_main_v77_apply, val_main_cst_19_apply, back_at]
  exact (row_at (residual (sumsBack x0 x1 x2 x3 x4 x6)) i).symm

/-- The gate's gradient. -/
theorem dgt_eq : val_main_v73 (F := Ideal) x0 x1 x2 x3 x4 x6
    = colSum (times (sumsBack x0 x1 x2 x3 x4 x6) (biased (m := 2048) x1 x3)) := by
  funext i
  rw [val_main_v73_apply, val_main_v72_apply, val_main_cst_17_apply]
  refine sum_from _ _ fun k => ?_
  rw [val_main_v71_apply, back_at, branch_at]
  refine congrArg (fun y => times (sumsBack x0 x1 x2 x3 x4 x6) (biased (m := 2048) x1 x3) (ix2 k y)) (Fin.ext ?_)
  have h0 : (i 0).val < 1 := (i 0).isLt
  show (i 0).val * 1024 + (i 1).val = (i 1).val
  omega

/-- The bias's gradient. -/
theorem dbias_eq : val_main_v75 (F := Ideal) x0 x1 x2 x3 x4 x6 = colSum (gated x2 (sumsBack x0 x1 x2 x3 x4 x6)) := by
  funext i
  rw [val_main_v75_apply, val_main_v74_apply, val_main_cst_18_apply]
  refine sum_from _ _ fun k => ?_
  rw [gated_at]
  refine congrArg (fun y => gated x2 (sumsBack x0 x1 x2 x3 x4 x6) (ix2 k y)) (Fin.ext ?_)
  have h0 : (i 0).val < 1 := (i 0).isLt
  show (i 0).val * 1024 + (i 1).val = (i 1).val
  omega

end Cert.Reference5Ideal.Post

end
-- ==== Proof.PostProof.lean ====
module

public import proofs.«01_k».proof.Defs
public import proofs.«01_k».proof.Proof.PostRun
public import proofs.«01_k».proof.Proof.PostRef
public import Idealize.ShloMosaic.Adequacy
public import Idealize.ShloMosaic.Init

@[expose] public section

noncomputable section

namespace Cert.Proof

open Idealize.ShloMosaic Idealize.SL.Sem

/-- The second norm's reference terminates, leaves its arguments unchanged and has no semaphore. -/
theorem frameR5 : Cert.quiescent_Reference5Ideal (hReference5Ideal := Reference5Ideal.Gen.facts) := fun m ρ _ =>
  (θ_run Reference5Ideal.defs _ _).mono (fun r h => ⟨fun c => (h c).2.2.2.2.2.2.2, sem_eq_zero_of_no_sems (by decide) r.2⟩)
    (Reference5Ideal.Value.run (F := Ideal) m ρ)

set_option maxHeartbeats 4000000 in
/-- The second norm's kernel and its reference end with equal results. -/
theorem algebraic5 : Cert.algebraic_Kernel5Ideal_Reference5Ideal (hKernel5Ideal := Kernel5Ideal.Gen.facts)
    (hReference5Ideal := Reference5Ideal.Gen.facts) := by
  intro m g m' g' _ hargs
  refine ⟨_, _, _, _, _, _, _, Kernel5Ideal.Post.run_results m g, ?_⟩
  refine (θ_run _ _ _).mono (fun r h c => ?_) (Reference5Ideal.Value.run (F := Ideal) m' g')
  obtain ⟨a0, a1, a2, a3, a4, a5, a6⟩ := hargs c
  obtain ⟨r0, r1, r2, r3, r4, r5, r6, hr⟩ := h c
  rw [Reference5Ideal.Read.val_main_v36_eq, a0, a1, a2, a3, a4, a5] at r0
  rw [Reference5Ideal.Read.val_main_v78_eq, a0, a1, a2, a3, a4, a6] at r1
  rw [Reference5Ideal.Read.val_main_v76_eq, a0, a1, a2, a3, a4, a6] at r2
  rw [Reference5Ideal.Read.val_main_v73_eq, a0, a1, a2, a3, a4, a6] at r3
  rw [Reference5Ideal.Read.val_main_v75_eq, a0, a1, a2, a3, a4, a6] at r4
  rw [Reference5Ideal.Read.val_main_v42_eq, a0, a1, a2, a3, a6] at r5
  rw [a6] at r6
  exact ⟨r0.trans (Reference5Ideal.Post.norm_eq _ _ _ _ _ _), r1.trans (Reference5Ideal.Post.dx_eq _ _ _ _ _ _),
    r2.trans (Reference5Ideal.Post.dff_eq _ _ _ _ _ _), r3.trans (Reference5Ideal.Post.dgt_eq _ _ _ _ _ _),
    r4.trans (Reference5Ideal.Post.dbias_eq _ _ _ _ _ _), r5.trans (Reference5Ideal.Post.dg_eq _ _ _ _ _),
    r6.trans ((Reference5Ideal.Read.val_main_v39_eq _).trans (Reference5Ideal.Post.db_eq _)), hr⟩

end Cert.Proof

end
-- ==== Proof.FirstBlock.lean ====
module

public import proofs.«01_k».proof.Proof.Gen.Kernel6Ideal.Skeleton
public import proofs.«01_k».proof.Proof.NormSpec

@[expose] public section

noncomputable section

namespace Cert.Kernel6Ideal.First

open Idealize.ShloMosaic Idealize.SL.Sem Cert.Kernel6Ideal.Gen Cert.Mlp Cert.Norm

variable (x : Vec Ideal S512x1024 .f32) (y : Vec Ideal S512x1024 .bf16) (gt g b sc sh : Vec Ideal S1x1024 .f32)
  (d : Vec Ideal S512x1024 .f32) (u : Vec Ideal S512x1024 .bf16) (r : Fin 512) (j : Fin 1024)

/-- A block of the rows to be normed. -/
abbrev pre : Mat 512 1024 := preNorm (m := 512) x y gt

/-- A block of the normed rows' cotangent. -/
abbrev cot : Mat 512 1024 := through (m := 512) sc d u

/-- A block of the normed rows. -/
theorem norm_apply : k0_pay2 x y gt g b (ix2 r j) = normed (pre x y gt) g b (ix2 r j) := by
  unfold k0_pay2
  pointwise
  rfl

/-- A block of the normed rows, modulated. -/
theorem mod_apply : k0_pay1 sc sh (k0_pay2 x y gt g b) (Scalar.ofBits .f32 0x3F800000#32) (ix2 r j)
    = modulated (normed (pre x y gt) g b) sc sh (ix2 r j) := by
  unfold k0_pay1
  pointwise
  rw [norm_apply]
  rfl

/-- The branch a block reads. -/
theorem branch_apply : k1_pay3 y (ix2 r j) = (y (ix2 r j) : EReal) := by
  unfold k1_pay3
  pointwise

/-- The modulated rows' cotangent a block reads. -/
theorem read_apply : k1_pay4 u (ix2 r j) = (u (ix2 r j) : EReal) := by
  unfold k1_pay4
  pointwise

/-- The gate's factor. -/
theorem gate_apply : k1_pay5 gt (ix2 0 j) = (1 + gt (ix2 0 j) : EReal) := by
  unfold k1_pay5
  pointwise

/-- The rows to be normed. -/
theorem pre_apply : k1_pay6 x y gt (ix2 r j) = pre x y gt (ix2 r j) := by
  unfold k1_pay6
  pointwise
  rw [gate_apply, branch_apply]
  rfl

/-- A row's mean. -/
theorem mean_apply : k1_pay7 x y gt (ix2 r 0) = mean (row (pre x y gt) r) := by
  unfold k1_pay7
  pointwise
  simp only [pre_apply]
  rfl

/-- A row less its mean. -/
theorem dev_apply : k1_pay8 x y gt (ix2 r j) = dev (row (pre x y gt) r) j := by
  unfold k1_pay8
  pointwise
  rw [pre_apply, mean_apply]
  rfl

/-- Twice a row less its mean. -/
theorem twice_apply : k1_pay9 x y gt (ix2 r j) = Ideal.ofBits FTy.f32 0x40000000#32 * dev (row (pre x y gt) r) j := by
  unfold k1_pay9
  pointwise
  rw [dev_apply]

/-- A row less its mean, once more. -/
theorem dev'_apply : k1_pay10 x y gt (ix2 r j) = dev (row (pre x y gt) r) j := by
  unfold k1_pay10
  pointwise
  rw [pre_apply, mean_apply]
  rfl

/-- A row's variance. -/
theorem spread_apply : k1_pay11 x y gt (ix2 r 0) = spread (row (pre x y gt) r) := by
  unfold k1_pay11
  pointwise
  simp only [dev_apply]
  rfl

/-- One over its root. -/
theorem scale_apply : k1_pay12 x y gt (ix2 r 0) = scale (row (pre x y gt) r) := by
  unfold k1_pay12
  pointwise
  rw [spread_apply]
  rfl

/-- The normed rows, before their weights. -/
theorem unit_apply : k1_pay13 (k1_pay10 x y gt) (k1_pay12 x y gt) (ix2 r j) = unit (row (pre x y gt) r) j := by
  unfold k1_pay13
  pointwise
  rw [dev'_apply, scale_apply]
  rfl

/-- The normed rows' cotangent. -/
theorem through_apply : k1_pay16 sc d (k1_pay4 u) (ix2 r j) = cot sc d u (ix2 r j) := by
  unfold k1_pay16
  pointwise
  rw [read_apply]
  rfl

/-- The normed rows' cotangent, in the shape it has. -/
theorem cot_apply : k1_pay17 sc d (k1_pay4 u) (ix2 r j) = cot sc d u (ix2 r j) := by
  unfold k1_pay17
  pointwise
  rw [through_apply]

/-- The unit rows' cotangent. -/
theorem weighed_apply : k1_pay20 g sc d (k1_pay4 u) (ix2 r j) = (cot sc d u (ix2 r j) * g (ix2 0 j) : EReal) := by
  unfold k1_pay20
  pointwise
  rw [cot_apply]

/-- The cotangent through the numerator. -/
theorem direct_apply : k1_pay21 g sc d (k1_pay4 u) (k1_pay12 x y gt) (ix2 r j)
    = direct (row (pre x y gt) r) (row (m := 1) g 0) (row (cot sc d u) r) j := by
  unfold k1_pay21
  pointwise
  rw [weighed_apply, scale_apply]
  rfl

/-- The row sum of the cotangent through the numerator, with its sign. -/
theorem directs_apply : k1_pay22 g sc d (k1_pay4 u) (k1_pay12 x y gt) (ix2 r 0)
    = ∑ k : Fin 1024, -direct (row (pre x y gt) r) (row (m := 1) g 0) (row (cot sc d u) r) k := by
  unfold k1_pay22
  pointwise
  simp only [direct_apply, zero_sub]

/-- The cotangent through the variance. -/
theorem indirect_apply : k1_pay23 g sc d (k1_pay4 u) (k1_pay9 x y gt) (k1_pay10 x y gt) (k1_pay11 x y gt) (k1_pay12 x y gt) (ix2 r j)
    = indirect (row (pre x y gt) r) (row (m := 1) g 0) (row (cot sc d u) r) j := by
  unfold k1_pay23
  pointwise
  simp only [weighed_apply, twice_apply, dev'_apply, spread_apply, scale_apply, Fin.sum_univ_one]
  rfl

/-- The row sum of the cotangent through the variance, with its sign. -/
theorem indirects_apply : k1_pay24 g sc d (k1_pay4 u) (k1_pay9 x y gt) (k1_pay10 x y gt) (k1_pay11 x y gt) (k1_pay12 x y gt) (ix2 r 0)
    = ∑ k : Fin 1024, -indirect (row (pre x y gt) r) (row (m := 1) g 0) (row (cot sc d u) r) k := by
  unfold k1_pay24
  pointwise
  simp only [indirect_apply, zero_sub]

/-- The rows' cotangent. -/
theorem back_apply : k1_pay25 (k1_pay21 g sc d (k1_pay4 u) (k1_pay12 x y gt)) (k1_pay22 g sc d (k1_pay4 u) (k1_pay12 x y gt))
      (k1_pay23 g sc d (k1_pay4 u) (k1_pay9 x y gt) (k1_pay10 x y gt) (k1_pay11 x y gt) (k1_pay12 x y gt))
      (k1_pay24 g sc d (k1_pay4 u) (k1_pay9 x y gt) (k1_pay10 x y gt) (k1_pay11 x y gt) (k1_pay12 x y gt)) (ix2 r j)
    = normBack (pre x y gt) g (cot sc d u) (ix2 r j) := by
  unfold k1_pay25
  pointwise
  simp only [direct_apply, indirect_apply, directs_apply, indirects_apply, Fin.sum_univ_one]
  rfl

/-- A block of the residual's cotangent. -/
theorem residual_apply : k1_pay26 (k1_pay21 g sc d (k1_pay4 u) (k1_pay12 x y gt)) (k1_pay22 g sc d (k1_pay4 u) (k1_pay12 x y gt))
      (k1_pay23 g sc d (k1_pay4 u) (k1_pay9 x y gt) (k1_pay10 x y gt) (k1_pay11 x y gt) (k1_pay12 x y gt))
      (k1_pay24 g sc d (k1_pay4 u) (k1_pay9 x y gt) (k1_pay10 x y gt) (k1_pay11 x y gt) (k1_pay12 x y gt)) (ix2 r j)
    = residual (normBack (pre x y gt) g (cot sc d u)) (ix2 r j) := by
  unfold k1_pay26
  pointwise
  rw [back_apply]
  rfl

/-- A block of the branch's cotangent. -/
theorem gated_apply : k1_pay27 (k1_pay5 gt) (k1_pay21 g sc d (k1_pay4 u) (k1_pay12 x y gt)) (k1_pay22 g sc d (k1_pay4 u) (k1_pay12 x y gt))
      (k1_pay23 g sc d (k1_pay4 u) (k1_pay9 x y gt) (k1_pay10 x y gt) (k1_pay11 x y gt) (k1_pay12 x y gt))
      (k1_pay24 g sc d (k1_pay4 u) (k1_pay9 x y gt) (k1_pay10 x y gt) (k1_pay11 x y gt) (k1_pay12 x y gt)) (ix2 r j)
    = gated gt (normBack (pre x y gt) g (cot sc d u)) (ix2 r j) := by
  unfold k1_pay27
  pointwise
  rw [gate_apply, back_apply]
  rfl

/-- A point adds its columns of the gate's gradient. -/
theorem gates_apply (a : Vec Ideal S1x1024 .f32) : k1_pay33 (k1_pay3 y) (k1_pay21 g sc d (k1_pay4 u) (k1_pay12 x y gt))
      (k1_pay22 g sc d (k1_pay4 u) (k1_pay12 x y gt))
      (k1_pay23 g sc d (k1_pay4 u) (k1_pay9 x y gt) (k1_pay10 x y gt) (k1_pay11 x y gt) (k1_pay12 x y gt))
      (k1_pay24 g sc d (k1_pay4 u) (k1_pay9 x y gt) (k1_pay10 x y gt) (k1_pay11 x y gt) (k1_pay12 x y gt)) a (ix2 0 j)
    = (a (ix2 0 j) + colSum (times (normBack (pre x y gt) g (cot sc d u)) y) (ix2 0 j) : EReal) := by
  unfold k1_pay33
  pointwise
  simp only [back_apply, branch_apply]
  rfl

/-- A block's columns of the offset's gradient. -/
theorem offset_apply : k1_pay18 sc d (k1_pay4 u) (ix2 0 j) = colSum (cot sc d u) (ix2 0 j) := by
  unfold k1_pay18
  pointwise
  simp only [through_apply]
  rfl

/-- A block's columns of the weights' gradient. -/
theorem weights_apply : k1_pay19 sc d (k1_pay4 u) (k1_pay10 x y gt) (k1_pay12 x y gt) (ix2 0 j)
    = colSum (times (units (pre x y gt)) (cot sc d u)) (ix2 0 j) := by
  unfold k1_pay19
  pointwise
  simp only [unit_apply, cot_apply]
  rfl

/-- A block's columns of the scale's gradient. -/
theorem scales_apply : k1_pay15 g b (k1_pay4 u) (k1_pay10 x y gt) (k1_pay12 x y gt) (ix2 0 j)
    = colSum (times (normed (pre x y gt) g b) u) (ix2 0 j) := by
  unfold k1_pay15
  pointwise
  simp only [unit_apply, read_apply]
  rfl

/-- A block's columns of the shift's gradient. -/
theorem shifts_apply : k1_pay14 (k1_pay4 u) (ix2 0 j) = colSum (m := 512) (n := 1024) u (ix2 0 j) := by
  unfold k1_pay14
  pointwise
  simp only [read_apply]
  rfl

/-- An accumulator starts at zero. -/
theorem zero_apply : k1_pay28 (F := Ideal) (ix2 0 j) = (0 : EReal) ∧ k1_pay29 (F := Ideal) (ix2 0 j) = (0 : EReal)
    ∧ k1_pay30 (F := Ideal) (ix2 0 j) = (0 : EReal) ∧ k1_pay31 (F := Ideal) (ix2 0 j) = (0 : EReal)
    ∧ k1_pay32 (F := Ideal) (ix2 0 j) = (0 : EReal) := by
  unfold k1_pay28 k1_pay29 k1_pay30 k1_pay31 k1_pay32
  refine ⟨?_, ?_, ?_, ?_, ?_⟩ <;> pointwise

/-- A point adds to the accumulators. -/
theorem add_apply (s a : Vec Ideal S1x1024 .f32) : k1_pay34 s a (ix2 0 j) = (a (ix2 0 j) + s (ix2 0 j) : EReal)
    ∧ k1_pay35 s a (ix2 0 j) = (a (ix2 0 j) + s (ix2 0 j) : EReal) ∧ k1_pay1 s a (ix2 0 j) = (a (ix2 0 j) + s (ix2 0 j) : EReal)
    ∧ k1_pay2 s a (ix2 0 j) = (a (ix2 0 j) + s (ix2 0 j) : EReal) := by
  unfold k1_pay34 k1_pay35 k1_pay1 k1_pay2
  refine ⟨?_, ?_, ?_, ?_⟩ <;> pointwise

end Cert.Kernel6Ideal.First

end
-- ==== Proof.FirstRegions.lean ====
module

public import proofs.«01_k».proof.Proof.FirstBlock
public import proofs.«01_k».proof.Proof.Gen.Kernel6Ideal.Frame
public import Idealize.ShloMosaic.Lib.Pipeline.ValueKit

@[expose] public section

noncomputable section

namespace Cert.Kernel6Ideal.First

open Idealize.ShloMosaic Idealize.SL.Sem Cert.Kernel6Ideal.Gen Cert.Mlp Cert.Norm

variable (V : (c : Dev nD) → (b : Ref sig .tc) → Buf (Elt Ideal) ((c.tc : Thread nD τ).loc b)) (c : Dev nD)

/-- Where the forward call's windows lie at a point: the matrices by blocks of rows, the vectors whole. -/
theorem index0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] := by
  decide +kernel

/-- The forward call has four points. -/
theorem points0 (t : Fin cfg0.N) : t.val < 4 := t.isLt.trans_eq (by decide +kernel)

/-- A point's blocks of the matrices. -/
theorem blocks0 (t : Fin cfg0.N) : (iblk0 V c 0 t : Mat 512 1024) = rows ⟨t.val, points0 t⟩ (V c main_arg0)
    ∧ (iblk0 V c 1 t : Mat 512 1024) = rows ⟨t.val, points0 t⟩ (V c main_arg1) := by
  obtain ⟨h0, h1, -⟩ := index0 t
  refine ⟨funext fun y => ?_, funext fun y => ?_⟩
  all_goals
    obtain ⟨r, j, rfl⟩ : ∃ r j, y = ix2 r j := ⟨y 0, y 1, eq_ix2 y⟩
    unfold rows
    blk_simp [iblk0]
  · blk_ext [h0]
  · blk_ext [h1]

/-- The vectors at a point. -/
theorem vectors0 (t : Fin cfg0.N) : (iblk0 V c 2 t : Mat 1 1024) = V c main_arg2 ∧ (iblk0 V c 3 t : Mat 1 1024) = V c main_arg3
    ∧ (iblk0 V c 4 t : Mat 1 1024) = V c main_arg4 ∧ (iblk0 V c 5 t : Mat 1 1024) = V c main_arg5
    ∧ (iblk0 V c 6 t : Mat 1 1024) = V c main_arg6 := by
  obtain ⟨-, -, h2, h3, h4, h5, h6, -⟩ := index0 t
  refine ⟨funext fun y => ?_, funext fun y => ?_, funext fun y => ?_, funext fun y => ?_, funext fun y => ?_⟩
  all_goals
    obtain ⟨r, j, rfl⟩ : ∃ r j, y = ix2 r j := ⟨y 0, y 1, eq_ix2 y⟩
    blk_simp [iblk0]
  · blk_ext [h2]
  · blk_ext [h3]
  · blk_ext [h4]
  · blk_ext [h5]
  · blk_ext [h6]

/-- The rows to be normed, from the program's operands. -/
abbrev sums : Mat 2048 1024 := preNorm (V c main_arg0) (V c main_arg1) (V c main_arg2)

/-- The normed rows after the forward call. -/
theorem final0_7 : (dat0 V c).arrAt 7 cfg0.N = normed (sums V c) (V c main_arg3) (V c main_arg4) := by
  refine (dat0 V c).arrAt_eq_of_covers 7 _ (by decide +kernel) fun t hf y => ?_
  blk_simp
  rw [after0_7]
  frame_out [k0_pay3]
  obtain ⟨r, j, rfl⟩ : ∃ r j, y = ix2 r j := ⟨y 0, y 1, eq_ix2 y⟩
  refine (norm_apply _ _ _ _ _ r j).trans ?_
  have e : (win0_7.blk t).view.emb (ix2 r j) = ix2 ⟨512 * t.val + r.val, by have := points0 t; omega⟩ j := by
    blk_ext [(index0 t).2.2.2.2.2.2.2.1]
  obtain ⟨b0, b1⟩ := blocks0 V c t
  obtain ⟨b2, b3, b4, -, -⟩ := vectors0 V c t
  rw [e, b0, b1, b2, b3, b4]
  rfl

/-- The modulated rows after the forward call. -/
theorem final0_8 : (dat0 V c).arrAt 8 cfg0.N
    = modulated (normed (sums V c) (V c main_arg3) (V c main_arg4)) (V c main_arg5) (V c main_arg6) := by
  refine (dat0 V c).arrAt_eq_of_covers 8 _ (by decide +kernel) fun t hf y => ?_
  blk_simp
  rw [after0_8]
  frame_out [k0_pay3]
  obtain ⟨r, j, rfl⟩ : ∃ r j, y = ix2 r j := ⟨y 0, y 1, eq_ix2 y⟩
  refine (mod_apply _ _ _ _ _ _ _ r j).trans ?_
  have e : (win0_8.blk t).view.emb (ix2 r j) = ix2 ⟨512 * t.val + r.val, by have := points0 t; omega⟩ j := by
    blk_ext [(index0 t).2.2.2.2.2.2.2.2]
  obtain ⟨b0, b1⟩ := blocks0 V c t
  obtain ⟨b2, b3, b4, b5, b6⟩ := vectors0 V c t
  rw [e, b0, b1, b2, b3, b4, b5, b6]
  rfl

/-- Where the backward call's windows lie at a point: the matrices by blocks of rows, the vectors whole. -/
theorem index1 : ∀ t : Fin cfg1.N, win1_0.index t = ![t.val, 0] ∧ win1_1.index t = ![t.val, 0] ∧ win1_7.index t = ![t.val, 0]
    ∧ win1_8.index t = ![t.val, 0] ∧ win1_2.index t = ![0, 0] ∧ win1_3.index t = ![0, 0] ∧ win1_4.index t = ![0, 0]
    ∧ win1_5.index t = ![0, 0] := by
  decide +kernel

/-- Where its results' windows lie. -/
theorem outs1 : ∀ t : Fin cfg1.N, win1_9.index t = ![t.val, 0] ∧ win1_10.index t = ![t.val, 0] ∧ win1_11.index t = ![0, 0]
    ∧ win1_12.index t = ![0, 0] ∧ win1_13.index t = ![0, 0] ∧ win1_14.index t = ![0, 0] ∧ win1_15.index t = ![0, 0] := by
  decide +kernel

/-- The backward call has four points. -/
theorem points1 (t : Fin cfg1.N) : t.val < 4 := t.isLt.trans_eq (by decide +kernel)

/-- A point's blocks of the matrices. -/
theorem blocks1 (t : Fin cfg1.N) : (iblk1 V c 0 t : Mat 512 1024) = rows ⟨t.val, points1 t⟩ (V c main_arg0)
    ∧ (iblk1 V c 1 t : Mat 512 1024) = rows ⟨t.val, points1 t⟩ (V c main_arg1)
    ∧ (iblk1 V c 7 t : Mat 512 1024) = rows ⟨t.val, points1 t⟩ (V c main_arg7)
    ∧ (iblk1 V c 8 t : Mat 512 1024) = rows ⟨t.val, points1 t⟩ (V c main_arg8) := by
  obtain ⟨h0, h1, h7, h8, -⟩ := index1 t
  refine ⟨funext fun y => ?_, funext fun y => ?_, funext fun y => ?_, funext fun y => ?_⟩
  all_goals
    obtain ⟨r, j, rfl⟩ : ∃ r j, y = ix2 r j := ⟨y 0, y 1, eq_ix2 y⟩
    unfold rows
    blk_simp [iblk1]
  · blk_ext [h0]
  · blk_ext [h1]
  · blk_ext [h7]
  · blk_ext [h8]

/-- The vectors at a point. -/
theorem vectors1 (t : Fin cfg1.N) : (iblk1 V c 2 t : Mat 1 1024) = V c main_arg2 ∧ (iblk1 V c 3 t : Mat 1 1024) = V c main_arg3
    ∧ (iblk1 V c 4 t : Mat 1 1024) = V c main_arg4 ∧ (iblk1 V c 5 t : Mat 1 1024) = V c main_arg5 := by
  obtain ⟨-, -, -, -, h2, h3, h4, h5⟩ := index1 t
  refine ⟨funext fun y => ?_, funext fun y => ?_, funext fun y => ?_, funext fun y => ?_⟩
  all_goals
    obtain ⟨r, j, rfl⟩ : ∃ r j, y = ix2 r j := ⟨y 0, y 1, eq_ix2 y⟩
    blk_simp [iblk1]
  · blk_ext [h2]
  · blk_ext [h3]
  · blk_ext [h4]
  · blk_ext [h5]

/-- The normed rows' cotangent, from the program's operands. -/
abbrev cots : Mat 2048 1024 := through (V c main_arg5) (V c main_arg7) (V c main_arg8)

/-- The rows' cotangent, from the program's operands. -/
abbrev sumsBack : Mat 2048 1024 := normBack (sums V c) (V c main_arg3) (cots V c)

/-- The rows to be normed at a point. -/
abbrev preAt (t : Fin cfg1.N) : Mat 512 1024 := pre (iblk1 V c 0 t) (iblk1 V c 1 t) (iblk1 V c 2 t)

/-- The normed rows' cotangent at a point. -/
abbrev cotAt (t : Fin cfg1.N) : Mat 512 1024 := cot (iblk1 V c 5 t) (iblk1 V c 7 t) (iblk1 V c 8 t)

/-- The rows' cotangent at a point. -/
abbrev backAt (t : Fin cfg1.N) : Mat 512 1024 := normBack (preAt V c t) (iblk1 V c 3 t : Mat 1 1024) (cotAt V c t)

/-- A point's block of the rows to be normed. -/
theorem block_sums (t : Fin cfg1.N) : preAt V c t = rows ⟨t.val, points1 t⟩ (sums V c) := by
  obtain ⟨b0, b1, -, -⟩ := blocks1 V c t
  obtain ⟨b2, -, -, -⟩ := vectors1 V c t
  unfold preAt pre
  rw [b0, b1, b2]
  rfl

/-- A point's block of the normed rows' cotangent. -/
theorem block_cots (t : Fin cfg1.N) : cotAt V c t = rows ⟨t.val, points1 t⟩ (cots V c) := by
  obtain ⟨-, -, b7, b8⟩ := blocks1 V c t
  obtain ⟨-, -, -, b5⟩ := vectors1 V c t
  unfold cotAt cot
  rw [b5, b7, b8]
  rfl

/-- A point's block of the rows' cotangent. -/
theorem block_back (t : Fin cfg1.N) : backAt V c t = rows ⟨t.val, points1 t⟩ (sumsBack V c) := by
  obtain ⟨-, b3, -, -⟩ := vectors1 V c t
  unfold backAt
  rw [block_sums, block_cots, b3]
  rfl

/-- The rows a point leaves of the residual's cotangent. -/
theorem rows1_9 (t : Fin cfg1.N) (r : Fin 512) (j : Fin 1024) : (outsAt1 V c t.val t.isLt).1 (ix2 r j)
    = rows ⟨t.val, points1 t⟩ (residual (sumsBack V c)) (ix2 r j) := by
  refine Eq.trans (b := residual (backAt V c t) (ix2 r j)) ?_ (by rw [block_back]; rfl)
  by_cases h : t.val % 4 = 0
  · rw [outsAt1_A V c t h]
    frame_out
    exact residual_apply _ _ _ _ _ _ _ r j
  · rw [outsAt1_B V c t h]
    frame_out
    exact residual_apply _ _ _ _ _ _ _ r j

/-- The rows a point leaves of the branch's cotangent. -/
theorem rows1_10 (t : Fin cfg1.N) (r : Fin 512) (j : Fin 1024) : (outsAt1 V c t.val t.isLt).2.1 (ix2 r j)
    = rows ⟨t.val, points1 t⟩ (gated (V c main_arg2) (sumsBack V c)) (ix2 r j) := by
  refine Eq.trans (b := gated (iblk1 V c 2 t) (backAt V c t) (ix2 r j)) ?_ (by rw [block_back, (vectors1 V c t).1]; rfl)
  by_cases h : t.val % 4 = 0
  · rw [outsAt1_A V c t h]
    frame_out
    exact gated_apply _ _ _ _ _ _ _ r j
  · rw [outsAt1_B V c t h]
    frame_out
    exact gated_apply _ _ _ _ _ _ _ r j

/-- The residual's cotangent after the call. -/
theorem final1_9 : (dat1 V c).arrAt 9 cfg1.N = residual (sumsBack V c) := by
  refine (dat1 V c).arrAt_eq_of_covers 9 _ (by decide +kernel) fun t hf y => ?_
  blk_simp
  rw [after1_9]
  obtain ⟨r, j, rfl⟩ : ∃ r j, y = ix2 r j := ⟨y 0, y 1, eq_ix2 y⟩
  have e : (win1_9.blk t).view.emb (ix2 r j) = ix2 ⟨512 * t.val + r.val, by have := points1 t; omega⟩ j := by
    blk_ext [(outs1 t).1]
  rw [e]
  exact rows1_9 V c t r j

/-- The branch's cotangent after the call. -/
theorem final1_10 : (dat1 V c).arrAt 10 cfg1.N = gated (V c main_arg2) (sumsBack V c) := by
  refine (dat1 V c).arrAt_eq_of_covers 10 _ (by decide +kernel) fun t hf y => ?_
  blk_simp
  rw [after1_10]
  obtain ⟨r, j, rfl⟩ : ∃ r j, y = ix2 r j := ⟨y 0, y 1, eq_ix2 y⟩
  have e : (win1_10.blk t).view.emb (ix2 r j) = ix2 ⟨512 * t.val + r.val, by have := points1 t; omega⟩ j := by
    blk_ext [(outs1 t).2.1]
  rw [e]
  exact rows1_10 V c t r j

/-- The gate's gradient after the last point. -/
theorem last11 (t : Fin cfg1.N) (ht : t.val % 4 = 3) (j : Fin 1024) : (outsAt1 V c t.val t.isLt).2.2.1 (ix2 0 j)
    = colSum (times (sumsBack V c) (V c main_arg1)) (ix2 0 j) := by
  have step : ∀ (t : Fin cfg1.N) j, colSum (times (backAt V c t) (iblk1 V c 1 t)) (ix2 0 j)
      = colSum (rows ⟨t.val, points1 t⟩ (times (sumsBack V c) (V c main_arg1))) (ix2 0 j) :=
    fun t j => by rw [block_back, (blocks1 V c t).2.1]; rfl
  refine sum_points points1 (fun n h j => (outsAt1 V c n h).2.2.1 (ix2 0 j)) _ (fun t h j => ?_) (fun t h j => ?_) t ht j
  · rw [outsAt1_A V c t h, ← step]
    frame_out
    exact (gates_apply _ _ _ _ _ _ _ j _).trans (congrArg (· + _) (zero_apply j).1)
  · rw [outsAt1_B V c t h, ← step]
    frame_out
    exact gates_apply _ _ _ _ _ _ _ j _

/-- The norm's weights' gradient after the last point. -/
theorem last12 (t : Fin cfg1.N) (ht : t.val % 4 = 3) (j : Fin 1024) : (outsAt1 V c t.val t.isLt).2.2.2.1 (ix2 0 j)
    = colSum (times (units (sums V c)) (cots V c)) (ix2 0 j) := by
  have step : ∀ (t : Fin cfg1.N) j, colSum (times (units (preAt V c t)) (cotAt V c t)) (ix2 0 j)
      = colSum (rows ⟨t.val, points1 t⟩ (times (units (sums V c)) (cots V c))) (ix2 0 j) :=
    fun t j => by rw [block_sums, block_cots]; rfl
  refine sum_points points1 (fun n h j => (outsAt1 V c n h).2.2.2.1 (ix2 0 j)) _ (fun t h j => ?_) (fun t h j => ?_) t ht j
  · rw [outsAt1_A V c t h, ← step]
    frame_out
    exact (add_apply j _ _).1.trans (congrArg₂ (· + ·) (zero_apply j).2.1 (weights_apply _ _ _ _ _ _ j))
  · rw [outsAt1_B V c t h, ← step]
    frame_out
    exact (add_apply j _ _).1.trans (congrArg (_ + ·) (weights_apply _ _ _ _ _ _ j))

/-- The norm's offset's gradient after the last point. -/
theorem last13 (t : Fin cfg1.N) (ht : t.val % 4 = 3) (j : Fin 1024) : (outsAt1 V c t.val t.isLt).2.2.2.2.1 (ix2 0 j)
    = colSum (cots V c) (ix2 0 j) := by
  have step : ∀ (t : Fin cfg1.N) j, colSum (cotAt V c t) (ix2 0 j) = colSum (rows ⟨t.val, points1 t⟩ (cots V c)) (ix2 0 j) :=
    fun t j => by rw [block_cots]
  refine sum_points points1 (fun n h j => (outsAt1 V c n h).2.2.2.2.1 (ix2 0 j)) _ (fun t h j => ?_) (fun t h j => ?_) t ht j
  · rw [outsAt1_A V c t h, ← step]
    frame_out
    exact (add_apply j _ _).2.1.trans (congrArg₂ (· + ·) (zero_apply j).2.2.1 (offset_apply _ _ _ j))
  · rw [outsAt1_B V c t h, ← step]
    frame_out
    exact (add_apply j _ _).2.1.trans (congrArg (_ + ·) (offset_apply _ _ _ j))

/-- The scale's gradient after the last point. -/
theorem last14 (t : Fin cfg1.N) (ht : t.val % 4 = 3) (j : Fin 1024) : (outsAt1 V c t.val t.isLt).2.2.2.2.2.1 (ix2 0 j)
    = colSum (times (normed (sums V c) (V c main_arg3) (V c main_arg4)) (V c main_arg8)) (ix2 0 j) := by
  have step : ∀ (t : Fin cfg1.N) j, colSum (times (normed (preAt V c t) (iblk1 V c 3 t : Mat 1 1024) (iblk1 V c 4 t)) (iblk1 V c 8 t)) (ix2 0 j)
      = colSum (rows ⟨t.val, points1 t⟩ (times (normed (sums V c) (V c main_arg3) (V c main_arg4)) (V c main_arg8))) (ix2 0 j) :=
    fun t j => by rw [block_sums, (vectors1 V c t).2.1, (vectors1 V c t).2.2.1, (blocks1 V c t).2.2.2]; rfl
  refine sum_points points1 (fun n h j => (outsAt1 V c n h).2.2.2.2.2.1 (ix2 0 j)) _ (fun t h j => ?_) (fun t h j => ?_) t ht j
  · rw [outsAt1_A V c t h, ← step]
    frame_out
    exact (add_apply j _ _).2.2.1.trans (congrArg₂ (· + ·) (zero_apply j).2.2.2.1 (scales_apply _ _ _ _ _ _ j))
  · rw [outsAt1_B V c t h, ← step]
    frame_out
    exact (add_apply j _ _).2.2.1.trans (congrArg (_ + ·) (scales_apply _ _ _ _ _ _ j))

/-- The shift's gradient after the last point. -/
theorem last15 (t : Fin cfg1.N) (ht : t.val % 4 = 3) (j : Fin 1024) : (outsAt1 V c t.val t.isLt).2.2.2.2.2.2 (ix2 0 j)
    = colSum (V c main_arg8) (ix2 0 j) := by
  have step : ∀ (t : Fin cfg1.N) j, colSum (iblk1 V c 8 t : Mat 512 1024) (ix2 0 j)
      = colSum (rows ⟨t.val, points1 t⟩ (V c main_arg8)) (ix2 0 j) :=
    fun t j => by rw [(blocks1 V c t).2.2.2]
  refine sum_points points1 (fun n h j => (outsAt1 V c n h).2.2.2.2.2.2 (ix2 0 j)) _ (fun t h j => ?_) (fun t h j => ?_) t ht j
  · rw [outsAt1_A V c t h, ← step]
    frame_out
    exact (add_apply j _ _).2.2.2.trans (congrArg₂ (· + ·) (zero_apply j).2.2.2.2 (shifts_apply _ j))
  · rw [outsAt1_B V c t h, ← step]
    frame_out
    exact (add_apply j _ _).2.2.2.trans (congrArg (_ + ·) (shifts_apply _ j))

/-- The gate's gradient after the call. -/
theorem final1_11 : (dat1 V c).arrAt 11 cfg1.N = colSum (times (sumsBack V c) (V c main_arg1)) := by
  refine (dat1 V c).arrAt_eq_of_covers 11 _ (by decide +kernel) fun t hf y => ?_
  blk_simp
  rw [after1_11]
  obtain ⟨r, j, rfl⟩ : ∃ r j, y = ix2 r j := ⟨y 0, y 1, eq_ix2 y⟩
  obtain rfl : r = 0 := Subsingleton.elim (α := Fin 1) _ _
  have e : (win1_11.blk t).view.emb (ix2 0 j) = ix2 0 j := by
    blk_ext [(outs1 t).2.2.1]
  rw [e]
  exact last11 V c t ((flush1_11 t).mp hf) j

/-- The norm's weights' gradient after the call. -/
theorem final1_12 : (dat1 V c).arrAt 12 cfg1.N = colSum (times (units (sums V c)) (cots V c)) := by
  refine (dat1 V c).arrAt_eq_of_covers 12 _ (by decide +kernel) fun t hf y => ?_
  blk_simp
  rw [after1_12]
  obtain ⟨r, j, rfl⟩ : ∃ r j, y = ix2 r j := ⟨y 0, y 1, eq_ix2 y⟩
  obtain rfl : r = 0 := Subsingleton.elim (α := Fin 1) _ _
  have e : (win1_12.blk t).view.emb (ix2 0 j) = ix2 0 j := by
    blk_ext [(outs1 t).2.2.2.1]
  rw [e]
  exact last12 V c t ((flush1_12 t).mp hf) j

/-- The norm's offset's gradient after the call. -/
theorem final1_13 : (dat1 V c).arrAt 13 cfg1.N = colSum (cots V c) := by
  refine (dat1 V c).arrAt_eq_of_covers 13 _ (by decide +kernel) fun t hf y => ?_
  blk_simp
  rw [after1_13]
  obtain ⟨r, j, rfl⟩ : ∃ r j, y = ix2 r j := ⟨y 0, y 1, eq_ix2 y⟩
  obtain rfl : r = 0 := Subsingleton.elim (α := Fin 1) _ _
  have e : (win1_13.blk t).view.emb (ix2 0 j) = ix2 0 j := by
    blk_ext [(outs1 t).2.2.2.2.1]
  rw [e]
  exact last13 V c t ((flush1_13 t).mp hf) j

/-- The scale's gradient after the call. -/
theorem final1_14 : (dat1 V c).arrAt 14 cfg1.N
    = colSum (times (normed (sums V c) (V c main_arg3) (V c main_arg4)) (V c main_arg8)) := by
  refine (dat1 V c).arrAt_eq_of_covers 14 _ (by decide +kernel) fun t hf y => ?_
  blk_simp
  rw [after1_14]
  obtain ⟨r, j, rfl⟩ : ∃ r j, y = ix2 r j := ⟨y 0, y 1, eq_ix2 y⟩
  obtain rfl : r = 0 := Subsingleton.elim (α := Fin 1) _ _
  have e : (win1_14.blk t).view.emb (ix2 0 j) = ix2 0 j := by
    blk_ext [(outs1 t).2.2.2.2.2.1]
  rw [e]
  exact last14 V c t ((flush1_14 t).mp hf) j

/-- The shift's gradient after the call. -/
theorem final1_15 : (dat1 V c).arrAt 15 cfg1.N = colSum (V c main_arg8) := by
  refine (dat1 V c).arrAt_eq_of_covers 15 _ (by decide +kernel) fun t hf y => ?_
  blk_simp
  rw [after1_15]
  obtain ⟨r, j, rfl⟩ : ∃ r j, y = ix2 r j := ⟨y 0, y 1, eq_ix2 y⟩
  obtain rfl : r = 0 := Subsingleton.elim (α := Fin 1) _ _
  have e : (win1_15.blk t).view.emb (ix2 0 j) = ix2 0 j := by
    blk_ext [(outs1 t).2.2.2.2.2.2]
  rw [e]
  exact last15 V c t ((flush1_15 t).mp hf) j

end Cert.Kernel6Ideal.First

end
-- ==== Proof.FirstRun.lean ====
module

public import proofs.«01_k».proof.Proof.FirstRegions

@[expose] public section

noncomputable section

namespace Cert.Kernel6Ideal.First

open Idealize.ShloMosaic Idealize.ShloMosaic.TcCoe Idealize.SL.Sem Cert.Kernel6Ideal Cert.Kernel6Ideal.Gen Cert.Mlp Cert.Norm

section Launch

open Idealize.ShloMosaic.Tactic Idealize.SL Idealize.SL.RA Idealize.SL.BI
open scoped Idealize.SL.BI
open Idealize.SL.BI.BIBase Idealize.SL.BI.Laws Idealize.SL.ProofMode Idealize.ShloMosaic.Rounds

variable {F : FTy → Type} [FloatOps F] (m : (ℓ : Loc nD τ sig) → Buf (Elt F) ℓ) (ρ : Dev nD → PrngReg)

local notation "𝕄" => MT nD τ sig Unit (Elt F) ℕ (UR sig nD τ) ℕ

/-- The two calls end with every buffer as the last leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

end Launch

variable (m : (ℓ : Loc nD τ sig) → Buf (Elt Ideal) ℓ) (ρ : Dev nD → PrngReg) (c : Dev nD)

/-- The residual. -/
abbrev arg0 : Mat 2048 1024 := m ((c.tc : Thread nD τ).loc main_arg0)
/-- The branch. -/
abbrev arg1 : Mat 2048 1024 := m ((c.tc : Thread nD τ).loc main_arg1)
/-- The gate. -/
abbrev arg2 : Mat 1 1024 := m ((c.tc : Thread nD τ).loc main_arg2)
/-- The norm's weights. -/
abbrev arg3 : Mat 1 1024 := m ((c.tc : Thread nD τ).loc main_arg3)
/-- The norm's offset. -/
abbrev arg4 : Mat 1 1024 := m ((c.tc : Thread nD τ).loc main_arg4)
/-- The modulation's scale. -/
abbrev arg5 : Mat 1 1024 := m ((c.tc : Thread nD τ).loc main_arg5)
/-- The modulation's shift. -/
abbrev arg6 : Mat 1 1024 := m ((c.tc : Thread nD τ).loc main_arg6)
/-- The normed rows' own cotangent. -/
abbrev arg7 : Mat 2048 1024 := m ((c.tc : Thread nD τ).loc main_arg7)
/-- The modulated rows' cotangent. -/
abbrev arg8 : Mat 2048 1024 := m ((c.tc : Thread nD τ).loc main_arg8)

/-- The rows to be normed. -/
abbrev preRows : Mat 2048 1024 := preNorm (arg0 m c) (arg1 m c) (arg2 m c)
/-- The normed rows. -/
abbrev outRows : Mat 2048 1024 := normed (preRows m c) (arg3 m c) (arg4 m c)
/-- The normed rows' whole cotangent. -/
abbrev outBack : Mat 2048 1024 := through (arg5 m c) (arg7 m c) (arg8 m c)
/-- The cotangent of the rows to be normed. -/
abbrev preBack : Mat 2048 1024 := normBack (preRows m c) (arg3 m c) (outBack m c)

/-- The second call's operands are the program's. -/
theorem args_1 : V1 m ρ c main_arg0 = arg0 m c
    ∧ V1 m ρ c main_arg1 = arg1 m c
    ∧ V1 m ρ c main_arg2 = arg2 m c
    ∧ V1 m ρ c main_arg3 = arg3 m c
    ∧ V1 m ρ c main_arg4 = arg4 m c
    ∧ V1 m ρ c main_arg5 = arg5 m c
    ∧ V1 m ρ c main_arg7 = arg7 m c
    ∧ V1 m ρ c main_arg8 = arg8 m c :=
  ⟨W1_args m ρ c main_arg0 (by decide),
    W1_args m ρ c main_arg1 (by decide),
    W1_args m ρ c main_arg2 (by decide),
    W1_args m ρ c main_arg3 (by decide),
    W1_args m ρ c main_arg4 (by decide),
    W1_args m ρ c main_arg5 (by decide),
    W1_args m ρ c main_arg7 (by decide),
    W1_args m ρ c main_arg8 (by decide)⟩

/-- The rows to be normed are the second call's. -/
theorem sums_1 : sums (V1 m ρ) c = preRows m c := by
  obtain ⟨h0, h1, h2, h3, h4, h5, h7, h8⟩ := args_1 m ρ c
  unfold sums
  rw [h0, h1, h2]

/-- The normed rows' cotangent is the second call's. -/
theorem cots_1 : cots (V1 m ρ) c = outBack m c := by
  obtain ⟨h0, h1, h2, h3, h4, h5, h7, h8⟩ := args_1 m ρ c
  unfold cots
  rw [h5, h7, h8]

/-- The rows' cotangent is the second call's. -/
theorem sumsBack_1 : sumsBack (V1 m ρ) c = preBack m c := by
  obtain ⟨h0, h1, h2, h3, h4, h5, h7, h8⟩ := args_1 m ρ c
  unfold sumsBack
  rw [sums_1, cots_1, h3]

/-- The normed rows. -/
theorem out_2 : V2 m ρ c main_v0_0 = outRows m c := by
  exact (W2_of m ρ c main_v0_0 (by decide +kernel)).trans ((W1_arr m ρ c 7).trans (final0_7 (V0 m ρ) c))

/-- The modulated rows. -/
theorem mod_2 : V2 m ρ c main_v0_1 = modulated (outRows m c) (arg5 m c) (arg6 m c) := by
  exact (W2_of m ρ c main_v0_1 (by decide +kernel)).trans ((W1_arr m ρ c 8).trans (final0_8 (V0 m ρ) c))

/-- The residual's cotangent. -/
theorem dx_2 : V2 m ρ c main_v1_0 = residual (preBack m c) := by
  refine (W2_arr m ρ c 9).trans ((final1_9 (V1 m ρ) c).trans ?_)
  rw [sumsBack_1]

/-- The branch's cotangent. -/
theorem dmix_2 : V2 m ρ c main_v1_1 = gated (arg2 m c) (preBack m c) := by
  obtain ⟨h0, h1, h2, h3, h4, h5, h7, h8⟩ := args_1 m ρ c
  refine (W2_arr m ρ c 10).trans ((final1_10 (V1 m ρ) c).trans ?_)
  rw [sumsBack_1, h2]

/-- The gate's gradient. -/
theorem dgt_2 : V2 m ρ c main_v1_2 = colSum (times (preBack m c) (arg1 m c)) := by
  obtain ⟨h0, h1, h2, h3, h4, h5, h7, h8⟩ := args_1 m ρ c
  refine (W2_arr m ρ c 11).trans ((final1_11 (V1 m ρ) c).trans ?_)
  rw [sumsBack_1, h1]

/-- The norm's weights' gradient. -/
theorem dg_2 : V2 m ρ c main_v1_3 = colSum (times (units (preRows m c)) (outBack m c)) := by
  refine (W2_arr m ρ c 12).trans ((final1_12 (V1 m ρ) c).trans ?_)
  rw [sums_1, cots_1]

/-- The norm's offset's gradient. -/
theorem db_2 : V2 m ρ c main_v1_4 = colSum (outBack m c) := by
  refine (W2_arr m ρ c 13).trans ((final1_13 (V1 m ρ) c).trans ?_)
  rw [cots_1]

/-- The scale's gradient. -/
theorem dsc_2 : V2 m ρ c main_v1_5 = colSum (times (outRows m c) (arg8 m c)) := by
  obtain ⟨h0, h1, h2, h3, h4, h5, h7, h8⟩ := args_1 m ρ c
  refine (W2_arr m ρ c 14).trans ((final1_14 (V1 m ρ) c).trans ?_)
  rw [sums_1, h3, h4, h8]

/-- The shift's gradient. -/
theorem dsh_2 : V2 m ρ c main_v1_6 = colSum (arg8 m c) := by
  obtain ⟨h0, h1, h2, h3, h4, h5, h7, h8⟩ := args_1 m ρ c
  refine (W2_arr m ρ c 15).trans ((final1_15 (V1 m ρ) c).trans ?_)
  rw [h8]

/-- The kernel's run with its results. -/
theorem run_results : θ_run defs (onTc (τ := τ) (main (F := Ideal))) ⟨m, fun _ => 0, ρ⟩ (fun r => ∀ c : Dev nD,
      r.2.mem ((c.tc : Thread nD τ).loc main_v0_0) = outRows m c
      ∧ r.2.mem ((c.tc : Thread nD τ).loc main_v0_1) = modulated (outRows m c) (arg5 m c) (arg6 m c)
      ∧ r.2.mem ((c.tc : Thread nD τ).loc main_v1_0) = residual (preBack m c)
      ∧ r.2.mem ((c.tc : Thread nD τ).loc main_v1_1) = gated (arg2 m c) (preBack m c)
      ∧ r.2.mem ((c.tc : Thread nD τ).loc main_v1_2) = colSum (times (preBack m c) (arg1 m c))
      ∧ r.2.mem ((c.tc : Thread nD τ).loc main_v1_3) = colSum (times (units (preRows m c)) (outBack m c))
      ∧ r.2.mem ((c.tc : Thread nD τ).loc main_v1_4) = colSum (outBack m c)
      ∧ r.2.mem ((c.tc : Thread nD τ).loc main_v1_5) = colSum (times (outRows m c) (arg8 m c))
      ∧ r.2.mem ((c.tc : Thread nD τ).loc main_v1_6) = colSum (arg8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_v0_0 (by decide))).trans (out_2 m ρ c),
      (h c _ (mem_uc main_v0_1 (by decide))).trans (mod_2 m ρ c),
      (h c _ (mem_uc main_v1_0 (by decide))).trans (dx_2 m ρ c),
      (h c _ (mem_uc main_v1_1 (by decide))).trans (dmix_2 m ρ c),
      (h c _ (mem_uc main_v1_2 (by decide))).trans (dgt_2 m ρ c),
      (h c _ (mem_uc main_v1_3 (by decide))).trans (dg_2 m ρ c),
      (h c _ (mem_uc main_v1_4 (by decide))).trans (db_2 m ρ c),
      (h c _ (mem_uc main_v1_5 (by decide))).trans (dsc_2 m ρ c),
      (h c _ (mem_uc main_v1_6 (by decide))).trans (dsh_2 m ρ c),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c),
      (h c _ (mem_uc main_arg4 (by decide))).trans (W2_main_arg4 m ρ c),
      (h c _ (mem_uc main_arg5 (by decide))).trans (W2_main_arg5 m ρ c),
      (h c _ (mem_uc main_arg6 (by decide))).trans (W2_main_arg6 m ρ c),
      (h c _ (mem_uc main_arg7 (by decide))).trans (W2_main_arg7 m ρ c),
      (h c _ (mem_uc main_arg8 (by decide))).trans (W2_main_arg8 m ρ c)⟩)
    (run_all m ρ)

end Cert.Kernel6Ideal.First

end
-- ==== Proof.FirstRef.lean ====
module

public import proofs.«01_k».proof.Proof.NormRef
public import proofs.«01_k».proof.Proof.Gen.Reference6Ideal.Run
public import proofs.«01_k».proof.Proof.Gen.Reference6Ideal.Read

@[expose] public section

noncomputable section

namespace Cert.Reference6Ideal.First

open Idealize.ShloMosaic Cert.Reference6Ideal Cert.Reference6Ideal.Read Cert.Mlp Cert.Norm

variable (x0 : (⟨S2048x1024, .f32⟩ : BufTy).Contents (Elt Ideal)) (x1 : (⟨S2048x1024, .bf16⟩ : BufTy).Contents (Elt Ideal))
  (x2 x3 x4 x5 x6 : (⟨S1x1024, .f32⟩ : BufTy).Contents (Elt Ideal)) (x7 : (⟨S2048x1024, .f32⟩ : BufTy).Contents (Elt Ideal))
  (x8 : (⟨S2048x1024, .bf16⟩ : BufTy).Contents (Elt Ideal))

/-- The rows to be normed. -/
abbrev sums : Mat 2048 1024 := preNorm (m := 2048) x0 x1 x2

/-- The normed rows. -/
abbrev outs : Mat 2048 1024 := normed (sums x0 x1 x2) x3 x4

/-- The normed rows' cotangent. -/
abbrev cots : Mat 2048 1024 := through (m := 2048) x5 x7 x8

/-- The gate's factor. -/
theorem gate_at (i : S1x1024.Idx) : val_main_v3 (F := Ideal) x2 i = (1 + x2 (ix2 0 (i 1)) : EReal) := by
  rw [val_main_v3_apply, val_main_v2_apply, val_main_cst_0_apply]
  exact congrArg₂ (· + ·) Ideal.ofBits_one_f32 (vec_at x2 i)

/-- The scale's factor. -/
theorem factor_at (i : S1x1024.Idx) : val_main_v36 (F := Ideal) x5 i = (1 + x5 (ix2 0 (i 1)) : EReal) := by
  rw [val_main_v36_apply, val_main_v35_apply, val_main_cst_8_apply]
  exact congrArg₂ (· + ·) Ideal.ofBits_one_f32 (vec_at x5 i)

/-- The branch. -/
theorem branch_at (i : S2048x1024.Idx) : val_main_v4 (F := Ideal) x1 i = row (m := 2048) x1 (i 0) (i 1) := by
  rw [val_main_v4_apply]
  exact row_at (m := 2048) x1 i

/-- The rows to be normed, entry by entry. -/
theorem sums_at (i : S2048x1024.Idx) : val_main_v7 (F := Ideal) x0 x1 x2 i = row (sums x0 x1 x2) (i 0) (i 1) := by
  rw [val_main_v7_apply, val_main_v1_apply, val_main_v0_apply, val_main_cst_apply, val_main_v6_apply, val_main_v5_apply,
    gate_at, branch_at]
  exact congrArg₂ (· + ·) (congrArg (alpha * ·) (row_at (m := 2048) x0 i)) rfl

/-- A row's mean. -/
theorem mean_at (i : S2048x1.Idx) : val_main_v11 (F := Ideal) x0 x1 x2 i = mean (row (sums x0 x1 x2) (i 0)) := by
  rw [val_main_v11_apply, val_main_v9_apply, val_main_v8_apply, val_main_v10_apply, val_main_cst_1_apply, val_main_cst_2_apply]
  exact congrArg (Ideal.div · width) (sum_from _ _ fun k => sums_at x0 x1 x2 _)

/-- A row less its mean. -/
theorem dev_at (i : S2048x1024.Idx) : val_main_v13 (F := Ideal) x0 x1 x2 i = dev (row (sums x0 x1 x2) (i 0)) (i 1) := by
  rw [val_main_v13_apply, val_main_v12_apply, mean_at, sums_at]
  rfl

/-- A row less its mean, once more. -/
theorem dev'_at (i : S2048x1024.Idx) : val_main_v22 (F := Ideal) x0 x1 x2 i = dev (row (sums x0 x1 x2) (i 0)) (i 1) := by
  rw [val_main_v22_apply, val_main_v21_apply, mean_at, sums_at]
  rfl

/-- A row's variance. -/
theorem spread_at (i : S2048x1.Idx) : val_main_v24 (F := Ideal) x0 x1 x2 i = spread (row (sums x0 x1 x2) (i 0)) := by
  rw [val_main_v24_apply, val_main_v20_apply, val_main_v18_apply, val_main_v17_apply, val_main_v19_apply, val_main_v23_apply,
    val_main_cst_4_apply, val_main_cst_5_apply, val_main_cst_6_apply]
  refine congrArg (Ideal.div · width + Ideal.ofBits FTy.f32 0x3727C5AC#32) (sum_from _ _ fun k => ?_)
  rw [val_main_v14_apply, dev_at]
  rfl

/-- One over its root. -/
theorem scale_at (i : S2048x1.Idx) : val_main_v25 (F := Ideal) x0 x1 x2 i = scale (row (sums x0 x1 x2) (i 0)) := by
  rw [val_main_v25_apply, spread_at]
  rfl

/-- The derivative of one over the root. -/
theorem slope_at (i : S2048x1.Idx) : val_main_v28 (F := Ideal) x0 x1 x2 i = scaleSlope (row (sums x0 x1 x2) (i 0)) := by
  rw [val_main_v28_apply, val_main_v27_apply, val_main_cst_7_apply, val_main_v26_apply, spread_at, scale_at]
  rfl

/-- The normed row, before its weights. -/
theorem unit_at (i : S2048x1024.Idx) : val_main_v30 (F := Ideal) x0 x1 x2 i = unit (row (sums x0 x1 x2) (i 0)) (i 1) := by
  rw [val_main_v30_apply, val_main_v29_apply, dev'_at, scale_at]
  rfl

/-- The normed rows, entry by entry. -/
theorem norm_at (i : S2048x1024.Idx) : val_main_v34 (F := Ideal) x0 x1 x2 x3 x4 i = row (outs x0 x1 x2 x3 x4) (i 0) (i 1) := by
  rw [val_main_v34_apply, val_main_v32_apply, val_main_v31_apply, val_main_v33_apply, unit_at]
  exact congrArg₂ (fun g b : EReal => unit (row (sums x0 x1 x2) (i 0)) (i 1) * g + b) (vec_at x3 (idx_main_v31 i)) (vec_at x4 (idx_main_v33 i))

/-- The normed rows. -/
theorem norm_eq : val_main_v34 (F := Ideal) x0 x1 x2 x3 x4 = outs x0 x1 x2 x3 x4 :=
  funext fun i => (norm_at x0 x1 x2 x3 x4 i).trans (row_at (outs x0 x1 x2 x3 x4) i).symm

/-- The modulated rows. -/
theorem mod_eq : val_main_v41 (F := Ideal) x0 x1 x2 x3 x4 x5 x6 = modulated (outs x0 x1 x2 x3 x4) x5 x6 := by
  funext i
  rw [val_main_v41_apply, val_main_v40_apply, val_main_v38_apply, val_main_v37_apply, val_main_v39_apply, norm_at, factor_at]
  exact congrArg₂ (fun y b : EReal => y * (1 + x5 (ix2 0 (i 1))) + b) (row_at (outs x0 x1 x2 x3 x4) i).symm (vec_at x6 (idx_main_v39 i))

/-- The modulated rows' cotangent. -/
theorem read_at (i : S2048x1024.Idx) : val_main_v42 (F := Ideal) x8 i = row (m := 2048) x8 (i 0) (i 1) := by
  rw [val_main_v42_apply]
  exact row_at (m := 2048) x8 i

/-- The shift's gradient. -/
theorem dsh_eq : val_main_v44 (F := Ideal) x8 = colSum (m := 2048) (n := 1024) x8 := by
  funext i
  rw [val_main_v44_apply, val_main_v43_apply, val_main_cst_9_apply]
  refine sum_from _ _ fun k => ?_
  rw [read_at]
  refine congrArg (fun y => row (m := 2048) x8 k y) (Fin.ext ?_)
  have h0 : (i 0).val < 1 := (i 0).isLt
  show (i 0).val * 1024 + (i 1).val = (i 1).val
  omega

/-- The scale's gradient. -/
theorem dsc_eq : val_main_v47 (F := Ideal) x0 x1 x2 x3 x4 x8 = colSum (times (outs x0 x1 x2 x3 x4) x8) := by
  funext i
  rw [val_main_v47_apply, val_main_v46_apply, val_main_cst_10_apply]
  refine sum_from _ _ fun k => ?_
  rw [val_main_v45_apply, norm_at, read_at]
  refine congrArg (fun y => times (outs x0 x1 x2 x3 x4) x8 (ix2 k y)) (Fin.ext ?_)
  have h0 : (i 0).val < 1 := (i 0).isLt
  show (i 0).val * 1024 + (i 1).val = (i 1).val
  omega

/-- The normed rows' cotangent, entry by entry. -/
theorem through_at (i : S2048x1024.Idx) : val_main_v50 (F := Ideal) x5 x7 x8 i = row (cots x5 x7 x8) (i 0) (i 1) := by
  rw [val_main_v50_apply, val_main_v49_apply, val_main_v48_apply, factor_at, read_at]
  exact congrArg₂ (· + ·) (row_at (m := 2048) x7 i) rfl

/-- The offset's gradient. -/
theorem db_eq : val_main_v53 (F := Ideal) x5 x7 x8 = colSum (cots x5 x7 x8) := by
  funext i
  rw [val_main_v53_apply, val_main_v52_apply, val_main_cst_11_apply]
  refine sum_from _ _ fun k => ?_
  rw [through_at]
  refine congrArg (fun y => cots x5 x7 x8 (ix2 k y)) (Fin.ext ?_)
  have h0 : (i 0).val < 1 := (i 0).isLt
  show (i 0).val * 1024 + (i 1).val = (i 1).val
  omega

/-- The cotangent, in the shape it has. -/
theorem cot_at (i : S2048x1024.Idx) : val_main_v51 (F := Ideal) x5 x7 x8 i = row (cots x5 x7 x8) (i 0) (i 1) := by
  rw [val_main_v51_apply, through_at]
  have h0 : (i 1).val < 1024 := (i 1).isLt
  refine congrArg₂ (row (cots x5 x7 x8)) (Fin.ext ?_) (Fin.ext ?_)
  · show ((i 0).val * 1024 + (i 1).val) / 1024 = (i 0).val
    omega
  · show ((i 0).val * 1024 + (i 1).val) % 1024 = (i 1).val
    omega

/-- The weights' gradient. -/
theorem dg_eq : val_main_v56 (F := Ideal) x0 x1 x2 x5 x7 x8 = colSum (times (units (sums x0 x1 x2)) (cots x5 x7 x8)) := by
  funext i
  rw [val_main_v56_apply, val_main_v55_apply, val_main_cst_12_apply]
  refine sum_from _ _ fun k => ?_
  rw [val_main_v54_apply, unit_at, cot_at]
  refine congrArg (fun y => times (units (sums x0 x1 x2)) (cots x5 x7 x8) (ix2 k y)) (Fin.ext ?_)
  have h0 : (i 0).val < 1 := (i 0).isLt
  show (i 0).val * 1024 + (i 1).val = (i 1).val
  omega

/-- The unit row's cotangent. -/
theorem weighed_at (i : S2048x1024.Idx) :
    val_main_v58 (F := Ideal) x3 x5 x7 x8 i = row (cots x5 x7 x8) (i 0) (i 1) * row (m := 1) x3 0 (i 1) := by
  rw [val_main_v58_apply, val_main_v57_apply, cot_at]
  exact congrArg (row (cots x5 x7 x8) (i 0) (i 1) * ·) (vec_at x3 (idx_main_v57 i))

/-- The cotangent through the numerator. -/
theorem direct_at (i : S2048x1024.Idx) : val_main_v63 (F := Ideal) x0 x1 x2 x3 x5 x7 x8 i
    = direct (row (sums x0 x1 x2) (i 0)) (row (m := 1) x3 0) (row (cots x5 x7 x8) (i 0)) (i 1) := by
  rw [val_main_v63_apply, val_main_v62_apply, weighed_at, scale_at]
  rfl

/-- The number of a row among the rows of one entry. -/
theorem lane (i : S2048x1.Idx) (h : (i 0).val * 1 + (i 1).val < 2048) : (⟨(i 0).val * 1 + (i 1).val, h⟩ : Fin 2048) = i 0 :=
  Fin.ext (by
    have h0 : (i 1).val < 1 := (i 1).isLt
    show (i 0).val * 1 + (i 1).val = (i 0).val
    omega)

/-- The scale's cotangent. -/
theorem dot_at (i : S2048x1.Idx) : val_main_v61 (F := Ideal) x0 x1 x2 x3 x5 x7 x8 i
    = ∑ k : Fin 1024, dev (row (sums x0 x1 x2) (i 0)) k * (row (cots x5 x7 x8) (i 0) k * row (m := 1) x3 0 k) := by
  rw [val_main_v61_apply, val_main_v60_apply, val_main_cst_13_apply]
  refine sum_from _ _ fun k => ?_
  rw [val_main_v59_apply, dev'_at, weighed_at]
  exact congrArg (fun r => dev (row (sums x0 x1 x2) r) k * (row (cots x5 x7 x8) r k * row (m := 1) x3 0 k)) (lane i _)

/-- The cotangent through the variance. -/
theorem indirect_at (i : S2048x1024.Idx) : val_main_v72 (F := Ideal) x0 x1 x2 x3 x5 x7 x8 i
    = indirect (row (sums x0 x1 x2) (i 0)) (row (m := 1) x3 0) (row (cots x5 x7 x8) (i 0)) (i 1) := by
  rw [val_main_v72_apply, val_main_v71_apply, val_main_v70_apply, val_main_cst_16_apply, val_main_v16_apply, val_main_v15_apply,
    val_main_cst_3_apply, dev_at]
  refine congrArg (· * (Ideal.ofBits FTy.f32 0x40000000#32 * dev (row (sums x0 x1 x2) (i 0)) (i 1))) ((sum_one _).trans ?_)
  rw [val_main_v69_apply, val_main_v68_apply, val_main_cst_15_apply, val_main_v64_apply, dot_at, slope_at]
  rfl

/-- The row sum of the two cotangents, with its sign. -/
theorem both_at (i : S2048x1.Idx) : val_main_v77 (F := Ideal) x0 x1 x2 x3 x5 x7 x8 i
    = (∑ k : Fin 1024, -direct (row (sums x0 x1 x2) (i 0)) (row (m := 1) x3 0) (row (cots x5 x7 x8) (i 0)) k)
      + ∑ k : Fin 1024, -indirect (row (sums x0 x1 x2) (i 0)) (row (m := 1) x3 0) (row (cots x5 x7 x8) (i 0)) k := by
  rw [val_main_v77_apply, val_main_v67_apply, val_main_v66_apply, val_main_cst_14_apply, val_main_v75_apply, val_main_v74_apply,
    val_main_cst_17_apply]
  refine congrArg₂ (· + ·) (sum_from _ _ fun k => ?_) (sum_from _ _ fun k => ?_)
  · rw [val_main_v65_apply, direct_at]
    exact congrArg (fun r => -direct (row (sums x0 x1 x2) r) (row (m := 1) x3 0) (row (cots x5 x7 x8) r) k) (lane i _)
  · rw [val_main_v73_apply, indirect_at]
    exact congrArg (fun r => -indirect (row (sums x0 x1 x2) r) (row (m := 1) x3 0) (row (cots x5 x7 x8) r) k) (lane i _)

/-- The rows' cotangent. -/
abbrev sumsBack : Mat 2048 1024 := normBack (sums x0 x1 x2) x3 (cots x5 x7 x8)

/-- The rows' cotangent, entry by entry. -/
theorem back_at (i : S2048x1024.Idx) : val_main_v82 (F := Ideal) x0 x1 x2 x3 x5 x7 x8 i
    = row (sumsBack x0 x1 x2 x3 x5 x7 x8) (i 0) (i 1) := by
  rw [val_main_v82_apply, val_main_v76_apply, direct_at, indirect_at, val_main_v81_apply, val_main_v80_apply, val_main_cst_19_apply]
  refine congrArg (_ + ·) ((sum_one _).trans ?_)
  rw [val_main_v79_apply, val_main_v78_apply, val_main_cst_18_apply, both_at]
  rfl

/-- The branch's cotangent. -/
theorem dmix_eq : val_main_v88 (F := Ideal) x0 x1 x2 x3 x5 x7 x8 = gated x2 (sumsBack x0 x1 x2 x3 x5 x7 x8) := by
  funext i
  rw [val_main_v88_apply, val_main_v84_apply, val_main_v83_apply, gate_at, back_at]
  exact (row_at (gated x2 (sumsBack x0 x1 x2 x3 x5 x7 x8)) i).symm

/-- The residual's cotangent. -/
theorem dx_eq : val_main_v90 (F := Ideal) x0 x1 x2 x3 x5 x7 x8 = residual (sumsBack x0 x1 x2 x3 x5 x7 x8) := by
  funext i
  rw [val_main_v90_apply, val_main_v89_apply, val_main_cst_21_apply, back_at]
  exact (row_at (residual (sumsBack x0 x1 x2 x3 x5 x7 x8)) i).symm

/-- The gate's gradient. -/
theorem dgt_eq : val_main_v87 (F := Ideal) x0 x1 x2 x3 x5 x7 x8 = colSum (times (sumsBack x0 x1 x2 x3 x5 x7 x8) x1) := by
  funext i
  rw [val_main_v87_apply, val_main_v86_apply, val_main_cst_20_apply]
  refine sum_from _ _ fun k => ?_
  rw [val_main_v85_apply, back_at, branch_at]
  refine congrArg (fun y => times (sumsBack x0 x1 x2 x3 x5 x7 x8) x1 (ix2 k y)) (Fin.ext ?_)
  have h0 : (i 0).val < 1 := (i 0).isLt
  show (i 0).val * 1024 + (i 1).val = (i 1).val
  omega

end Cert.Reference6Ideal.First

end
-- ==== Proof.FirstProof.lean ====
module

public import proofs.«01_k».proof.Defs
public import proofs.«01_k».proof.Proof.FirstRun
public import proofs.«01_k».proof.Proof.FirstRef
public import Idealize.ShloMosaic.Adequacy
public import Idealize.ShloMosaic.Init

@[expose] public section

noncomputable section

namespace Cert.Proof

open Idealize.ShloMosaic Idealize.SL.Sem

/-- The first norm's reference terminates, leaves its arguments unchanged and has no semaphore. -/
theorem frameR6 : Cert.quiescent_Reference6Ideal (hReference6Ideal := Reference6Ideal.Gen.facts) := fun m ρ _ =>
  (θ_run Reference6Ideal.defs _ _).mono (fun r h => ⟨fun c => (h c).2.2.2.2.2.2.2.2.2, sem_eq_zero_of_no_sems (by decide) r.2⟩)
    (Reference6Ideal.Value.run (F := Ideal) m ρ)

set_option maxHeartbeats 4000000 in
/-- The first norm's kernel and its reference end with equal results. -/
theorem algebraic6 : Cert.algebraic_Kernel6Ideal_Reference6Ideal (hKernel6Ideal := Kernel6Ideal.Gen.facts)
    (hReference6Ideal := Reference6Ideal.Gen.facts) := by
  intro m g m' g' _ hargs
  refine ⟨_, _, _, _, _, _, _, _, _, Kernel6Ideal.First.run_results m g, ?_⟩
  refine (θ_run _ _ _).mono (fun r h c => ?_) (Reference6Ideal.Value.run (F := Ideal) m' g')
  obtain ⟨a0, a1, a2, a3, a4, a5, a6, a7, a8⟩ := hargs c
  obtain ⟨r0, r1, r2, r3, r4, r5, r6, r7, r8, hr⟩ := h c
  rw [a0, a1, a2, a3, a4] at r0
  rw [Reference6Ideal.Read.val_main_v41_eq, a0, a1, a2, a3, a4, a5, a6] at r1
  rw [Reference6Ideal.Read.val_main_v90_eq, a0, a1, a2, a3, a5, a7, a8] at r2
  rw [Reference6Ideal.Read.val_main_v88_eq, a0, a1, a2, a3, a5, a7, a8] at r3
  rw [Reference6Ideal.Read.val_main_v87_eq, a0, a1, a2, a3, a5, a7, a8] at r4
  rw [Reference6Ideal.Read.val_main_v56_eq, a0, a1, a2, a5, a7, a8] at r5
  rw [a5, a7, a8] at r6
  rw [Reference6Ideal.Read.val_main_v47_eq, a0, a1, a2, a3, a4, a8] at r7
  rw [a8] at r8
  exact ⟨r0.trans ((Reference6Ideal.Read.val_main_v34_eq _ _ _ _ _).trans (Reference6Ideal.First.norm_eq _ _ _ _ _)),
    r1.trans (Reference6Ideal.First.mod_eq _ _ _ _ _ _ _), r2.trans (Reference6Ideal.First.dx_eq _ _ _ _ _ _ _),
    r3.trans (Reference6Ideal.First.dmix_eq _ _ _ _ _ _ _), r4.trans (Reference6Ideal.First.dgt_eq _ _ _ _ _ _ _),
    r5.trans (Reference6Ideal.First.dg_eq _ _ _ _ _ _),
    r6.trans ((Reference6Ideal.Read.val_main_v53_eq _ _ _).trans (Reference6Ideal.First.db_eq _ _ _)),
    r7.trans (Reference6Ideal.First.dsc_eq _ _ _ _ _ _),
    r8.trans ((Reference6Ideal.Read.val_main_v44_eq _).trans (Reference6Ideal.First.dsh_eq _)), hr⟩

end Cert.Proof

end
-- ==== Proof.AttnSpec.lean ====
module

public import proofs.«01_k».proof.Proof.Bands

@[expose] public section

noncomputable section

namespace Cert.Band

open Idealize.ShloMosaic

namespace Head

variable (B : Head)

/-- A query's result: the band's values, weighted by the probabilities. -/
def out (r : Fin 128) (d : Fin 64) : EReal := ∑ s, B.pr r s * B.v s d

/-- The exponential is not negative. -/
theorem exp_nonneg (x : EReal) : 0 ≤ Ideal.exp x := by
  induction x with
  | bot => rw [Ideal.exp_bot]
  | coe x => rw [Ideal.exp_coe]; exact_mod_cast (Real.exp_pos x).le
  | top => exact le_top

/-- A row whose denominator vanishes has the same junk for each of its probabilities. -/
theorem pr_bot {r : Fin 128} (h : B.den r = 0) (s : Fin 256) : B.pr r s = ⊥ := by
  have hs : 0 ≤ ∑ s, B.p r s := Finset.sum_nonneg fun s _ => exp_nonneg _
  have h0 : ∑ s, B.p r s = 0 := le_antisymm (by
    calc ∑ s, B.p r s = ∑ s, B.p r s + 0 := (add_zero _).symm
      _ ≤ ∑ s, B.p r s + B.e r := add_le_add le_rfl (exp_nonneg _)
      _ = 0 := h) hs
  have hp : B.p r s = 0 := (Finset.sum_eq_zero_iff_of_nonneg fun s _ => exp_nonneg _).1 h0 s (Finset.mem_univ s)
  rw [pr, h, hp, Ideal.div, if_pos rfl, if_neg (lt_irrefl _)]

/-- Where a row's denominator does not vanish, a position out of sight has no probability. -/
theorem pr_unseen {r : Fin 128} {s : Fin 256} (hd : B.den r ≠ 0) (h : B.ok r s = 0#1) : B.pr r s = 0 := by
  rw [pr, B.p_unseen h, Ideal.div, if_neg hd, zero_mul]

/-- Blocks that agree where it is seen have the same results, in a row whose denominator does not vanish. -/
theorem SameSeen.out_eq {B C : Head} (h : SameSeen B C) {r : Fin 128} (hd : C.den r ≠ 0) (d : Fin 64) : B.out r d = C.out r d := by
  rw [out, out, h.pr_eq]
  refine Finset.sum_congr rfl fun s _ => ?_
  rcases bit_cases (B.ok r s) with hs | hs
  · rw [h.v r s hs]
  · rw [C.pr_unseen hd (h.ok ▸ hs), zero_mul, zero_mul]

end Head

/-- Minus infinity times anything is one of three. -/
theorem bot_mul_cases (x : EReal) : ⊥ * x = ⊥ ∨ ⊥ * x = 0 ∨ ⊥ * x = ⊤ := by
  rcases lt_trichotomy x 0 with h | h | h
  · exact .inr (.inr (EReal.bot_mul_of_neg h))
  · exact .inr (.inl (by rw [h, mul_zero]))
  · exact .inl (EReal.bot_mul_of_pos h)

/-- A sum of multiples of minus infinity, added to itself, stays what it is. -/
theorem bot_sum_twice {n : ℕ} (f : Fin n → EReal) : ∑ i, ⊥ * f i + ∑ i, ⊥ * f i = ∑ i, ⊥ * f i := by
  have h : ∑ i, ⊥ * f i = ⊥ ∨ ∑ i, ⊥ * f i = 0 ∨ ∑ i, ⊥ * f i = ⊤ := by
    refine Finset.sum_induction (fun i => ⊥ * f i) (fun x => x = ⊥ ∨ x = 0 ∨ x = ⊤) ?_ (.inr (.inl rfl)) fun i _ => bot_mul_cases (f i)
    rintro a b (rfl | rfl | rfl) (rfl | rfl | rfl) <;> simp
  rcases h with h | h | h <;> rw [h] <;> simp

/-- Minus infinity times a band's rows adds up the same with the first block in place of the padding: that block's own
    rows are there already. -/
theorem bot_bands (A : Fin 2048 → Fin 256 → EReal) (h : Fin 4) (n : Fin 16) (d : Fin 64) :
    ∑ s : Fin 256, ⊥ * clamped A h n s d = ∑ s : Fin 256, ⊥ * padded A h n s d := by
  by_cases hn : n.val = 0
  · have e1 : ∀ s : Fin 128, clamped A h n (Fin.castAdd 128 s) d = A ⟨s.val, by omega⟩ (kcol h d) := fun s => by
      unfold clamped
      rw [dif_pos (by exact s.isLt)]
      exact congrArg (A · (kcol h d)) (Fin.ext (by simp only [Fin.val_castAdd, hn]; omega))
    have e2 : ∀ s : Fin 128, clamped A h n (Fin.natAdd 128 s) d = A ⟨s.val, by omega⟩ (kcol h d) := fun s => by
      unfold clamped
      rw [dif_neg (by simp only [Fin.val_natAdd]; omega)]
      exact congrArg (A · (kcol h d)) (Fin.ext (by simp only [Fin.val_natAdd, hn]; omega))
    have e3 : ∀ s : Fin 128, padded A h n (Fin.castAdd 128 s) d = 0 := fun s => by
      unfold padded
      rw [dif_pos (by simp only [Fin.val_castAdd, hn]; omega)]
    have e4 : ∀ s : Fin 128, padded A h n (Fin.natAdd 128 s) d = A ⟨s.val, by omega⟩ (kcol h d) := fun s => by
      unfold padded
      rw [dif_neg (by simp only [Fin.val_natAdd, hn]; omega)]
      exact congrArg (A · (kcol h d)) (Fin.ext (by simp only [Fin.val_natAdd, hn]; omega))
    rw [Fin.sum_univ_add (a := 128) (b := 128), Fin.sum_univ_add (a := 128) (b := 128)]
    simp only [e1, e2, e3, e4, mul_zero, Finset.sum_const_zero, zero_add]
    exact bot_sum_twice _
  · refine Finset.sum_congr rfl fun s _ => congrArg (⊥ * ·) ?_
    unfold clamped padded
    rw [dif_neg (by omega : ¬ 128 * n.val + s.val < 128)]
    split
    · exact congrArg (A · (kcol h d)) (Fin.ext (by simp only []; omega))
    · exact congrArg (A · (kcol h d)) (Fin.ext (by simp only []; omega))

/-- Reading the first block in place of the padding leaves a query's result, with no condition on the numbers. -/
theorem Arrays.out_eq (X : Arrays) (h : Fin 4) (n : Fin 16) (g : Fin 4) (r : Fin 128) (d : Fin 64) :
    (X.headC h n g).out r d = (X.head h n g).out r d := by
  by_cases hd : (X.head h n g).den r = 0
  · have hd' : (X.headC h n g).den r = 0 := by rw [(X.sameSeen h n g).den_eq, hd]
    unfold Head.out
    simp only [Head.pr_bot _ hd, Head.pr_bot _ hd']
    exact bot_bands X.v h n d
  · exact (X.sameSeen h n g).out_eq hd d

end Cert.Band

end
-- ==== Proof.AttnCall.lean ====
module

public import proofs.«01_k».proof.Proof.AttnSpec
public import proofs.«01_k».proof.Proof.Point
public import proofs.«01_k».proof.Proof.Data
public import proofs.«01_k».proof.Proof.Gen.Kernel7Ideal.Frame

@[expose] public section

noncomputable section

namespace Cert.Kernel7Ideal.Attn

open Idealize.ShloMosaic Idealize.SL.Sem Cert.Kernel7Ideal.Gen
open Cert.KernelIdeal.Blk (VHead inb_head inb_sink window_word inside_word)

/-- A head's result from its vectors, with the axes of the array it is stored to. -/
def out (X : VHead) : FVec Ideal S1x1x128x64 .bf16 :=
  shapeCast S1x1x128x64 (truncf .bf16 (matmul dot_S128x256_S256x64_S128x64_1_0_0_1_n_n none X.pr X.vb
    (constant S128x64 .f32 0x00000000#32)) bitsLt_bf16_f32) shapeCasts_S128x64_S1x1x128x64

/-- A head's result, entry by entry. -/
theorem out_apply (X : VHead) (r : Fin 128) (d : Fin 64) : out X (ix4 0 0 r d) = X.read.out r d := by
  unfold out
  pointwise
  simp only [VHead.pr_apply]
  rfl

/-- One head's piece of a buffer of four heads' rows. -/
def piece (g : Fin 4) (P : FVec Ideal S1x1x128x64 .bf16) : View.Piece (Elt Ideal) S1x4x128x64 .bf16 :=
  ⟨Rect.unit (s := S1x4x128x64) ![0, g.val, 0, 0] S1x1x128x64.size (inb_head g), P⟩

/-- A head's own piece is read at its indices. -/
theorem canon_piece (g : Fin 4) (P : FVec Ideal S1x1x128x64 .bf16) (L : List (View.Piece (Elt Ideal) S1x4x128x64 .bf16)) (r : Fin 128)
    (d : Fin 64) : View.canon (piece g P :: L) (ix4 0 g r d) = P (ix4 0 0 r d) := by
  have e : (ix4 0 g r d : S1x4x128x64.Idx)
      = (Rect.unit (s := S1x4x128x64) ![0, g.val, 0, 0] S1x1x128x64.size (inb_head g)).emb (ix4 0 0 r d) := by
    refine funext fun a => Fin.ext ?_
    fin_cases a
    · rfl
    · rfl
    · show r.val = 0 + 1 * r.val
      omega
    · show d.val = 0 + 1 * d.val
      omega
  rw [e]
  exact View.canon_cons_emb _ _ _ _

/-- Another head's piece is passed over. -/
theorem canon_piece_ne (g g' : Fin 4) (hg : g' ≠ g) (P : FVec Ideal S1x1x128x64 .bf16)
    (L : List (View.Piece (Elt Ideal) S1x4x128x64 .bf16)) (r : Fin 128) (d : Fin 64) :
    View.canon (piece g P :: L) (ix4 0 g' r d) = View.canon L (ix4 0 g' r d) := by
  refine View.canon_cons_of_not_mem _ _ ?_
  unfold piece
  rw [Rect.mem_set_unit]
  intro hm
  have h := hm 1
  have h1 : g.val ≤ g'.val := h.1
  have h2 : g'.val < g.val + 1 := h.2
  exact hg (Fin.ext (by omega))

/-- Four heads' pieces are read each at its own indices. -/
theorem canon_pieces (P : Fin 4 → FVec Ideal S1x1x128x64 .bf16) (g : Fin 4) (r : Fin 128) (d : Fin 64) :
    View.canon [piece 3 (P 3), piece 2 (P 2), piece 1 (P 1), piece 0 (P 0)] (ix4 0 g r d) = P g (ix4 0 0 r d) := by
  by_cases h3 : g = 3
  · subst h3; exact canon_piece _ _ _ _ _
  rw [canon_piece_ne _ _ h3]
  by_cases h2 : g = 2
  · subst h2; exact canon_piece _ _ _ _ _
  rw [canon_piece_ne _ _ h2]
  by_cases h1 : g = 1
  · subst h1; exact canon_piece _ _ _ _ _
  rw [canon_piece_ne _ _ h1]
  obtain rfl : g = 0 := by omega
  exact canon_piece _ _ _ _ _

variable (m : (ℓ : Loc nD τ sig) → Buf (Elt Ideal) ℓ)

/-- The vectors head `g` is computed from at a grid point; there is no cotangent. -/
def hd (c : Dev nD) (t : Fin cfg0.N) (g : Fin 4) : VHead where
  ok := k0_pay2 (grid0.coords t)
  q := k0_pay3 (View.ld (iblk m c 0 t) (Rect.unit (s := S1x4x128x64) ![0, g.val, 0, 0] S1x1x128x64.size (inb_head g)))
  kb := k0_pay13 (k0_pay7 (iblk m c 1 t)) (k0_pay7 (iblk m c 2 t))
  vb := k0_pay14 (iblk m c 3 t) (iblk m c 4 t)
  sk := k0_pay9 (View.ld (iblk m c 5 t) (Rect.unit (s := S1x4x1x1) ![0, g.val, 0, 0] S1x1x1x1.size (inb_sink g)))
  ct _ := (0 : EReal)

section Payloads

variable (ok : IVec S128x256 1) (q k₁ k₂ : FVec Ideal S128x64 .f32) (vb : FVec Ideal S256x64 .bf16) (sk : FVec Ideal S1x1 .f32)

/-- A head from its mask, its queries, the two blocks of its keys, its values and its sink. -/
def mk : VHead := ⟨ok, q, k0_pay13 k₁ k₂, vb, sk, fun _ => (0 : EReal)⟩

/-- The first head's scores. -/
theorem score_zero : k0_pay17 ok q k₁ k₂ = (mk ok q k₁ k₂ vb sk).score := rfl

/-- The second head's scores. -/
theorem score_one : k0_pay19 ok (k0_pay18 q k₁ k₂) (Named.named κ "mask" 0xF149F2CA#32) = (mk ok q k₁ k₂ vb sk).score := rfl

/-- The third head's scores. -/
theorem score_two : k0_pay20 ok (k0_pay15 q k₁ k₂) = (mk ok q k₁ k₂ vb sk).score := rfl

/-- The fourth head's scores. -/
theorem score_three : k0_pay21 ok (k0_pay16 q k₁ k₂) = (mk ok q k₁ k₂ vb sk).score := rfl

/-- The first head's result. -/
theorem result_zero (X : VHead) : k0_pay33 X.vb (k0_pay26 X.sk X.score) (k0_pay30 X.sk X.score) = out X := rfl

/-- The second head's result. -/
theorem result_one : k0_pay34 vb (k0_pay27 ok sk (k0_pay18 q k₁ k₂) (Named.named κ "mask" 0xF149F2CA#32))
    (k0_pay31 ok sk (k0_pay18 q k₁ k₂) (Named.named κ "mask" 0xF149F2CA#32)) = out (mk ok q k₁ k₂ vb sk) := by
  unfold k0_pay27 k0_pay31 k0_pay23
  rw [score_one ok q k₁ k₂ vb sk]
  exact result_zero (mk ok q k₁ k₂ vb sk)

/-- The third head's result. -/
theorem result_two : k0_pay35 sk vb (k0_pay24 ok sk (k0_pay15 q k₁ k₂)) (k0_pay28 ok sk (k0_pay15 q k₁ k₂))
    = out (mk ok q k₁ k₂ vb sk) := by
  unfold k0_pay28 k0_pay24
  rw [score_two ok q k₁ k₂ vb sk]
  exact result_zero (mk ok q k₁ k₂ vb sk)

/-- The fourth head's result. -/
theorem result_three : k0_pay1 (k0_pay32 sk vb (k0_pay25 ok sk (k0_pay16 q k₁ k₂)) (k0_pay29 ok sk (k0_pay16 q k₁ k₂)))
    = out (mk ok q k₁ k₂ vb sk) := by
  unfold k0_pay29 k0_pay25
  rw [score_three ok q k₁ k₂ vb sk]
  exact result_zero (mk ok q k₁ k₂ vb sk)

end Payloads

set_option maxHeartbeats 800000 in
/-- What a point leaves is its four heads' results. -/
theorem out_at (c : Dev nD) (t : Fin cfg0.N) (g : Fin 4) (r : Fin 128) (d : Fin 64) :
    out0_6 (grid0.coords t) (iblk m c 0 t) (iblk m c 1 t) (iblk m c 2 t) (iblk m c 3 t) (iblk m c 4 t) (iblk m c 5 t) (ix4 0 g r d)
      = (hd m c t g).read.out r d := by
  rw [← out_apply]
  have whole : ∀ x : Vec Ideal S1x128x64 .f32, View.ld x r0_4 = x := fun x => View.ld_unit_lit _ x (by decide)
  unfold out0_6 k0_pay47 k0_pay46 k0_pay45 k0_pay44 k0_pay43 k0_pay42 k0_pay41 k0_pay40 k0_pay39 k0_pay38 k0_pay37 k0_pay36
  rw [result_one, result_two, result_three, whole, whole, whole, whole,
    score_zero _ _ _ _ (k0_pay14 (iblk m c 3 t) (iblk m c 4 t)) (k0_pay9 (View.ld (iblk m c 5 t) r0_5))]
  exact canon_pieces (fun g => out (hd m c t g)) g r d

end Cert.Kernel7Ideal.Attn

end
-- ==== Proof.AttnData.lean ====
module

public import proofs.«01_k».proof.Proof.AttnCall
public import proofs.«01_k».proof.Proof.Acc

@[expose] public section

noncomputable section

namespace Cert.Kernel7Ideal.Attn

open Idealize.ShloMosaic Idealize.SL.Sem Cert.Kernel7Ideal.Gen
open Cert.KernelIdeal.Blk (VHead window_word inside_word idx_heads)

variable (m : (ℓ : Loc nD τ sig) → Buf (Elt Ideal) ℓ)

/-- The arguments read at their rows and columns; there is no cotangent. -/
def arrays (c : Dev nD) : Band.Arrays where
  q i j := m ((c.tc : Thread nD τ).loc main_arg0) (ix2 i j)
  k i j := m ((c.tc : Thread nD τ).loc main_arg1) (ix2 i j)
  v i j := m ((c.tc : Thread nD τ).loc main_arg2) (ix2 i j)
  sinks i := m ((c.tc : Thread nD τ).loc main_arg3) (ix1 i)
  ct _ _ := 0

/-- The queries laid out by heads, as the call finds them. -/
theorem V_v1 (c : Dev nD) (h g : Fin 4) (i : Fin 2048) (d : Fin 64) :
    V m c main_v1 (ix4 h g i d) = (arrays m c).q i (Band.col h g d) := by
  have e : V m c main_v1 = (transpose S4x4x2048x64 [1, 2, 0, 3] (shapeCast S2048x4x4x64 (m ((c.tc : Thread nD τ).loc main_arg0)) shapeCasts_S2048x1024_S2048x4x4x64) transposes_S2048x4x4x64_S4x4x2048x64_1_2_0_3) := by
    show StableHlo.after hostOps0 (fun b => m (c, b)) (Proc.devRef .tc main_v1) = _
    unfold hostOps0
    after_results
    rfl
  rw [e]
  pointwise
  exact congrArg (fun x => m ((c.tc : Thread nD τ).loc main_arg0) (ix2 i x)) (Fin.ext (by simp only [Band.col]; omega))

/-- The keys laid out by heads, as the call finds them. -/
theorem V_v3 (c : Dev nD) (h : Fin 4) (i : Fin 2048) (d : Fin 64) :
    V m c main_v3 (ix3 h i d) = (arrays m c).k i (Band.kcol h d) := by
  have e : V m c main_v3 = (transpose S4x2048x64 [1, 0, 2] (shapeCast S2048x4x64 (m ((c.tc : Thread nD τ).loc main_arg1)) shapeCasts_S2048x256_S2048x4x64) transposes_S2048x4x64_S4x2048x64_1_0_2) := by
    show StableHlo.after hostOps0 (fun b => m (c, b)) (Proc.devRef .tc main_v3) = _
    unfold hostOps0
    after_results
    rfl
  rw [e]
  pointwise
  exact congrArg (fun x => m ((c.tc : Thread nD τ).loc main_arg1) (ix2 i x)) (Fin.ext (by simp only [Band.kcol]; omega))

/-- The values laid out by heads, as the call finds them. -/
theorem V_v5 (c : Dev nD) (h : Fin 4) (i : Fin 2048) (d : Fin 64) :
    V m c main_v5 (ix3 h i d) = (arrays m c).v i (Band.kcol h d) := by
  have e : V m c main_v5 = (transpose S4x2048x64 [1, 0, 2] (shapeCast S2048x4x64 (m ((c.tc : Thread nD τ).loc main_arg2)) shapeCasts_S2048x256_S2048x4x64) transposes_S2048x4x64_S4x2048x64_1_0_2) := by
    show StableHlo.after hostOps0 (fun b => m (c, b)) (Proc.devRef .tc main_v5) = _
    unfold hostOps0
    after_results
    rfl
  rw [e]
  pointwise
  exact congrArg (fun x => m ((c.tc : Thread nD τ).loc main_arg2) (ix2 i x)) (Fin.ext (by simp only [Band.kcol]; omega))

/-- The sinks by groups, as the call finds them. -/
theorem V_v6 (c : Dev nD) (h g : Fin 4) :
    V m c main_v6 (ix4 h g 0 0) = (arrays m c).sinks (Band.sinkAt h g) := by
  have e : V m c main_v6 = (shapeCast S4x4x1x1 (m ((c.tc : Thread nD τ).loc main_arg3)) shapeCasts_S16_S4x4x1x1) := by
    show StableHlo.after hostOps0 (fun b => m (c, b)) (Proc.devRef .tc main_v6) = _
    unfold hostOps0
    after_results
    rfl
  rw [e]
  pointwise
  exact congrArg (fun x => m ((c.tc : Thread nD τ).loc main_arg3) (ix1 x)) (Fin.ext (by simp only [Band.sinkAt]; omega))

/-- Where the queries' window lies at a point. -/
theorem index0 : ∀ t : Fin cfg0.N, win0_0.index t = ![t.val / 16, 0, t.val % 16, 0] := by decide +kernel
/-- Where the window of the keys before lies at a point. -/
theorem index1 : ∀ t : Fin cfg0.N, win0_1.index t = ![t.val / 16, t.val % 16 - 1, 0] := by decide +kernel
/-- Where the window of the values before lies at a point. -/
theorem index3 : ∀ t : Fin cfg0.N, win0_3.index t = ![t.val / 16, t.val % 16 - 1, 0] := by decide +kernel
/-- Where the values' window lies at a point. -/
theorem index4 : ∀ t : Fin cfg0.N, win0_4.index t = ![t.val / 16, t.val % 16, 0] := by decide +kernel
/-- Where the sinks' window lies at a point. -/
theorem index5 : ∀ t : Fin cfg0.N, win0_5.index t = ![t.val / 16, 0, 0, 0] := by decide +kernel
/-- Where the keys' window lies at a point. -/
theorem index2 : ∀ t : Fin cfg0.N, win0_2.index t = ![t.val / 16, t.val % 16, 0] := by decide +kernel

/-- The group of heads a grid point works on. -/
def grp (t : Fin cfg0.N) : Fin 4 := ⟨t.val / 16, by have := t.isLt; exact Nat.div_lt_of_lt_mul (this.trans_eq (by decide +kernel))⟩

/-- The block of rows a grid point works on. -/
def blkOf (t : Fin cfg0.N) : Fin 16 := ⟨t.val % 16, by omega⟩

/-- The queries a point reads. -/
theorem blk0 (c : Dev nD) (t : Fin cfg0.N) (g : Fin 4) (r : Fin 128) (d : Fin 64) :
    iblk m c 0 t (ix4 0 g r d) = V m c main_v1 (ix4 (grp t) g (Band.row (blkOf t) r) d) := by
  blk_simp [iblk]
  blk_ext [index0, grp, blkOf, Band.row]

/-- The keys of the block before, which a point reads. -/
theorem blk1 (c : Dev nD) (t : Fin cfg0.N) (r : Fin 128) (d : Fin 64) :
    iblk m c 1 t (ix3 0 r d) = V m c main_v3 (ix3 (grp t) ⟨128 * ((blkOf t).val - 1) + r.val, by omega⟩ d) := by
  blk_simp [iblk]
  blk_ext [index1, grp, blkOf]

/-- The values of the block before, which a point reads. -/
theorem blk3 (c : Dev nD) (t : Fin cfg0.N) (r : Fin 128) (d : Fin 64) :
    iblk m c 3 t (ix3 0 r d) = V m c main_v5 (ix3 (grp t) ⟨128 * ((blkOf t).val - 1) + r.val, by omega⟩ d) := by
  blk_simp [iblk]
  blk_ext [index3, grp, blkOf]

/-- The keys of the point's own block. -/
theorem blk2 (c : Dev nD) (t : Fin cfg0.N) (r : Fin 128) (d : Fin 64) :
    iblk m c 2 t (ix3 0 r d) = V m c main_v3 (ix3 (grp t) (Band.row (blkOf t) r) d) := by
  blk_simp [iblk]
  blk_ext [index2, grp, blkOf, Band.row]

/-- The values of the point's own block. -/
theorem blk4 (c : Dev nD) (t : Fin cfg0.N) (r : Fin 128) (d : Fin 64) :
    iblk m c 4 t (ix3 0 r d) = V m c main_v5 (ix3 (grp t) (Band.row (blkOf t) r) d) := by
  blk_simp [iblk]
  blk_ext [index4, grp, blkOf, Band.row]

/-- The sinks a point reads. -/
theorem blk5 (c : Dev nD) (t : Fin cfg0.N) (g : Fin 4) :
    iblk m c 5 t (ix4 0 g 0 0) = V m c main_v6 (ix4 (grp t) g 0 0) := by
  blk_simp [iblk]
  blk_ext [index5, grp]

/-- A point's second coordinate is its block. -/
theorem coord1 : ∀ t : Fin cfg0.N, (grid0.coords t 1).val = t.val % 16 := by decide +kernel

/-- What the kernel's mask lets a row see at a point. -/
theorem ok_at (t : Fin cfg0.N) (r : Fin 128) (s : Fin 256) :
    k0_pay2 (grid0.coords t) (ix2 r s) = Band.seen (blkOf t) r s := by
  unfold k0_pay2
  pointwise
  rw [coord1, window_word]
  rw [show t.val % 16 = (blkOf t).val from rfl, inside_word (blkOf t) s]
  unfold Band.seen
  split <;> split <;> split <;> first | rfl | (exfalso; simp only [blkOf] at *; omega)

/-- The vectors of a grid point's heads hold the rows and columns of the arguments. -/
theorem read_hd (c : Dev nD) (t : Fin cfg0.N) (g : Fin 4) :
    (hd m c t g).read = (arrays m c).headC (grp t) (blkOf t) g := by
  unfold VHead.read Band.Arrays.headC hd
  congr 1
  · funext r s
    exact ok_at t r s
  · funext r d
    unfold k0_pay3
    pointwise
    rw [blk0, V_v1]
  · funext s d
    unfold k0_pay13 k0_pay7
    pointwise
    unfold Band.clamped
    split
    · rw [blk1, V_v3]
    · rw [blk2, V_v3]
      rfl
  · funext s d
    unfold k0_pay14
    pointwise
    unfold Band.clamped
    split
    · rw [blk3, V_v5]
    · rw [blk4, V_v5]
      rfl
  · unfold k0_pay9
    pointwise
    rw [blk5, V_v6]

/-- Where the result's window lies at a point. -/
theorem index6 : ∀ t : Fin cfg0.N, win0_6.index t = ![t.val / 16, 0, t.val % 16, 0] := by decide +kernel

/-- The attention's result with its heads first. -/
def headsOut (c : Dev nD) : S4x4x2048x64.Idx → EReal :=
  fun y => ((arrays m c).head (y 0) ⟨(y 2).val / 128, by have : (y 2).val < 2048 := (y 2).isLt; omega⟩ (y 1)).out ⟨(y 2).val % 128, by omega⟩ (y 3)

/-- The attention's result by heads, at a row of a block. -/
theorem headsOut_apply (c : Dev nD) (n : Fin 16) (r : Fin 128) (h g : Fin 4) (d : Fin 64) :
    headsOut m c (ix4 h g (Band.row n r) d) = ((arrays m c).head h n g).out r d := by
  have e1 : (128 * n.val + r.val) / 128 = n.val := by omega
  have e2 : (128 * n.val + r.val) % 128 = r.val := by omega
  show ((arrays m c).head h ⟨(128 * n.val + r.val) / 128, _⟩ g).out ⟨(128 * n.val + r.val) % 128, _⟩ d = _
  simp only [e1, e2]

/-- The attention's result after the call. -/
theorem final6 (c : Dev nD) : (dats m 0 c).arrAt 6 cfg0.N = headsOut m c := by
  refine (dats m 0 c).arrAt_eq_of_covers 6 _ (by decide +kernel) fun t hf y => ?_
  blk_simp
  rw [after0_6]
  obtain ⟨g, r, d, rfl⟩ := idx_heads y
  have e : (win0_6.blk t).view.emb (ix4 0 g r d) = ix4 (grp t) g (Band.row (blkOf t) r) d := by
    blk_ext [index6, grp, blkOf, Band.row]
  rw [e]
  refine (out_at m c t g r d).trans ?_
  rw [read_hd, (arrays m c).out_eq (grp t) (blkOf t) g]
  exact (headsOut_apply m c (blkOf t) r (grp t) g d).symm

/-- A window's array holds after the region what the points left in it. -/
theorem array_after (c : Dev nD) (w : Fin cfg0.W) :
    Pipeline.withArrays (cfgs 0).spec c (V0 m c) (fun w => (dats m 0 c).arrAt w (cfgs 0).N) (Proc.devRef .tc (Pipeline.arrRef (cfgs 0).spec w))
      = (dats m 0 c).arrAt w cfg0.N :=
  (dats m 0 c).withArrays_arrAt sharedIn0 (V0 m c) (A_eq m c) w

/-- The kernel's result. -/
theorem tail (c : Dev nD) (n : Fin 16) (r : Fin 128) (h g : Fin 4) (d : Fin 64) :
    Pipeline.afterTail₀ cfgs (dats m) 0 (V0 m) [hostOps1] c main_v9 (ix2 (Band.row n r) (Band.col h g d)) = ((arrays m c).head h n g).out r d := by
  have e : Pipeline.afterTail₀ cfgs (dats m) 0 (V0 m) [hostOps1] c main_v9 = shapeCast S2048x1024 (transpose S2048x4x4x64 [2, 0, 1, 3] ((dats m 0 c).arrAt 6 cfg0.N) transposes_S4x4x2048x64_S2048x4x4x64_2_0_1_3) shapeCasts_S2048x4x4x64_S2048x1024 := by
    unfold Pipeline.afterTail₀
    show StableHlo.after hostOps1 _ (Proc.devRef .tc main_v9) = _
    unfold hostOps1
    after_results
    exact congrArg (fun z => shapeCast S2048x1024 (transpose S2048x4x4x64 [2, 0, 1, 3] z transposes_S4x4x2048x64_S2048x4x4x64_2_0_1_3) shapeCasts_S2048x4x4x64_S2048x1024) (array_after m c 6)
  rw [e, final6]
  pointwise
  have e1 : (256 * h.val + 64 * g.val + d.val) / 256 = h.val := by omega
  have e2 : (256 * h.val + 64 * g.val + d.val) / 64 % 4 = g.val := by omega
  have e3 : (256 * h.val + 64 * g.val + d.val) % 64 = d.val := by omega
  simp only [Band.col, e1, e2, e3]
  exact headsOut_apply m c n r h g d

/-- The kernel's run, with its result as the lines after the region leave it. -/
theorem run_results (g : Dev nD → PrngReg) :
    θ_run (defs (F := Ideal)) (onTc (τ := τ) (main (F := Ideal))) ⟨m, fun _ => 0, g⟩ (fun r => ∀ c : Dev nD,
      r.2.mem ((c.tc : Thread nD τ).loc main_v9) = Pipeline.afterTail₀ cfgs (dats m) 0 (V0 m) [hostOps1] c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).2 main_v9 (Pipeline.mem_restRefs_of main_v9 (by decide) (by decide)), h.2 c⟩)
    (θ_run_and (run_main m g) (unchanged m g))

end Cert.Kernel7Ideal.Attn

end
-- ==== Proof.AttnRef.lean ====
module

public import proofs.«01_k».proof.Proof.AttnSpec
public import proofs.«01_k».proof.Proof.Ref
public import proofs.«01_k».proof.Proof.Gen.Reference7Ideal.Read

@[expose] public section

noncomputable section

namespace Cert.Reference7Ideal.Attn

open Idealize.ShloMosaic Idealize.SL.Sem Cert.Reference7Ideal Cert.Reference7Ideal.Gen Cert.Reference7Ideal.Read
open Cert.ReferenceIdeal.At (band_rows bot_word zero_word)

variable (x0 : (⟨S2048x1024, .f32⟩ : BufTy).Contents (Elt Ideal)) (x1 x2 : (⟨S2048x256, .f32⟩ : BufTy).Contents (Elt Ideal))
  (x3 : (⟨S16, .f32⟩ : BufTy).Contents (Elt Ideal))

/-- The arguments read at their rows and columns; there is no cotangent. -/
def arr : Band.Arrays where
  q i j := x0 (ix2 i j)
  k i j := x1 (ix2 i j)
  v i j := x2 (ix2 i j)
  sinks i := x3 (ix1 i)
  ct _ _ := 0

/-- The queries by blocks, groups and heads. -/
theorem v0_at (i : S16x128x4x4x64.Idx) :
    val_main_v0 (F := Ideal) x0 i = (arr x0 x1 x2 x3).q (Band.row (i 0) (i 1)) (Band.col (i 2) (i 3) (i 4)) := by
  rw [val_main_v0_apply]
  refine congrArg x0 (funext fun a => ?_)
  have h0 : (i 0).val < 16 := (i 0).isLt
  have h1 : (i 1).val < 128 := (i 1).isLt
  have h2 : (i 2).val < 4 := (i 2).isLt
  have h3 : (i 3).val < 4 := (i 3).isLt
  have h4 : (i 4).val < 64 := (i 4).isLt
  fin_cases a
  · exact Fin.ext (by simp only [idx_main_v0, Band.row, ix2]; omega)
  · exact Fin.ext (by simp only [idx_main_v0, Band.col, ix2]; omega)

/-- The bands of the keys. -/
theorem v6_at (i : S16x256x4x64.Idx) :
    val_main_v6 (F := Ideal) x1 i = Band.padded (arr x0 x1 x2 x3).k (i 2) (i 0) (i 1) (i 3) := by
  obtain ⟨n, s, h, d, rfl⟩ : ∃ (n : Fin 16) (s : Fin 256) (h : Fin 4) (d : Fin 64), i = ix4 n s h d := ⟨_, _, _, _, ValueIdx.eq_ix4 i⟩
  unfold val_main_v6 val_main_v4 val_main_v5 val_main_v3 val_main_v2 val_main_v1 val_main_cst
  pointwise
  exact band_rows (fun i j => x1 (ix2 i j)) n s h d

/-- The bands of the values. -/
theorem v12_at (i : S16x256x4x64.Idx) :
    val_main_v12 (F := Ideal) x2 i = Band.padded (arr x0 x1 x2 x3).v (i 2) (i 0) (i 1) (i 3) := by
  obtain ⟨n, s, h, d, rfl⟩ : ∃ (n : Fin 16) (s : Fin 256) (h : Fin 4) (d : Fin 64), i = ix4 n s h d := ⟨_, _, _, _, ValueIdx.eq_ix4 i⟩
  unfold val_main_v12 val_main_v10 val_main_v11 val_main_v9 val_main_v8 val_main_v7 val_main_cst_0
  pointwise
  exact band_rows (fun i j => x2 (ix2 i j)) n s h d

/-- Which rows of a band a query sees. -/
theorem seen_at (i : S16x4x4x128x256.Idx) : val_main_call0_v1 (F := Ideal) i = Band.seen (i 0) (i 3) (i 4) := by
  simp only [val_main_call0_v1_apply, val_main_v47_apply, val_main_v46_apply, val_main_v45_apply,
    val_main_v44_apply, val_main_v43_apply, val_main_v42_apply, val_main_v41_apply, val_main_v40_apply, val_main_v39_apply, val_main_v38_apply,
    val_main_v37_apply, val_main_v36_apply, val_main_v35_apply, val_main_v34_apply, val_main_v33_apply, val_main_v32_apply, val_main_v31_apply,
    val_main_v30_apply, val_main_v29_apply, val_main_v28_apply, val_main_v27_apply, val_main_v26_apply, val_main_v25_apply, val_main_v24_apply,
    val_main_v23_apply, val_main_v22_apply, val_main_v21_apply, val_main_v20_apply, val_main_v19_apply, val_main_v18_apply, val_main_v17_apply,
    val_main_c_apply, val_main_c_2_apply, val_main_c_3_apply, val_main_c_4_apply, val_main_c_5_apply, val_main_c_6_apply]
  rw [KernelIdeal.Blk.window_word (i 3) (i 4)]
  refine (congrArg (IntOp.andi _) (KernelIdeal.Blk.inside_word (i 0) (i 4))).trans ?_
  unfold Band.seen
  split <;> split <;> split <;> first | rfl | (exfalso; omega)

/-- The masked scores. -/
theorem score_at (i : S16x4x4x128x256.Idx) :
    val_main_v48 (F := Ideal) x0 x1 i = ((arr x0 x1 x2 x3).head (i 1) (i 0) (i 2)).score (i 3) (i 4) := by
  rw [val_main_v48_apply, seen_at, val_main_v16_apply, val_main_v14_apply, val_main_v13_apply]
  simp only [v6_at x0 x1 x2 x3, v0_at x0 x1 x2 x3, val_main_v15_apply, val_main_cst_1_apply, val_main_call0_v2_apply,
    val_main_call0_v0_apply, val_main_cst_7_apply]
  unfold Band.Head.score
  exact congrArg₂ (Scalar.select _) (congrArg (fun z : EReal => z * Band.eighth) (Finset.sum_congr rfl fun d _ => mul_comm _ _)) bot_word

/-- The largest masked score. -/
theorem rowmax_at (i : S16x4x4x128.Idx) :
    val_main_v50 (F := Ideal) x0 x1 i
      = Finset.univ.fold max ⊥ (((arr x0 x1 x2 x3).head (i 1) (i 0) (i 2)).score (i 3)) := by
  unfold val_main_v50 val_main_cst_8
  rw [hostReduce_maximumf_eq_multiReduction _ _ _ _ (by decide) (by decide) (by decide), Ideal.multiReduction_maximumf_single, bot_word]
  refine congrArg (Finset.univ.fold max ⊥) (funext fun s => ?_)
  exact score_at x0 x1 x2 x3 _

/-- The sinks. -/
theorem sink_at (i : S1x4x4x1x1.Idx) : val_main_v49 (F := Ideal) x3 i = (arr x0 x1 x2 x3).sinks (Band.sinkAt (i 1) (i 2)) := by
  rw [val_main_v49_apply]
  refine congrArg x3 (funext fun a => ?_)
  have h0 : (i 0).val < 1 := (i 0).isLt
  have h1 : (i 1).val < 4 := (i 1).isLt
  have h2 : (i 2).val < 4 := (i 2).isLt
  have h3 : (i 3).val < 1 := (i 3).isLt
  have h4 : (i 4).val < 1 := (i 4).isLt
  fin_cases a
  exact Fin.ext (by simp only [idx_main_v49, Band.sinkAt, ix1]; omega)

/-- The maximum of a row's scores and its sink. -/
theorem top_at (i : S16x4x4x128x1.Idx) :
    val_main_v53 (F := Ideal) x0 x1 x3 i = ((arr x0 x1 x2 x3).head (i 1) (i 0) (i 2)).top (i 3) := by
  rw [val_main_v53_apply, val_main_v51_apply, val_main_v52_apply, rowmax_at x0 x1 x2 x3, sink_at x0 x1 x2 x3]
  rfl

/-- The exponentials. -/
theorem p_at (i : S16x4x4x128x256.Idx) :
    val_main_v56 (F := Ideal) x0 x1 x3 i = ((arr x0 x1 x2 x3).head (i 1) (i 0) (i 2)).p (i 3) (i 4) := by
  rw [val_main_v56_apply, val_main_v55_apply, val_main_v54_apply, top_at x0 x1 x2 x3, score_at x0 x1 x2 x3]
  rfl

/-- The sink's exponential. -/
theorem e_at (i : S16x4x4x128x1.Idx) :
    val_main_v61 (F := Ideal) x0 x1 x3 i = ((arr x0 x1 x2 x3).head (i 1) (i 0) (i 2)).e (i 3) := by
  rw [val_main_v61_apply, val_main_v60_apply, val_main_v59_apply, top_at x0 x1 x2 x3, sink_at x0 x1 x2 x3]
  rfl

/-- A row's denominator. -/
theorem den_at (i : S16x4x4x128x1.Idx) :
    val_main_v62 (F := Ideal) x0 x1 x3 i = ((arr x0 x1 x2 x3).head (i 1) (i 0) (i 2)).den (i 3) := by
  rw [val_main_v62_apply, val_main_v58_apply, val_main_v57_apply, e_at x0 x1 x2 x3]
  simp only [p_at x0 x1 x2 x3, val_main_cst_9_apply]
  rw [zero_word, zero_add]
  rfl

/-- The probabilities. -/
theorem pr_at (i : S16x4x4x128x256.Idx) :
    val_main_v64 (F := Ideal) x0 x1 x3 i = ((arr x0 x1 x2 x3).head (i 1) (i 0) (i 2)).pr (i 3) (i 4) := by
  rw [val_main_v64_apply, val_main_v63_apply, den_at x0 x1 x2 x3, p_at x0 x1 x2 x3]
  rfl

/-- The attention's result. -/
theorem out_at (n : Fin 16) (r : Fin 128) (h g : Fin 4) (d : Fin 64) :
    val_main_v68 (F := Ideal) x0 x1 x2 x3 (ix2 (Band.row n r) (Band.col h g d)) = ((arr x0 x1 x2 x3).head h n g).out r d := by
  have e : idx_main_v67 (ix2 (Band.row n r) (Band.col h g d)) = ix5 n r h g d := funext fun a => by
    have hn := n.isLt
    have hr := r.isLt
    have hh := h.isLt
    have hg := g.isLt
    have hd := d.isLt
    fin_cases a
    · exact Fin.ext (by simp only [idx_main_v67, Band.row, Band.col, ix2, ix5]; omega)
    · exact Fin.ext (by simp only [idx_main_v67, Band.row, Band.col, ix2, ix5]; omega)
    · exact Fin.ext (by simp only [idx_main_v67, Band.row, Band.col, ix2, ix5]; omega)
    · exact Fin.ext (by simp only [idx_main_v67, Band.row, Band.col, ix2, ix5]; omega)
    · exact Fin.ext (by simp only [idx_main_v67, Band.row, Band.col, ix2, ix5]; omega)
  refine (val_main_v68_apply _ _ _ _ _).trans ((val_main_v67_apply _ _ _ _ _).trans ?_)
  rw [e, val_main_v66_apply, val_main_v65_apply]
  refine Finset.sum_congr rfl fun s _ => ?_
  rw [v12_at x0 x1 x2 x3, pr_at x0 x1 x2 x3]
  exact mul_comm _ _

end Cert.Reference7Ideal.Attn

end
-- ==== Proof.AttnProof.lean ====
module

public import proofs.«01_k».proof.Defs
public import proofs.«01_k».proof.Proof.AttnData
public import proofs.«01_k».proof.Proof.AttnRef
public import proofs.«01_k».proof.Proof.Reals
public import Idealize.ShloMosaic.Adequacy
public import Idealize.ShloMosaic.Init

@[expose] public section

noncomputable section

namespace Cert.Proof

open Idealize.ShloMosaic Idealize.SL.Sem

/-- The attention's reference terminates, leaves its arguments unchanged and has no semaphore. -/
theorem frameR7 : Cert.quiescent_Reference7Ideal (hReference7Ideal := Reference7Ideal.Gen.facts) := fun m ρ _ =>
  (θ_run Reference7Ideal.defs _ _).mono (fun r h => ⟨fun c => (h c).2, sem_eq_zero_of_no_sems (by decide) r.2⟩)
    (Reference7Ideal.Value.run (F := Ideal) m ρ)

/-- Both results of the attention. -/
theorem agreeOut (m : (ℓ : Loc Kernel7Ideal.nD Kernel7Ideal.τ Kernel7Ideal.sig) → Buf (Elt Ideal) ℓ) (c : Dev Kernel7Ideal.nD)
    (x0 : (⟨Reference7Ideal.S2048x1024, .f32⟩ : BufTy).Contents (Elt Ideal)) (x1 x2 : (⟨Reference7Ideal.S2048x256, .f32⟩ : BufTy).Contents (Elt Ideal))
    (x3 : (⟨Reference7Ideal.S16, .f32⟩ : BufTy).Contents (Elt Ideal)) (harr : Reference7Ideal.Attn.arr x0 x1 x2 x3 = Kernel7Ideal.Attn.arrays m c) :
    Reference7Ideal.Read.val_main_v68 (F := Ideal) x0 x1 x2 x3
      = Pipeline.afterTail₀ Kernel7Ideal.cfgs (Kernel7Ideal.Gen.dats m) 0 (Kernel7Ideal.Gen.V0 m) [Kernel7Ideal.Gen.hostOps1] c Kernel7Ideal.main_v9 := by
  funext i
  obtain ⟨n, r, e0⟩ := Band.row_exists (i 0)
  obtain ⟨h, g, d, e1⟩ := Band.col_exists (i 1)
  have e : i = ix2 (Band.row n r) (Band.col h g d) := funext fun a => by
    fin_cases a
    · exact e0
    · exact e1
  rw [e]
  refine (Reference7Ideal.Attn.out_at x0 x1 x2 x3 n r h g d).trans ?_
  rw [harr]
  exact (Kernel7Ideal.Attn.tail m c n r h g d).symm

/-- The attention's kernel and its reference end with equal results. -/
theorem algebraic7 : Cert.algebraic_Kernel7Ideal_Reference7Ideal (hKernel7Ideal := Kernel7Ideal.Gen.facts)
    (hReference7Ideal := Reference7Ideal.Gen.facts) := by
  intro m g m' g' _ hargs
  refine ⟨_, Kernel7Ideal.Attn.run_results m g, ?_⟩
  refine (θ_run _ _ _).mono (fun r h c => ?_) (Reference7Ideal.Value.run (F := Ideal) m' g')
  obtain ⟨a0, a1, a2, a3⟩ := hargs c
  obtain ⟨r0, hr⟩ := h c
  have harr : Reference7Ideal.Attn.arr (m' ((c.tc : Thread Reference7Ideal.nD Reference7Ideal.τ).loc Reference7Ideal.main_arg0)) (m' ((c.tc : Thread Reference7Ideal.nD Reference7Ideal.τ).loc Reference7Ideal.main_arg1))
      (m' ((c.tc : Thread Reference7Ideal.nD Reference7Ideal.τ).loc Reference7Ideal.main_arg2)) (m' ((c.tc : Thread Reference7Ideal.nD Reference7Ideal.τ).loc Reference7Ideal.main_arg3))
      = Kernel7Ideal.Attn.arrays m c := by
    rw [a0, a1, a2, a3]
    rfl
  exact ⟨r0.trans ((Reference7Ideal.Read.val_main_v68_eq _ _).trans (agreeOut m c _ _ _ _ harr)), hr⟩

end Cert.Proof

end
-- ==== Proof.lean ====
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Acc
public import proofs.«01_k».proof.Proof.RefBack
public import proofs.«01_k».proof.Proof.Reals
public import proofs.«01_k».proof.Proof.MlpProof
public import proofs.«01_k».proof.Proof.InProof
public import proofs.«01_k».proof.Proof.MergeProof
public import proofs.«01_k».proof.Proof.PostProof
public import proofs.«01_k».proof.Proof.FirstProof
public import proofs.«01_k».proof.Proof.AttnProof
public import Idealize.ShloMosaic.Adequacy
public import Idealize.ShloMosaic.Init

@[expose] public section

noncomputable section

namespace Cert.KernelIdeal.Blk

open Idealize.ShloMosaic Idealize.SL.Sem Cert.KernelIdeal.Gen

attribute [local instance] Cert.Finite.facts

variable (m : (ℓ : Loc nD τ sig) → Buf (Elt Ideal) ℓ)

/-- Under the precondition the arguments are reals, so every head is. -/
theorem heads_finite (hpre : Cert.Pre_KernelIdeal_finite m) (c : Dev nD) (h : Fin 4) (n : Fin 16) (g : Fin 4) :
    ((arrays m c).head h n g).Finite := by
  obtain ⟨h0, h1, h2, h3, h4⟩ := hpre c
  exact (arrays m c).head_finite
    (fun i j => Cert.Finite.real_of_between _ (congrFun h0 (ValueIdx.ix2 i j)))
    (fun i j => Cert.Finite.real_of_between _ (congrFun h1 (ValueIdx.ix2 i j)))
    (fun i j => Cert.Finite.real_of_between _ (congrFun h2 (ValueIdx.ix2 i j)))
    (fun i => Cert.Finite.real_of_between _ (congrFun h3 (ValueIdx.ix1 i)))
    (fun i j => Cert.Finite.real_of_between _ (congrFun h4 (ValueIdx.ix2 i j))) h n g

/-- The kernel's run, with its four results as the lines after the region leave them. -/
theorem run_results (g : Dev nD → PrngReg) :
    θ_run (defs (F := Ideal)) (onTc (τ := τ) (main (F := Ideal))) ⟨m, fun _ => 0, g⟩ (fun r => ∀ c : Dev nD,
      r.2.mem ((c.tc : Thread nD τ).loc main_v11) = Pipeline.afterTail₀ cfgs (dats m) 0 (V0 m) [hostOps1] c main_v11
      ∧ r.2.mem ((c.tc : Thread nD τ).loc main_v14) = Pipeline.afterTail₀ cfgs (dats m) 0 (V0 m) [hostOps1] c main_v14
      ∧ r.2.mem ((c.tc : Thread nD τ).loc main_v17) = Pipeline.afterTail₀ cfgs (dats m) 0 (V0 m) [hostOps1] c main_v17
      ∧ r.2.mem ((c.tc : Thread nD τ).loc main_v18) = Pipeline.afterTail₀ cfgs (dats m) 0 (V0 m) [hostOps1] c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(h.1 c).2 main_v11 (Pipeline.mem_restRefs_of main_v11 (by decide) (by decide)),
        (h.1 c).2 main_v14 (Pipeline.mem_restRefs_of main_v14 (by decide) (by decide)),
        (h.1 c).2 main_v17 (Pipeline.mem_restRefs_of main_v17 (by decide) (by decide)),
        (h.1 c).2 main_v18 (Pipeline.mem_restRefs_of main_v18 (by decide) (by decide)), h.2 c⟩)
    (θ_run_and (run_main m g) (unchanged m g))

end Cert.KernelIdeal.Blk

namespace Cert.Proof

open Idealize.ShloMosaic Idealize.SL.Sem

attribute [local instance] Cert.Finite.facts

section Agree

variable (m : (ℓ : Loc KernelIdeal.nD KernelIdeal.τ KernelIdeal.sig) → Buf (Elt Ideal) ℓ) (c : Dev KernelIdeal.nD)
  (x0 : (⟨ReferenceIdeal.S2048x1024, .f32⟩ : BufTy).Contents (Elt Ideal)) (x1 x2 : (⟨ReferenceIdeal.S2048x256, .f32⟩ : BufTy).Contents (Elt Ideal))
  (x3 : (⟨ReferenceIdeal.S16, .f32⟩ : BufTy).Contents (Elt Ideal)) (x4 : (⟨ReferenceIdeal.S2048x1024, .bf16⟩ : BufTy).Contents (Elt Ideal))
  (hfin : ∀ h n g, ((ReferenceIdeal.At.arr x0 x1 x2 x3 x4).head h n g).Finite) (harr : ReferenceIdeal.At.arr x0 x1 x2 x3 x4 = KernelIdeal.Blk.arrays m c)

include hfin harr

/-- Both gradients of the queries. -/
theorem agreeQ : ReferenceIdeal.Read.val_main_v157 (F := Ideal) x0 x1 x2 x3 x4
    = Pipeline.afterTail₀ KernelIdeal.cfgs (KernelIdeal.Gen.dats m) 0 (KernelIdeal.Gen.V0 m) [KernelIdeal.Gen.hostOps1] c KernelIdeal.main_v11 := by
  funext i
  obtain ⟨n, r, e0⟩ := Band.row_exists (i 0)
  obtain ⟨h, g, d, e1⟩ := Band.col_exists (i 1)
  have e : i = ix2 (Band.row n r) (Band.col h g d) := funext fun a => by
    fin_cases a
    · exact e0
    · exact e1
  rw [e]
  refine (ReferenceIdeal.At.dq_at x0 x1 x2 x3 x4 hfin n r h g d).trans ?_
  rw [harr]
  exact (KernelIdeal.Blk.tailQ m c n r h g d).symm

/-- Both gradients of the keys. -/
theorem agreeK : ReferenceIdeal.Read.val_main_v156 (F := Ideal) x0 x1 x2 x3 x4
    = Pipeline.afterTail₀ KernelIdeal.cfgs (KernelIdeal.Gen.dats m) 0 (KernelIdeal.Gen.V0 m) [KernelIdeal.Gen.hostOps1] c KernelIdeal.main_v14 := by
  funext i
  obtain ⟨n, r, e0⟩ := Band.row_exists (i 0)
  obtain ⟨h, d, e1⟩ := Band.kcol_exists (i 1)
  have e : i = ix2 (Band.row n r) (Band.kcol h d) := funext fun a => by
    fin_cases a
    · exact e0
    · exact e1
  rw [e]
  refine (ReferenceIdeal.At.dk_at x0 x1 x2 x3 x4 hfin n r h d).trans ?_
  rw [harr]
  exact (KernelIdeal.Blk.tailK m c n r h d).symm

omit hfin in
/-- Both gradients of the values. -/
theorem agreeV : ReferenceIdeal.Read.val_main_v148 (F := Ideal) x0 x1 x3 x4
    = Pipeline.afterTail₀ KernelIdeal.cfgs (KernelIdeal.Gen.dats m) 0 (KernelIdeal.Gen.V0 m) [KernelIdeal.Gen.hostOps1] c KernelIdeal.main_v17 := by
  funext i
  obtain ⟨n, r, e0⟩ := Band.row_exists (i 0)
  obtain ⟨h, d, e1⟩ := Band.kcol_exists (i 1)
  have e : i = ix2 (Band.row n r) (Band.kcol h d) := funext fun a => by
    fin_cases a
    · exact e0
    · exact e1
  rw [e]
  refine (ReferenceIdeal.At.dv_at x0 x1 x2 x3 x4 n r h d).trans ?_
  rw [harr]
  exact (KernelIdeal.Blk.tailV m c n r h d).symm

/-- Both gradients of the sinks. -/
theorem agreeS : ReferenceIdeal.Read.val_main_v132 (F := Ideal) x0 x1 x2 x3 x4
    = Pipeline.afterTail₀ KernelIdeal.cfgs (KernelIdeal.Gen.dats m) 0 (KernelIdeal.Gen.V0 m) [KernelIdeal.Gen.hostOps1] c KernelIdeal.main_v18 := by
  funext i
  obtain ⟨h, g, e0⟩ := Band.sinkAt_exists (i 0)
  have e : i = ix1 (Band.sinkAt h g) := funext fun a => by
    fin_cases a
    exact e0
  rw [e]
  refine (ReferenceIdeal.At.dsink_at x0 x1 x2 x3 x4 hfin h g).trans ?_
  rw [harr]
  exact (KernelIdeal.Blk.tailS m c h g).symm

end Agree

/-- Kernel and reference end with equal results. -/
theorem algebraic : Cert.algebraic_KernelIdeal_ReferenceIdeal_pre_finite (hKernelIdeal := KernelIdeal.Gen.facts)
    (hReferenceIdeal := ReferenceIdeal.Gen.facts) (hPre_finite := Cert.Finite.facts) := by
  intro m g m' g' hpre hargs
  refine ⟨_, _, _, _, KernelIdeal.Blk.run_results m g, ?_⟩
  refine (θ_run _ _ _).mono (fun r h c => ?_) (ReferenceIdeal.Value.run (F := Ideal) m' g')
  obtain ⟨a0, a1, a2, a3, a4⟩ := hargs c
  obtain ⟨r0, r1, r2, r3, hr⟩ := h c
  have harr : ReferenceIdeal.At.arr (m' ((c.tc : Thread ReferenceIdeal.nD ReferenceIdeal.τ).loc ReferenceIdeal.main_arg0)) (m' ((c.tc : Thread ReferenceIdeal.nD ReferenceIdeal.τ).loc ReferenceIdeal.main_arg1))
      (m' ((c.tc : Thread ReferenceIdeal.nD ReferenceIdeal.τ).loc ReferenceIdeal.main_arg2)) (m' ((c.tc : Thread ReferenceIdeal.nD ReferenceIdeal.τ).loc ReferenceIdeal.main_arg3))
      (m' ((c.tc : Thread ReferenceIdeal.nD ReferenceIdeal.τ).loc ReferenceIdeal.main_arg4)) = KernelIdeal.Blk.arrays m c := by
    rw [a0, a1, a2, a3, a4]
    rfl
  have hfin := fun h n g => KernelIdeal.Blk.heads_finite m hpre c h n g
  rw [← harr] at hfin
  exact ⟨r0.trans ((ReferenceIdeal.Read.val_main_v157_eq _).trans (agreeQ m c _ _ _ _ _ hfin harr)),
    r1.trans ((ReferenceIdeal.Read.val_main_v156_eq _).trans (agreeK m c _ _ _ _ _ hfin harr)),
    r2.trans ((ReferenceIdeal.Read.val_main_v148_eq _).trans (agreeV m c _ _ _ _ _ harr)),
    r3.trans ((ReferenceIdeal.Read.val_main_v132_eq _).trans (agreeS m c _ _ _ _ _ hfin harr)), hr⟩

/-- The reference terminates, leaves its arguments unchanged and has no semaphore. -/
theorem frameR : Cert.quiescent_ReferenceIdeal (hReferenceIdeal := ReferenceIdeal.Gen.facts) := fun m ρ _ =>
  (θ_run ReferenceIdeal.defs _ _).mono (fun r h => ⟨fun c => (h c).2.2.2.2, sem_eq_zero_of_no_sems (by decide) r.2⟩)
    (ReferenceIdeal.Value.run (F := Ideal) m ρ)

/-- The certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Finite.facts,
    fun m ρ _ => Cert.Kernel.Gen.frame m ρ, fun m ρ _ => Cert.KernelIdeal.Gen.frame m ρ, fun m ρ _ => Cert.KernelIdeal.Gen.frame m ρ,
    frameR, fun m ρ _ => frameR m ρ trivial,
    fun m ρ _ => Cert.Kernel2.Gen.frame m ρ, fun m ρ _ => Cert.Kernel2Ideal.Gen.frame m ρ, frameR2,
    fun m ρ _ => Cert.Kernel3.Gen.frame m ρ, fun m ρ _ => Cert.Kernel3Ideal.Gen.frame m ρ, frameR3,
    fun m ρ _ => Cert.Kernel4.Gen.frame m ρ, fun m ρ _ => Cert.Kernel4Ideal.Gen.frame m ρ, frameR4,
    fun m ρ _ => Cert.Kernel5.Gen.frame m ρ, fun m ρ _ => Cert.Kernel5Ideal.Gen.frame m ρ, frameR5,
    fun m ρ _ => Cert.Kernel6.Gen.frame m ρ, fun m ρ _ => Cert.Kernel6Ideal.Gen.frame m ρ, frameR6,
    fun m ρ _ => Cert.Kernel7.Gen.frame m ρ, fun m ρ _ => Cert.Kernel7Ideal.Gen.frame m ρ, frameR7,
    IdealRules.named_const.statement _ _ _ _ _ rfl, algebraic, trivial, algebraic2, trivial, algebraic3, trivial, algebraic4,
    trivial, algebraic5, trivial, algebraic6,
    IdealRules.named_const.statement _ _ _ _ _ rfl, algebraic7⟩

end Cert.Proof

end
